-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryIdeal_finite_queries [hPre_finite_queries : Cert.Pre_finite_queries.Facts] (m : (ℓ : Loc Cert.MemoryIdeal.nD Cert.MemoryIdeal.τ Cert.MemoryIdeal.sig) → Buf (Elt Ideal) ℓ) : Prop :=
  ∀ c : Dev Cert.MemoryIdeal.nD,
    (Cert.Pre_finite_queries.fn (F := Ideal) (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1)) (m ((c.tc : Thread Cert.MemoryIdeal.nD Cert.MemoryIdeal.τ).loc Cert.MemoryIdeal.main_arg2)) (m ((c.tc : Thread Cert.MemoryIdeal.nD Cert.MemoryIdeal.τ).loc Cert.MemoryIdeal.main_arg3)) (m ((c.tc : Thread Cert.MemoryIdeal.nD Cert.MemoryIdeal.τ).loc Cert.MemoryIdeal.main_arg4))).1 = (fun _ => 1#1)
    ∧ (Cert.Pre_finite_queries.fn (F := Ideal) (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1)) (m ((c.tc : Thread Cert.MemoryIdeal.nD Cert.MemoryIdeal.τ).loc Cert.MemoryIdeal.main_arg2)) (m ((c.tc : Thread Cert.MemoryIdeal.nD Cert.MemoryIdeal.τ).loc Cert.MemoryIdeal.main_arg3)) (m ((c.tc : Thread Cert.MemoryIdeal.nD Cert.MemoryIdeal.τ).loc Cert.MemoryIdeal.main_arg4))).2 = (fun _ => 1#1)

def Pre_MemoryRefIdeal (m : (ℓ : Loc Cert.MemoryRefIdeal.nD Cert.MemoryRefIdeal.τ Cert.MemoryRefIdeal.sig) → Buf (Elt Ideal) ℓ) : Prop :=
  True

def Pre_MemoryRefIdeal_finite_queries [hPre_finite_queries : Cert.Pre_finite_queries.Facts] (m : (ℓ : Loc Cert.MemoryRefIdeal.nD Cert.MemoryRefIdeal.τ Cert.MemoryRefIdeal.sig) → Buf (Elt Ideal) ℓ) : Prop :=
  ∀ c : Dev Cert.MemoryRefIdeal.nD,
    (Cert.Pre_finite_queries.fn (F := Ideal) (m ((c.tc : Thread Cert.MemoryRefIdeal.nD Cert.MemoryRefIdeal.τ).loc Cert.MemoryRefIdeal.main_arg0)) (m ((c.tc : Thread Cert.MemoryRefIdeal.nD Cert.MemoryRefIdeal.τ).loc Cert.MemoryRefIdeal.main_arg1)) (m ((c.tc : Thread Cert.MemoryRefIdeal.nD Cert.MemoryRefIdeal.τ).loc Cert.MemoryRefIdeal.main_arg2)) (m ((c.tc : Thread Cert.MemoryRefIdeal.nD Cert.MemoryRefIdeal.τ).loc Cert.MemoryRefIdeal.main_arg3)) (m ((c.tc : Thread Cert.MemoryRefIdeal.nD Cert.MemoryRefIdeal.τ).loc Cert.MemoryRefIdeal.main_arg4))).1 = (fun _ => 1#1)
    ∧ (Cert.Pre_finite_queries.fn (F := Ideal) (m ((c.tc : Thread Cert.MemoryRefIdeal.nD Cert.MemoryRefIdeal.τ).loc Cert.MemoryRefIdeal.main_arg0)) (m ((c.tc : Thread Cert.MemoryRefIdeal.nD Cert.MemoryRefIdeal.τ).loc Cert.MemoryRefIdeal.main_arg1)) (m ((c.tc : Thread Cert.MemoryRefIdeal.nD Cert.MemoryRefIdeal.τ).loc Cert.MemoryRefIdeal.main_arg2)) (m ((c.tc : Thread Cert.MemoryRefIdeal.nD Cert.MemoryRefIdeal.τ).loc Cert.MemoryRefIdeal.main_arg3)) (m ((c.tc : Thread Cert.MemoryRefIdeal.nD Cert.MemoryRefIdeal.τ).loc Cert.MemoryRefIdeal.main_arg4))).2 = (fun _ => 1#1)

def Pre_Dispatch (m : (ℓ : Loc Cert.Dispatch.nD Cert.Dispatch.τ Cert.Dispatch.sig) → Buf (Elt Bits) ℓ) : Prop :=
  True

def Pre_DispatchIdeal (m : (ℓ : Loc Cert.DispatchIdeal.nD Cert.DispatchIdeal.τ Cert.DispatchIdeal.sig) → Buf (Elt Ideal) ℓ) : Prop :=
  True

def Pre_DispatchIdeal_whole_places [hPre_whole_places : Cert.Pre_whole_places.Facts] (m : (ℓ : Loc Cert.DispatchIdeal.nD Cert.DispatchIdeal.τ Cert.DispatchIdeal.sig) → Buf (Elt Ideal) ℓ) : Prop :=
  ∀ c : Dev Cert.DispatchIdeal.nD,
    (Cert.Pre_whole_places.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1))).1 = (fun _ => 1#1)
    ∧ (Cert.Pre_whole_places.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1))).2.1 = (fun _ => 1#1)
    ∧ (Cert.Pre_whole_places.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1))).2.2 = (fun _ => 1#1)

def Pre_DispatchRefIdeal (m : (ℓ : Loc Cert.DispatchRefIdeal.nD Cert.DispatchRefIdeal.τ Cert.DispatchRefIdeal.sig) → Buf (Elt Ideal) ℓ) : Prop :=
  True

def Pre_DispatchRefIdeal_whole_places [hPre_whole_places : Cert.Pre_whole_places.Facts] (m : (ℓ : Loc Cert.DispatchRefIdeal.nD Cert.DispatchRefIdeal.τ Cert.DispatchRefIdeal.sig) → Buf (Elt Ideal) ℓ) : Prop :=
  ∀ c : Dev Cert.DispatchRefIdeal.nD,
    (Cert.Pre_whole_places.fn (F := Ideal) (m ((c.tc : Thread Cert.DispatchRefIdeal.nD Cert.DispatchRefIdeal.τ).loc Cert.DispatchRefIdeal.main_arg0)) (m ((c.tc : Thread Cert.DispatchRefIdeal.nD Cert.DispatchRefIdeal.τ).loc Cert.DispatchRefIdeal.main_arg1))).1 = (fun _ => 1#1)
    ∧ (Cert.Pre_whole_places.fn (F := Ideal) (m ((c.tc : Thread Cert.DispatchRefIdeal.nD Cert.DispatchRefIdeal.τ).loc Cert.DispatchRefIdeal.main_arg0)) (m ((c.tc : Thread Cert.DispatchRefIdeal.nD Cert.DispatchRefIdeal.τ).loc Cert.DispatchRefIdeal.main_arg1))).2.1 = (fun _ => 1#1)
    ∧ (Cert.Pre_whole_places.fn (F := Ideal) (m ((c.tc : Thread Cert.DispatchRefIdeal.nD Cert.DispatchRefIdeal.τ).loc Cert.DispatchRefIdeal.main_arg0)) (m ((c.tc : Thread Cert.DispatchRefIdeal.nD Cert.DispatchRefIdeal.τ).loc Cert.DispatchRefIdeal.main_arg1))).2.2 = (fun _ => 1#1)

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite_router [hPre_finite_router : Cert.Pre_finite_router.Facts] (m : (ℓ : Loc Cert.RouteIdeal.nD Cert.RouteIdeal.τ Cert.RouteIdeal.sig) → Buf (Elt Ideal) ℓ) : Prop :=
  ∀ c : Dev Cert.RouteIdeal.nD,
    (Cert.Pre_finite_router.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9)) (m ((c.tc : Thread Cert.RouteIdeal.nD Cert.RouteIdeal.τ).loc Cert.RouteIdeal.main_arg10)) (m ((c.tc : Thread Cert.RouteIdeal.nD Cert.RouteIdeal.τ).loc Cert.RouteIdeal.main_arg11))).1 = (fun _ => 1#1)
    ∧ (Cert.Pre_finite_router.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9)) (m ((c.tc : Thread Cert.RouteIdeal.nD Cert.RouteIdeal.τ).loc Cert.RouteIdeal.main_arg10)) (m ((c.tc : Thread Cert.RouteIdeal.nD Cert.RouteIdeal.τ).loc Cert.RouteIdeal.main_arg11))).2.1 = (fun _ => 1#1)
    ∧ (Cert.Pre_finite_router.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5)) (m ((c.tc : Thread Cert.RouteIdeal.nD Cert.RouteIdeal.τ).loc Cert.RouteIdeal.main_arg6)) (m ((c.tc : Thread Cert.RouteIdeal.nD Cert.RouteIdeal.τ).loc Cert.RouteIdeal.main_arg7)) (m ((c.tc : Thread Cert.RouteIdeal.nD Cert.RouteIdeal.τ).loc Cert.RouteIdeal.main_arg8)) (m ((c.tc : Thread Cert.RouteIdeal.nD Cert.RouteIdeal.τ).loc Cert.RouteIdeal.main_arg9)) (m ((c.tc : Thread Cert.RouteIdeal.nD Cert.RouteIdeal.τ).loc Cert.RouteIdeal.main_arg10)) (m ((c.tc : Thread Cert.RouteIdeal.nD Cert.RouteIdeal.τ).loc Cert.RouteIdeal.main_arg11))).2.2 = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_finite_router [hPre_finite_router : Cert.Pre_finite_router.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_finite_router.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7)) (m ((c.tc : Thread Cert.RouteRefIdeal.nD Cert.RouteRefIdeal.τ).loc Cert.RouteRefIdeal.main_arg8)) (m ((c.tc : Thread Cert.RouteRefIdeal.nD Cert.RouteRefIdeal.τ).loc Cert.RouteRefIdeal.main_arg9)) (m ((c.tc : Thread Cert.RouteRefIdeal.nD Cert.RouteRefIdeal.τ).loc Cert.RouteRefIdeal.main_arg10)) (m ((c.tc : Thread Cert.RouteRefIdeal.nD Cert.RouteRefIdeal.τ).loc Cert.RouteRefIdeal.main_arg11))).1 = (fun _ => 1#1)
    ∧ (Cert.Pre_finite_router.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7)) (m ((c.tc : Thread Cert.RouteRefIdeal.nD Cert.RouteRefIdeal.τ).loc Cert.RouteRefIdeal.main_arg8)) (m ((c.tc : Thread Cert.RouteRefIdeal.nD Cert.RouteRefIdeal.τ).loc Cert.RouteRefIdeal.main_arg9)) (m ((c.tc : Thread Cert.RouteRefIdeal.nD Cert.RouteRefIdeal.τ).loc Cert.RouteRefIdeal.main_arg10)) (m ((c.tc : Thread Cert.RouteRefIdeal.nD Cert.RouteRefIdeal.τ).loc Cert.RouteRefIdeal.main_arg11))).2.1 = (fun _ => 1#1)
    ∧ (Cert.Pre_finite_router.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5)) (m ((c.tc : Thread Cert.RouteRefIdeal.nD Cert.RouteRefIdeal.τ).loc Cert.RouteRefIdeal.main_arg6)) (m ((c.tc : Thread Cert.RouteRefIdeal.nD Cert.RouteRefIdeal.τ).loc Cert.RouteRefIdeal.main_arg7)) (m ((c.tc : Thread Cert.RouteRefIdeal.nD Cert.RouteRefIdeal.τ).loc Cert.RouteRefIdeal.main_arg8)) (m ((c.tc : Thread Cert.RouteRefIdeal.nD Cert.RouteRefIdeal.τ).loc Cert.RouteRefIdeal.main_arg9)) (m ((c.tc : Thread Cert.RouteRefIdeal.nD Cert.RouteRefIdeal.τ).loc Cert.RouteRefIdeal.main_arg10)) (m ((c.tc : Thread Cert.RouteRefIdeal.nD Cert.RouteRefIdeal.τ).loc Cert.RouteRefIdeal.main_arg11))).2.2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3)
      ∧ r.2.mem ((c.tc : Thread Cert.Memory.nD Cert.Memory.τ).loc Cert.Memory.main_arg4) = m ((c.tc : Thread Cert.Memory.nD Cert.Memory.τ).loc Cert.Memory.main_arg4))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
      ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4))
      ∧ r.2.sem = fun _ => 0)

def quiescent_MemoryIdeal_pre_finite_queries [hMemoryIdeal : Cert.MemoryIdeal.Facts] [hPre_finite_queries : Cert.Pre_finite_queries.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal_finite_queries m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
      ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3)
      ∧ r.2.mem ((c.tc : Thread Cert.MemoryRefIdeal.nD Cert.MemoryRefIdeal.τ).loc Cert.MemoryRefIdeal.main_arg4) = m ((c.tc : Thread Cert.MemoryRefIdeal.nD Cert.MemoryRefIdeal.τ).loc Cert.MemoryRefIdeal.main_arg4))
      ∧ r.2.sem = fun _ => 0)

def quiescent_MemoryRefIdeal_pre_finite_queries [hMemoryRefIdeal : Cert.MemoryRefIdeal.Facts] [hPre_finite_queries : Cert.Pre_finite_queries.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal_finite_queries m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3)
      ∧ r.2.mem ((c.tc : Thread Cert.MemoryRefIdeal.nD Cert.MemoryRefIdeal.τ).loc Cert.MemoryRefIdeal.main_arg4) = m ((c.tc : Thread Cert.MemoryRefIdeal.nD Cert.MemoryRefIdeal.τ).loc Cert.MemoryRefIdeal.main_arg4))
      ∧ r.2.sem = fun _ => 0)

def quiescent_Dispatch [hDispatch : Cert.Dispatch.Facts] : Prop :=
  ∀ (m : (ℓ : Loc Cert.Dispatch.nD Cert.Dispatch.τ Cert.Dispatch.sig) → Buf (Elt Bits) ℓ) (g : Dev Cert.Dispatch.nD → PrngReg), Pre_Dispatch m →
    θ_run (Cert.Dispatch.defs (F := Bits)) (onTc (τ := Cert.Dispatch.τ) (Cert.Dispatch.main (F := Bits))) ⟨m, fun _ => 0, g⟩ (fun r => (∀ c : Dev Cert.Dispatch.nD,
      r.2.mem ((c.tc : Thread Cert.Dispatch.nD Cert.Dispatch.τ).loc Cert.Dispatch.main_arg0) = m ((c.tc : Thread Cert.Dispatch.nD Cert.Dispatch.τ).loc Cert.Dispatch.main_arg0)
      ∧ r.2.mem ((c.tc : Thread Cert.Dispatch.nD Cert.Dispatch.τ).loc Cert.Dispatch.main_arg1) = m ((c.tc : Thread Cert.Dispatch.nD Cert.Dispatch.τ).loc Cert.Dispatch.main_arg1))
      ∧ r.2.sem = fun _ => 0)

def quiescent_DispatchIdeal [hDispatchIdeal : Cert.DispatchIdeal.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ r.2.sem = fun _ => 0)

def quiescent_DispatchIdeal_pre_whole_places [hDispatchIdeal : Cert.DispatchIdeal.Facts] [hPre_whole_places : Cert.Pre_whole_places.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal_whole_places m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ r.2.sem = fun _ => 0)

def quiescent_DispatchRefIdeal [hDispatchRefIdeal : Cert.DispatchRefIdeal.Facts] : Prop :=
  ∀ (m : (ℓ : Loc Cert.DispatchRefIdeal.nD Cert.DispatchRefIdeal.τ Cert.DispatchRefIdeal.sig) → Buf (Elt Ideal) ℓ) (g : Dev Cert.DispatchRefIdeal.nD → PrngReg), Pre_DispatchRefIdeal m →
    θ_run (Cert.DispatchRefIdeal.defs (F := Ideal)) (onTc (τ := Cert.DispatchRefIdeal.τ) (Cert.DispatchRefIdeal.main (F := Ideal))) ⟨m, fun _ => 0, g⟩ (fun r => (∀ c : Dev Cert.DispatchRefIdeal.nD,
      r.2.mem ((c.tc : Thread Cert.DispatchRefIdeal.nD Cert.DispatchRefIdeal.τ).loc Cert.DispatchRefIdeal.main_arg0) = m ((c.tc : Thread Cert.DispatchRefIdeal.nD Cert.DispatchRefIdeal.τ).loc Cert.DispatchRefIdeal.main_arg0)
      ∧ r.2.mem ((c.tc : Thread Cert.DispatchRefIdeal.nD Cert.DispatchRefIdeal.τ).loc Cert.DispatchRefIdeal.main_arg1) = m ((c.tc : Thread Cert.DispatchRefIdeal.nD Cert.DispatchRefIdeal.τ).loc Cert.DispatchRefIdeal.main_arg1))
      ∧ r.2.sem = fun _ => 0)

def quiescent_DispatchRefIdeal_pre_whole_places [hDispatchRefIdeal : Cert.DispatchRefIdeal.Facts] [hPre_whole_places : Cert.Pre_whole_places.Facts] : Prop :=
  ∀ (m : (ℓ : Loc Cert.DispatchRefIdeal.nD Cert.DispatchRefIdeal.τ Cert.DispatchRefIdeal.sig) → Buf (Elt Ideal) ℓ) (g : Dev Cert.DispatchRefIdeal.nD → PrngReg), Pre_DispatchRefIdeal_whole_places m →
    θ_run (Cert.DispatchRefIdeal.defs (F := Ideal)) (onTc (τ := Cert.DispatchRefIdeal.τ) (Cert.DispatchRefIdeal.main (F := Ideal))) ⟨m, fun _ => 0, g⟩ (fun r => (∀ c : Dev Cert.DispatchRefIdeal.nD,
      r.2.mem ((c.tc : Thread Cert.DispatchRefIdeal.nD Cert.DispatchRefIdeal.τ).loc Cert.DispatchRefIdeal.main_arg0) = m ((c.tc : Thread Cert.DispatchRefIdeal.nD Cert.DispatchRefIdeal.τ).loc Cert.DispatchRefIdeal.main_arg0)
      ∧ r.2.mem ((c.tc : Thread Cert.DispatchRefIdeal.nD Cert.DispatchRefIdeal.τ).loc Cert.DispatchRefIdeal.main_arg1) = m ((c.tc : Thread Cert.DispatchRefIdeal.nD Cert.DispatchRefIdeal.τ).loc Cert.DispatchRefIdeal.main_arg1))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4)
      ∧ r.2.mem ((c.tc : Thread Cert.Route.nD Cert.Route.τ).loc Cert.Route.main_arg5) = m ((c.tc : Thread Cert.Route.nD Cert.Route.τ).loc Cert.Route.main_arg5)
      ∧ r.2.mem ((c.tc : Thread Cert.Route.nD Cert.Route.τ).loc Cert.Route.main_arg6) = m ((c.tc : Thread Cert.Route.nD Cert.Route.τ).loc Cert.Route.main_arg6)
      ∧ r.2.mem ((c.tc : Thread Cert.Route.nD Cert.Route.τ).loc Cert.Route.main_arg7) = m ((c.tc : Thread Cert.Route.nD Cert.Route.τ).loc Cert.Route.main_arg7)
      ∧ r.2.mem ((c.tc : Thread Cert.Route.nD Cert.Route.τ).loc Cert.Route.main_arg8) = m ((c.tc : Thread Cert.Route.nD Cert.Route.τ).loc Cert.Route.main_arg8)
      ∧ r.2.mem ((c.tc : Thread Cert.Route.nD Cert.Route.τ).loc Cert.Route.main_arg9) = m ((c.tc : Thread Cert.Route.nD Cert.Route.τ).loc Cert.Route.main_arg9)
      ∧ r.2.mem ((c.tc : Thread Cert.Route.nD Cert.Route.τ).loc Cert.Route.main_arg10) = m ((c.tc : Thread Cert.Route.nD Cert.Route.τ).loc Cert.Route.main_arg10)
      ∧ r.2.mem ((c.tc : Thread Cert.Route.nD Cert.Route.τ).loc Cert.Route.main_arg11) = m ((c.tc : Thread Cert.Route.nD Cert.Route.τ).loc Cert.Route.main_arg11))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
      ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
      ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
      ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9)
      ∧ r.2.mem ((c.tc : Thread Cert.RouteIdeal.nD Cert.RouteIdeal.τ).loc Cert.RouteIdeal.main_arg10) = m ((c.tc : Thread Cert.RouteIdeal.nD Cert.RouteIdeal.τ).loc Cert.RouteIdeal.main_arg10)
      ∧ r.2.mem ((c.tc : Thread Cert.RouteIdeal.nD Cert.RouteIdeal.τ).loc Cert.RouteIdeal.main_arg11) = m ((c.tc : Thread Cert.RouteIdeal.nD Cert.RouteIdeal.τ).loc Cert.RouteIdeal.main_arg11))
      ∧ r.2.sem = fun _ => 0)

def quiescent_RouteIdeal_pre_finite_router [hRouteIdeal : Cert.RouteIdeal.Facts] [hPre_finite_router : Cert.Pre_finite_router.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite_router m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
      ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
      ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
      ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9)
      ∧ r.2.mem ((c.tc : Thread Cert.RouteIdeal.nD Cert.RouteIdeal.τ).loc Cert.RouteIdeal.main_arg10) = m ((c.tc : Thread Cert.RouteIdeal.nD Cert.RouteIdeal.τ).loc Cert.RouteIdeal.main_arg10)
      ∧ r.2.mem ((c.tc : Thread Cert.RouteIdeal.nD Cert.RouteIdeal.τ).loc Cert.RouteIdeal.main_arg11) = m ((c.tc : Thread Cert.RouteIdeal.nD Cert.RouteIdeal.τ).loc Cert.RouteIdeal.main_arg11))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5)
      ∧ r.2.mem ((c.tc : Thread Cert.RouteRefIdeal.nD Cert.RouteRefIdeal.τ).loc Cert.RouteRefIdeal.main_arg6) = m ((c.tc : Thread Cert.RouteRefIdeal.nD Cert.RouteRefIdeal.τ).loc Cert.RouteRefIdeal.main_arg6)
      ∧ r.2.mem ((c.tc : Thread Cert.RouteRefIdeal.nD Cert.RouteRefIdeal.τ).loc Cert.RouteRefIdeal.main_arg7) = m ((c.tc : Thread Cert.RouteRefIdeal.nD Cert.RouteRefIdeal.τ).loc Cert.RouteRefIdeal.main_arg7)
      ∧ r.2.mem ((c.tc : Thread Cert.RouteRefIdeal.nD Cert.RouteRefIdeal.τ).loc Cert.RouteRefIdeal.main_arg8) = m ((c.tc : Thread Cert.RouteRefIdeal.nD Cert.RouteRefIdeal.τ).loc Cert.RouteRefIdeal.main_arg8)
      ∧ r.2.mem ((c.tc : Thread Cert.RouteRefIdeal.nD Cert.RouteRefIdeal.τ).loc Cert.RouteRefIdeal.main_arg9) = m ((c.tc : Thread Cert.RouteRefIdeal.nD Cert.RouteRefIdeal.τ).loc Cert.RouteRefIdeal.main_arg9)
      ∧ r.2.mem ((c.tc : Thread Cert.RouteRefIdeal.nD Cert.RouteRefIdeal.τ).loc Cert.RouteRefIdeal.main_arg10) = m ((c.tc : Thread Cert.RouteRefIdeal.nD Cert.RouteRefIdeal.τ).loc Cert.RouteRefIdeal.main_arg10)
      ∧ r.2.mem ((c.tc : Thread Cert.RouteRefIdeal.nD Cert.RouteRefIdeal.τ).loc Cert.RouteRefIdeal.main_arg11) = m ((c.tc : Thread Cert.RouteRefIdeal.nD Cert.RouteRefIdeal.τ).loc Cert.RouteRefIdeal.main_arg11))
      ∧ r.2.sem = fun _ => 0)

def quiescent_RouteRefIdeal_pre_finite_router [hRouteRefIdeal : Cert.RouteRefIdeal.Facts] [hPre_finite_router : Cert.Pre_finite_router.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_finite_router m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5)
      ∧ r.2.mem ((c.tc : Thread Cert.RouteRefIdeal.nD Cert.RouteRefIdeal.τ).loc Cert.RouteRefIdeal.main_arg6) = m ((c.tc : Thread Cert.RouteRefIdeal.nD Cert.RouteRefIdeal.τ).loc Cert.RouteRefIdeal.main_arg6)
      ∧ r.2.mem ((c.tc : Thread Cert.RouteRefIdeal.nD Cert.RouteRefIdeal.τ).loc Cert.RouteRefIdeal.main_arg7) = m ((c.tc : Thread Cert.RouteRefIdeal.nD Cert.RouteRefIdeal.τ).loc Cert.RouteRefIdeal.main_arg7)
      ∧ r.2.mem ((c.tc : Thread Cert.RouteRefIdeal.nD Cert.RouteRefIdeal.τ).loc Cert.RouteRefIdeal.main_arg8) = m ((c.tc : Thread Cert.RouteRefIdeal.nD Cert.RouteRefIdeal.τ).loc Cert.RouteRefIdeal.main_arg8)
      ∧ r.2.mem ((c.tc : Thread Cert.RouteRefIdeal.nD Cert.RouteRefIdeal.τ).loc Cert.RouteRefIdeal.main_arg9) = m ((c.tc : Thread Cert.RouteRefIdeal.nD Cert.RouteRefIdeal.τ).loc Cert.RouteRefIdeal.main_arg9)
      ∧ r.2.mem ((c.tc : Thread Cert.RouteRefIdeal.nD Cert.RouteRefIdeal.τ).loc Cert.RouteRefIdeal.main_arg10) = m ((c.tc : Thread Cert.RouteRefIdeal.nD Cert.RouteRefIdeal.τ).loc Cert.RouteRefIdeal.main_arg10)
      ∧ r.2.mem ((c.tc : Thread Cert.RouteRefIdeal.nD Cert.RouteRefIdeal.τ).loc Cert.RouteRefIdeal.main_arg11) = m ((c.tc : Thread Cert.RouteRefIdeal.nD Cert.RouteRefIdeal.τ).loc Cert.RouteRefIdeal.main_arg11))
      ∧ r.2.sem = fun _ => 0)

def preserves_Attn_AttnIdeal : Prop :=
  IdealRules.named_const.Statement Cert.AttnIdeal.κ "log2e" .f32 0x3FB8AA3B#32 (((Real.log 2)⁻¹ : ℝ) : EReal)
  ∧ IdealRules.named_const.Statement Cert.AttnIdeal.κ "mask" .f32 0xF149F2CA#32 ⊥

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v20)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v20) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v59) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v30)) (v1 : (c : Dev Cert.ProjIdeal.nD) → Buf (Elt Ideal) ((c.tc : Thread Cert.ProjIdeal.nD Cert.ProjIdeal.τ).loc Cert.ProjIdeal.main_v31)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v30) = v0 c
          ∧ r.2.mem ((c.tc : Thread Cert.ProjIdeal.nD Cert.ProjIdeal.τ).loc Cert.ProjIdeal.main_v31) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v76) = v0 c
          ∧ r.2.mem ((c.tc : Thread Cert.ProjRefIdeal.nD Cert.ProjRefIdeal.τ).loc Cert.ProjRefIdeal.main_v77) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v17_0)) (v1 : (c : Dev Cert.MergeIdeal.nD) → Buf (Elt Ideal) ((c.tc : Thread Cert.MergeIdeal.nD Cert.MergeIdeal.τ).loc Cert.MergeIdeal.main_v17_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17_0) = v0 c
          ∧ r.2.mem ((c.tc : Thread Cert.MergeIdeal.nD Cert.MergeIdeal.τ).loc Cert.MergeIdeal.main_v17_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_v37) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Memory_MemoryIdeal : Prop :=
  True

def algebraic_MemoryIdeal_MemoryRefIdeal_pre_finite_queries [hMemoryIdeal : Cert.MemoryIdeal.Facts] [hMemoryRefIdeal : Cert.MemoryRefIdeal.Facts] [hPre_finite_queries : Cert.Pre_finite_queries.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal_finite_queries m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)
      ∧ m' ((c.tc : Thread Cert.MemoryRefIdeal.nD Cert.MemoryRefIdeal.τ).loc Cert.MemoryRefIdeal.main_arg4) = m ((c.tc : Thread Cert.MemoryIdeal.nD Cert.MemoryIdeal.τ).loc Cert.MemoryIdeal.main_arg4)) →
    ∃ (v0 : (c : Dev Cert.MemoryIdeal.nD) → Buf (Elt Ideal) ((c.tc : Thread Cert.MemoryIdeal.nD Cert.MemoryIdeal.τ).loc Cert.MemoryIdeal.main_v4)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v4) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3)
          ∧ r.2.mem ((c.tc : Thread Cert.MemoryIdeal.nD Cert.MemoryIdeal.τ).loc Cert.MemoryIdeal.main_arg4) = m ((c.tc : Thread Cert.MemoryIdeal.nD Cert.MemoryIdeal.τ).loc Cert.MemoryIdeal.main_arg4))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v49) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3)
          ∧ r.2.mem ((c.tc : Thread Cert.MemoryRefIdeal.nD Cert.MemoryRefIdeal.τ).loc Cert.MemoryRefIdeal.main_arg4) = m' ((c.tc : Thread Cert.MemoryRefIdeal.nD Cert.MemoryRefIdeal.τ).loc Cert.MemoryRefIdeal.main_arg4))

def preserves_Dispatch_DispatchIdeal : Prop :=
  True

def algebraic_DispatchIdeal_DispatchRefIdeal_pre_whole_places [hDispatchIdeal : Cert.DispatchIdeal.Facts] [hDispatchRefIdeal : Cert.DispatchRefIdeal.Facts] [hPre_whole_places : Cert.Pre_whole_places.Facts] : Prop :=
  ∀ (m : (ℓ : Loc Cert.DispatchIdeal.nD Cert.DispatchIdeal.τ Cert.DispatchIdeal.sig) → Buf (Elt Ideal) ℓ) (g : Dev Cert.DispatchIdeal.nD → PrngReg)
    (m' : (ℓ : Loc Cert.DispatchRefIdeal.nD Cert.DispatchRefIdeal.τ Cert.DispatchRefIdeal.sig) → Buf (Elt Ideal) ℓ) (g' : Dev Cert.DispatchRefIdeal.nD → PrngReg), Pre_DispatchIdeal_whole_places m →
    (∀ c : Dev Cert.DispatchIdeal.nD,
      m' ((c.tc : Thread Cert.DispatchRefIdeal.nD Cert.DispatchRefIdeal.τ).loc Cert.DispatchRefIdeal.main_arg0) = m ((c.tc : Thread Cert.DispatchIdeal.nD Cert.DispatchIdeal.τ).loc Cert.DispatchIdeal.main_arg0)
      ∧ m' ((c.tc : Thread Cert.DispatchRefIdeal.nD Cert.DispatchRefIdeal.τ).loc Cert.DispatchRefIdeal.main_arg1) = m ((c.tc : Thread Cert.DispatchIdeal.nD Cert.DispatchIdeal.τ).loc Cert.DispatchIdeal.main_arg1)) →
    ∃ (v0 : (c : Dev Cert.DispatchIdeal.nD) → Buf (Elt Ideal) ((c.tc : Thread Cert.DispatchIdeal.nD Cert.DispatchIdeal.τ).loc Cert.DispatchIdeal.main_v0)),
      θ_run (Cert.DispatchIdeal.defs (F := Ideal)) (onTc (τ := Cert.DispatchIdeal.τ) (Cert.DispatchIdeal.main (F := Ideal))) ⟨m, fun _ => 0, g⟩ (fun r => ∀ c : Dev Cert.DispatchIdeal.nD,
          r.2.mem ((c.tc : Thread Cert.DispatchIdeal.nD Cert.DispatchIdeal.τ).loc Cert.DispatchIdeal.main_v0) = v0 c
          ∧ r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
          ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1))
      ∧ θ_run (Cert.DispatchRefIdeal.defs (F := Ideal)) (onTc (τ := Cert.DispatchRefIdeal.τ) (Cert.DispatchRefIdeal.main (F := Ideal))) ⟨m', fun _ => 0, g'⟩ (fun r => ∀ c : Dev Cert.DispatchRefIdeal.nD,
          r.2.mem ((c.tc : Thread Cert.DispatchRefIdeal.nD Cert.DispatchRefIdeal.τ).loc Cert.DispatchRefIdeal.main_v20) = v0 c
          ∧ r.2.mem ((c.tc : Thread Cert.DispatchRefIdeal.nD Cert.DispatchRefIdeal.τ).loc Cert.DispatchRefIdeal.main_arg0) = m' ((c.tc : Thread Cert.DispatchRefIdeal.nD Cert.DispatchRefIdeal.τ).loc Cert.DispatchRefIdeal.main_arg0)
          ∧ r.2.mem ((c.tc : Thread Cert.DispatchRefIdeal.nD Cert.DispatchRefIdeal.τ).loc Cert.DispatchRefIdeal.main_arg1) = m' ((c.tc : Thread Cert.DispatchRefIdeal.nD Cert.DispatchRefIdeal.τ).loc Cert.DispatchRefIdeal.main_arg1))

def preserves_Route_RouteIdeal : Prop :=
  IdealRules.named_const.Statement Cert.RouteIdeal.κ "mask" .f32 0xF149F2CA#32 ⊥

def algebraic_RouteIdeal_RouteRefIdeal_pre_finite_router [hRouteIdeal : Cert.RouteIdeal.Facts] [hRouteRefIdeal : Cert.RouteRefIdeal.Facts] [hPre_finite_router : Cert.Pre_finite_router.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_finite_router m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)
      ∧ m' ((c.tc : Thread Cert.RouteRefIdeal.nD Cert.RouteRefIdeal.τ).loc Cert.RouteRefIdeal.main_arg5) = m ((c.tc : Thread Cert.RouteIdeal.nD Cert.RouteIdeal.τ).loc Cert.RouteIdeal.main_arg5)
      ∧ m' ((c.tc : Thread Cert.RouteRefIdeal.nD Cert.RouteRefIdeal.τ).loc Cert.RouteRefIdeal.main_arg6) = m ((c.tc : Thread Cert.RouteIdeal.nD Cert.RouteIdeal.τ).loc Cert.RouteIdeal.main_arg6)
      ∧ m' ((c.tc : Thread Cert.RouteRefIdeal.nD Cert.RouteRefIdeal.τ).loc Cert.RouteRefIdeal.main_arg7) = m ((c.tc : Thread Cert.RouteIdeal.nD Cert.RouteIdeal.τ).loc Cert.RouteIdeal.main_arg7)
      ∧ m' ((c.tc : Thread Cert.RouteRefIdeal.nD Cert.RouteRefIdeal.τ).loc Cert.RouteRefIdeal.main_arg8) = m ((c.tc : Thread Cert.RouteIdeal.nD Cert.RouteIdeal.τ).loc Cert.RouteIdeal.main_arg8)
      ∧ m' ((c.tc : Thread Cert.RouteRefIdeal.nD Cert.RouteRefIdeal.τ).loc Cert.RouteRefIdeal.main_arg9) = m ((c.tc : Thread Cert.RouteIdeal.nD Cert.RouteIdeal.τ).loc Cert.RouteIdeal.main_arg9)
      ∧ m' ((c.tc : Thread Cert.RouteRefIdeal.nD Cert.RouteRefIdeal.τ).loc Cert.RouteRefIdeal.main_arg10) = m ((c.tc : Thread Cert.RouteIdeal.nD Cert.RouteIdeal.τ).loc Cert.RouteIdeal.main_arg10)
      ∧ m' ((c.tc : Thread Cert.RouteRefIdeal.nD Cert.RouteRefIdeal.τ).loc Cert.RouteRefIdeal.main_arg11) = m ((c.tc : Thread Cert.RouteIdeal.nD Cert.RouteIdeal.τ).loc Cert.RouteIdeal.main_arg11)) →
    ∃ (v0 : (c : Dev Cert.RouteIdeal.nD) → Buf (Elt Ideal) ((c.tc : Thread Cert.RouteIdeal.nD Cert.RouteIdeal.τ).loc Cert.RouteIdeal.main_v17_2)) (v1 : (c : Dev Cert.RouteIdeal.nD) → Buf (Elt Ideal) ((c.tc : Thread Cert.RouteIdeal.nD Cert.RouteIdeal.τ).loc Cert.RouteIdeal.main_v17_3)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v17_2) = v0 c
          ∧ r.2.mem ((c.tc : Thread Cert.RouteIdeal.nD Cert.RouteIdeal.τ).loc Cert.RouteIdeal.main_v17_3) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
          ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
          ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6)
          ∧ r.2.mem ((c.tc : Thread Cert.RouteIdeal.nD Cert.RouteIdeal.τ).loc Cert.RouteIdeal.main_arg7) = m ((c.tc : Thread Cert.RouteIdeal.nD Cert.RouteIdeal.τ).loc Cert.RouteIdeal.main_arg7)
          ∧ r.2.mem ((c.tc : Thread Cert.RouteIdeal.nD Cert.RouteIdeal.τ).loc Cert.RouteIdeal.main_arg8) = m ((c.tc : Thread Cert.RouteIdeal.nD Cert.RouteIdeal.τ).loc Cert.RouteIdeal.main_arg8)
          ∧ r.2.mem ((c.tc : Thread Cert.RouteIdeal.nD Cert.RouteIdeal.τ).loc Cert.RouteIdeal.main_arg9) = m ((c.tc : Thread Cert.RouteIdeal.nD Cert.RouteIdeal.τ).loc Cert.RouteIdeal.main_arg9)
          ∧ r.2.mem ((c.tc : Thread Cert.RouteIdeal.nD Cert.RouteIdeal.τ).loc Cert.RouteIdeal.main_arg10) = m ((c.tc : Thread Cert.RouteIdeal.nD Cert.RouteIdeal.τ).loc Cert.RouteIdeal.main_arg10)
          ∧ r.2.mem ((c.tc : Thread Cert.RouteIdeal.nD Cert.RouteIdeal.τ).loc Cert.RouteIdeal.main_arg11) = m ((c.tc : Thread Cert.RouteIdeal.nD Cert.RouteIdeal.τ).loc Cert.RouteIdeal.main_arg11))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v120) = v0 c
          ∧ r.2.mem ((c.tc : Thread Cert.RouteRefIdeal.nD Cert.RouteRefIdeal.τ).loc Cert.RouteRefIdeal.main_v74) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4)
          ∧ r.2.mem ((c.tc : Thread Cert.RouteRefIdeal.nD Cert.RouteRefIdeal.τ).loc Cert.RouteRefIdeal.main_arg5) = m' ((c.tc : Thread Cert.RouteRefIdeal.nD Cert.RouteRefIdeal.τ).loc Cert.RouteRefIdeal.main_arg5)
          ∧ r.2.mem ((c.tc : Thread Cert.RouteRefIdeal.nD Cert.RouteRefIdeal.τ).loc Cert.RouteRefIdeal.main_arg6) = m' ((c.tc : Thread Cert.RouteRefIdeal.nD Cert.RouteRefIdeal.τ).loc Cert.RouteRefIdeal.main_arg6)
          ∧ r.2.mem ((c.tc : Thread Cert.RouteRefIdeal.nD Cert.RouteRefIdeal.τ).loc Cert.RouteRefIdeal.main_arg7) = m' ((c.tc : Thread Cert.RouteRefIdeal.nD Cert.RouteRefIdeal.τ).loc Cert.RouteRefIdeal.main_arg7)
          ∧ r.2.mem ((c.tc : Thread Cert.RouteRefIdeal.nD Cert.RouteRefIdeal.τ).loc Cert.RouteRefIdeal.main_arg8) = m' ((c.tc : Thread Cert.RouteRefIdeal.nD Cert.RouteRefIdeal.τ).loc Cert.RouteRefIdeal.main_arg8)
          ∧ r.2.mem ((c.tc : Thread Cert.RouteRefIdeal.nD Cert.RouteRefIdeal.τ).loc Cert.RouteRefIdeal.main_arg9) = m' ((c.tc : Thread Cert.RouteRefIdeal.nD Cert.RouteRefIdeal.τ).loc Cert.RouteRefIdeal.main_arg9)
          ∧ r.2.mem ((c.tc : Thread Cert.RouteRefIdeal.nD Cert.RouteRefIdeal.τ).loc Cert.RouteRefIdeal.main_arg10) = m' ((c.tc : Thread Cert.RouteRefIdeal.nD Cert.RouteRefIdeal.τ).loc Cert.RouteRefIdeal.main_arg10)
          ∧ r.2.mem ((c.tc : Thread Cert.RouteRefIdeal.nD Cert.RouteRefIdeal.τ).loc Cert.RouteRefIdeal.main_arg11) = m' ((c.tc : Thread Cert.RouteRefIdeal.nD Cert.RouteRefIdeal.τ).loc Cert.RouteRefIdeal.main_arg11))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hMemory : Cert.Memory.Facts) (hMemoryIdeal : Cert.MemoryIdeal.Facts) (hMemoryRefIdeal : Cert.MemoryRefIdeal.Facts) (hDispatch : Cert.Dispatch.Facts) (hDispatchIdeal : Cert.DispatchIdeal.Facts) (hDispatchRefIdeal : Cert.DispatchRefIdeal.Facts) (hRoute : Cert.Route.Facts) (hRouteIdeal : Cert.RouteIdeal.Facts) (hRouteRefIdeal : Cert.RouteRefIdeal.Facts) (hPre_finite_scores : Cert.Pre_finite_scores.Facts) (hPre_finite_queries : Cert.Pre_finite_queries.Facts) (hPre_whole_places : Cert.Pre_whole_places.Facts) (hPre_finite_router : Cert.Pre_finite_router.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Memory (hMemory := hMemory)
    ∧ quiescent_MemoryIdeal (hMemoryIdeal := hMemoryIdeal)
    ∧ quiescent_MemoryIdeal_pre_finite_queries (hMemoryIdeal := hMemoryIdeal) (hPre_finite_queries := hPre_finite_queries)
    ∧ quiescent_MemoryRefIdeal (hMemoryRefIdeal := hMemoryRefIdeal)
    ∧ quiescent_MemoryRefIdeal_pre_finite_queries (hMemoryRefIdeal := hMemoryRefIdeal) (hPre_finite_queries := hPre_finite_queries)
    ∧ quiescent_Dispatch (hDispatch := hDispatch)
    ∧ quiescent_DispatchIdeal (hDispatchIdeal := hDispatchIdeal)
    ∧ quiescent_DispatchIdeal_pre_whole_places (hDispatchIdeal := hDispatchIdeal) (hPre_whole_places := hPre_whole_places)
    ∧ quiescent_DispatchRefIdeal (hDispatchRefIdeal := hDispatchRefIdeal)
    ∧ quiescent_DispatchRefIdeal_pre_whole_places (hDispatchRefIdeal := hDispatchRefIdeal) (hPre_whole_places := hPre_whole_places)
    ∧ quiescent_Route (hRoute := hRoute)
    ∧ quiescent_RouteIdeal (hRouteIdeal := hRouteIdeal)
    ∧ quiescent_RouteIdeal_pre_finite_router (hRouteIdeal := hRouteIdeal) (hPre_finite_router := hPre_finite_router)
    ∧ quiescent_RouteRefIdeal (hRouteRefIdeal := hRouteRefIdeal)
    ∧ quiescent_RouteRefIdeal_pre_finite_router (hRouteRefIdeal := hRouteRefIdeal) (hPre_finite_router := hPre_finite_router)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Memory_MemoryIdeal
    ∧ algebraic_MemoryIdeal_MemoryRefIdeal_pre_finite_queries (hMemoryIdeal := hMemoryIdeal) (hMemoryRefIdeal := hMemoryRefIdeal) (hPre_finite_queries := hPre_finite_queries)
    ∧ preserves_Dispatch_DispatchIdeal
    ∧ algebraic_DispatchIdeal_DispatchRefIdeal_pre_whole_places (hDispatchIdeal := hDispatchIdeal) (hDispatchRefIdeal := hDispatchRefIdeal) (hPre_whole_places := hPre_whole_places)
    ∧ preserves_Route_RouteIdeal
    ∧ algebraic_RouteIdeal_RouteRefIdeal_pre_finite_router (hRouteIdeal := hRouteIdeal) (hRouteRefIdeal := hRouteRefIdeal) (hPre_finite_router := hPre_finite_router)
-- ==== Pre_finite_queries.lean ====
abbrev S8x4096x12288 : Shape := ⟨3, ![8, 4096, 12288]⟩
abbrev S8x256x1024 : Shape := ⟨3, ![8, 256, 1024]⟩
abbrev S1024 : Shape := ⟨1, ![1024]⟩
abbrev S1024x2048 : Shape := ⟨2, ![1024, 2048]⟩
abbrev S256 : Shape := ⟨1, ![256]⟩
abbrev S8x4096x1024 : Shape := ⟨3, ![8, 4096, 1024]⟩
abbrev S_ : Shape := ⟨0, ![]⟩

class Facts : Prop where
  slices_S8x4096x12288_S8x4096x1024_0_0_8192 : S8x4096x12288.Slices ![0, 0, 8192] S8x4096x1024
  bitsLt_bf16_f32 : FTy.bits .bf16 < FTy.bits .f32
  bcast_S_S8x4096x1024 : S_.BroadcastsInDim S8x4096x1024 (![] : Fin 0 → Fin S8x4096x1024.rank)
  bcast_S_S256 : S_.BroadcastsInDim S256 (![] : Fin 0 → Fin S256.rank)

variable [Facts]

def fn {F : FTy → Type} [FloatOps F] (main_arg0 : FVec F S8x4096x12288 .bf16) (main_arg1 : FVec F S8x256x1024 .f32) (main_arg2 : FVec F S1024 .f32) (main_arg3 : FVec F S1024x2048 .f32) (main_arg4 : FVec F S256 .f32) : IVec S8x4096x1024 1 × IVec S256 1 :=
  let main_v0 : FVec F S8x4096x1024 .bf16 := (extractStridedSlice S8x4096x1024 ![0, 0, 8192] · slices_S8x4096x12288_S8x4096x1024_0_0_8192) main_arg0
  let main_v1 : FVec F S8x4096x1024 .f32 := (extf .f32 · bitsLt_bf16_f32) main_v0
  let main_v2 : FVec F S8x4096x1024 .f32 := Host.absf main_v1
  let main_cst : FVec F S_ .f32 := constant S_ .f32 0x7F800000#32
  let main_v3 : FVec F S8x4096x1024 .f32 := broadcastInDim S8x4096x1024 ![] bcast_S_S8x4096x1024 main_cst
  let main_v4 : IVec S8x4096x1024 1 := cmpf .olt main_v2 main_v3
  let main_v5 : FVec F S256 .f32 := Host.absf main_arg4
  let main_cst_0 : FVec F S_ .f32 := constant S_ .f32 0x7F800000#32
  let main_v6 : FVec F S256 .f32 := broadcastInDim S256 ![] bcast_S_S256 main_cst_0
  let main_v7 : IVec S256 1 := cmpf .olt main_v5 main_v6
  (main_v4, main_v7)
-- ==== Pre_finite_router.lean ====
abbrev S8x4096x1024 : Shape := ⟨3, ![8, 4096, 1024]⟩
abbrev S8x4096x2048 : Shape := ⟨3, ![8, 4096, 2048]⟩
abbrev S8x4096x12288 : Shape := ⟨3, ![8, 4096, 12288]⟩
abbrev S1024x1024 : Shape := ⟨2, ![1024, 1024]⟩
abbrev S2048x1024 : Shape := ⟨2, ![2048, 1024]⟩
abbrev S1024 : Shape := ⟨1, ![1024]⟩
abbrev S1024x32 : Shape := ⟨2, ![1024, 32]⟩
abbrev S32 : Shape := ⟨1, ![32]⟩
abbrev S_ : Shape := ⟨0, ![]⟩

class Facts : Prop where
  bcast_S_S1024 : S_.BroadcastsInDim S1024 (![] : Fin 0 → Fin S1024.rank)
  bcast_S_S1024x32 : S_.BroadcastsInDim S1024x32 (![] : Fin 0 → Fin S1024x32.rank)
  bcast_S_S32 : S_.BroadcastsInDim S32 (![] : Fin 0 → Fin S32.rank)

variable [Facts]

def fn {F : FTy → Type} [FloatOps F] (main_arg0 : FVec F S8x4096x1024 .f32) (main_arg1 : FVec F S8x4096x1024 .bf16) (main_arg2 : FVec F S8x4096x2048 .bf16) (main_arg3 : FVec F S8x4096x1024 .bf16) (main_arg4 : FVec F S8x4096x12288 .bf16) (main_arg5 : FVec F S1024x1024 .f32) (main_arg6 : FVec F S2048x1024 .f32) (main_arg7 : FVec F S1024x1024 .f32) (main_arg8 : FVec F S1024x1024 .f32) (main_arg9 : FVec F S1024 .f32) (main_arg10 : FVec F S1024x32 .f32) (main_arg11 : FVec F S32 .f32) : IVec S1024 1 × IVec S1024x32 1 × IVec S32 1 :=
  let main_v0 : FVec F S1024 .f32 := Host.absf main_arg9
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x32 .f32 := Host.absf main_arg10
  let main_cst_0 : FVec F S_ .f32 := constant S_ .f32 0x7F800000#32
  let main_v4 : FVec F S1024x32 .f32 := broadcastInDim S1024x32 ![] bcast_S_S1024x32 main_cst_0
  let main_v5 : IVec S1024x32 1 := cmpf .olt main_v3 main_v4
  let main_v6 : FVec F S32 .f32 := Host.absf main_arg11
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  (main_v2, main_v5, main_v8)
-- ==== Pre_finite_scores.lean ====
abbrev S8x4096x12288 : Shape := ⟨3, ![8, 4096, 12288]⟩
abbrev S16x257 : Shape := ⟨2, ![16, 257]⟩
abbrev S8x4096x2048 : Shape := ⟨3, ![8, 4096, 2048]⟩
abbrev S_ : Shape := ⟨0, ![]⟩

class Facts : Prop where
  slices_S8x4096x12288_S8x4096x2048_0_0_0 : S8x4096x12288.Slices ![0, 0, 0] S8x4096x2048
  bitsLt_bf16_f32 : FTy.bits .bf16 < FTy.bits .f32
  bcast_S_S8x4096x2048 : S_.BroadcastsInDim S8x4096x2048 (![] : Fin 0 → Fin S8x4096x2048.rank)
  bcast_S_S16x257 : S_.BroadcastsInDim S16x257 (![] : Fin 0 → Fin S16x257.rank)

variable [Facts]

def fn {F : FTy → Type} [FloatOps F] (main_arg0 : FVec F S8x4096x12288 .bf16) (main_arg1 : FVec F S16x257 .f32) : IVec S8x4096x2048 1 × IVec S16x257 1 :=
  let main_v0 : FVec F S8x4096x2048 .bf16 := (extractStridedSlice S8x4096x2048 ![0, 0, 0] · slices_S8x4096x12288_S8x4096x2048_0_0_0) main_arg0
  let main_v1 : FVec F S8x4096x2048 .f32 := (extf .f32 · bitsLt_bf16_f32) main_v0
  let main_v2 : FVec F S8x4096x2048 .f32 := Host.absf main_v1
  let main_cst : FVec F S_ .f32 := constant S_ .f32 0x7F800000#32
  let main_v3 : FVec F S8x4096x2048 .f32 := broadcastInDim S8x4096x2048 ![] bcast_S_S8x4096x2048 main_cst
  let main_v4 : IVec S8x4096x2048 1 := cmpf .olt main_v2 main_v3
  let main_v5 : FVec F S16x257 .f32 := Host.absf main_arg1
  let main_cst_0 : FVec F S_ .f32 := constant S_ .f32 0x7F800000#32
  let main_v6 : FVec F S16x257 .f32 := broadcastInDim S16x257 ![] bcast_S_S16x257 main_cst_0
  let main_v7 : IVec S16x257 1 := cmpf .olt main_v5 main_v6
  (main_v4, main_v7)
-- ==== Pre_whole_places.lean ====
abbrev S32768x1024 : Shape := ⟨2, ![32768, 1024]⟩
abbrev S32768x128 : Shape := ⟨2, ![32768, 128]⟩
abbrev S32768x4 : Shape := ⟨2, ![32768, 4]⟩
abbrev S_ : Shape := ⟨0, ![]⟩

class Facts : Prop where
  slices_S32768x128_S32768x4_0_0 : S32768x128.Slices ![0, 0] S32768x4
  bcast_S_S32768x4 : S_.BroadcastsInDim S32768x4 (![] : Fin 0 → Fin S32768x4.rank)

variable [Facts]

def fn {F : FTy → Type} [FloatOps F] (main_arg0 : FVec F S32768x1024 .bf16) (main_arg1 : FVec F S32768x128 .f32) : IVec S32768x4 1 × IVec S32768x4 1 × IVec S32768x4 1 :=
  let main_v0 : FVec F S32768x4 .f32 := (extractStridedSlice S32768x4 ![0, 0] · slices_S32768x128_S32768x4_0_0) main_arg1
  let main_v1 : FVec F S32768x4 .f32 := Host.floor main_v0
  let main_v2 : IVec S32768x4 1 := cmpf .oeq main_v1 main_v0
  let main_cst : FVec F S_ .f32 := constant S_ .f32 0x00000000#32
  let main_v3 : FVec F S32768x4 .f32 := broadcastInDim S32768x4 ![] bcast_S_S32768x4 main_cst
  let main_v4 : IVec S32768x4 1 := cmpf .oge main_v0 main_v3
  let main_cst_0 : FVec F S_ .f32 := constant S_ .f32 0x450FF000#32
  let main_v5 : FVec F S32768x4 .f32 := broadcastInDim S32768x4 ![] bcast_S_S32768x4 main_cst_0
  let main_v6 : IVec S32768x4 1 := cmpf .ole main_v0 main_v5
  (main_v2, main_v4, main_v6)
-- ==== Attn.lean ====
abbrev S8x4096x12288 : Shape := ⟨3, ![8, 4096, 12288]⟩
abbrev S16x257 : Shape := ⟨2, ![16, 257]⟩
abbrev S1024 : Shape := ⟨1, ![1024]⟩
abbrev S_ : Shape := ⟨0, ![]⟩
abbrev S1024x1 : Shape := ⟨2, ![1024, 1]⟩
abbrev S16x1024 : Shape := ⟨2, ![16, 1024]⟩
abbrev S16x1x1024 : Shape := ⟨3, ![16, 1, 1024]⟩
abbrev S16x256x768 : Shape := ⟨3, ![16, 256, 768]⟩
abbrev S1x1x1024 : Shape := ⟨3, ![1, 1, 1024]⟩
abbrev S1x256x768 : Shape := ⟨3, ![1, 256, 768]⟩
abbrev S1x1024 : Shape := ⟨2, ![1, 1024]⟩
abbrev S256x1024 : Shape := ⟨2, ![256, 1024]⟩
abbrev S256x768 : Shape := ⟨2, ![256, 768]⟩
abbrev S8x4096x1024 : Shape := ⟨3, ![8, 4096, 1024]⟩
abbrev S1x256x1024 : Shape := ⟨3, ![1, 256, 1024]⟩
abbrev S1x128 : Shape := ⟨2, ![1, 128]⟩
abbrev S1x768 : Shape := ⟨2, ![1, 768]⟩
abbrev S1x256x128 : Shape := ⟨3, ![1, 256, 128]⟩
abbrev S256x128 : Shape := ⟨2, ![256, 128]⟩
abbrev S768x128 : Shape := ⟨2, ![768, 128]⟩
abbrev S256 : Shape := ⟨1, ![256]⟩
abbrev S256x1 : Shape := ⟨2, ![256, 1]⟩

abbrev nBuf : Space → Nat
  | .hbm => 36
  | .vmem => 21
  | .smem => 0
  | _ => 0

abbrev bufTy : (tb : Table) → Fin (tcTables nBuf tb) → BufTy
  | .hbm, ⟨0, _⟩ => ⟨S8x4096x12288, .bf16⟩
  | .hbm, ⟨1, _⟩ => ⟨S16x257, .f32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S16x1024, .f32⟩
  | .hbm, ⟨33, _⟩ => ⟨S16x1x1024, .f32⟩
  | .hbm, ⟨34, _⟩ => ⟨S16x256x768, .f32⟩
  | .hbm, ⟨35, _⟩ => ⟨S8x4096x1024, .bf16⟩
  | .local _ .vmem, ⟨0, _⟩ => ⟨S1x1x1024, .f32⟩
  | .local _ .vmem, ⟨1, _⟩ => ⟨S1x1x1024, .f32⟩
  | .local _ .vmem, ⟨2, _⟩ => ⟨S1x256x768, .f32⟩
  | .local _ .vmem, ⟨3, _⟩ => ⟨S1x256x768, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S16x256x768, .f32⟩
  | .local _ .vmem, ⟨19, _⟩ => ⟨S1x256x1024, .bf16⟩
  | .local _ .vmem, ⟨20, _⟩ => ⟨S1x256x1024, .bf16⟩
  | _, _ => ⟨S8x4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_c_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_c_5 : Ref sig .tc := ⟨.hbm, 24, rfl⟩
abbrev main_v11 : Ref sig .tc := ⟨.hbm, 25, rfl⟩
abbrev main_v12 : Ref sig .tc := ⟨.hbm, 26, rfl⟩
abbrev main_c_6 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32 : BitVec 32 := 1#32
  let c0_i32_0 : BitVec 32 := 0#32
  ![arg0.toNat, v1.toNat, c1_i32.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c1_i32 : BitVec 32 := 1#32
  let c0_i32_1 : BitVec 32 := 0#32
  ![arg0.toNat, v1.toNat, c1_i32.toNat]

def cc1_transform_4 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_0 : BitVec 32 := 2#32
  let c0_i32_1 : BitVec 32 := 0#32
  ![arg0.toNat, v1.toNat, c2_i32_0.toNat]

def cc1_transform_5 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![arg0.toNat, v1.toNat, c2_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c2_i32 : BitVec 32 := 2#32
  let c0_i32_1 : BitVec 32 := 0#32
  ![arg0.toNat, v1.toNat, c2_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S16x256x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x256x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== AttnIdeal.lean ====
variable {F : FTy → Type} [FloatOps F] [Named F]
def κ : String → Option EReal := fun
  | "log2e" => some (((Real.log 2)⁻¹ : ℝ) : EReal)
  | "mask" => some ⊥
  | _ => none
-- ==== AttnRefIdeal.lean ====
abbrev S8x4096x12288 : Shape := ⟨3, ![8, 4096, 12288]⟩
abbrev S16x257 : Shape := ⟨2, ![16, 257]⟩
abbrev S8x4096x3072 : Shape := ⟨3, ![8, 4096, 3072]⟩
abbrev S8x4096x3x16x64 : Shape := ⟨5, ![8, 4096, 3, 16, 64]⟩
abbrev S8x4096x1x16x64 : Shape := ⟨5, ![8, 4096, 1, 16, 64]⟩
abbrev S8x4096x16x64 : Shape := ⟨4, ![8, 4096, 16, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S16x4096x4096 : Shape := ⟨3, ![16, 4096, 4096]⟩
abbrev S8x16x4096x4096 : Shape := ⟨4, ![8, 16, 4096, 4096]⟩
abbrev S1x16x4096x4096 : Shape := ⟨4, ![1, 16, 4096, 4096]⟩
abbrev S8x16x4096 : Shape := ⟨3, ![8, 16, 4096]⟩
abbrev S8x16x4096x1 : Shape := ⟨4, ![8, 16, 4096, 1]⟩
abbrev S8x16x64x4096 : Shape := ⟨4, ![8, 16, 64, 4096]⟩
abbrev S8x4096x1024 : Shape := ⟨3, ![8, 4096, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8x4096x12288, .bf16⟩
  | .hbm, ⟨1, _⟩ => ⟨S16x257, .f32⟩
  | .hbm, ⟨2, _⟩ => ⟨S8x4096x3072, .bf16⟩
  | .hbm, ⟨3, _⟩ => ⟨S8x4096x3072, .f32⟩
  | .hbm, ⟨4, _⟩ => ⟨S8x4096x3x16x64, .f32⟩
  | .hbm, ⟨5, _⟩ => ⟨S8x4096x1x16x64, .f32⟩
  | .hbm, ⟨6, _⟩ => ⟨S8x4096x16x64, .f32⟩
  | .hbm, ⟨7, _⟩ => ⟨S8x4096x1x16x64, .f32⟩
  | .hbm, ⟨8, _⟩ => ⟨S8x4096x16x64, .f32⟩
  | .hbm, ⟨9, _⟩ => ⟨S8x4096x1x16x64, .f32⟩
  | .hbm, ⟨10, _⟩ => ⟨S8x4096x16x64, .f32⟩
  | .hbm, ⟨11, _⟩ => ⟨S4096, .i32⟩
  | .hbm, ⟨12, _⟩ => ⟨S4096x1, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i1⟩
  | .hbm, ⟨31, _⟩ => ⟨S_, .i32⟩
  | .hbm, ⟨32, _⟩ => ⟨S4096x4096, .i32⟩
  | .hbm, ⟨33, _⟩ => ⟨S4096x4096, .i32⟩
  | .hbm, ⟨34, _⟩ => ⟨S4096x4096, .i32⟩
  | .hbm, ⟨35, _⟩ => ⟨S4096x4096x1, .i32⟩
  | .hbm, ⟨36, _⟩ => ⟨S16x4096x4096, .f32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S1x4096, .i32⟩
  | .hbm, ⟨42, _⟩ => ⟨S4096x4096, .i32⟩
  | .hbm, ⟨43, _⟩ => ⟨S4096x4096, .i32⟩
  | .hbm, ⟨44, _⟩ => ⟨S4096x4096, .i32⟩
  | .hbm, ⟨45, _⟩ => ⟨S_, .i32⟩
  | .hbm, ⟨46, _⟩ => ⟨S4096x4096, .i32⟩
  | .hbm, ⟨47, _⟩ => ⟨S4096x4096, .i1⟩
  | .hbm, ⟨48, _⟩ => ⟨S_, .i32⟩
  | .hbm, ⟨49, _⟩ => ⟨S4096x4096, .i32⟩
  | .hbm, ⟨50, _⟩ => ⟨S4096x4096, .i1⟩
  | .hbm, ⟨51, _⟩ => ⟨S4096x4096, .i1⟩
  | .hbm, ⟨52, _⟩ => ⟨S8x16x4096x4096, .f32⟩
  | .hbm, ⟨53, _⟩ => ⟨S_, .f32⟩
  | .hbm, ⟨54, _⟩ => ⟨S_, .f32⟩
  | .hbm, ⟨55, _⟩ => ⟨S8x16x4096x4096, .f32⟩
  | .hbm, ⟨56, _⟩ => ⟨S8x16x4096x4096, .f32⟩
  | .hbm, ⟨57, _⟩ => ⟨S1x16x4096x4096, .f32⟩
  | .hbm, ⟨58, _⟩ => ⟨S8x16x4096x4096, .f32⟩
  | .hbm, ⟨59, _⟩ => ⟨S8x16x4096x4096, .f32⟩
  | .hbm, ⟨60, _⟩ => ⟨S_, .f32⟩
  | .hbm, ⟨61, _⟩ => ⟨S_, .f32⟩
  | .hbm, ⟨62, _⟩ => ⟨S8x16x4096x4096, .i1⟩
  | .hbm, ⟨63, _⟩ => ⟨S8x16x4096x4096, .f32⟩
  | .hbm, ⟨64, _⟩ => ⟨S8x16x4096x4096, .f32⟩
  | .hbm, ⟨65, _⟩ => ⟨S_, .f32⟩
  | .hbm, ⟨66, _⟩ => ⟨S8x16x4096, .f32⟩
  | .hbm, ⟨67, _⟩ => ⟨S_, .f32⟩
  | .hbm, ⟨68, _⟩ => ⟨S8x16x4096, .f32⟩
  | .hbm, ⟨69, _⟩ => ⟨S8x16x4096, .f32⟩
  | .hbm, ⟨70, _⟩ => ⟨S8x16x4096x1, .f32⟩
  | .hbm, ⟨71, _⟩ => ⟨S8x16x4096x4096, .f32⟩
  | .hbm, ⟨72, _⟩ => ⟨S8x16x4096x4096, .f32⟩
  | .hbm, ⟨73, _⟩ => ⟨S8x16x4096x4096, .f32⟩
  | .hbm, ⟨74, _⟩ => ⟨S_, .f32⟩
  | .hbm, ⟨75, _⟩ => ⟨S8x16x4096, .f32⟩
  | .hbm, ⟨76, _⟩ => ⟨S8x16x4096x1, .f32⟩
  | .hbm, ⟨77, _⟩ => ⟨S8x16x4096x4096, .f32⟩
  | .hbm, ⟨78, _⟩ => ⟨S8x16x4096x4096, .f32⟩
  | .hbm, ⟨79, _⟩ => ⟨S8x16x64x4096, .f32⟩
  | .hbm, ⟨80, _⟩ => ⟨S8x4096x16x64, .f32⟩
  | .hbm, ⟨81, _⟩ => ⟨S8x4096x1024, .f32⟩
  | .hbm, ⟨82, _⟩ => ⟨S8x4096x1024, .bf16⟩
  | _, _ => ⟨S8x4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Proj.lean ====
abbrev S8x4096x1024 : Shape := ⟨3, ![8, 4096, 1024]⟩
abbrev S1024 : Shape := ⟨1, ![1024]⟩
abbrev S1024x12320 : Shape := ⟨2, ![1024, 12320]⟩
abbrev S64 : Shape := ⟨1, ![64]⟩
abbrev S256 : Shape := ⟨1, ![256]⟩
abbrev S1024x8192 : Shape := ⟨2, ![1024, 8192]⟩
abbrev S1024x4096 : Shape := ⟨2, ![1024, 4096]⟩
abbrev S1024x32 : Shape := ⟨2, ![1024, 32]⟩
abbrev S_ : Shape := ⟨0, ![]⟩
abbrev S1024x128 : Shape := ⟨2, ![1024, 128]⟩
abbrev S8x1024 : Shape := ⟨2, ![8, 1024]⟩
abbrev S1x64 : Shape := ⟨2, ![1, 64]⟩
abbrev S16x64 : Shape := ⟨2, ![16, 64]⟩
abbrev S1 : Shape := ⟨1, ![1]⟩
abbrev S1x256 : Shape := ⟨2, ![1, 256]⟩
abbrev S4x256 : Shape := ⟨2, ![4, 256]⟩
abbrev S32768x1024 : Shape := ⟨2, ![32768, 1024]⟩
abbrev S1x1024 : Shape := ⟨2, ![1, 1024]⟩
abbrev S32768x12288 : Shape := ⟨2, ![32768, 12288]⟩
abbrev S32768x128 : Shape := ⟨2, ![32768, 128]⟩
abbrev S1024x1024 : Shape := ⟨2, ![1024, 1024]⟩
abbrev S1024x2048 : Shape := ⟨2, ![1024, 2048]⟩
abbrev S1024x1 : Shape := ⟨2, ![1024, 1]⟩
abbrev S1x128 : Shape := ⟨2, ![1, 128]⟩
abbrev S1024x256 : Shape := ⟨2, ![1024, 256]⟩
abbrev S8x4096x12288 : Shape := ⟨3, ![8, 4096, 12288]⟩
abbrev S8x4096x128 : Shape := ⟨3, ![8, 4096, 128]⟩

abbrev nBuf : Space → Nat
  | .hbm => 47
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x12320, .f32⟩
  | .hbm, ⟨3, _⟩ => ⟨S64, .f32⟩
  | .hbm, ⟨4, _⟩ => ⟨S64, .f32⟩
  | .hbm, ⟨5, _⟩ => ⟨S256, .f32⟩
  | .hbm, ⟨6, _⟩ => ⟨S1024x8192, .f32⟩
  | .hbm, ⟨7, _⟩ => ⟨S1024x8192, .bf16⟩
  | .hbm, ⟨8, _⟩ => ⟨S1024x4096, .f32⟩
  | .hbm, ⟨9, _⟩ => ⟨S1024x4096, .bf16⟩
  | .hbm, ⟨10, _⟩ => ⟨S1024x32, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S_, .f32⟩
  | .hbm, ⟨16, _⟩ => ⟨S8x1024, .f32⟩
  | .hbm, ⟨17, _⟩ => ⟨S1x64, .f32⟩
  | .hbm, ⟨18, _⟩ => ⟨S16x64, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .i32⟩
  | .hbm, ⟨24, _⟩ => ⟨S1, .i32⟩
  | .hbm, ⟨25, _⟩ => ⟨S8x1024, .f32⟩
  | .hbm, ⟨26, _⟩ => ⟨S1x64, .f32⟩
  | .hbm, ⟨27, _⟩ => ⟨S16x64, .f32⟩
  | .hbm, ⟨28, _⟩ => ⟨S1024, .f32⟩
  | .hbm, ⟨29, _⟩ => ⟨S_, .i32⟩
  | .hbm, ⟨30, _⟩ => ⟨S1, .i32⟩
  | .hbm, ⟨31, _⟩ => ⟨S8x1024, .f32⟩
  | .hbm, ⟨32, _⟩ => ⟨S1x256, .f32⟩
  | .hbm, ⟨33, _⟩ => ⟨S4x256, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S_, .i32⟩
  | .hbm, ⟨39, _⟩ => ⟨S1, .i32⟩
  | .hbm, ⟨40, _⟩ => ⟨S8x1024, .f32⟩
  | .hbm, ⟨41, _⟩ => ⟨S32768x1024, .f32⟩
  | .hbm, ⟨42, _⟩ => ⟨S1x1024, .f32⟩
  | .hbm, ⟨43, _⟩ => ⟨S32768x12288, .bf16⟩
  | .hbm, ⟨44, _⟩ => ⟨S32768x128, .f32⟩
  | .hbm, ⟨45, _⟩ => ⟨S8x4096x12288, .bf16⟩
  | .hbm, ⟨46, _⟩ => ⟨S8x4096x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x128, .bf16⟩
  | .local _ .vmem, ⟨8, _⟩ => ⟨S8x1024, .f32⟩
  | .local _ .vmem, ⟨9, _⟩ => ⟨S1024x2048, .bf16⟩
  | .local _ .vmem, ⟨10, _⟩ => ⟨S1024x2048, .bf16⟩
  | .local _ .vmem, ⟨11, _⟩ => ⟨S1024x128, .f32⟩
  | .local _ .vmem, ⟨12, _⟩ => ⟨S1024x128, .f32⟩
  | .local _ .vmem, ⟨13, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 6], ![false, false]⟩

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let c2_i32 : BitVec 32 := 2#32
  let v4 : BitVec 1 := Scalar.cmpi .eq arg1 c2_i32
  let v5 : BitVec 1 := Scalar.ori v3 v4
  let c3_i32 : BitVec 32 := 3#32
  let v6 : BitVec 1 := Scalar.cmpi .eq arg1 c3_i32
  let v7 : BitVec 1 := Scalar.ori v5 v6
  let v8 : BitVec 32 := Scalar.extui v7
  let c0_i32_1 : BitVec 32 := 0#32
  let v9 : BitVec 1 := Scalar.cmpi .ne v8 c0_i32_1
  v9

def k0_cond3 (i : grid0.Coords) : BitVec 1 :=
  let arg1 : BitVec 32 := BitVec.ofNat 32 (i 1).val
  let c0_i32_2 : BitVec 32 := 0#32
  let v10 : BitVec 1 := Scalar.cmpi .eq arg1 c0_i32_2
  let v11 : BitVec 32 := Scalar.extui v10
  let c0_i32_3 : BitVec 32 := 0#32
  let v12 : BitVec 1 := Scalar.cmpi .ne v11 c0_i32_3
  v12

def k0_cond4 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_4 : BitVec 32 := 0#32
  let v15 : BitVec 1 := Scalar.cmpi .ne v14 c0_i32_4
  v15

def k0_cond5 (i : grid0.Coords) : BitVec 1 :=
  let arg1 : BitVec 32 := BitVec.ofNat 32 (i 1).val
  let c5_i32 : BitVec 32 := 5#32
  let v16 : BitVec 1 := Scalar.cmpi .eq arg1 c5_i32
  let v17 : BitVec 32 := Scalar.extui v16
  let c0_i32_5 : BitVec 32 := 0#32
  let v18 : BitVec 1 := Scalar.cmpi .ne v17 c0_i32_5
  v18

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c1_i32 : BitVec 32 := 1#32
  let v2 : BitVec 32 := Scalar.select v0 c1_i32 v1
  let c0_i32 : BitVec 32 := 0#32
  let c0_i32_1 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ProjRefIdeal.lean ====
abbrev S8x4096x1024 : Shape := ⟨3, ![8, 4096, 1024]⟩
abbrev S1024 : Shape := ⟨1, ![1024]⟩
abbrev S1024x12320 : Shape := ⟨2, ![1024, 12320]⟩
abbrev S64 : Shape := ⟨1, ![64]⟩
abbrev S256 : Shape := ⟨1, ![256]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x12320 : Shape := ⟨3, ![8, 4096, 12320]⟩
abbrev S8x4096x6144 : Shape := ⟨3, ![8, 4096, 6144]⟩
abbrev S8x4096x32 : Shape := ⟨3, ![8, 4096, 32]⟩
abbrev S8x4096x3072 : Shape := ⟨3, ![8, 4096, 3072]⟩
abbrev S8x4096x16x64 : Shape := ⟨4, ![8, 4096, 16, 64]⟩
abbrev S8x4096x16 : Shape := ⟨3, ![8, 4096, 16]⟩
abbrev S8x4096x16x1 : Shape := ⟨4, ![8, 4096, 16, 1]⟩
abbrev S1x1x1x64 : Shape := ⟨4, ![1, 1, 1, 64]⟩
abbrev S8x4096x4x256 : Shape := ⟨4, ![8, 4096, 4, 256]⟩
abbrev S8x4096x4 : Shape := ⟨3, ![8, 4096, 4]⟩
abbrev S8x4096x4x1 : Shape := ⟨4, ![8, 4096, 4, 1]⟩
abbrev S1x1x1x256 : Shape := ⟨4, ![1, 1, 1, 256]⟩
abbrev S8x4096x12288 : Shape := ⟨3, ![8, 4096, 12288]⟩
abbrev S8x4096x128 : Shape := ⟨3, ![8, 4096, 128]⟩

abbrev nBuf : Space → Nat
  | .hbm => 102
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x12320, .f32⟩
  | .hbm, ⟨3, _⟩ => ⟨S64, .f32⟩
  | .hbm, ⟨4, _⟩ => ⟨S64, .f32⟩
  | .hbm, ⟨5, _⟩ => ⟨S256, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x4096x12320, .f32⟩
  | .hbm, ⟨23, _⟩ => ⟨S8x4096x1024, .f32⟩
  | .hbm, ⟨24, _⟩ => ⟨S8x4096x1024, .f32⟩
  | .hbm, ⟨25, _⟩ => ⟨S8x4096x6144, .f32⟩
  | .hbm, ⟨26, _⟩ => ⟨S8x4096x32, .f32⟩
  | .hbm, ⟨27, _⟩ => ⟨S8x4096x1024, .f32⟩
  | .hbm, ⟨28, _⟩ => ⟨S8x4096x3072, .f32⟩
  | .hbm, ⟨29, _⟩ => ⟨S8x4096x16x64, .f32⟩
  | .hbm, ⟨30, _⟩ => ⟨S8x4096x16x64, .f32⟩
  | .hbm, ⟨31, _⟩ => ⟨S_, .f32⟩
  | .hbm, ⟨32, _⟩ => ⟨S8x4096x16, .f32⟩
  | .hbm, ⟨33, _⟩ => ⟨S8x4096x16x1, .f32⟩
  | .hbm, ⟨34, _⟩ => ⟨S_, .f32⟩
  | .hbm, ⟨35, _⟩ => ⟨S8x4096x16x1, .f32⟩
  | .hbm, ⟨36, _⟩ => ⟨S8x4096x16x1, .f32⟩
  | .hbm, ⟨37, _⟩ => ⟨S_, .f32⟩
  | .hbm, ⟨38, _⟩ => ⟨S8x4096x16x1, .f32⟩
  | .hbm, ⟨39, _⟩ => ⟨S8x4096x16x1, .f32⟩
  | .hbm, ⟨40, _⟩ => ⟨S8x4096x16x1, .f32⟩
  | .hbm, ⟨41, _⟩ => ⟨S8x4096x16x64, .f32⟩
  | .hbm, ⟨42, _⟩ => ⟨S8x4096x16x64, .f32⟩
  | .hbm, ⟨43, _⟩ => ⟨S1x1x1x64, .f32⟩
  | .hbm, ⟨44, _⟩ => ⟨S8x4096x16x64, .f32⟩
  | .hbm, ⟨45, _⟩ => ⟨S8x4096x16x64, .f32⟩
  | .hbm, ⟨46, _⟩ => ⟨S_, .f32⟩
  | .hbm, ⟨47, _⟩ => ⟨S8x4096x16x64, .f32⟩
  | .hbm, ⟨48, _⟩ => ⟨S8x4096x16x64, .f32⟩
  | .hbm, ⟨49, _⟩ => ⟨S8x4096x16x64, .f32⟩
  | .hbm, ⟨50, _⟩ => ⟨S8x4096x16x64, .f32⟩
  | .hbm, ⟨51, _⟩ => ⟨S_, .f32⟩
  | .hbm, ⟨52, _⟩ => ⟨S8x4096x16, .f32⟩
  | .hbm, ⟨53, _⟩ => ⟨S8x4096x16x1, .f32⟩
  | .hbm, ⟨54, _⟩ => ⟨S_, .f32⟩
  | .hbm, ⟨55, _⟩ => ⟨S8x4096x16x1, .f32⟩
  | .hbm, ⟨56, _⟩ => ⟨S8x4096x16x1, .f32⟩
  | .hbm, ⟨57, _⟩ => ⟨S_, .f32⟩
  | .hbm, ⟨58, _⟩ => ⟨S8x4096x16x1, .f32⟩
  | .hbm, ⟨59, _⟩ => ⟨S8x4096x16x1, .f32⟩
  | .hbm, ⟨60, _⟩ => ⟨S8x4096x16x1, .f32⟩
  | .hbm, ⟨61, _⟩ => ⟨S8x4096x16x64, .f32⟩
  | .hbm, ⟨62, _⟩ => ⟨S8x4096x16x64, .f32⟩
  | .hbm, ⟨63, _⟩ => ⟨S1x1x1x64, .f32⟩
  | .hbm, ⟨64, _⟩ => ⟨S8x4096x16x64, .f32⟩
  | .hbm, ⟨65, _⟩ => ⟨S8x4096x16x64, .f32⟩
  | .hbm, ⟨66, _⟩ => ⟨S8x4096x4x256, .f32⟩
  | .hbm, ⟨67, _⟩ => ⟨S8x4096x4x256, .f32⟩
  | .hbm, ⟨68, _⟩ => ⟨S_, .f32⟩
  | .hbm, ⟨69, _⟩ => ⟨S8x4096x4, .f32⟩
  | .hbm, ⟨70, _⟩ => ⟨S8x4096x4x1, .f32⟩
  | .hbm, ⟨71, _⟩ => ⟨S_, .f32⟩
  | .hbm, ⟨72, _⟩ => ⟨S8x4096x4x1, .f32⟩
  | .hbm, ⟨73, _⟩ => ⟨S8x4096x4x1, .f32⟩
  | .hbm, ⟨74, _⟩ => ⟨S_, .f32⟩
  | .hbm, ⟨75, _⟩ => ⟨S8x4096x4x1, .f32⟩
  | .hbm, ⟨76, _⟩ => ⟨S8x4096x4x1, .f32⟩
  | .hbm, ⟨77, _⟩ => ⟨S8x4096x4x1, .f32⟩
  | .hbm, ⟨78, _⟩ => ⟨S8x4096x4x256, .f32⟩
  | .hbm, ⟨79, _⟩ => ⟨S8x4096x4x256, .f32⟩
  | .hbm, ⟨80, _⟩ => ⟨S1x1x1x256, .f32⟩
  | .hbm, ⟨81, _⟩ => ⟨S8x4096x4x256, .f32⟩
  | .hbm, ⟨82, _⟩ => ⟨S8x4096x4x256, .f32⟩
  | .hbm, ⟨83, _⟩ => ⟨S_, .f32⟩
  | .hbm, ⟨84, _⟩ => ⟨S8x4096x4x256, .f32⟩
  | .hbm, ⟨85, _⟩ => ⟨S8x4096x4x256, .f32⟩
  | .hbm, ⟨86, _⟩ => ⟨S8x4096x3072, .f32⟩
  | .hbm, ⟨87, _⟩ => ⟨S8x4096x3072, .f32⟩
  | .hbm, ⟨88, _⟩ => ⟨S_, .f32⟩
  | .hbm, ⟨89, _⟩ => ⟨S8x4096x3072, .f32⟩
  | .hbm, ⟨90, _⟩ => ⟨S8x4096x3072, .f32⟩
  | .hbm, ⟨91, _⟩ => ⟨S_, .f32⟩
  | .hbm, ⟨92, _⟩ => ⟨S8x4096x3072, .f32⟩
  | .hbm, ⟨93, _⟩ => ⟨S8x4096x3072, .f32⟩
  | .hbm, ⟨94, _⟩ => ⟨S8x4096x1024, .f32⟩
  | .hbm, ⟨95, _⟩ => ⟨S8x4096x1024, .f32⟩
  | .hbm, ⟨96, _⟩ => ⟨S8x4096x1024, .f32⟩
  | .hbm, ⟨97, _⟩ => ⟨S8x4096x12288, .f32⟩
  | .hbm, ⟨98, _⟩ => ⟨S8x4096x12288, .bf16⟩
  | .hbm, ⟨99, _⟩ => ⟨S_, .i32⟩
  | .hbm, ⟨100, _⟩ => ⟨S_, .f32⟩
  | .hbm, ⟨101, _⟩ => ⟨S8x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c : Ref sig .tc := ⟨.hbm, 99, rfl⟩
abbrev main_call0_v0 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Merge.lean ====
abbrev S8x4096x1024 : Shape := ⟨3, ![8, 4096, 1024]⟩
abbrev S8x4096x2048 : Shape := ⟨3, ![8, 4096, 2048]⟩
abbrev S8x4096x12288 : Shape := ⟨3, ![8, 4096, 12288]⟩
abbrev S1024x1024 : Shape := ⟨2, ![1024, 1024]⟩
abbrev S2048x1024 : Shape := ⟨2, ![2048, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S32768x1024 : Shape := ⟨2, ![32768, 1024]⟩
abbrev S32768x2048 : Shape := ⟨2, ![32768, 2048]⟩
abbrev S32768x12288 : Shape := ⟨2, ![32768, 12288]⟩
abbrev S1x1024 : Shape := ⟨2, ![1, 1024]⟩
abbrev S32768x128 : Shape := ⟨2, ![32768, 128]⟩
abbrev S64x8x128 : Shape := ⟨3, ![64, 8, 128]⟩
abbrev S512x1024 : Shape := ⟨2, ![512, 1024]⟩
abbrev S512x2048 : Shape := ⟨2, ![512, 2048]⟩
abbrev S512x128 : Shape := ⟨2, ![512, 128]⟩
abbrev S1x8x128 : Shape := ⟨3, ![1, 8, 128]⟩
abbrev S512 : Shape := ⟨1, ![512]⟩
abbrev S512x1 : Shape := ⟨2, ![512, 1]⟩
abbrev S512x512 : Shape := ⟨2, ![512, 512]⟩
abbrev S8x128 : Shape := ⟨2, ![8, 128]⟩
abbrev S128x128 : Shape := ⟨2, ![128, 128]⟩

abbrev nBuf : Space → Nat
  | .hbm => 37
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x2048, .bf16⟩
  | .hbm, ⟨3, _⟩ => ⟨S8x4096x1024, .bf16⟩
  | .hbm, ⟨4, _⟩ => ⟨S8x4096x12288, .bf16⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S32768x1024, .f32⟩
  | .hbm, ⟨20, _⟩ => ⟨S32768x1024, .bf16⟩
  | .hbm, ⟨21, _⟩ => ⟨S32768x2048, .bf16⟩
  | .hbm, ⟨22, _⟩ => ⟨S32768x1024, .bf16⟩
  | .hbm, ⟨23, _⟩ => ⟨S32768x12288, .bf16⟩
  | .hbm, ⟨24, _⟩ => ⟨S1024x1024, .bf16⟩
  | .hbm, ⟨25, _⟩ => ⟨S2048x1024, .bf16⟩
  | .hbm, ⟨26, _⟩ => ⟨S1024x1024, .bf16⟩
  | .hbm, ⟨27, _⟩ => ⟨S1024x1024, .bf16⟩
  | .hbm, ⟨28, _⟩ => ⟨S1x1024, .f32⟩
  | .hbm, ⟨29, _⟩ => ⟨S1024x128, .bf16⟩
  | .hbm, ⟨30, _⟩ => ⟨S1024x128, .f32⟩
  | .hbm, ⟨31, _⟩ => ⟨S1024x128, .f32⟩
  | .hbm, ⟨32, _⟩ => ⟨S1024x128, .bf16⟩
  | .hbm, ⟨33, _⟩ => ⟨S32768x1024, .f32⟩
  | .hbm, ⟨34, _⟩ => ⟨S32768x1024, .bf16⟩
  | .hbm, ⟨35, _⟩ => ⟨S32768x128, .f32⟩
  | .hbm, ⟨36, _⟩ => ⟨S64x8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S2048x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x128, .bf16⟩
  | .local _ .vmem, ⟨20, _⟩ => ⟨S1024x128, .bf16⟩
  | .local _ .vmem, ⟨21, _⟩ => ⟨S1x128, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x128, .f32⟩
  | .local _ .vmem, ⟨27, _⟩ => ⟨S512x128, .f32⟩
  | .local _ .vmem, ⟨28, _⟩ => ⟨S1x8x128, .f32⟩
  | .local _ .vmem, ⟨29, _⟩ => ⟨S1x8x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_v17_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MergeRefIdeal.lean ====
abbrev S8x4096x1024 : Shape := ⟨3, ![8, 4096, 1024]⟩
abbrev S8x4096x2048 : Shape := ⟨3, ![8, 4096, 2048]⟩
abbrev S8x4096x12288 : Shape := ⟨3, ![8, 4096, 12288]⟩
abbrev S1024x1024 : Shape := ⟨2, ![1024, 1024]⟩
abbrev S2048x1024 : Shape := ⟨2, ![2048, 1024]⟩
abbrev S1024 : Shape := ⟨1, ![1024]⟩
abbrev S1024x32 : Shape := ⟨2, ![1024, 32]⟩
abbrev S32 : Shape := ⟨1, ![32]⟩
abbrev S8x4096x3072 : Shape := ⟨3, ![8, 4096, 3072]⟩
abbrev S8x4096x3x1024 : Shape := ⟨4, ![8, 4096, 3, 1024]⟩
abbrev S8x4096x1x1024 : Shape := ⟨4, ![8, 4096, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x2048, .bf16⟩
  | .hbm, ⟨3, _⟩ => ⟨S8x4096x1024, .bf16⟩
  | .hbm, ⟨4, _⟩ => ⟨S8x4096x12288, .bf16⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S8x4096x3072, .bf16⟩
  | .hbm, ⟨13, _⟩ => ⟨S8x4096x3072, .f32⟩
  | .hbm, ⟨14, _⟩ => ⟨S8x4096x3x1024, .f32⟩
  | .hbm, ⟨15, _⟩ => ⟨S8x4096x1x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1x1024, .f32⟩
  | .hbm, ⟨21, _⟩ => ⟨S8x4096x1024, .f32⟩
  | .hbm, ⟨22, _⟩ => ⟨S8x4096x2048, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S1x1x1024, .f32⟩
  | .hbm, ⟨48, _⟩ => ⟨S8x4096x1024, .f32⟩
  | .hbm, ⟨49, _⟩ => ⟨S8x4096x1024, .f32⟩
  | .hbm, ⟨50, _⟩ => ⟨S32768x1024, .f32⟩
  | .hbm, ⟨51, _⟩ => ⟨S8x4096x1024, .bf16⟩
  | .hbm, ⟨52, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Memory.lean ====
abbrev S8x4096x12288 : Shape := ⟨3, ![8, 4096, 12288]⟩
abbrev S8x256x1024 : Shape := ⟨3, ![8, 256, 1024]⟩
abbrev S1024 : Shape := ⟨1, ![1024]⟩
abbrev S1024x2048 : Shape := ⟨2, ![1024, 2048]⟩
abbrev S256 : Shape := ⟨1, ![256]⟩
abbrev S1x1024 : Shape := ⟨2, ![1, 1024]⟩
abbrev S1x256 : Shape := ⟨2, ![1, 256]⟩
abbrev S1x256x1024 : Shape := ⟨3, ![1, 256, 1024]⟩
abbrev S256x1024 : Shape := ⟨2, ![256, 1024]⟩
abbrev S256x1 : Shape := ⟨2, ![256, 1]⟩
abbrev S256x2048 : Shape := ⟨2, ![256, 2048]⟩
abbrev S256x256 : Shape := ⟨2, ![256, 256]⟩
abbrev S1x256x256 : Shape := ⟨3, ![1, 256, 256]⟩
abbrev S8x4096x1024 : Shape := ⟨3, ![8, 4096, 1024]⟩
abbrev S1x512x1024 : Shape := ⟨3, ![1, 512, 1024]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S8x4096x12288, .bf16⟩
  | .hbm, ⟨1, _⟩ => ⟨S8x256x1024, .f32⟩
  | .hbm, ⟨2, _⟩ => ⟨S1024, .f32⟩
  | .hbm, ⟨3, _⟩ => ⟨S1024x2048, .f32⟩
  | .hbm, ⟨4, _⟩ => ⟨S256, .f32⟩
  | .hbm, ⟨5, _⟩ => ⟨S1x1024, .f32⟩
  | .hbm, ⟨6, _⟩ => ⟨S1024x2048, .bf16⟩
  | .hbm, ⟨7, _⟩ => ⟨S1x256, .f32⟩
  | .hbm, ⟨8, _⟩ => ⟨S8x256x1024, .bf16⟩
  | .hbm, ⟨9, _⟩ => ⟨S8x256x1024, .bf16⟩
  | .hbm, ⟨10, _⟩ => ⟨S8x4096x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x256, .f32⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x512x1024, .bf16⟩
  | .local _ .vmem, ⟨16, _⟩ => ⟨S1x512x1024, .bf16⟩
  | _, _ => ⟨S8x4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== MemoryRefIdeal.lean ====
abbrev S8x4096x12288 : Shape := ⟨3, ![8, 4096, 12288]⟩
abbrev S8x256x1024 : Shape := ⟨3, ![8, 256, 1024]⟩
abbrev S1024 : Shape := ⟨1, ![1024]⟩
abbrev S1024x2048 : Shape := ⟨2, ![1024, 2048]⟩
abbrev S256 : Shape := ⟨1, ![256]⟩
abbrev S8x4096x1024 : Shape := ⟨3, ![8, 4096, 1024]⟩
abbrev S8x4096x4x256 : Shape := ⟨4, ![8, 4096, 4, 256]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x2048 : Shape := ⟨3, ![8, 256, 2048]⟩
abbrev S8x256x4x256 : Shape := ⟨4, ![8, 256, 4, 256]⟩
abbrev S8x256x4 : Shape := ⟨3, ![8, 256, 4]⟩
abbrev S8x256x4x1 : Shape := ⟨4, ![8, 256, 4, 1]⟩
abbrev S1x1x1x256 : Shape := ⟨4, ![1, 1, 1, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x12288, .bf16⟩
  | .hbm, ⟨1, _⟩ => ⟨S8x256x1024, .f32⟩
  | .hbm, ⟨2, _⟩ => ⟨S1024, .f32⟩
  | .hbm, ⟨3, _⟩ => ⟨S1024x2048, .f32⟩
  | .hbm, ⟨4, _⟩ => ⟨S256, .f32⟩
  | .hbm, ⟨5, _⟩ => ⟨S8x4096x1024, .bf16⟩
  | .hbm, ⟨6, _⟩ => ⟨S8x4096x1024, .f32⟩
  | .hbm, ⟨7, _⟩ => ⟨S8x4096x4x256, .f32⟩
  | .hbm, ⟨8, _⟩ => ⟨S8x256x1024, .f32⟩
  | .hbm, ⟨9, _⟩ => ⟨S_, .f32⟩
  | .hbm, ⟨10, _⟩ => ⟨S8x256, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S_, .f32⟩
  | .hbm, ⟨16, _⟩ => ⟨S8x256x1, .f32⟩
  | .hbm, ⟨17, _⟩ => ⟨S8x256x1, .f32⟩
  | .hbm, ⟨18, _⟩ => ⟨S8x256x1, .f32⟩
  | .hbm, ⟨19, _⟩ => ⟨S8x256x1024, .f32⟩
  | .hbm, ⟨20, _⟩ => ⟨S8x256x1024, .f32⟩
  | .hbm, ⟨21, _⟩ => ⟨S1x1x1024, .f32⟩
  | .hbm, ⟨22, _⟩ => ⟨S8x256x1024, .f32⟩
  | .hbm, ⟨23, _⟩ => ⟨S8x256x1024, .f32⟩
  | .hbm, ⟨24, _⟩ => ⟨S8x256x2048, .f32⟩
  | .hbm, ⟨25, _⟩ => ⟨S8x256x1024, .f32⟩
  | .hbm, ⟨26, _⟩ => ⟨S8x256x1024, .f32⟩
  | .hbm, ⟨27, _⟩ => ⟨S8x256x4x256, .f32⟩
  | .hbm, ⟨28, _⟩ => ⟨S8x256x4x256, .f32⟩
  | .hbm, ⟨29, _⟩ => ⟨S_, .f32⟩
  | .hbm, ⟨30, _⟩ => ⟨S8x256x4, .f32⟩
  | .hbm, ⟨31, _⟩ => ⟨S8x256x4x1, .f32⟩
  | .hbm, ⟨32, _⟩ => ⟨S_, .f32⟩
  | .hbm, ⟨33, _⟩ => ⟨S8x256x4x1, .f32⟩
  | .hbm, ⟨34, _⟩ => ⟨S8x256x4x1, .f32⟩
  | .hbm, ⟨35, _⟩ => ⟨S_, .f32⟩
  | .hbm, ⟨36, _⟩ => ⟨S8x256x4x1, .f32⟩
  | .hbm, ⟨37, _⟩ => ⟨S8x256x4x1, .f32⟩
  | .hbm, ⟨38, _⟩ => ⟨S8x256x4x1, .f32⟩
  | .hbm, ⟨39, _⟩ => ⟨S8x256x4x256, .f32⟩
  | .hbm, ⟨40, _⟩ => ⟨S8x256x4x256, .f32⟩
  | .hbm, ⟨41, _⟩ => ⟨S1x1x1x256, .f32⟩
  | .hbm, ⟨42, _⟩ => ⟨S8x256x4x256, .f32⟩
  | .hbm, ⟨43, _⟩ => ⟨S8x256x4x256, .f32⟩
  | .hbm, ⟨44, _⟩ => ⟨S8x256x4x256, .f32⟩
  | .hbm, ⟨45, _⟩ => ⟨S8x4x4096x256, .f32⟩
  | .hbm, ⟨46, _⟩ => ⟨S_, .f32⟩
  | .hbm, ⟨47, _⟩ => ⟨S8x4x4096, .f32⟩
  | .hbm, ⟨48, _⟩ => ⟨S_, .f32⟩
  | .hbm, ⟨49, _⟩ => ⟨S8x4x4096, .f32⟩
  | .hbm, ⟨50, _⟩ => ⟨S8x4x4096, .f32⟩
  | .hbm, ⟨51, _⟩ => ⟨S8x4x4096x1, .f32⟩
  | .hbm, ⟨52, _⟩ => ⟨S8x4x4096x256, .f32⟩
  | .hbm, ⟨53, _⟩ => ⟨S8x4x4096x256, .f32⟩
  | .hbm, ⟨54, _⟩ => ⟨S8x4x4096x256, .f32⟩
  | .hbm, ⟨55, _⟩ => ⟨S_, .f32⟩
  | .hbm, ⟨56, _⟩ => ⟨S8x4x4096, .f32⟩
  | .hbm, ⟨57, _⟩ => ⟨S8x4x4096x1, .f32⟩
  | .hbm, ⟨58, _⟩ => ⟨S8x4x4096x256, .f32⟩
  | .hbm, ⟨59, _⟩ => ⟨S8x4x4096x256, .f32⟩
  | .hbm, ⟨60, _⟩ => ⟨S8x4x256x4096, .f32⟩
  | .hbm, ⟨61, _⟩ => ⟨S8x4096x4x256, .f32⟩
  | .hbm, ⟨62, _⟩ => ⟨S8x4096x1024, .f32⟩
  | .hbm, ⟨63, _⟩ => ⟨S8x4096x1024, .bf16⟩
  | _, _ => ⟨S8x4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Dispatch.lean ====
abbrev S32768x1024 : Shape := ⟨2, ![32768, 1024]⟩
abbrev S32768x128 : Shape := ⟨2, ![32768, 128]⟩
abbrev S147456x1024 : Shape := ⟨2, ![147456, 1024]⟩
abbrev S512x1024 : Shape := ⟨2, ![512, 1024]⟩
abbrev S512x128 : Shape := ⟨2, ![512, 128]⟩
abbrev S2304x1024 : Shape := ⟨2, ![2304, 1024]⟩
abbrev S128x512 : Shape := ⟨2, ![128, 512]⟩
abbrev S2304x512 : Shape := ⟨2, ![2304, 512]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S32768x1024, .bf16⟩
  | .hbm, ⟨1, _⟩ => ⟨S32768x128, .f32⟩
  | .hbm, ⟨2, _⟩ => ⟨S147456x1024, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S2304x1024, .f32⟩
  | .local _ .vmem, ⟨5, _⟩ => ⟨S2304x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DispatchRefIdeal.lean ====
abbrev S32768x1024 : Shape := ⟨2, ![32768, 1024]⟩
abbrev S32768x128 : Shape := ⟨2, ![32768, 128]⟩
abbrev S64x512x128 : Shape := ⟨3, ![64, 512, 128]⟩
abbrev S64x512x4 : Shape := ⟨3, ![64, 512, 4]⟩
abbrev S64 : Shape := ⟨1, ![64]⟩
abbrev S64x1x1 : Shape := ⟨3, ![64, 1, 1]⟩
abbrev S_ : Shape := ⟨0, ![]⟩
abbrev S32768x4 : Shape := ⟨2, ![32768, 4]⟩
abbrev S32768x1x1024 : Shape := ⟨3, ![32768, 1, 1024]⟩
abbrev S32768x4x1024 : Shape := ⟨3, ![32768, 4, 1024]⟩
abbrev S147456x1024 : Shape := ⟨2, ![147456, 1024]⟩
abbrev S32768x4x1 : Shape := ⟨3, ![32768, 4, 1]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x128, .f32⟩
  | .hbm, ⟨2, _⟩ => ⟨S64x512x128, .f32⟩
  | .hbm, ⟨3, _⟩ => ⟨S64x512x4, .f32⟩
  | .hbm, ⟨4, _⟩ => ⟨S64x512x4, .i32⟩
  | .hbm, ⟨5, _⟩ => ⟨S64, .i32⟩
  | .hbm, ⟨6, _⟩ => ⟨S64x1x1, .i32⟩
  | .hbm, ⟨7, _⟩ => ⟨S_, .i32⟩
  | .hbm, ⟨8, _⟩ => ⟨S64x1x1, .i32⟩
  | .hbm, ⟨9, _⟩ => ⟨S64x1x1, .i32⟩
  | .hbm, ⟨10, _⟩ => ⟨S64x512x4, .i32⟩
  | .hbm, ⟨11, _⟩ => ⟨S64x512x4, .i32⟩
  | .hbm, ⟨12, _⟩ => ⟨S32768x4, .i32⟩
  | .hbm, ⟨13, _⟩ => ⟨S32768x1024, .f32⟩
  | .hbm, ⟨14, _⟩ => ⟨S32768x1x1024, .f32⟩
  | .hbm, ⟨15, _⟩ => ⟨S32768x4x1024, .f32⟩
  | .hbm, ⟨16, _⟩ => ⟨S_, .f32⟩
  | .hbm, ⟨17, _⟩ => ⟨S147456x1024, .f32⟩
  | .hbm, ⟨18, _⟩ => ⟨S_, .i32⟩
  | .hbm, ⟨19, _⟩ => ⟨S32768x4, .i32⟩
  | .hbm, ⟨20, _⟩ => ⟨S32768x4, .i1⟩
  | .hbm, ⟨21, _⟩ => ⟨S_, .i32⟩
  | .hbm, ⟨22, _⟩ => ⟨S32768x4, .i32⟩
  | .hbm, ⟨23, _⟩ => ⟨S32768x4, .i32⟩
  | .hbm, ⟨24, _⟩ => ⟨S32768x4, .i32⟩
  | .hbm, ⟨25, _⟩ => ⟨S32768x4x1, .i32⟩
  | .hbm, ⟨26, _⟩ => ⟨S147456x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Route.lean ====
abbrev S8x4096x1024 : Shape := ⟨3, ![8, 4096, 1024]⟩
abbrev S8x4096x2048 : Shape := ⟨3, ![8, 4096, 2048]⟩
abbrev S8x4096x12288 : Shape := ⟨3, ![8, 4096, 12288]⟩
abbrev S1024x1024 : Shape := ⟨2, ![1024, 1024]⟩
abbrev S2048x1024 : Shape := ⟨2, ![2048, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S32768x1024 : Shape := ⟨2, ![32768, 1024]⟩
abbrev S32768x2048 : Shape := ⟨2, ![32768, 2048]⟩
abbrev S32768x12288 : Shape := ⟨2, ![32768, 12288]⟩
abbrev S1x1024 : Shape := ⟨2, ![1, 1024]⟩
abbrev S32768x128 : Shape := ⟨2, ![32768, 128]⟩
abbrev S64x8x128 : Shape := ⟨3, ![64, 8, 128]⟩
abbrev S512x1024 : Shape := ⟨2, ![512, 1024]⟩
abbrev S512x2048 : Shape := ⟨2, ![512, 2048]⟩
abbrev S512x128 : Shape := ⟨2, ![512, 128]⟩
abbrev S1x8x128 : Shape := ⟨3, ![1, 8, 128]⟩
abbrev S512 : Shape := ⟨1, ![512]⟩
abbrev S512x1 : Shape := ⟨2, ![512, 1]⟩
abbrev S512x512 : Shape := ⟨2, ![512, 512]⟩
abbrev S8x128 : Shape := ⟨2, ![8, 128]⟩
abbrev S128x128 : Shape := ⟨2, ![128, 128]⟩

abbrev nBuf : Space → Nat
  | .hbm => 37
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x2048, .bf16⟩
  | .hbm, ⟨3, _⟩ => ⟨S8x4096x1024, .bf16⟩
  | .hbm, ⟨4, _⟩ => ⟨S8x4096x12288, .bf16⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S32768x1024, .f32⟩
  | .hbm, ⟨20, _⟩ => ⟨S32768x1024, .bf16⟩
  | .hbm, ⟨21, _⟩ => ⟨S32768x2048, .bf16⟩
  | .hbm, ⟨22, _⟩ => ⟨S32768x1024, .bf16⟩
  | .hbm, ⟨23, _⟩ => ⟨S32768x12288, .bf16⟩
  | .hbm, ⟨24, _⟩ => ⟨S1024x1024, .bf16⟩
  | .hbm, ⟨25, _⟩ => ⟨S2048x1024, .bf16⟩
  | .hbm, ⟨26, _⟩ => ⟨S1024x1024, .bf16⟩
  | .hbm, ⟨27, _⟩ => ⟨S1024x1024, .bf16⟩
  | .hbm, ⟨28, _⟩ => ⟨S1x1024, .f32⟩
  | .hbm, ⟨29, _⟩ => ⟨S1024x128, .bf16⟩
  | .hbm, ⟨30, _⟩ => ⟨S1024x128, .f32⟩
  | .hbm, ⟨31, _⟩ => ⟨S1024x128, .f32⟩
  | .hbm, ⟨32, _⟩ => ⟨S1024x128, .bf16⟩
  | .hbm, ⟨33, _⟩ => ⟨S32768x1024, .f32⟩
  | .hbm, ⟨34, _⟩ => ⟨S32768x1024, .bf16⟩
  | .hbm, ⟨35, _⟩ => ⟨S32768x128, .f32⟩
  | .hbm, ⟨36, _⟩ => ⟨S64x8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S2048x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x128, .bf16⟩
  | .local _ .vmem, ⟨20, _⟩ => ⟨S1024x128, .bf16⟩
  | .local _ .vmem, ⟨21, _⟩ => ⟨S1x128, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x128, .f32⟩
  | .local _ .vmem, ⟨27, _⟩ => ⟨S512x128, .f32⟩
  | .local _ .vmem, ⟨28, _⟩ => ⟨S1x8x128, .f32⟩
  | .local _ .vmem, ⟨29, _⟩ => ⟨S1x8x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_v17_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== RouteIdeal.lean ====
variable {F : FTy → Type} [FloatOps F] [Named F]
def κ : String → Option EReal := fun
  | "mask" => some ⊥
  | _ => none
-- ==== RouteRefIdeal.lean ====
abbrev S8x4096x1024 : Shape := ⟨3, ![8, 4096, 1024]⟩
abbrev S8x4096x2048 : Shape := ⟨3, ![8, 4096, 2048]⟩
abbrev S8x4096x12288 : Shape := ⟨3, ![8, 4096, 12288]⟩
abbrev S1024x1024 : Shape := ⟨2, ![1024, 1024]⟩
abbrev S2048x1024 : Shape := ⟨2, ![2048, 1024]⟩
abbrev S1024 : Shape := ⟨1, ![1024]⟩
abbrev S1024x32 : Shape := ⟨2, ![1024, 32]⟩
abbrev S32 : Shape := ⟨1, ![32]⟩
abbrev S8x4096x3072 : Shape := ⟨3, ![8, 4096, 3072]⟩
abbrev S8x4096x3x1024 : Shape := ⟨4, ![8, 4096, 3, 1024]⟩
abbrev S8x4096x1x1024 : Shape := ⟨4, ![8, 4096, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x32 : Shape := ⟨3, ![8, 4096, 32]⟩
abbrev S1x1x32 : Shape := ⟨3, ![1, 1, 32]⟩
abbrev S32768x32 : Shape := ⟨2, ![32768, 32]⟩
abbrev S32768x32x1 : Shape := ⟨3, ![32768, 32, 1]⟩
abbrev S32768x1x32 : Shape := ⟨3, ![32768, 1, 32]⟩
abbrev S1x32 : Shape := ⟨2, ![1, 32]⟩
abbrev S32x1 : Shape := ⟨2, ![32, 1]⟩
abbrev S32x32 : Shape := ⟨2, ![32, 32]⟩
abbrev S32768x32x32 : Shape := ⟨3, ![32768, 32, 32]⟩
abbrev S1x32x32 : Shape := ⟨3, ![1, 32, 32]⟩
abbrev S64x512x32 : Shape := ⟨3, ![64, 512, 32]⟩
abbrev S64x32 : Shape := ⟨2, ![64, 32]⟩
abbrev S64x128 : Shape := ⟨2, ![64, 128]⟩
abbrev S64x1x128 : Shape := ⟨3, ![64, 1, 128]⟩
abbrev S64x8x128 : Shape := ⟨3, ![64, 8, 128]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S1x512x512x1 : Shape := ⟨4, ![1, 512, 512, 1]⟩
abbrev S64x1x512x32 : Shape := ⟨4, ![64, 1, 512, 32]⟩
abbrev S64x512x512x32 : Shape := ⟨4, ![64, 512, 512, 32]⟩
abbrev S64x1x32 : Shape := ⟨3, ![64, 1, 32]⟩
abbrev S64x32x32 : Shape := ⟨3, ![64, 32, 32]⟩
abbrev S4 : Shape := ⟨1, ![4]⟩
abbrev S1x1x4 : Shape := ⟨3, ![1, 1, 4]⟩
abbrev S32768x32x4 : Shape := ⟨3, ![32768, 32, 4]⟩
abbrev S32768x4 : Shape := ⟨2, ![32768, 4]⟩
abbrev S32768 : Shape := ⟨1, ![32768]⟩
abbrev S32768x1 : Shape := ⟨2, ![32768, 1]⟩
abbrev S32768x128 : Shape := ⟨2, ![32768, 128]⟩

abbrev nBuf : Space → Nat
  | .hbm => 179
  | .vmem => 0
  | .smem => 0
  | _ => 0

abbrev hbmTy0_0 (i : Nat) : BufTy := match i % 128 with
  | 0 => ⟨S8x4096x1024, .f32⟩
  | 1 => ⟨S8x4096x1024, .bf16⟩
  | 2 => ⟨S8x4096x2048, .bf16⟩
  | 3 => ⟨S8x4096x1024, .bf16⟩
  | 4 => ⟨S8x4096x12288, .bf16⟩
  | 5 => ⟨S1024x1024, .f32⟩
  | 6 => ⟨S2048x1024, .f32⟩
  | 7 => ⟨S1024x1024, .f32⟩
  | 8 => ⟨S1024x1024, .f32⟩
  | 9 => ⟨S1024, .f32⟩
  | 10 => ⟨S1024x32, .f32⟩
  | 11 => ⟨S32, .f32⟩
  | 12 => ⟨S8x4096x3072, .bf16⟩
  | 13 => ⟨S8x4096x3072, .f32⟩
  | 14 => ⟨S8x4096x3x1024, .f32⟩
  | 15 => ⟨S8x4096x1x1024, .f32⟩
  | 16 => ⟨S8x4096x1024, .f32⟩
  | 17 => ⟨S8x4096x1024, .f32⟩
  | 18 => ⟨S8x4096x1024, .f32⟩
  | 19 => ⟨S8x4096x1024, .f32⟩
  | 20 => ⟨S8x4096x1x1024, .f32⟩
  | 21 => ⟨S8x4096x1024, .f32⟩
  | 22 => ⟨S8x4096x2048, .f32⟩
  | 23 => ⟨S8x4096x1024, .f32⟩
  | 24 => ⟨S8x4096x1024, .f32⟩
  | 25 => ⟨S8x4096x1024, .f32⟩
  | 26 => ⟨S8x4096x1x1024, .f32⟩
  | 27 => ⟨S8x4096x1024, .f32⟩
  | 28 => ⟨S8x4096x1024, .f32⟩
  | 29 => ⟨S8x4096x1024, .f32⟩
  | 30 => ⟨S8x4096x1024, .f32⟩
  | 31 => ⟨S8x4096x1024, .f32⟩
  | 32 => ⟨S8x4096x1024, .f32⟩
  | 33 => ⟨S8x4096x1024, .f32⟩
  | 34 => ⟨S8x4096x1024, .f32⟩
  | 35 => ⟨S_, .f32⟩
  | 36 => ⟨S8x4096, .f32⟩
  | 37 => ⟨S8x4096x1, .f32⟩
  | 38 => ⟨S_, .f32⟩
  | 39 => ⟨S8x4096x1, .f32⟩
  | 40 => ⟨S8x4096x1, .f32⟩
  | 41 => ⟨S_, .f32⟩
  | 42 => ⟨S8x4096x1, .f32⟩
  | 43 => ⟨S8x4096x1, .f32⟩
  | 44 => ⟨S8x4096x1, .f32⟩
  | 45 => ⟨S8x4096x1024, .f32⟩
  | 46 => ⟨S8x4096x1024, .f32⟩
  | 47 => ⟨S1x1x1024, .f32⟩
  | 48 => ⟨S8x4096x1024, .f32⟩
  | 49 => ⟨S8x4096x1024, .f32⟩
  | 50 => ⟨S8x4096x32, .f32⟩
  | 51 => ⟨S1x1x32, .f32⟩
  | 52 => ⟨S8x4096x32, .f32⟩
  | 53 => ⟨S8x4096x32, .f32⟩
  | 54 => ⟨S32768x32, .f32⟩
  | 55 => ⟨S32768x32x1, .f32⟩
  | 56 => ⟨S32768x1x32, .f32⟩
  | 57 => ⟨S32, .i32⟩
  | 58 => ⟨S1x32, .i32⟩
  | 59 => ⟨S32x1, .i32⟩
  | 60 => ⟨S32x32, .i32⟩
  | 61 => ⟨S32x32, .i32⟩
  | 62 => ⟨S32x32, .i1⟩
  | 63 => ⟨S32768x32x32, .f32⟩
  | 64 => ⟨S32768x32x32, .f32⟩
  | 65 => ⟨S32768x32x32, .i1⟩
  | 66 => ⟨S32768x32x32, .f32⟩
  | 67 => ⟨S32768x32x32, .f32⟩
  | 68 => ⟨S32768x32x32, .i1⟩
  | 69 => ⟨S1x32x32, .i1⟩
  | 70 => ⟨S32768x32x32, .i1⟩
  | 71 => ⟨S32768x32x32, .i1⟩
  | 72 => ⟨S32768x32x32, .i1⟩
  | 73 => ⟨S_, .f32⟩
  | 74 => ⟨S_, .f32⟩
  | 75 => ⟨S32768x32x32, .f32⟩
  | 76 => ⟨S32768x32x32, .f32⟩
  | 77 => ⟨S32768x32x32, .f32⟩
  | 78 => ⟨S32768x32x32, .f32⟩
  | 79 => ⟨S_, .f32⟩
  | 80 => ⟨S32768x32, .f32⟩
  | 81 => ⟨S_, .f32⟩
  | 82 => ⟨S32768x32, .f32⟩
  | 83 => ⟨S32768x32, .i1⟩
  | 84 => ⟨S_, .f32⟩
  | 85 => ⟨S_, .f32⟩
  | 86 => ⟨S32768x32, .f32⟩
  | 87 => ⟨S32768x32, .f32⟩
  | 88 => ⟨S32768x32, .f32⟩
  | 89 => ⟨S64x512x32, .f32⟩
  | 90 => ⟨S64x512x32, .f32⟩
  | 91 => ⟨S_, .f32⟩
  | 92 => ⟨S64x32, .f32⟩
  | 93 => ⟨S_, .f32⟩
  | 94 => ⟨S64x32, .f32⟩
  | 95 => ⟨S64x32, .f32⟩
  | 96 => ⟨S64x32, .f32⟩
  | 97 => ⟨S_, .f32⟩
  | 98 => ⟨S64x32, .f32⟩
  | 99 => ⟨S64x32, .f32⟩
  | 100 => ⟨S_, .i32⟩
  | 101 => ⟨S_, .f32⟩
  | 102 => ⟨S64x128, .f32⟩
  | 103 => ⟨S64x1x128, .f32⟩
  | 104 => ⟨S64x8x128, .f32⟩
  | 105 => ⟨S512, .i32⟩
  | 106 => ⟨S1x512, .i32⟩
  | 107 => ⟨S512x1, .i32⟩
  | 108 => ⟨S512x512, .i32⟩
  | 109 => ⟨S512x512, .i32⟩
  | 110 => ⟨S512x512, .i1⟩
  | 111 => ⟨S1x512x512x1, .i1⟩
  | 112 => ⟨S64x1x512x32, .f32⟩
  | 113 => ⟨S_, .f32⟩
  | 114 => ⟨S64x512x512x32, .i1⟩
  | 115 => ⟨S64x512x512x32, .f32⟩
  | 116 => ⟨S64x512x512x32, .f32⟩
  | 117 => ⟨S64x512x512x32, .f32⟩
  | 118 => ⟨S64x512x512x32, .f32⟩
  | 119 => ⟨S_, .f32⟩
  | 120 => ⟨S64x512x32, .f32⟩
  | 121 => ⟨S1x32x32, .i1⟩
  | 122 => ⟨S64x1x32, .f32⟩
  | 123 => ⟨S_, .f32⟩
  | 124 => ⟨S_, .f32⟩
  | 125 => ⟨S64x32x32, .i1⟩
  | 126 => ⟨S64x32x32, .f32⟩
  | 127 => ⟨S64x32x32, .f32⟩
  | _ => ⟨S8x4096x1024, .f32⟩

abbrev hbmTy0_1 (i : Nat) : BufTy := match i % 128 with
  | 0 => ⟨S64x32x32, .f32⟩
  | 1 => ⟨S_, .f32⟩
  | 2 => ⟨S64x32, .f32⟩
  | 3 => ⟨S64x1x32, .f32⟩
  | 4 => ⟨S64x512x32, .f32⟩
  | 5 => ⟨S64x512x32, .f32⟩
  | 6 => ⟨S32768x32, .f32⟩
  | 7 => ⟨S32768x32x1, .f32⟩
  | 8 => ⟨S4, .i32⟩
  | 9 => ⟨S4, .f32⟩
  | 10 => ⟨S1x1x4, .f32⟩
  | 11 => ⟨S32768x32x4, .f32⟩
  | 12 => ⟨S32768x32x4, .f32⟩
  | 13 => ⟨S32768x32x4, .i1⟩
  | 14 => ⟨S32768x32x1, .f32⟩
  | 15 => ⟨S_, .f32⟩
  | 16 => ⟨S_, .f32⟩
  | 17 => ⟨S32768x32x4, .f32⟩
  | 18 => ⟨S32768x32x4, .f32⟩
  | 19 => ⟨S32768x32x4, .f32⟩
  | 20 => ⟨S_, .f32⟩
  | 21 => ⟨S32768x4, .f32⟩
  | 22 => ⟨S32768x32x1, .f32⟩
  | 23 => ⟨S_, .f32⟩
  | 24 => ⟨S_, .f32⟩
  | 25 => ⟨S32768x32x4, .f32⟩
  | 26 => ⟨S32768x32x4, .f32⟩
  | 27 => ⟨S32768x32x4, .f32⟩
  | 28 => ⟨S_, .f32⟩
  | 29 => ⟨S32768x4, .f32⟩
  | 30 => ⟨S_, .f32⟩
  | 31 => ⟨S32768, .f32⟩
  | 32 => ⟨S_, .f32⟩
  | 33 => ⟨S32768, .f32⟩
  | 34 => ⟨S32768, .f32⟩
  | 35 => ⟨S32768x1, .f32⟩
  | 36 => ⟨S32768x4, .f32⟩
  | 37 => ⟨S32768x4, .f32⟩
  | 38 => ⟨S32768x4, .f32⟩
  | 39 => ⟨S_, .f32⟩
  | 40 => ⟨S32768, .f32⟩
  | 41 => ⟨S32768x1, .f32⟩
  | 42 => ⟨S32768x4, .f32⟩
  | 43 => ⟨S32768x4, .f32⟩
  | 44 => ⟨S_, .i32⟩
  | 45 => ⟨S_, .f32⟩
  | 46 => ⟨S32768x128, .f32⟩
  | 47 => ⟨S_, .i32⟩
  | 48 => ⟨S_, .f32⟩
  | 49 => ⟨S32768x128, .f32⟩
  | 50 => ⟨S32768x128, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_2 : Ref sig .tc := ⟨.hbm, 73, rfl⟩
abbrev main_cst_3 : Ref sig .tc := ⟨.hbm, 74, rfl⟩
abbrev main_call0_v0 : Ref sig .tc := ⟨.hbm, 75, rfl⟩
abbrev main_call0_v1 : Ref sig .tc := ⟨.hbm, 76, rfl⟩
abbrev main_v58 : Ref sig .tc := ⟨.hbm, 77, rfl⟩
abbrev main_v59 : Ref sig .tc := ⟨.hbm, 78, rfl⟩
abbrev main_cst_4 : Ref sig .tc := ⟨.hbm, 79, rfl⟩
abbrev main_v60 : Ref sig .tc := ⟨.hbm, 80, rfl⟩
abbrev main_cst_5 : Ref sig .tc := ⟨.hbm, 81, rfl⟩
abbrev main_v61 : Ref sig .tc := ⟨.hbm, 82, rfl⟩
abbrev main_v62 : Ref sig .tc := ⟨.hbm, 83, rfl⟩
abbrev main_cst_6 : Ref sig .tc := ⟨.hbm, 84, rfl⟩
abbrev main_cst_7 : Ref sig .tc := ⟨.hbm, 85, rfl⟩
abbrev main_call1_v0 : Ref sig .tc := ⟨.hbm, 86, rfl⟩
abbrev main_call1_v1 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_8 : Ref sig .tc := ⟨.hbm, 91, rfl⟩
abbrev main_v66 : Ref sig .tc := ⟨.hbm, 92, rfl⟩
abbrev main_cst_9 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_10 : Ref sig .tc := ⟨.hbm, 97, rfl⟩
abbrev main_v70 : Ref sig .tc := ⟨.hbm, 98, rfl⟩
abbrev main_v71 : Ref sig .tc := ⟨.hbm, 99, rfl⟩
abbrev main_c : Ref sig .tc := ⟨.hbm, 100, rfl⟩
abbrev main_call2_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_11 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_v83 : Ref sig .tc := ⟨.hbm, 117, rfl⟩
abbrev main_v84 : Ref sig .tc := ⟨.hbm, 118, rfl⟩
abbrev main_cst_12 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_13 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_v88 : Ref sig .tc := ⟨.hbm, 128, rfl⟩
abbrev main_cst_14 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_15 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_v102 : Ref sig .tc := ⟨.hbm, 147, rfl⟩
abbrev main_cst_16 : Ref sig .tc := ⟨.hbm, 148, rfl⟩
abbrev main_v103 : Ref sig .tc := ⟨.hbm, 149, rfl⟩
abbrev main_v104 : Ref sig .tc := ⟨.hbm, 150, rfl⟩
abbrev main_cst_17 : Ref sig .tc := ⟨.hbm, 151, rfl⟩
abbrev main_call6_v0 : Ref sig .tc := ⟨.hbm, 152, rfl⟩
abbrev main_call6_v1 : Ref sig .tc := ⟨.hbm, 153, rfl⟩
abbrev main_call6_v2 : Ref sig .tc := ⟨.hbm, 154, rfl⟩
abbrev main_v105 : Ref sig .tc := ⟨.hbm, 155, rfl⟩
abbrev main_cst_18 : Ref sig .tc := ⟨.hbm, 156, rfl⟩
abbrev main_v106 : Ref sig .tc := ⟨.hbm, 157, rfl⟩
abbrev main_cst_19 : Ref sig .tc := ⟨.hbm, 158, rfl⟩
abbrev main_v107 : Ref sig .tc := ⟨.hbm, 159, rfl⟩
abbrev main_cst_20 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_cst_21 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_c_22 : Ref sig .tc := ⟨.hbm, 172, rfl⟩
abbrev main_call7_v0 : Ref sig .tc := ⟨.hbm, 173, rfl⟩
abbrev main_v118 : Ref sig .tc := ⟨.hbm, 174, rfl⟩
abbrev main_c_23 : Ref sig .tc := ⟨.hbm, 175, rfl⟩
abbrev main_call8_v0 : Ref sig .tc := ⟨.hbm, 176, rfl⟩
abbrev main_v119 : Ref sig .tc := ⟨.hbm, 177, rfl⟩
abbrev main_v120 : Ref sig .tc := ⟨.hbm, 178, rfl⟩

abbrev nD : Nat := 1
abbrev τ : Topo := Topo.v7x

variable {F : FTy → Type} [FloatOps F]
-- ==== Proof.Gather.lean ====
module

public import Idealize.ShloMosaic.Lib.ValueIdxCore
public import Idealize.ShloMosaic.Lib.Pointwise

/-! A table's columns taken at an array of column numbers, read at an index. -/

@[expose] public section

namespace Cert.Attention.Gather

open Idealize.ShloMosaic

variable {α : Type}

/-- The column numbers along one axis: row `h` of the table, at the column that the index word of `p` names, read as a
    signed integer and clamped into the table. -/
theorem columns_apply1 {H N P w : Nat} (hN : 0 < N)
    (d : GatherDims ⟨2, ![H, N]⟩ ⟨2, ![P, 1]⟩ ⟨2, ![H, P]⟩)
    (h1 : d.offsetDims = [0]) (h2 : d.collapsedSliceDims = [1]) (h3 : d.operandBatchingDims = [])
    (h4 : d.startIndicesBatchingDims = []) (h5 : d.startIndexMap = [1]) (h6 : d.indexVectorDim = 1)
    (h7 : d.sliceSizes = ![H, 1])
    (x : (⟨2, ![H, N]⟩ : Shape).Idx → α) (idx : IVec ⟨2, ![P, 1]⟩ w) (h : Fin H) (p : Fin P) :
    Host.gather d x idx (ix2 h p) = x (ix2 h ⟨min (idx (ix2 p 0)).toInt.toNat (N - 1), by omega⟩) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · refine (congrArg₂ (· + 0 + ·) (dif_neg (show (0 : Fin 2) ∉ [(1 : Fin 2)] by decide))
      (dif_pos (show (0 : Fin 2) ∈ Shape.kept ⟨2, ![H, N]⟩ ([(1 : Fin 2)] ++ []) from
        List.mem_filter.2 ⟨List.mem_finRange _, by simp⟩))).trans ?_
    simp only [Nat.zero_add, Nat.add_zero]
    rfl
  · rw [GatherDims.offCoord_eq_zero _ _ _ (fun h => ((GatherDims.mem_sKept _ _).mp h).1 (List.mem_singleton.mpr rfl))]
    refine (congrArg (· + 0 + 0) (dif_pos (show (1 : Fin 2) ∈ [(1 : Fin 2)] from List.mem_singleton.mpr rfl))).trans ?_
    simp only [Nat.add_zero]
    have hsi : ∀ c, GatherDims.siIdx (s := ⟨2, ![H, N]⟩) ⟨[0], [1], [], [], [1], 1, ![H, 1], wf⟩ (ix2 h p) c = ix2 p 0 := by
      intro c
      funext b
      refine Fin.ext ?_
      have hc : c.val = 0 := by have := c.isLt; simpa using this
      match b with
      | ⟨0, _⟩ => rfl
      | ⟨1, _⟩ => exact hc
    rw [hsi]
    rfl

/-- The column numbers over two axes: row `h` of the table, at the column that the index word of `p`, `q` names, read as
    a signed integer and clamped into the table. -/
theorem columns_apply2 {H N P Q w : Nat} (hN : 0 < N)
    (d : GatherDims ⟨2, ![H, N]⟩ ⟨3, ![P, Q, 1]⟩ ⟨3, ![H, P, Q]⟩)
    (h1 : d.offsetDims = [0]) (h2 : d.collapsedSliceDims = [1]) (h3 : d.operandBatchingDims = [])
    (h4 : d.startIndicesBatchingDims = []) (h5 : d.startIndexMap = [1]) (h6 : d.indexVectorDim = 2)
    (h7 : d.sliceSizes = ![H, 1])
    (x : (⟨2, ![H, N]⟩ : Shape).Idx → α) (idx : IVec ⟨3, ![P, Q, 1]⟩ w) (h : Fin H) (p : Fin P) (q : Fin Q) :
    Host.gather d x idx (ix3 h p q) = x (ix2 h ⟨min (idx (ix3 p q 0)).toInt.toNat (N - 1), by omega⟩) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · refine (congrArg₂ (· + 0 + ·) (dif_neg (show (0 : Fin 2) ∉ [(1 : Fin 2)] by decide))
      (dif_pos (show (0 : Fin 2) ∈ Shape.kept ⟨2, ![H, N]⟩ ([(1 : Fin 2)] ++ []) from
        List.mem_filter.2 ⟨List.mem_finRange _, by simp⟩))).trans ?_
    simp only [Nat.zero_add, Nat.add_zero]
    rfl
  · rw [GatherDims.offCoord_eq_zero _ _ _ (fun h => ((GatherDims.mem_sKept _ _).mp h).1 (List.mem_singleton.mpr rfl))]
    refine (congrArg (· + 0 + 0) (dif_pos (show (1 : Fin 2) ∈ [(1 : Fin 2)] from List.mem_singleton.mpr rfl))).trans ?_
    simp only [Nat.add_zero]
    have hsi : ∀ c, GatherDims.siIdx (s := ⟨2, ![H, N]⟩) ⟨[0], [1], [], [], [1], 2, ![H, 1], wf⟩ (ix3 h p q) c = ix3 p q 0 := by
      intro c
      funext b
      refine Fin.ext ?_
      have hc : c.val = 0 := by have := c.isLt; simpa using this
      match b with
      | ⟨0, _⟩ => rfl
      | ⟨1, _⟩ => rfl
      | ⟨2, _⟩ => exact hc
    rw [hsi]
    rfl

end Cert.Attention.Gather
-- ==== Proof.Bias.lean ====
module

public import proofs.«01_k».proof.Proof.Gather
public import proofs.«01_k».proof.Proof.Gen.AttnIdeal.Frame
public import Idealize.ShloMosaic.Lib.Pipeline.ValueKit
public import Idealize.ShloMosaic.Lib.Tactic
public import Idealize.ShloMosaic.Lib.Tactic.CleanTypes

/-! The banded bias that the first call leaves, read at an index. -/

@[expose] public section

set_option maxRecDepth 16384

noncomputable section

open Idealize.ShloMosaic Idealize.ShloMosaic.TcCoe Idealize.SL.Sem
open Idealize.ShloMosaic.Pipeline (Dat)

namespace Cert.Attention.Bias

open Cert.AttnIdeal Cert.AttnIdeal.Gen

/-- The chunk of a position below 768, as the program computes it: a floor division by 64. -/
theorem chunk_word : ∀ t : Fin 768,
    Scalar.select
        (IntOp.andi
          (IntOp.cmpi .ne
            (IntOp.subi (BitVec.setWidth 32 (IntOp.cmpi .sgt (BitVec.ofNat 32 t.val) 0#32))
              (BitVec.setWidth 32 (IntOp.cmpi .slt (BitVec.ofNat 32 t.val) 0#32)))
            (Scalar.subi (Scalar.extui (Scalar.cmpi .sgt 64#32 0#32)) (Scalar.extui (Scalar.cmpi .slt 64#32 0#32))))
          (IntOp.cmpi .ne (IntOp.remsi .vector (BitVec.ofNat 32 t.val) 64#32) 0#32))
        (IntOp.subi (IntOp.divsi .vector (BitVec.ofNat 32 t.val) 64#32) 1#32)
        (IntOp.divsi .vector (BitVec.ofNat 32 t.val) 64#32)
      = BitVec.ofNat 32 (t.val / 64) := by
  decide +kernel

/-- The band test at two chunks. -/
theorem band_word : ∀ (qc : Fin 4) (kc : Fin 12),
    IntOp.cmpi .sle (Scalar.select (IntOp.cmpi .sge (BitVec.ofNat 32 kc.val) (BitVec.ofNat 32 qc.val))
        (IntOp.subi (BitVec.ofNat 32 kc.val) (BitVec.ofNat 32 qc.val)) 9#32) 8#32
      = BitVec.ofBool (decide (qc.val ≤ kc.val ∧ kc.val ≤ qc.val + 8)) := by
  decide +kernel

/-- A selection by a decided proposition is a case distinction. -/
theorem select_ofBool {α : Type} (p : Prop) [Decidable p] (x y : α) :
    Scalar.select (BitVec.ofBool (decide p)) x y = if p then x else y := by
  by_cases h : p <;> simp [h, Scalar.select]

/-- The named mask is -∞. -/
theorem mask_eq : (Named.named (F := Ideal) (φ := .f32) κ "mask" 0xF149F2CA#32 : EReal) = ⊥ :=
  IdealRules.named_const.ideal_named_scalar _ _ _ _ rfl
/-- The named factor is 1 / log 2. -/
theorem log2e_eq : (Named.named (F := Ideal) (φ := .f32) κ "log2e" 0x3FB8AA3B#32 : EReal) = (((Real.log 2)⁻¹ : ℝ) : EReal) :=
  IdealRules.named_const.ideal_named_scalar _ _ _ _ rfl

/-- The first call's block at row `a` and key `t`: in the band the row's vector at `t - a` round its 1024 places, over
    `log 2`; off the band `⊥`. -/
theorem out_apply (x : Vec Ideal S1x1x1024 .f32) (z : Fin 1) (a : Fin 256) (t : Fin 768) :
    out0_1 x (ix3 z a t)
      = if a.val / 64 ≤ t.val / 64 ∧ t.val / 64 ≤ a.val / 64 + 8 then
          x (ix3 0 0 ⟨(t.val + 1024 - a.val) % 1024, Nat.mod_lt _ (by omega)⟩) * (((Real.log 2)⁻¹ : ℝ) : EReal)
        else ⊥ := by
  unfold out0_1
  frame_out
  unfold_payloads
  pointwise
  rw [chunk_word t, chunk_word ⟨a.val, by omega⟩, band_word ⟨a.val / 64, by omega⟩ ⟨t.val / 64, by omega⟩, select_ofBool, mask_eq, log2e_eq]
  refine if_congr Iff.rfl (congrArg (· * _) (congrArg x ?_)) rfl
  congr 1
  apply Fin.ext
  simp only
  omega

/-- The column of the relative bias for a distance, cut at 128 on either side. -/
def col (d : ℤ) : Fin 257 := ⟨(max (-128) (min 128 d) + 128).toNat, by omega⟩

/-- The word that the host computes for place `n` of the vector. -/
abbrev placeWord (n : ℕ) : BitVec 32 :=
  IntOp.addi (IntOp.minsi 128#32 (IntOp.maxsi 4294967168#32 (IntOp.subi 512#32
    (Scalar.select (IntOp.cmpi .slt (BitVec.ofNat 32 n) 768#32) (BitVec.ofNat 32 n) (IntOp.subi (BitVec.ofNat 32 n) 1024#32))))) 128#32

/-- The column of the table a place of the rolled row reads. -/
theorem place_col : ∀ n : Fin 1024,
    min (Scalar.select (IntOp.cmpi .slt (placeWord n.val) 0#32) (IntOp.addi (placeWord n.val) 257#32) (placeWord n.val)).toInt.toNat (257 - 1)
      = (col (512 - (if n.val < 768 then (n.val : ℤ) else n.val - 1024))).val := by
  decide +kernel

variable (m : (ℓ : Loc nD τ sig) → Buf (Elt Ideal) ℓ) (ρ : Dev nD → PrngReg)

/-- The vectors that the first call reads: at head `h` and place `n`, the relative bias at the place's distance. -/
theorem vec_apply (c : Dev nD) (h : Fin 16) (z : Fin 1) (n : Fin 1024) :
    V5 m ρ c main_v18 (ix3 h z n)
      = m ((c : Thread nD τ).loc main_arg1) (ix2 h (col (512 - (if n.val < 768 then (n.val : ℤ) else n.val - 1024)))) := by
  show StableHlo.after hostOps0_4 (StableHlo.after hostOps0_3 (StableHlo.after hostOps0_2 (StableHlo.after hostOps0_1
    (StableHlo.after hostOps0 (W0 m ρ c))))) (Proc.devRef .tc main_v18) (ix3 h z n) = _
  entry_read
  simp only [StableHlo.TRef.toBuf, StableHlo.TRef.ofBuf, cast_eq]
  clean_types
  pointwise
  rw [Gather.columns_apply1 (by omega) _ rfl rfl rfl rfl rfl rfl rfl]
  pointwise [id]
  show m ((c : Thread nD τ).loc main_arg1) (ix2 h _) = _
  exact congrArg (fun p => m ((c : Thread nD τ).loc main_arg1) (ix2 h p)) (Fin.ext (place_col n))

/-- The banded bias over `log 2`, at head, row and key of a tile. -/
def band (rb : FVec Ideal S16x257 .f32) (h : Fin 16) (a : Fin 256) (t : Fin 768) : EReal :=
  if a.val / 64 ≤ t.val / 64 ∧ t.val / 64 ≤ a.val / 64 + 8 then
    rb (ix2 h (col (512 + (a.val : ℤ) - t.val))) * (((Real.log 2)⁻¹ : ℝ) : EReal)
  else ⊥

/-- The blocks, as functions of the grid point. -/
theorem idx : ∀ t : Fin cfg0.N, win0_0.index t = ![t.val, 0, 0] ∧ win0_1.index t = ![t.val, 0, 0] ∧ t.val < 16 :=
  (by decide +kernel : ∀ t : Fin grid0.N, _)

/-- The distance at the vector's place for row `a` and key `t`. -/
theorem place_int (a : Fin 256) (t : Fin 768) :
    512 - (if (t.val + 1024 - a.val) % 1024 < 768 then (((t.val + 1024 - a.val) % 1024 : ℕ) : ℤ)
      else (((t.val + 1024 - a.val) % 1024 : ℕ) : ℤ) - 1024) = 512 + (a.val : ℤ) - t.val := by
  have ha := a.isLt
  have ht := t.isLt
  split_ifs <;> omega

/-- One grid point's block is the banded bias of its head. -/
theorem point (c : Dev nD) (t : Fin cfg0.N) (ht : t.val < 16) (y : S1x256x768.Idx) :
    out0_1 (iblk0 (V5 m ρ) c 0 t) y = band (m ((c : Thread nD τ).loc main_arg1)) ⟨t.val, ht⟩ (y 1) (y 2) := by
  obtain ⟨z, a, k, rfl⟩ : ∃ z a k, y = ix3 z a k := ⟨y 0, y 1, y 2, funext fun d => by fin_cases d <;> rfl⟩
  refine (out_apply _ z a k).trans ?_
  have hx : iblk0 (V5 m ρ) c 0 t (ix3 0 0 ⟨(k.val + 1024 - a.val) % 1024, Nat.mod_lt _ (by omega)⟩)
      = V5 m ρ c main_v18 (ix3 ⟨t.val, ht⟩ 0 ⟨(k.val + 1024 - a.val) % 1024, Nat.mod_lt _ (by omega)⟩) := by
    blk_ext [iblk0, idx t]
  rw [hx, vec_apply]
  refine if_congr Iff.rfl (congrArg (· * _) ?_) rfl
  refine congrArg (fun d => m ((c : Thread nD τ).loc main_arg1) (ix2 ⟨t.val, ht⟩ (col d))) ?_
  exact place_int a k

/-- The array that the first call leaves. -/
theorem final (c : Dev nD) :
    (dat0 (V5 m ρ) c).arrAt 1 cfg0.N = fun i : S16x256x768.Idx => band (m ((c : Thread nD τ).loc main_arg1)) (i 0) (i 1) (i 2) := by
  refine (dat0 (V5 m ρ) c).arrAt_eq_of_covers 1 _ (by decide +kernel) fun t _ y => ?_
  blk_simp
  rw [after0_1]
  refine (point m ρ c t (idx t).2.2 y).trans ?_
  have h0 : ((cfg0.win 1).blk t).view.emb y 0 = (⟨t.val, (idx t).2.2⟩ : Fin 16) := Fin.ext (by blk_simp [idx t] <;> (try omega))
  have h1 : ((cfg0.win 1).blk t).view.emb y 1 = (y 1 : Fin 256) := Fin.ext (by blk_simp [idx t])
  have h2 : ((cfg0.win 1).blk t).view.emb y 2 = (y 2 : Fin 768) := Fin.ext (by blk_simp [idx t])
  rw [h0, h1, h2]

/-- What the second call reads there. -/
theorem entry (c : Dev nD) :
    V6 m ρ c main_v19 = fun i : S16x256x768.Idx => band (m ((c : Thread nD τ).loc main_arg1)) (i 0) (i 1) (i 2) :=
  (W6_arr m ρ c 1).trans (final m ρ c)

end Cert.Attention.Bias
-- ==== Proof.Block.lean ====
module

public import proofs.«01_k».proof.Proof.Gen.AttnIdeal.Frame
public import Idealize.ShloMosaic.Lib.Pipeline.ValueKit
public import Idealize.ShloMosaic.Lib.Pipeline.ReadBack
public import Idealize.ShloMosaic.Lib.Tactic

/-! What the attention's body stores at one grid point, read at an index of its block. -/

@[expose] public section

set_option maxRecDepth 16384

noncomputable section

open Idealize.ShloMosaic Idealize.ShloMosaic.TcCoe Idealize.SL.Sem
open Idealize.ShloMosaic.Pipeline (Dat)

namespace Cert.Attention.Block

open Cert.AttnIdeal Cert.AttnIdeal.Gen

/-- Key `t` of a tile's 768, in lane `e` of a lane group: the three blocks one after another. -/
def cat (k0 k1 k2 : Vec Ideal S1x256x128 .bf16) (t : Fin 768) (e : Fin 128) : EReal :=
  if h : t.val < 256 then k0 (ix3 0 ⟨t.val, h⟩ e)
  else if h : t.val - 256 < 256 then k1 (ix3 0 ⟨t.val - 256, h⟩ e)
  else k2 (ix3 0 ⟨t.val - 256 - 256, by omega⟩ e)

/-- One head's row: a softmax of powers of two of the scores `s`, times the values `v`, divided at the end. -/
def headOut (s v : Fin 768 → EReal) : EReal :=
  Ideal.div (∑ t, Ideal.exp2 (s t - Finset.univ.fold max (Ideal.ofBits .f32 0xFF800000#32) s) * v t)
    (∑ t, Ideal.exp2 (s t - Finset.univ.fold max (Ideal.ofBits .f32 0xFF800000#32) s))

/-- The bit that says whether key `t` of the tile lies before the sequence's start. -/
abbrev before (i : grid1.Coords) (t : Fin 768) : BitVec 1 :=
  IntOp.cmpi .slt (BitVec.ofNat 32 t.val) (Scalar.muli (Scalar.subi 2#32 (BitVec.ofNat 32 (i 1).val)) 256#32)

/-- One head's scores at row `a`, the head's lanes of the pair's 128 chosen by `sel`. -/
def rawScore (i : grid1.Coords) (sel : Fin 128 → BitVec 1) (q k0 k1 k2 : Vec Ideal S1x256x128 .bf16) (b : Vec Ideal S1x256x768 .f32)
    (a : Fin 256) (t : Fin 768) : EReal :=
  Scalar.select (before i t) (Named.named (F := Ideal) (φ := .f32) κ "mask" 0xF149F2CA#32 : EReal)
    ((∑ e, Scalar.select (sel e) (q (ix3 0 a e) * cat k0 k1 k2 t e) 0) + b (ix3 0 a t))

/-- What the body stores for one pair of heads, from the pair's lane group of the queries, of the three key blocks
    and of the three value blocks, and from the two heads' biases. -/
def pairOut (i : grid1.Coords) (q k0 k1 k2 v0 v1 v2 : Vec Ideal S1x256x128 .bf16) (b0 b1 : Vec Ideal S1x256x768 .f32) :
    FVec Ideal S1x256x128 .bf16 :=
  k1_pay10 (k1_pay7 (k1_pay2 i) (k1_pay5 v0 v1 v2) (k1_pay6 q k0 k1 k2) b0)
    (k1_pay8 (iota .tc S1x128 32 [1] iota_S1x128_d1_w32) (k1_pay2 i) (k1_pay3 q) (k1_pay4 k0 k1 k2) (k1_pay5 v0 v1 v2) b1)
    (k1_pay9 (iota .tc S1x128 32 [1] iota_S1x128_d1_w32))

/-- The pair's block at an index, in the printed program's own words. -/
theorem pairOut_raw (i : grid1.Coords) (q k0 k1 k2 v0 v1 v2 : Vec Ideal S1x256x128 .bf16) (b0 b1 : Vec Ideal S1x256x768 .f32)
    (a : Fin 256) (d : Fin 128) :
    pairOut i q k0 k1 k2 v0 v1 v2 b0 b1 (ix3 0 a d)
      = Scalar.select (IntOp.cmpi .slt (BitVec.ofNat 32 d.val) 64#32)
          (headOut (rawScore i (fun e => IntOp.cmpi .slt (BitVec.ofNat 32 e.val) 64#32) q k0 k1 k2 b0 a) fun t => cat v0 v1 v2 t d)
          (headOut (rawScore i (fun e => IntOp.cmpi .sge (BitVec.ofNat 32 e.val) 64#32) q k0 k1 k2 b1 a) fun t => cat v0 v1 v2 t d) := by
  unfold pairOut
  unfold_payloads
  pointwise
  rfl

/-- The lane test at a lane. -/
theorem lane_lt : ∀ e : Fin 128, IntOp.cmpi .slt (BitVec.ofNat 32 e.val) 64#32 = BitVec.ofBool (decide (e.val < 64)) := by
  decide +kernel
/-- The comparison of a lane with 64. -/
theorem lane_ge : ∀ e : Fin 128, IntOp.cmpi .sge (BitVec.ofNat 32 e.val) 64#32 = BitVec.ofBool (decide (64 ≤ e.val)) := by
  decide +kernel
set_option maxHeartbeats 2000000 in
/-- The start test at a query block and a key of the tile. -/
theorem before_word : ∀ (n : Fin 16) (t : Fin 768),
    IntOp.cmpi .slt (BitVec.ofNat 32 t.val) (Scalar.muli (Scalar.subi 2#32 (BitVec.ofNat 32 n.val)) 256#32)
      = BitVec.ofBool (decide (t.val + 256 * n.val < 512)) := by
  decide +kernel

/-- A selection by a decided proposition is a case distinction. -/
theorem select_ofBool {α : Type} (p : Prop) [Decidable p] (x y : α) :
    Scalar.select (BitVec.ofBool (decide p)) x y = if p then x else y := by
  by_cases h : p <;> simp [h, Scalar.select]

/-- A sum over a pair's 128 lanes, the other head's lanes masked, is the sum over the head's own 64. -/
theorem sum_half (f : Fin 128 → EReal) (hh : Fin 2) :
    (∑ e : Fin 128, if e.val / 64 = hh.val then f e else 0) = ∑ e : Fin 64, f ⟨64 * hh.val + e.val, by omega⟩ := by
  rw [show (∑ e : Fin 128, if e.val / 64 = hh.val then f e else 0) = ∑ e : Fin (64 + 64), if e.val / 64 = hh.val then f e else 0 from rfl,
    Fin.sum_univ_add]
  match hh with
  | ⟨0, _⟩ =>
    rw [Finset.sum_eq_zero (s := Finset.univ) (f := fun e : Fin 64 => if (Fin.natAdd 64 e).val / 64 = (⟨0, _⟩ : Fin 2).val then f (Fin.natAdd 64 e) else 0)
      fun e _ => if_neg (by simp only [Fin.val_natAdd]; omega), add_zero]
    refine Finset.sum_congr rfl fun e _ => ?_
    rw [if_pos (by simp only [Fin.val_castAdd]; omega)]
    congr 1; apply Fin.ext; simp
  | ⟨1, _⟩ =>
    rw [Finset.sum_eq_zero (s := Finset.univ) (f := fun e : Fin 64 => if (Fin.castAdd 64 e).val / 64 = (⟨1, _⟩ : Fin 2).val then f (Fin.castAdd 64 e) else 0)
      fun e _ => if_neg (by simp only [Fin.val_castAdd]; omega), zero_add]
    refine Finset.sum_congr rfl fun e _ => ?_
    rw [if_pos (by simp only [Fin.val_natAdd]; omega)]
    rfl

/-- One head's scores at row `a`: `⊥` before the sequence's start, else the product over the head's 64 lanes plus the
    bias. -/
def score (n : Fin 16) (q : Fin 64 → EReal) (k : Fin 768 → Fin 64 → EReal) (b : Fin 768 → EReal) (t : Fin 768) : EReal :=
  if t.val + 256 * n.val < 512 then ⊥ else (∑ e, q e * k t e) + b t

/-- The named mask is -∞. -/
theorem mask_eq : (Named.named (F := Ideal) (φ := .f32) κ "mask" 0xF149F2CA#32 : EReal) = ⊥ :=
  IdealRules.named_const.ideal_named_scalar _ _ _ _ rfl

/-- The raw score is the score, whichever of the pair's two heads the lane test selects. -/
theorem rawScore_eq (i : grid1.Coords) (n : Fin 16) (hn : (i 1).val = n.val) (sel : Fin 128 → BitVec 1) (hh : Fin 2)
    (hsel : ∀ e, sel e = BitVec.ofBool (decide (e.val / 64 = hh.val)))
    (q k0 k1 k2 : Vec Ideal S1x256x128 .bf16) (b : Vec Ideal S1x256x768 .f32) (a : Fin 256) :
    rawScore i sel q k0 k1 k2 b a
      = score n (fun e => q (ix3 0 a ⟨64 * hh.val + e.val, by omega⟩)) (fun t e => cat k0 k1 k2 t ⟨64 * hh.val + e.val, by omega⟩)
          (fun t => b (ix3 0 a t)) := by
  funext t
  unfold rawScore score before
  rw [hn, before_word, select_ofBool, mask_eq]
  refine if_congr Iff.rfl rfl (congrArg (· + _) ?_)
  rw [← sum_half (fun e => q (ix3 0 a e) * cat k0 k1 k2 t e) hh]
  exact Finset.sum_congr rfl fun e _ => by rw [hsel, select_ofBool]

/-- The pair's block at an index: lane `d` is lane `d % 64` of the pair's head `d / 64`. -/
theorem pairOut_apply (i : grid1.Coords) (n : Fin 16) (hn : (i 1).val = n.val)
    (q k0 k1 k2 v0 v1 v2 : Vec Ideal S1x256x128 .bf16) (b0 b1 : Vec Ideal S1x256x768 .f32)
    (a : Fin 256) (d : Fin 128) :
    pairOut i q k0 k1 k2 v0 v1 v2 b0 b1 (ix3 0 a d)
      = headOut (score n (fun e => q (ix3 0 a ⟨64 * (d.val / 64) + e.val, by omega⟩))
          (fun t e => cat k0 k1 k2 t ⟨64 * (d.val / 64) + e.val, by omega⟩)
          (fun t => if d.val < 64 then b0 (ix3 0 a t) else b1 (ix3 0 a t))) fun t => cat v0 v1 v2 t d := by
  rw [pairOut_raw, lane_lt, select_ofBool]
  by_cases h : d.val < 64
  · have hd : d.val / 64 = 0 := by omega
    rw [if_pos h, rawScore_eq i n hn _ 0 (fun e => by rw [lane_lt]; congr 2; simp only [Fin.val_zero, eq_iff_iff]; omega)]
    simp only [hd, if_pos h]
    rfl
  · have hd : d.val / 64 = 1 := by omega
    rw [if_neg h, rawScore_eq i n hn _ 1 (fun e => by rw [lane_ge]; congr 2; simp only [Fin.val_one, eq_iff_iff]; omega)]
    simp only [hd, if_neg h]
    rfl

/-- Key `t` of a tile's 768 in column `l` of the three blocks. -/
def cols (k0 k1 k2 : Vec Ideal S1x256x1024 .bf16) (t : Fin 768) (l : Fin 1024) : EReal :=
  if h : t.val < 256 then k0 (ix3 0 ⟨t.val, h⟩ l)
  else if h : t.val - 256 < 256 then k1 (ix3 0 ⟨t.val - 256, h⟩ l)
  else k2 (ix3 0 ⟨t.val - 256 - 256, by omega⟩ l)

/-- The block that a grid point leaves, at row `a` and column `l`: head `l / 64` of the point's tile. -/
def tileOut (n : Fin 16) (x0 x1 x2 x3 x4 x5 x6 : Vec Ideal S1x256x1024 .bf16) (x7 : Vec Ideal S16x256x768 .f32)
    (a : Fin 256) (l : Fin 1024) : EReal :=
  headOut (score n (fun e => x0 (ix3 0 a ⟨64 * (l.val / 64) + e.val, by omega⟩))
    (fun t e => cols x1 x2 x3 t ⟨64 * (l.val / 64) + e.val, by omega⟩)
    (fun t => x7 (ix3 ⟨l.val / 64, by omega⟩ a t))) fun t => cols x4 x5 x6 t l

/-- A load of one lane group of three blocks, at a key and a lane. -/
theorem cat_ld (k0 k1 k2 : Vec Ideal S1x256x1024 .bf16) (o : ℕ) (inb) (t : Fin 768) (e : Fin 128) (l : Fin 1024)
    (hl : l.val = o + e.val) :
    cat (View.ld k0 (Rect.unit (s := S1x256x1024) ![0, 0, o] S1x256x128.size inb))
      (View.ld k1 (Rect.unit (s := S1x256x1024) ![0, 0, o] S1x256x128.size inb))
      (View.ld k2 (Rect.unit (s := S1x256x1024) ![0, 0, o] S1x256x128.size inb)) t e = cols k0 k1 k2 t l := by
  have key : ∀ (X : Vec Ideal S1x256x1024 .bf16) (r : Fin 256),
      View.ld X (Rect.unit (s := S1x256x1024) ![0, 0, o] S1x256x128.size inb) (ix3 0 r e) = X (ix3 0 r l) := fun X r =>
    View.ld_unit_apply_of X _ _ inb _ _ fun a => by
      match a with
      | ⟨0, _⟩ => rfl
      | ⟨1, _⟩ => exact (Nat.zero_add _).symm
      | ⟨2, _⟩ => exact hl
  unfold cat cols
  split
  · exact key _ _
  · split
    · exact key _ _
    · exact key _ _

/-- The piece that the body stores for pair `p`, at an index, is the point's block there. -/
theorem piece (i : grid1.Coords) (n : Fin 16) (hn : (i 1).val = n.val)
    (x0 x1 x2 x3 x4 x5 x6 : Vec Ideal S1x256x1024 .bf16) (x7 : Vec Ideal S16x256x768 .f32)
    (p o g0 g1 : ℕ) (hp : p < 8) (ho : o = 128 * p) (h0 : g0 = 2 * p) (h1 : g1 = 2 * p + 1) (inb) (inb0) (inb1)
    (x : S1x256x128.Idx) :
    pairOut i (View.ld x0 (Rect.unit (s := S1x256x1024) ![0, 0, o] S1x256x128.size inb))
        (View.ld x1 (Rect.unit (s := S1x256x1024) ![0, 0, o] S1x256x128.size inb))
        (View.ld x2 (Rect.unit (s := S1x256x1024) ![0, 0, o] S1x256x128.size inb))
        (View.ld x3 (Rect.unit (s := S1x256x1024) ![0, 0, o] S1x256x128.size inb))
        (View.ld x4 (Rect.unit (s := S1x256x1024) ![0, 0, o] S1x256x128.size inb))
        (View.ld x5 (Rect.unit (s := S1x256x1024) ![0, 0, o] S1x256x128.size inb))
        (View.ld x6 (Rect.unit (s := S1x256x1024) ![0, 0, o] S1x256x128.size inb))
        (View.ld x7 (Rect.unit (s := S16x256x768) ![g0, 0, 0] S1x256x768.size inb0))
        (View.ld x7 (Rect.unit (s := S16x256x768) ![g1, 0, 0] S1x256x768.size inb1)) x
      = (fun y : S1x256x1024.Idx => tileOut n x0 x1 x2 x3 x4 x5 x6 x7 (y 1) (y 2))
          ((Rect.unit (s := S1x256x1024) ![0, 0, o] S1x256x128.size inb).emb x) := by
  obtain ⟨z, a, d, rfl⟩ : ∃ (z : Fin 1) (a : Fin 256) (d : Fin 128), x = ix3 z a d := ⟨x 0, x 1, x 2, eq_ix3 x⟩
  obtain rfl : z = 0 := Subsingleton.elim _ _
  rw [pairOut_apply i n hn]
  have ea : ((Rect.unit (s := S1x256x1024) ![0, 0, o] S1x256x128.size inb).emb (ix3 0 a d)) 1 = a :=
    Fin.ext ((ValueKit.rect_emb_unit_val _ _ inb (ix3 0 a d) 1).trans (Nat.zero_add _))
  have ed : (((Rect.unit (s := S1x256x1024) ![0, 0, o] S1x256x128.size inb).emb (ix3 0 a d)) 2 : Fin 1024).val = o + d.val :=
    ValueKit.rect_emb_unit_val _ _ inb (ix3 0 a d) 2
  show _ = tileOut n x0 x1 x2 x3 x4 x5 x6 x7 (((Rect.unit (s := S1x256x1024) ![0, 0, o] S1x256x128.size inb).emb (ix3 0 a d)) 1)
    (((Rect.unit (s := S1x256x1024) ![0, 0, o] S1x256x128.size inb).emb (ix3 0 a d)) 2)
  generalize ((Rect.unit (s := S1x256x1024) ![0, 0, o] S1x256x128.size inb).emb (ix3 0 a d)) 1 = a' at ea
  generalize (((Rect.unit (s := S1x256x1024) ![0, 0, o] S1x256x128.size inb).emb (ix3 0 a d)) 2 : Fin 1024) = l at ed
  obtain rfl : a' = a := ea
  unfold tileOut
  have hq : ∀ (r : Fin 256) (e : Fin 128) (l' : Fin 1024) (hl : l'.val = o + e.val),
      View.ld x0 (Rect.unit (s := S1x256x1024) ![0, 0, o] S1x256x128.size inb) (ix3 0 r e) = x0 (ix3 0 r l') := fun r e l' hl =>
    View.ld_unit_apply_of x0 _ _ inb _ _ fun a => by
      match a with
      | ⟨0, _⟩ => rfl
      | ⟨1, _⟩ => exact (Nat.zero_add _).symm
      | ⟨2, _⟩ => exact hl
  have hb : ∀ (g : ℕ) (inb) (h' : Fin 16) (hh : h'.val = g) (t : Fin 768),
      View.ld x7 (Rect.unit (s := S16x256x768) ![g, 0, 0] S1x256x768.size inb) (ix3 0 a' t) = x7 (ix3 h' a' t) := fun g inb h' hh t =>
    View.ld_unit_apply_of x7 _ _ inb _ _ fun a => by
      match a with
      | ⟨0, _⟩ => exact hh
      | ⟨1, _⟩ => exact (Nat.zero_add _).symm
      | ⟨2, _⟩ => exact (Nat.zero_add _).symm
  congr 1
  · congr 1
    · funext e
      exact hq a' _ _ (by simp only; omega)
    · funext t e
      exact cat_ld x1 x2 x3 o inb t _ _ (by simp only; omega)
    · funext t
      split
      · exact hb g0 inb0 _ (by simp only; omega) t
      · exact hb g1 inb1 _ (by simp only; omega) t
  · funext t
    exact cat_ld x4 x5 x6 o inb t _ _ ed

/-- The block that the body leaves at a grid point, at an index. -/
theorem out_eq (i : grid1.Coords) (n : Fin 16) (hn : (i 1).val = n.val)
    (x0 x1 x2 x3 x4 x5 x6 : Vec Ideal S1x256x1024 .bf16) (x7 : Vec Ideal S16x256x768 .f32) (y : S1x256x1024.Idx) :
    out1_8 i x0 x1 x2 x3 x4 x5 x6 x7 y = tileOut n x0 x1 x2 x3 x4 x5 x6 x7 (y 1) (y 2) := by
  unfold_out out1_8
  refine View.canon_append_of_piecesOf (Val := Elt Ideal) (s := S1x256x1024) (e := .bf16)
    ((fun y : S1x256x1024.Idx => tileOut n x0 x1 x2 x3 x4 x5 x6 x7 (y 1) (y 2)) : Vec Ideal S1x256x1024 .bf16) []
    [_, _, _, _, _, _, _, _] ⟨?_, ?_, ?_, ?_, ?_, ?_, ?_, ?_, trivial⟩ y (cover1_8 _ _ _ _ _ _ _ _ y)
  · exact piece i n hn x0 x1 x2 x3 x4 x5 x6 x7 7 896 14 15 (by omega) rfl rfl rfl _ _ _
  · exact piece i n hn x0 x1 x2 x3 x4 x5 x6 x7 6 768 12 13 (by omega) rfl rfl rfl _ _ _
  · exact piece i n hn x0 x1 x2 x3 x4 x5 x6 x7 5 640 10 11 (by omega) rfl rfl rfl _ _ _
  · exact piece i n hn x0 x1 x2 x3 x4 x5 x6 x7 4 512 8 9 (by omega) rfl rfl rfl _ _ _
  · exact piece i n hn x0 x1 x2 x3 x4 x5 x6 x7 3 384 6 7 (by omega) rfl rfl rfl _ _ _
  · exact piece i n hn x0 x1 x2 x3 x4 x5 x6 x7 2 256 4 5 (by omega) rfl rfl rfl _ _ _
  · exact piece i n hn x0 x1 x2 x3 x4 x5 x6 x7 1 128 2 3 (by omega) rfl rfl rfl _ _ _
  · exact piece i n hn x0 x1 x2 x3 x4 x5 x6 x7 0 0 0 1 (by omega) rfl rfl rfl _ _ _

end Cert.Attention.Block
-- ==== Proof.Array.lean ====
module

public import proofs.«01_k».proof.Proof.Bias
public import proofs.«01_k».proof.Proof.Block

/-! The array that the attention's call leaves, in terms of the arguments. -/

@[expose] public section

set_option maxRecDepth 16384

noncomputable section

open Idealize.ShloMosaic Idealize.ShloMosaic.TcCoe Idealize.SL.Sem
open Idealize.ShloMosaic.Pipeline (Dat)

namespace Cert.Attention.Array

open Cert.AttnIdeal Cert.AttnIdeal.Gen

/-- The sequence position of key `t` of tile `n`'s 768: the tile's own 256 and the 512 before it (a block before the
    sequence's start is the first block). -/
def key (n : Fin 16) (t : Fin 768) : Fin 4096 := ⟨(n.val + t.val / 256 - 2) * 256 + t.val % 256, by omega⟩

/-- What the kernel computes at batch `b`, tile `n`, row `a` and column `l`. -/
def kernelAt (X : FVec Ideal S8x4096x12288 .bf16) (rb : FVec Ideal S16x257 .f32) (b : Fin 8) (n : Fin 16) (a : Fin 256) (l : Fin 1024) : EReal :=
  Block.headOut
    (Block.score n (fun e => X (ix3 b ⟨n.val * 256 + a.val, by omega⟩ ⟨64 * (l.val / 64) + e.val, by omega⟩))
      (fun t e => X (ix3 b (key n t) ⟨1024 + (64 * (l.val / 64) + e.val), by omega⟩))
      (fun t => Bias.band rb ⟨l.val / 64, by omega⟩ a t))
    fun t => X (ix3 b (key n t) ⟨2048 + l.val, by omega⟩)

variable (m : (ℓ : Loc nD τ sig) → Buf (Elt Ideal) ℓ) (ρ : Dev nD → PrngReg)

/-- The first call starts from the argument. -/
theorem entry0 (c : Dev nD) : V6 m ρ c main_arg0 = m ((c : Thread nD τ).loc main_arg0) := W6_args m ρ c main_arg0 (by decide)

/-- The blocks, as functions of the grid point. -/
theorem idx : ∀ t : Fin cfg1.N,
    win1_0.index t = ![t.val / 16, t.val % 16, 0]
    ∧ win1_1.index t = ![t.val / 16, t.val % 16 - 2, 1] ∧ win1_2.index t = ![t.val / 16, t.val % 16 - 1, 1]
    ∧ win1_3.index t = ![t.val / 16, t.val % 16, 1]
    ∧ win1_4.index t = ![t.val / 16, t.val % 16 - 2, 2] ∧ win1_5.index t = ![t.val / 16, t.val % 16 - 1, 2]
    ∧ win1_6.index t = ![t.val / 16, t.val % 16, 2]
    ∧ win1_7.index t = ![0, 0, 0] ∧ win1_8.index t = ![t.val / 16, t.val % 16, 0] :=
  (by decide +kernel : ∀ t : Fin grid1.N, _)
/-- A grid point's second coordinate is its remainder by 16. -/
theorem coord : ∀ t : Fin cfg1.N, (grid1.coords t 1).val = t.val % 16 ∧ t.val < 128 :=
  (by decide +kernel : ∀ t : Fin grid1.N, _)

/-- The key blocks of a grid point, one after another, are the keys' columns of the argument. -/
theorem keys_apply (c : Dev nD) (t : Fin cfg1.N) (ht : t.val < 128) (k : Fin 768) (l : Fin 1024) :
    Block.cols (iblk1 (V6 m ρ) c 1 t) (iblk1 (V6 m ρ) c 2 t) (iblk1 (V6 m ρ) c 3 t) k l
      = m ((c : Thread nD τ).loc main_arg0) (ix3 ⟨t.val / 16, by omega⟩ (key ⟨t.val % 16, by omega⟩ k) ⟨1024 + l.val, by omega⟩) := by
  rw [← entry0 m ρ c]
  have hk := k.isLt
  unfold Block.cols key
  split_ifs with h1 h2
  · blk_ext [iblk1, idx t]
  · blk_ext [iblk1, idx t]
  · blk_ext [iblk1, idx t]

/-- The value blocks likewise. -/
theorem values_apply (c : Dev nD) (t : Fin cfg1.N) (ht : t.val < 128) (k : Fin 768) (l : Fin 1024) :
    Block.cols (iblk1 (V6 m ρ) c 4 t) (iblk1 (V6 m ρ) c 5 t) (iblk1 (V6 m ρ) c 6 t) k l
      = m ((c : Thread nD τ).loc main_arg0) (ix3 ⟨t.val / 16, by omega⟩ (key ⟨t.val % 16, by omega⟩ k) ⟨2048 + l.val, by omega⟩) := by
  rw [← entry0 m ρ c]
  have hk := k.isLt
  unfold Block.cols key
  split_ifs with h1 h2
  · blk_ext [iblk1, idx t]
  · blk_ext [iblk1, idx t]
  · blk_ext [iblk1, idx t]

/-- The block of queries at a grid point, entry by entry. -/
theorem query_apply (c : Dev nD) (t : Fin cfg1.N) (ht : t.val < 128) (a : Fin 256) (l : Fin 1024) :
    iblk1 (V6 m ρ) c 0 t (ix3 0 a l)
      = m ((c : Thread nD τ).loc main_arg0) (ix3 ⟨t.val / 16, by omega⟩ ⟨t.val % 16 * 256 + a.val, by omega⟩ ⟨l.val, by omega⟩) := by
  rw [← entry0 m ρ c]
  blk_ext [iblk1, idx t]

/-- The block of biases at a grid point, entry by entry. -/
theorem bias_apply (c : Dev nD) (t : Fin cfg1.N) (h : Fin 16) (a : Fin 256) (k : Fin 768) :
    iblk1 (V6 m ρ) c 7 t (ix3 h a k) = Bias.band (m ((c : Thread nD τ).loc main_arg1)) h a k := by
  have : iblk1 (V6 m ρ) c 7 t (ix3 h a k) = V6 m ρ c main_v19 (ix3 h a k) := by blk_ext [iblk1, idx t]
  rw [this, Bias.entry]
  rfl

/-- One grid point's block. -/
theorem point (c : Dev nD) (t : Fin cfg1.N) (ht : t.val < 128) (a : Fin 256) (l : Fin 1024) :
    Block.tileOut ⟨t.val % 16, by omega⟩ (iblk1 (V6 m ρ) c 0 t) (iblk1 (V6 m ρ) c 1 t) (iblk1 (V6 m ρ) c 2 t) (iblk1 (V6 m ρ) c 3 t)
        (iblk1 (V6 m ρ) c 4 t) (iblk1 (V6 m ρ) c 5 t) (iblk1 (V6 m ρ) c 6 t) (iblk1 (V6 m ρ) c 7 t) a l
      = kernelAt (m ((c : Thread nD τ).loc main_arg0)) (m ((c : Thread nD τ).loc main_arg1)) ⟨t.val / 16, by omega⟩ ⟨t.val % 16, by omega⟩ a l := by
  unfold Block.tileOut kernelAt
  refine congrArg₂ Block.headOut ?_ (funext fun k => values_apply m ρ c t ht k l)
  congr 1
  · exact funext fun e => query_apply m ρ c t ht a _
  · exact funext fun k => funext fun e => keys_apply m ρ c t ht k _
  · exact funext fun k => bias_apply m ρ c t _ a k

/-- The array that the attention's call leaves. -/
theorem final (c : Dev nD) :
    (dat1 (V6 m ρ) c).arrAt 8 cfg1.N = fun i : S8x4096x1024.Idx =>
      kernelAt (m ((c : Thread nD τ).loc main_arg0)) (m ((c : Thread nD τ).loc main_arg1)) (i 0)
        ⟨(i 1).val / 256, by have : (i 1).val < 4096 := (i 1).isLt; omega⟩ ⟨(i 1).val % 256, Nat.mod_lt _ (by omega)⟩ (i 2) := by
  refine (dat1 (V6 m ρ) c).arrAt_eq_of_covers 8 _ (by decide +kernel) fun t _ y => ?_
  blk_simp
  rw [after1_8]
  have ht := (coord t).2
  have hy : (y 1).val < 256 := (y 1).isLt
  have hy0 : (y 0).val < 1 := (y 0).isLt
  refine (Block.out_eq (grid1.coords t) ⟨t.val % 16, by omega⟩ (coord t).1 _ _ _ _ _ _ _ _ y).trans ((point m ρ c t ht (y 1) (y 2)).trans ?_)
  congr 1
  · exact Fin.ext (by blk_simp [idx t] <;> (try omega))
  · exact Fin.ext (by blk_simp [idx t]; simp only; omega)
  · exact Fin.ext (by blk_simp [idx t]; simp only; omega)
  · exact Fin.ext (by blk_simp [idx t] <;> (try omega))

/-- The result buffer after the run. -/
theorem result (c : Dev nD) :
    W7 m ρ c (Proc.devRef .tc main_v20) = fun i : S8x4096x1024.Idx =>
      kernelAt (m ((c : Thread nD τ).loc main_arg0)) (m ((c : Thread nD τ).loc main_arg1)) (i 0)
        ⟨(i 1).val / 256, by have : (i 1).val < 4096 := (i 1).isLt; omega⟩ ⟨(i 1).val % 256, Nat.mod_lt _ (by omega)⟩ (i 2) :=
  (W7_arr m ρ c 8).trans (final m ρ c)

end Cert.Attention.Array
-- ==== Proof.RefRead.lean ====
module

public import proofs.«01_k».proof.Proof.Bias
public import proofs.«01_k».proof.Proof.Gen.AttnRefIdeal.Read
public import Idealize.ShloMosaic.Lib.Pipeline.ValueKit
public import Idealize.ShloMosaic.Lib.Tactic

/-! The reference of the attention, read at an index. -/

@[expose] public section

set_option maxRecDepth 16384

noncomputable section

open Idealize.ShloMosaic Idealize.ShloMosaic.TcCoe Idealize.SL.Sem

namespace Cert.Attention.RefRead

open Cert.AttnRefIdeal Cert.AttnRefIdeal.Gen Cert.AttnRefIdeal.Read

variable (x0 : FVec Ideal S8x4096x12288 .bf16) (x1 : FVec Ideal S16x257 .f32)

/-- The three tensors of heads, at an index: part `p` of the first 3072 columns. -/
theorem heads_apply (b : Fin 8) (s : Fin 4096) (p : Fin 3) (h : Fin 16) (e : Fin 64) :
    val_main_v2 (F := Ideal) x0 (ix5 b s p h e) = x0 (ix3 b s ⟨1024 * p.val + (64 * h.val + e.val), by omega⟩) := by
  unfold val_main_v2 val_main_v1 val_main_v0
  pointwise
  blk_ext
/-- The reference's queries, entry by entry. -/
theorem q_apply (b : Fin 8) (s : Fin 4096) (h : Fin 16) (e : Fin 64) :
    val_main_v4 (F := Ideal) x0 (ix4 b s h e) = x0 (ix3 b s ⟨64 * h.val + e.val, by omega⟩) := by
  unfold val_main_v4 val_main_v3
  pointwise
  rw [heads_apply]
  blk_ext
/-- The reference's keys, entry by entry. -/
theorem k_apply (b : Fin 8) (s : Fin 4096) (h : Fin 16) (e : Fin 64) :
    val_main_v6 (F := Ideal) x0 (ix4 b s h e) = x0 (ix3 b s ⟨1024 + (64 * h.val + e.val), by omega⟩) := by
  unfold val_main_v6 val_main_v5
  pointwise
  rw [heads_apply]
  blk_ext
/-- The reference's values, entry by entry. -/
theorem v_apply (b : Fin 8) (s : Fin 4096) (h : Fin 16) (e : Fin 64) :
    val_main_v8 (F := Ideal) x0 (ix4 b s h e) = x0 (ix3 b s ⟨2048 + (64 * h.val + e.val), by omega⟩) := by
  unfold val_main_v8 val_main_v7
  pointwise
  rw [heads_apply]
  blk_ext

/-- The products of the queries and the keys. -/
theorem dots_apply (b : Fin 8) (h : Fin 16) (r s : Fin 4096) :
    val_main_v37 (F := Ideal) x0 (ix4 b h r s)
      = ∑ e : Fin 64, x0 (ix3 b r ⟨64 * h.val + e.val, by omega⟩) * x0 (ix3 b s ⟨1024 + (64 * h.val + e.val), by omega⟩) := by
  unfold val_main_v37
  pointwise
  simp only [q_apply, k_apply]

/-- The distance's word before it is wrapped. -/
theorem dist_apply (r s : Fin 4096) :
    val_main_v17 (F := Ideal) (ix2 r s)
      = IntOp.addi (IntOp.minsi 128#32 (IntOp.maxsi 4294967168#32 (IntOp.subi (BitVec.ofNat 32 r.val) (BitVec.ofNat 32 s.val)))) 128#32 := by
  simp only [val_main_v17, val_main_v16, val_main_v15, val_main_c_1, val_main_call0_v4, val_main_call0_v2, val_main_call0_v3, val_main_c_0, val_main_call0_v1,
    val_main_call0_v0, val_main_c, val_main_v14, val_main_v12, val_main_v13, val_main_v10, val_main_v11, val_main_v9, id]
  pointwise

/-- The distance of two places as a word. -/
theorem word_apply (r s : Fin 4096) :
    val_main_v23 (F := Ideal) (ix3 r s 0)
      = Scalar.select (IntOp.cmpi .slt (val_main_v17 (F := Ideal) (ix2 r s)) 0#32)
          (IntOp.addi (val_main_v17 (F := Ideal) (ix2 r s)) 257#32) (val_main_v17 (F := Ideal) (ix2 r s)) := by
  simp only [val_main_v23, val_main_v22, val_main_v21, val_main_v20, val_main_c_3, val_main_v19, val_main_v18, val_main_c_2]
  pointwise

/-- The test of the chunks. -/
theorem chunk_apply (r s : Fin 4096) :
    val_main_v36 (F := Ideal) (ix2 r s)
      = IntOp.andi
          (IntOp.cmpi .sge (IntOp.subi (IntOp.divsi .host (BitVec.ofNat 32 r.val) 64#32) (IntOp.divsi .host (BitVec.ofNat 32 s.val) 64#32)) 0#32)
          (IntOp.cmpi .sle (IntOp.subi (IntOp.divsi .host (BitVec.ofNat 32 r.val) 64#32) (IntOp.divsi .host (BitVec.ofNat 32 s.val) 64#32)) 8#32) := by
  simp only [val_main_v36, val_main_v35, val_main_v34, val_main_c_6, val_main_v33, val_main_v32, val_main_c_5, val_main_v31, val_main_v30, val_main_v29,
    val_main_v28, val_main_v27, val_main_v26, val_main_v25, val_main_c_4, val_main_v9]
  pointwise

/-- The score before the band is cut out. -/
theorem raw_apply (b : Fin 8) (h : Fin 16) (r s : Fin 4096) :
    val_main_v44 (F := Ideal) x0 x1 (ix4 b h r s)
      = Scalar.select (val_main_v36 (F := Ideal) (ix2 r s))
          (val_main_v37 (F := Ideal) x0 (ix4 b h r s) * Ideal.log (Ideal.ofBits .f32 0x40000000#32) + val_main_v24 (F := Ideal) x1 (ix3 h r s))
          (Ideal.ofBits .f32 0xFF800000#32) := by
  simp only [val_main_v44, val_main_call1_v2, val_main_call1_v1, val_main_call1_v0, val_main_cst_7, val_main_v43, val_main_v42, val_main_v41, val_main_v40, val_main_v39,
    val_main_v38, val_main_cst, id]
  pointwise

/-- The maximum of a row of scores. -/
theorem max_apply (b : Fin 8) (h : Fin 16) (r : Fin 4096) :
    val_main_v45 (F := Ideal) x0 x1 (ix3 b h r)
      = Finset.univ.fold max (Ideal.ofBits .f32 0xFF800000#32) fun s : Fin 4096 => val_main_v44 (F := Ideal) x0 x1 (ix4 b h r s) := by
  unfold val_main_v45
  generalize val_main_v44 (F := Ideal) x0 x1 = y
  unfold val_main_cst_8
  pointwise

/-- The exponential of a score less the maximum of its row. -/
theorem exp_apply (b : Fin 8) (h : Fin 16) (r s : Fin 4096) :
    val_main_v51 (F := Ideal) x0 x1 (ix4 b h r s)
      = Ideal.exp (val_main_v44 (F := Ideal) x0 x1 (ix4 b h r s)
          - max (Ideal.ofBits .f32 0xFF800000#32) (val_main_v45 (F := Ideal) x0 x1 (ix3 b h r))) := by
  rw [val_main_v51_apply, val_main_v50_apply, val_main_v49_apply, val_main_v48_apply, val_main_v47_apply, val_main_v46_apply,
    val_main_cst_9_apply, show idx_main_v48 (idx_main_v49 (ix4 b h r s)) = ix3 b h r from funext fun d => by fin_cases d <;> rfl]
  generalize val_main_v44 (F := Ideal) x0 x1 = y
  generalize val_main_v45 (F := Ideal) x0 x1 = z
  rfl

/-- The sum of the exponentials of a row. -/
theorem den_apply (b : Fin 8) (h : Fin 16) (r : Fin 4096) :
    val_main_v52 (F := Ideal) x0 x1 (ix3 b h r) = ∑ s : Fin 4096, val_main_v51 (F := Ideal) x0 x1 (ix4 b h r s) := by
  unfold val_main_v52 val_main_cst_10
  generalize val_main_v51 (F := Ideal) x0 x1 = y
  pointwise

/-- The probability of a key. -/
theorem soft_apply (b : Fin 8) (h : Fin 16) (r s : Fin 4096) :
    val_main_v55 (F := Ideal) x0 x1 (ix4 b h r s)
      = Ideal.div (val_main_v51 (F := Ideal) x0 x1 (ix4 b h r s)) (val_main_v52 (F := Ideal) x0 x1 (ix3 b h r)) := by
  unfold val_main_v55 val_main_v54 val_main_v53
  generalize val_main_v51 (F := Ideal) x0 x1 = y
  generalize val_main_v52 (F := Ideal) x0 x1 = z
  pointwise

/-- The values mixed by the probabilities. -/
theorem mix_apply (b : Fin 8) (h : Fin 16) (e : Fin 64) (r : Fin 4096) :
    val_main_v56 (F := Ideal) x0 x1 (ix4 b h e r)
      = ∑ s : Fin 4096, x0 (ix3 b s ⟨2048 + (64 * h.val + e.val), by omega⟩) * val_main_v55 (F := Ideal) x0 x1 (ix4 b h r s) := by
  unfold val_main_v56
  generalize val_main_v55 (F := Ideal) x0 x1 = y
  pointwise
  simp only [v_apply]

/-- The reference's result, entry by entry. -/
theorem res_apply (b : Fin 8) (r : Fin 4096) (l : Fin 1024) :
    val_main_v59 (F := Ideal) x0 x1 (ix3 b r l)
      = val_main_v56 (F := Ideal) x0 x1 (ix4 b ⟨l.val / 64, by omega⟩ ⟨l.val % 64, by omega⟩ r) := by
  unfold val_main_v59 val_main_v58 val_main_v57
  generalize val_main_v56 (F := Ideal) x0 x1 = y
  pointwise

/-- A position's chunk, as the reference computes it. -/
theorem chunk_word : ∀ r : Fin 4096, IntOp.divsi .host (BitVec.ofNat 32 r.val) 64#32 = BitVec.ofNat 32 (r.val / 64) := by
  decide +kernel

/-- The test of two chunks. -/
theorem near_word : ∀ p q : Fin 64,
    IntOp.andi (IntOp.cmpi .sge (IntOp.subi (BitVec.ofNat 32 p.val) (BitVec.ofNat 32 q.val)) 0#32)
        (IntOp.cmpi .sle (IntOp.subi (BitVec.ofNat 32 p.val) (BitVec.ofNat 32 q.val)) 8#32)
      = BitVec.ofBool (decide (q.val ≤ p.val ∧ p.val ≤ q.val + 8)) := by
  decide +kernel

/-- The word of a distance, cut at 128 on either side. -/
abbrev distWord (w : BitVec 32) : BitVec 32 := IntOp.addi (IntOp.minsi 128#32 (IntOp.maxsi 4294967168#32 w)) 128#32

/-- The column of the table a distance reads. -/
theorem dist_col : ∀ k : Fin 8191,
    min (Scalar.select (IntOp.cmpi .slt (distWord (BitVec.ofInt 32 ((k.val : ℤ) - 4095))) 0#32)
        (IntOp.addi (distWord (BitVec.ofInt 32 ((k.val : ℤ) - 4095))) 257#32) (distWord (BitVec.ofInt 32 ((k.val : ℤ) - 4095)))).toInt.toNat (257 - 1)
      = (Bias.col ((k.val : ℤ) - 4095)).val := by
  decide +kernel

/-- The difference of two words is the word of the difference. -/
theorem sub_word (r s : ℕ) : IntOp.subi (BitVec.ofNat 32 r) (BitVec.ofNat 32 s) = BitVec.ofInt 32 ((r : ℤ) - s) := by
  have h : BitVec.ofInt 32 ((r : ℤ) - s) + BitVec.ofNat 32 s = BitVec.ofNat 32 r := by
    rw [← BitVec.ofInt_natCast 32 s, ← BitVec.ofInt_natCast 32 r, ← BitVec.ofInt_add, sub_add_cancel]
  show BitVec.ofNat 32 r - BitVec.ofNat 32 s = _
  rw [← h]
  exact BitVec.add_sub_cancel (BitVec.ofInt 32 ((r : ℤ) - s)) (BitVec.ofNat 32 s)

/-- The gather of columns, at an index. -/
theorem gather_apply (w : IVec S4096x4096x1 32) (h : Fin 16) (r s : Fin 4096) :
    Host.gather gather_S16x257_S4096x4096x1_S16x4096x4096_0_1_n_n_1_2_161 x1 w (ix3 h r s)
      = x1 (ix2 h ⟨min (w (ix3 r s 0)).toInt.toNat (257 - 1), by omega⟩) :=
  Gather.columns_apply2 (by omega) gather_S16x257_S4096x4096x1_S16x4096x4096_0_1_n_n_1_2_161 rfl rfl rfl rfl rfl rfl rfl x1 w h r s

/-- The gathered word's column is the distance's. -/
theorem column_apply (r s : Fin 4096) :
    min (val_main_v23 (F := Ideal) (ix3 r s 0)).toInt.toNat (257 - 1) = (Bias.col ((r.val : ℤ) - s.val)).val := by
  have hr := r.isLt
  have hs := s.isLt
  have key : ∀ (k : ℕ) (hk : k < 8191) (d : ℤ), (k : ℤ) - 4095 = d →
      min (Scalar.select (IntOp.cmpi .slt (distWord (BitVec.ofInt 32 d)) 0#32)
        (IntOp.addi (distWord (BitVec.ofInt 32 d)) 257#32) (distWord (BitVec.ofInt 32 d))).toInt.toNat (257 - 1) = (Bias.col d).val :=
    fun k hk d e => e ▸ dist_col ⟨k, hk⟩
  rw [word_apply, dist_apply, sub_word]
  exact key (r.val + 4095 - s.val) (by omega) _ (by omega)

/-- The relative bias of a query and a key. -/
theorem bias_apply (h : Fin 16) (r s : Fin 4096) :
    val_main_v24 (F := Ideal) x1 (ix3 h r s) = x1 (ix2 h (Bias.col ((r.val : ℤ) - s.val))) := by
  unfold val_main_v24
  refine (gather_apply x1 _ h r s).trans ?_
  exact congrArg (fun p => x1 (ix2 h p)) (Fin.ext (column_apply r s))

/-- The pattern of the number two. -/
theorem two_eq : Ideal.ofBits .f32 0x40000000#32 = ((2 : ℝ) : EReal) := by
  simp [Ideal.ofBits, Ideal.ieee, -EReal.coe_mul]; norm_num
/-- The logarithm of the pattern of two. -/
theorem log_two : Ideal.log (Ideal.ofBits .f32 0x40000000#32) = ((Real.log 2 : ℝ) : EReal) := by
  rw [two_eq]; exact if_neg (by norm_num)
/-- The pattern of -∞. -/
theorem bot_eq : Ideal.ofBits .f32 0xFF800000#32 = (⊥ : EReal) := by
  simp [Ideal.ofBits, Ideal.ieee]

/-- The score of query `r` against key `s` in head `h`: in the band the product over its 64 columns times `log 2`, plus
    the relative bias; off the band `⊥`. -/
def score (b : Fin 8) (h : Fin 16) (r s : Fin 4096) : EReal :=
  if s.val / 64 ≤ r.val / 64 ∧ r.val / 64 ≤ s.val / 64 + 8 then
    (∑ e : Fin 64, x0 (ix3 b r ⟨64 * h.val + e.val, by omega⟩) * x0 (ix3 b s ⟨1024 + (64 * h.val + e.val), by omega⟩))
        * ((Real.log 2 : ℝ) : EReal) + x1 (ix2 h (Bias.col ((r.val : ℤ) - s.val)))
  else ⊥

/-- The reference's scores, entry by entry. -/
theorem score_apply (b : Fin 8) (h : Fin 16) (r s : Fin 4096) :
    val_main_v44 (F := Ideal) x0 x1 (ix4 b h r s) = score x0 x1 b h r s := by
  rw [raw_apply, chunk_apply, chunk_word, chunk_word, near_word ⟨r.val / 64, by omega⟩ ⟨s.val / 64, by omega⟩, Bias.select_ofBool,
    dots_apply, bias_apply, log_two, bot_eq]
  rfl

/-- The reference's result at an index: the softmax of the row's scores, over all keys, times the values. -/
theorem attention_apply (b : Fin 8) (r : Fin 4096) (l : Fin 1024) :
    val_main_v59 (F := Ideal) x0 x1 (ix3 b r l)
      = ∑ s : Fin 4096, x0 (ix3 b s ⟨2048 + l.val, by omega⟩)
          * Ideal.div (Ideal.exp (score x0 x1 b ⟨l.val / 64, by omega⟩ r s - Finset.univ.fold max ⊥ (score x0 x1 b ⟨l.val / 64, by omega⟩ r)))
              (∑ j : Fin 4096, Ideal.exp (score x0 x1 b ⟨l.val / 64, by omega⟩ r j
                - Finset.univ.fold max ⊥ (score x0 x1 b ⟨l.val / 64, by omega⟩ r))) := by
  have hE : ∀ s, val_main_v51 (F := Ideal) x0 x1 (ix4 b ⟨l.val / 64, by omega⟩ r s)
      = Ideal.exp (score x0 x1 b ⟨l.val / 64, by omega⟩ r s - Finset.univ.fold max ⊥ (score x0 x1 b ⟨l.val / 64, by omega⟩ r)) := fun s => by
    rw [exp_apply, max_apply, bot_eq, max_eq_right bot_le, score_apply]
    exact congrArg (fun f => Ideal.exp (_ - Finset.univ.fold max ⊥ f)) (funext fun s => score_apply x0 x1 _ _ _ s)
  rw [res_apply, mix_apply]
  refine Finset.sum_congr rfl fun s _ => ?_
  rw [soft_apply, den_apply, hE]
  refine congrArg₂ (· * ·) (congrArg x0 ?_) (congrArg (Ideal.div _) (Finset.sum_congr rfl fun j _ => hE j))
  blk_ext

end Cert.Attention.RefRead
-- ==== Proof.Softmax.lean ====
module

public import Idealize.ShloMosaic.PureOps.Ideal.Laws

/-! The attention's law on the extended reals: a softmax of powers of two, over the keys that one tile sees and divided
    after the values are summed, is the softmax of powers of `e` over all keys, divided before. -/

@[expose] public section

noncomputable section

namespace Cert.Attention.Softmax

open Idealize.ShloMosaic

/-- A nonnegative real factor goes into a finite sum of extended reals. -/
theorem sum_mul_real {J : Type} (A : Finset J) (f : J → EReal) (k : ℝ) (hk : 0 ≤ k) :
    (∑ j ∈ A, f j) * (k : EReal) = ∑ j ∈ A, f j * (k : EReal) := by
  classical
  induction A using Finset.induction_on with
  | empty => simp
  | insert a A ha ih =>
    rw [Finset.sum_insert ha, Finset.sum_insert ha, ← ih]
    exact EReal.right_distrib_of_nonneg_of_ne_top (by exact_mod_cast hk) (EReal.coe_ne_top k) _ _

/-- A finite sum of reals, as an extended real. -/
theorem sum_real {J : Type} (A : Finset J) (f : J → ℝ) : (∑ j ∈ A, (f j : EReal)) = ((∑ j ∈ A, f j : ℝ) : EReal) := by
  classical
  induction A using Finset.induction_on with
  | empty => simp
  | insert a A ha ih => rw [Finset.sum_insert ha, Finset.sum_insert ha, ih, EReal.coe_add]

/-- The fold of `max` from `⊥` over a family is `μ` when `μ` bounds the family and is one of its members. -/
theorem fold_max_eq {J : Type} [Fintype J] (f : J → EReal) (μ : EReal) (hle : ∀ j, f j ≤ μ) (j₀ : J) (h₀ : f j₀ = μ) :
    Finset.univ.fold max ⊥ f = μ := by
  apply le_antisymm
  · rw [Finset.fold_max_le]; exact ⟨bot_le, fun j _ => hle j⟩
  · rw [Finset.le_fold_max]; exact Or.inr ⟨j₀, Finset.mem_univ _, h₀.ge⟩

/-- A power of two at a score over `log 2` is the power of `e` at the score. -/
theorem exp2_scaled (r μ : ℝ) :
    Ideal.exp2 ((((Real.log 2)⁻¹ * r : ℝ) : EReal) - (((Real.log 2)⁻¹ * μ : ℝ) : EReal)) = ((Real.exp (r - μ) : ℝ) : EReal) := by
  rw [← EReal.coe_sub, Ideal.exp2_coe]
  congr 1
  show (2 : ℝ) ^ ((Real.log 2)⁻¹ * r - (Real.log 2)⁻¹ * μ) = _
  have h2 : Real.log 2 ≠ 0 := (Real.log_pos (by norm_num)).ne'
  rw [Real.rpow_def_of_pos (by norm_num)]
  congr 1
  field_simp

/-- The attention's law: `s`, `v` are the scores and values by the tile's keys, `S`, `V` those by all keys, `e` says
    which key a tile's key is; a tile's key that is not `valid`, and a key that is no tile's, has the score `⊥`. -/
theorem head_eq {T J : Type} [Fintype T] [Fintype J] (valid : T → Prop) (e : T → J) (s v : T → EReal) (S V : J → EReal)
    (hinj : ∀ t t', valid t → valid t' → e t = e t' → t = t')
    (hout : ∀ j, (∀ t, valid t → e t ≠ j) → S j = ⊥)
    (hval : ∀ t, valid t → ∃ r : ℝ, S (e t) = r ∧ s t = (((Real.log 2)⁻¹ * r : ℝ) : EReal))
    (hbot : ∀ t, ¬ valid t → s t = ⊥)
    (hv : ∀ t, valid t → v t = V (e t))
    (hne : ∃ t, valid t) :
    Ideal.div (∑ t, Ideal.exp2 (s t - Finset.univ.fold max ⊥ s) * v t) (∑ t, Ideal.exp2 (s t - Finset.univ.fold max ⊥ s))
      = ∑ j, V j * Ideal.div (Ideal.exp (S j - Finset.univ.fold max ⊥ S)) (∑ j, Ideal.exp (S j - Finset.univ.fold max ⊥ S)) := by
  classical
  choose! r hr using hval
  obtain ⟨t₀, ht₀, hmax⟩ := Finset.exists_max_image (Finset.univ.filter valid) r (by
    obtain ⟨t, ht⟩ := hne; exact ⟨t, by simpa using ht⟩)
  have hv0 : valid t₀ := by simpa using ht₀
  have hmax' : ∀ t, valid t → r t ≤ r t₀ := fun t ht => hmax t (by simpa using ht)
  have hc : (0 : ℝ) ≤ (Real.log 2)⁻¹ := inv_nonneg.2 (Real.log_nonneg (by norm_num))
  have hS : Finset.univ.fold max ⊥ S = (r t₀ : EReal) := by
    refine fold_max_eq S _ (fun j => ?_) (e t₀) (hr t₀ hv0).1
    by_cases h : ∃ t, valid t ∧ e t = j
    · obtain ⟨t, ht, rfl⟩ := h
      rw [(hr t ht).1]; exact_mod_cast hmax' t ht
    · rw [hout j fun t ht he => h ⟨t, ht, he⟩]; exact bot_le
  have hs : Finset.univ.fold max ⊥ s = (((Real.log 2)⁻¹ * r t₀ : ℝ) : EReal) := by
    refine fold_max_eq s _ (fun t => ?_) t₀ (hr t₀ hv0).2
    by_cases ht : valid t
    · rw [(hr t ht).2]; exact_mod_cast mul_le_mul_of_nonneg_left (hmax' t ht) hc
    · rw [hbot t ht]; exact bot_le
  rw [hS, hs]
  let w : T → ℝ := fun t => if valid t then Real.exp (r t - r t₀) else 0
  let W : J → ℝ := fun j => if h : ∃ t, valid t ∧ e t = j then Real.exp (r h.choose - r t₀) else 0
  have hWe : ∀ t, valid t → W (e t) = w t := fun t ht => by
    have h : ∃ t', valid t' ∧ e t' = e t := ⟨t, ht, rfl⟩
    have ht' : h.choose = t := hinj _ _ h.choose_spec.1 ht h.choose_spec.2
    simp only [W, w, dif_pos h, if_pos ht, ht']
  have hWn : ∀ j, (∀ t, valid t → e t ≠ j) → W j = 0 := fun j hj => by
    simp only [W]; rw [dif_neg]; rintro ⟨t, ht, he⟩; exact hj t ht he
  have hw : ∀ t, Ideal.exp2 (s t - (((Real.log 2)⁻¹ * r t₀ : ℝ) : EReal)) = (w t : EReal) := fun t => by
    by_cases ht : valid t
    · rw [(hr t ht).2, exp2_scaled]; simp only [w, if_pos ht]
    · rw [hbot t ht, EReal.bot_sub, Ideal.exp2_bot]; simp only [w, if_neg ht, EReal.coe_zero]
  have hW : ∀ j, Ideal.exp (S j - (r t₀ : EReal)) = (W j : EReal) := fun j => by
    by_cases h : ∃ t, valid t ∧ e t = j
    · obtain ⟨t, ht, rfl⟩ := h
      rw [(hr t ht).1, ← EReal.coe_sub, Ideal.exp_coe, hWe t ht]; simp only [w, if_pos ht]
    · have h' : ∀ t, valid t → e t ≠ j := fun t ht he => h ⟨t, ht, he⟩
      rw [hout j h', EReal.bot_sub, hWn j h']; rfl
  simp only [hw, hW]
  have hsum : ∀ (f : J → EReal) (g : T → EReal), (∀ t, valid t → g t = f (e t)) → (∀ t, ¬ valid t → g t = 0) →
      (∀ j, (∀ t, valid t → e t ≠ j) → f j = 0) → (∑ t, g t) = ∑ j, f j := fun f g h1 h2 h3 => by
    rw [← Finset.sum_filter_of_ne (p := valid) (fun t _ hg => by by_contra hn; exact hg (h2 t hn))]
    refine Finset.sum_of_injOn e ?_ ?_ ?_ ?_
    · intro t ht t' ht' he
      exact hinj t t' (by simpa using ht) (by simpa using ht') he
    · intro t _; simp
    · intro j _ hj
      exact h3 j fun t ht he => hj ⟨t, by simpa using ht, he⟩
    · intro t ht; exact h1 t (by simpa using ht)
  have hden : (∑ t, (w t : EReal)) = ∑ j, (W j : EReal) :=
    hsum _ _ (fun t ht => by rw [hWe t ht]) (fun t ht => by simp only [w, if_neg ht, EReal.coe_zero])
      (fun j hj => by rw [hWn j hj, EReal.coe_zero])
  have hnum : (∑ t, (w t : EReal) * v t) = ∑ j, (W j : EReal) * V j :=
    hsum _ _ (fun t ht => by rw [hWe t ht, hv t ht]) (fun t ht => by simp only [w, if_neg ht, EReal.coe_zero, zero_mul])
      (fun j hj => by rw [hWn j hj, EReal.coe_zero, zero_mul])
  rw [hden, hnum, sum_real]
  have hW0 : ∀ j, 0 ≤ W j := fun j => by simp only [W]; split <;> positivity
  have hpos : 0 < ∑ j, W j := by
    refine Finset.sum_pos' (fun j _ => hW0 j) ⟨e t₀, Finset.mem_univ _, ?_⟩
    rw [hWe t₀ hv0]; simp only [w, if_pos hv0]; positivity
  have hdiv : ∀ x : EReal, Ideal.div x ((∑ j, W j : ℝ) : EReal) = x * (((∑ j, W j)⁻¹ : ℝ) : EReal) := fun x => by
    unfold Ideal.div
    rw [if_neg (by exact_mod_cast hpos.ne'), EReal.coe_inv]
  simp only [hdiv]
  rw [sum_mul_real _ _ _ (inv_nonneg.2 hpos.le)]
  refine Finset.sum_congr rfl fun j _ => ?_
  rw [mul_comm (W j : EReal) (V j), mul_assoc]

end Cert.Attention.Softmax
-- ==== Proof.Equation.lean ====
module

public import proofs.«01_k».proof.Proof.Array
public import proofs.«01_k».proof.Proof.RefRead
public import proofs.«01_k».proof.Proof.Softmax

/-! The kernel's attention is the reference's, over finite queries, keys and biases. -/

@[expose] public section

set_option maxRecDepth 16384

noncomputable section

open Idealize.ShloMosaic Idealize.ShloMosaic.TcCoe Idealize.SL.Sem

namespace Cert.Attention.Equation

open Cert.AttnIdeal Cert.AttnIdeal.Gen

/-- The keys of a tile that a row may see: none before the sequence's start, none outside the band. -/
def valid (n : Fin 16) (a : Fin 256) (t : Fin 768) : Prop :=
  512 ≤ t.val + 256 * n.val ∧ a.val / 64 ≤ t.val / 64 ∧ t.val / 64 ≤ a.val / 64 + 8

/-- Where a tile's key is not before the sequence, it stands 512 places before the tile's place. -/
theorem key_valid (n : Fin 16) (t : Fin 768) (h : 512 ≤ t.val + 256 * n.val) : (Array.key n t).val + 512 = t.val + 256 * n.val := by
  unfold Array.key
  simp only
  omega

/-- A sum of products of real entries is real. -/
theorem sum_real (f g : Fin 64 → EReal) (hf : ∀ e, ∃ r : ℝ, f e = r) (hg : ∀ e, ∃ r : ℝ, g e = r) : ∃ r : ℝ, ∑ e, f e * g e = r := by
  choose F hF using hf
  choose G hG using hg
  refine ⟨∑ e, F e * G e, ?_⟩
  simp only [hF, hG, ← EReal.coe_mul]
  exact Softmax.sum_real _ _

/-- One result element: the softmax over a tile's 768 keys, in powers of two, is the softmax over all 4096 keys. -/
theorem attention_eq (X : FVec Ideal S8x4096x12288 .bf16) (rb : FVec Ideal S16x257 .f32)
    (hX : ∀ (b : Fin 8) (s : Fin 4096) (l : Fin 2048), ∃ r : ℝ, X (ix3 b s ⟨l.val, by omega⟩) = r)
    (hrb : ∀ (h : Fin 16) (p : Fin 257), ∃ r : ℝ, rb (ix2 h p) = r)
    (b : Fin 8) (n : Fin 16) (a : Fin 256) (l : Fin 1024) (r : Fin 4096) (hr : r.val = n.val * 256 + a.val) :
    Array.kernelAt X rb b n a l = AttnRefIdeal.Read.val_main_v59 (F := Ideal) X rb (ix3 b r l) := by
  rw [RefRead.attention_apply]
  unfold Array.kernelAt Block.headOut
  rw [RefRead.bot_eq]
  have er : r = ⟨n.val * 256 + a.val, by omega⟩ := Fin.ext hr
  refine Softmax.head_eq (valid n a) (Array.key n) _ _ (RefRead.score X rb b ⟨l.val / 64, by omega⟩ r) (fun s => X (ix3 b s ⟨2048 + l.val, by omega⟩))
    ?_ ?_ ?_ ?_ (fun t _ => rfl) ?_
  · intro t t' h h' e
    have h1 := key_valid n t h.1
    have h2 := key_valid n t' h'.1
    rw [e] at h1
    exact Fin.ext (by omega)
  · intro j hj
    refine if_neg fun hb => ?_
    refine hj ⟨j.val + 512 - 256 * n.val, by omega⟩ ⟨by simp only; omega, by simp only; omega, by simp only; omega⟩ (Fin.ext ?_)
    have := key_valid n ⟨j.val + 512 - 256 * n.val, by omega⟩ (by simp only; omega)
    simp only at this
    omega
  · intro t h
    have hk := key_valid n t h.1
    obtain ⟨D, hD⟩ := sum_real (fun e : Fin 64 => X (ix3 b r ⟨64 * (l.val / 64) + e.val, by omega⟩))
      (fun e => X (ix3 b (Array.key n t) ⟨1024 + (64 * (l.val / 64) + e.val), by omega⟩))
      (fun e => hX b r ⟨64 * (l.val / 64) + e.val, by omega⟩) (fun e => hX b (Array.key n t) ⟨1024 + (64 * (l.val / 64) + e.val), by omega⟩)
    obtain ⟨B, hB⟩ := hrb ⟨l.val / 64, by omega⟩ (Bias.col (512 + (a.val : ℤ) - t.val))
    obtain ⟨h0, h1, h2⟩ := h
    refine ⟨D * Real.log 2 + B, ?_, ?_⟩
    · unfold RefRead.score
      rw [if_pos (by omega), show ((r.val : ℤ) - (Array.key n t).val) = 512 + (a.val : ℤ) - t.val by omega, hB]
      refine (congrArg (fun z : EReal => z * ((Real.log 2 : ℝ) : EReal) + (B : EReal)) hD).trans ?_
      rw [← EReal.coe_mul, ← EReal.coe_add]
    · unfold Block.score Bias.band
      beta_reduce
      rw [if_neg (by omega), if_pos ⟨h1, h2⟩, hB, ← er]
      refine (congrArg (fun z : EReal => z + (B : EReal) * (((Real.log 2)⁻¹ : ℝ) : EReal)) hD).trans ?_
      rw [← EReal.coe_mul, ← EReal.coe_add]
      refine congrArg _ ?_
      have : Real.log 2 ≠ 0 := (Real.log_pos (by norm_num)).ne'
      field_simp
  · intro t h
    unfold Block.score
    split_ifs with h0
    · rfl
    · unfold Bias.band
      beta_reduce
      rw [if_neg fun hb => h ⟨by omega, hb.1, hb.2⟩]
      exact EReal.add_bot _
  · exact ⟨⟨a.val + 512, by omega⟩, by simp only; omega, by simp only; omega, by simp only; omega⟩

end Cert.Attention.Equation
-- ==== Proof.Finite.lean ====
module

public import proofs.«01_k».proof.Pre_finite_scores
public import Idealize.ShloMosaic.Lib.Pipeline.ValueKit
public import Idealize.ShloMosaic.Lib.Tactic

/-! The precondition, read at an index: the queries, the keys and the relative bias are real numbers. -/

@[expose] public section

set_option maxRecDepth 16384

noncomputable section

open Idealize.ShloMosaic Idealize.ShloMosaic.TcCoe Idealize.SL.Sem

namespace Cert.Attention.Finite

open Cert.Pre_finite_scores

/-- The precondition's side conditions hold. -/
theorem facts : Cert.Pre_finite_scores.Facts where
  slices_S8x4096x12288_S8x4096x2048_0_0_0 := by decide
  bitsLt_bf16_f32 := by decide
  bcast_S_S8x4096x2048 := by decide
  bcast_S_S16x257 := by decide

variable [hF : Cert.Pre_finite_scores.Facts] (X : FVec Ideal S8x4096x12288 .bf16) (rb : FVec Ideal S16x257 .f32)

/-- A value whose absolute value compares below infinity is a real number. -/
theorem real_of_word {φ : FTy} (x : Ideal φ)
    (h : BitVec.ofBool (decide (FloatOps.absf x < Ideal.ofBits .f32 0x7F800000#32)) = 1#1) : ∃ r : ℝ, (x : EReal) = r := by
  have ht : Ideal.ofBits .f32 0x7F800000#32 = (⊤ : EReal) := by simp [Ideal.ofBits, Ideal.ieee]
  rw [ht] at h
  have hlt : max (x : EReal) (-x) < ⊤ := by
    by_contra hn
    have : decide (FloatOps.absf x < (⊤ : EReal)) = false := decide_eq_false hn
    rw [this] at h
    exact absurd h (by decide)
  obtain ⟨h1, h2⟩ := max_lt_iff.mp hlt
  refine ⟨(x : EReal).toReal, (EReal.coe_toReal h1.ne ?_).symm⟩
  rintro hb
  rw [hb] at h2
  exact absurd h2 (by simp)

/-- What the first part of the precondition says of an entry. -/
theorem fst_apply (h : (fn (F := Ideal) X rb).1 = fun _ => 1#1) (b : Fin 8) (s : Fin 4096) (l : Fin 2048) :
    ∃ r : ℝ, X (ix3 b s ⟨l.val, by omega⟩) = r := by
  refine real_of_word (φ := .bf16) _ (Eq.trans ?_ (congrFun h (ix3 b s l)))
  unfold fn
  dsimp only
  pointwise
  rfl

/-- What the second part of the precondition says of an entry. -/
theorem snd_apply (h : (fn (F := Ideal) X rb).2 = fun _ => 1#1) (a : Fin 16) (p : Fin 257) :
    ∃ r : ℝ, rb (ix2 a p) = r := by
  refine real_of_word (φ := .f32) _ (Eq.trans ?_ (congrFun h (ix2 a p)))
  unfold fn
  dsimp only
  pointwise

end Cert.Attention.Finite
-- ==== Proof.Run.lean ====
module

public import proofs.«01_k».proof.Proof.Gen.AttnIdeal.Frame

/-! The kernel's run, with its result buffer. -/

@[expose] public section

set_option maxRecDepth 16384

noncomputable section

namespace Cert.Attention.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.AttnIdeal Cert.AttnIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- THE RUN: from any memory with zero counters the program ends with the attention's array in its result buffer and its
    arguments unchanged. -/
theorem run : θ_run defs (onTc (τ := τ) (main (F := Ideal))) ⟨m, fun _ => 0, ρ⟩ (fun r => (∀ c : Dev nD,
      r.2.mem ((c.tc : Thread nD τ).loc main_v20) = W7 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v20 (by decide)),
       (h c _ (mem_uc main_arg0 (by decide))).trans (W7_main_arg0 m ρ c),
       (h c _ (mem_uc main_arg1 (by decide))).trans (W7_main_arg1 m ρ c)⟩), funext fun g => hz g (.inr (no_unscoped g.2))⟩)

end Cert.Attention.Run
-- ==== Proof.AttnClaims.lean ====
module

public import proofs.«01_k».proof.Defs
public import proofs.«01_k».proof.Proof.Equation
public import proofs.«01_k».proof.Proof.Finite
public import proofs.«01_k».proof.Proof.Run
public import proofs.«01_k».proof.Proof.Gen.Attn.Frame
public import proofs.«01_k».proof.Proof.Gen.AttnRefIdeal.Run
public import Idealize.ShloMosaic.Lib.Quiescent

/-! The claims about the chunked attention. -/

@[expose] public section

set_option maxRecDepth 16384

noncomputable section

open Idealize.ShloMosaic Idealize.ShloMosaic.TcCoe Idealize.SL.Sem

namespace Cert.Attention.Claims

/-- The kernel's program ends with its arguments unchanged and every counter at zero, at the printed formats. -/
theorem frame : Cert.quiescent_Attn := fun m ρ _ => Cert.Attn.Gen.frame m ρ
/-- The same of its idealization. -/
theorem frame_ideal : Cert.quiescent_AttnIdeal := fun m ρ _ => Cert.AttnIdeal.Gen.frame m ρ
/-- The same of its idealization under the precondition. -/
theorem frame_ideal_pre [h : Cert.Pre_finite_scores.Facts] : Cert.quiescent_AttnIdeal_pre_finite_scores := fun m ρ _ => Cert.AttnIdeal.Gen.frame m ρ

/-- The reference ends with its arguments unchanged and every counter at zero. -/
theorem frame_ref : Cert.quiescent_AttnRefIdeal := fun m ρ _ =>
  (θ_run _ _ _).mono (fun r h => ⟨fun c => (h c).2, Idealize.ShloMosaic.sem_eq_zero_of_no_sems (by decide) r.2⟩)
    (Cert.AttnRefIdeal.Value.run m ρ)
/-- The same of the reference under the precondition. -/
theorem frame_ref_pre [h : Cert.Pre_finite_scores.Facts] : Cert.quiescent_AttnRefIdeal_pre_finite_scores := fun m ρ _ => frame_ref m ρ trivial

/-- The idealization replaces only the two named constants. -/
theorem preserves : Cert.preserves_Attn_AttnIdeal :=
  ⟨IdealRules.named_const.statement Cert.AttnIdeal.κ "log2e" .f32 0x3FB8AA3B#32 (((Real.log 2)⁻¹ : ℝ) : EReal) rfl,
   IdealRules.named_const.statement Cert.AttnIdeal.κ "mask" .f32 0xF149F2CA#32 ⊥ rfl⟩

/-- The result array of the kernel's run is the reference's result over the same arguments. -/
theorem result_eq [hP : Cert.Pre_finite_scores.Facts] (m : (ℓ : Loc Cert.AttnIdeal.nD Cert.AttnIdeal.τ Cert.AttnIdeal.sig) → Buf (Elt Ideal) ℓ)
    (ρ : Dev Cert.AttnIdeal.nD → PrngReg) (hpre : Cert.Pre_AttnIdeal_finite_scores m) (c : Dev Cert.AttnIdeal.nD) :
    Cert.AttnIdeal.Gen.W7 m ρ c (Proc.devRef .tc Cert.AttnIdeal.main_v20)
      = Cert.AttnRefIdeal.Read.val_main_v59 (F := Ideal) (m ((c.tc : Thread Cert.AttnIdeal.nD Cert.AttnIdeal.τ).loc Cert.AttnIdeal.main_arg0))
          (m ((c.tc : Thread Cert.AttnIdeal.nD Cert.AttnIdeal.τ).loc Cert.AttnIdeal.main_arg1)) := by
  rw [Array.result]
  funext i
  have hi : (i 1).val < 4096 := (i 1).isLt
  refine (Equation.attention_eq _ _ (fun b s l => Finite.fst_apply _ _ (hpre c).1 b s l) (fun h p => Finite.snd_apply _ _ (hpre c).2 h p)
    (i 0) ⟨(i 1).val / 256, by omega⟩ ⟨(i 1).val % 256, Nat.mod_lt _ (by omega)⟩ (i 2) (i 1) (by simp only; omega)).trans ?_
  exact congrArg _ (funext fun d => by fin_cases d <;> rfl)

/-- The kernel's result is the reference's. -/
theorem algebraic [hP : Cert.Pre_finite_scores.Facts] : Cert.algebraic_AttnIdeal_AttnRefIdeal_pre_finite_scores := by
  intro m g m' g' hpre hagree
  refine ⟨fun c => Cert.AttnIdeal.Gen.W7 m g c (Proc.devRef .tc Cert.AttnIdeal.main_v20),
    (θ_run _ _ _).mono (fun r h => h.1) (Run.run m g), (θ_run _ _ _).mono (fun r h c => ⟨?_, (h c).2⟩) (Cert.AttnRefIdeal.Value.run m' g')⟩
  refine (h c).1.trans ((Cert.AttnRefIdeal.Read.val_main_v59_eq m' c).trans ?_)
  rw [(hagree c).1, (hagree c).2]
  exact (result_eq m g hpre c).symm

end Cert.Attention.Claims
-- ==== Proof.MergeBlock.lean ====
module

public import proofs.«01_k».proof.Proof.Gen.MergeIdeal.Frame
public import Idealize.ShloMosaic.Lib.Pipeline.ValueKit
public import Idealize.ShloMosaic.Lib.Pipeline.ReadBack
public import Idealize.ShloMosaic.Lib.Tactic
public import Idealize.ShloMosaic.Lib.Tactic.CleanTypes
public import Idealize.ShloMosaic.Lib.Claim

/-! The gated merge: its two results as functions of one token's rows, and what one step of the kernel writes. -/

@[expose] public section

set_option maxRecDepth 16384

noncomputable section

open Idealize.ShloMosaic Idealize.ShloMosaic.TcCoe Idealize.SL.Sem

namespace Cert.MergeOut

/-- A row of numbers. -/
abbrev Row (n : ℕ) := Fin n → EReal

/-- A token's merged branches: each branch's row through its matrix, times the branch's gate, added up. -/
def mixed (g0 g1 g2 ya : Row 1024) (yb : Row 2048) (yc : Row 1024) (wa : Fin 1024 → Row 1024) (wb : Fin 2048 → Row 1024)
    (wc : Fin 1024 → Row 1024) : Row 1024 := fun k =>
  g0 k * ∑ j, ya j * wa j k + g1 k * ∑ j, yb j * wb j k + g2 k * ∑ j, yc j * wc j k

/-- A token's new residual row: the old one plus the merged branches through the output matrix. -/
def residual (x mix : Row 1024) (wo : Fin 1024 → Row 1024) : Row 1024 := fun n => x n + ∑ k, mix k * wo k n

/-- A row over its root mean square, times the gain. -/
def normed (v g : Row 1024) : Row 1024 := fun n =>
  v n * Ideal.rsqrt (Ideal.div (∑ k, v k * v k) (Ideal.ofBits FTy.f32 0x44800000#32) + Ideal.ofBits FTy.f32 0x358637BD#32) * g n

namespace Block
open Cert.MergeIdeal Cert.MergeIdeal.Gen

variable (x0 : Vec Ideal S512x1024 .f32) (x1 : Vec Ideal S512x1024 .bf16) (x2 : Vec Ideal S512x2048 .bf16)
  (x3 x4 x5 x6 : Vec Ideal S512x1024 .bf16) (x7 : Vec Ideal S1024x1024 .bf16) (x8 : Vec Ideal S2048x1024 .bf16)
  (x9 x10 : Vec Ideal S1024x1024 .bf16) (x11 : Vec Ideal S1x1024 .f32) (x12 x13 : Vec Ideal S1024x128 .bf16)
  (x14 : Vec Ideal S1x128 .f32)

/-- The residual row of token `r` of a block, read off the step's blocks. -/
def row (r : Fin 512) : Row 1024 :=
  residual (fun n => x0 (ix2 r n))
    (mixed (fun n => x4 (ix2 r n)) (fun n => x5 (ix2 r n)) (fun n => x6 (ix2 r n)) (fun n => x1 (ix2 r n)) (fun n => x2 (ix2 r n))
      (fun n => x3 (ix2 r n)) (fun j k => x7 (ix2 j k)) (fun j k => x8 (ix2 j k)) (fun j k => x9 (ix2 j k)))
    (fun k n => x10 (ix2 k n))

/-- The sum that the step stores first is the residual row. -/
theorem sum_apply (r : Fin 512) (n : Fin 1024) :
    k0_pay5 (k0_pay36 x0 x1 x2 x3 x4 x5 x6 x7 x8 x9 x10 x11 x12 x13 x14) (k0_pay37 x0 x1 x2 x3 x4 x5 x6 x7 x8 x9 x10 x11 x12 x13 x14)
      (k0_pay38 x0 x1 x2 x3 x4 x5 x6 x7 x8 x9 x10 x11 x12 x13 x14) (ix2 r n) = row x0 x1 x2 x3 x4 x5 x6 x7 x8 x9 x10 r n := by
  pointwise [k0_pay5, k0_pay36, k0_pay37, k0_pay38, k0_pay2, k0_pay3, k0_pay4]
  rfl

/-- What a step writes at row and column of the first result's block. -/
theorem out_x1_at (r : Fin 512) (n : Fin 1024) :
    out0_15 x0 x1 x2 x3 x4 x5 x6 x7 x8 x9 x10 x11 x12 x13 x14 (ix2 r n) = row x0 x1 x2 x3 x4 x5 x6 x7 x8 x9 x10 r n := by
  frame_out
  exact sum_apply x0 x1 x2 x3 x4 x5 x6 x7 x8 x9 x10 x11 x12 x13 x14 r n

/-- What a step writes at row and column of the second result's block. -/
theorem out_h2_at (r : Fin 512) (n : Fin 1024) :
    out0_16 x0 x1 x2 x3 x4 x5 x6 x7 x8 x9 x10 x11 x12 x13 x14 (ix2 r n)
      = normed (row x0 x1 x2 x3 x4 x5 x6 x7 x8 x9 x10 r) (fun n => x11 (ix2 0 n)) n := by
  frame_out
  have hs := sum_apply x0 x1 x2 x3 x4 x5 x6 x7 x8 x9 x10 x11 x12 x13 x14 r
  generalize k0_pay36 x0 x1 x2 x3 x4 x5 x6 x7 x8 x9 x10 x11 x12 x13 x14 = a at hs ⊢
  generalize k0_pay37 x0 x1 x2 x3 x4 x5 x6 x7 x8 x9 x10 x11 x12 x13 x14 = b at hs ⊢
  generalize k0_pay38 x0 x1 x2 x3 x4 x5 x6 x7 x8 x9 x10 x11 x12 x13 x14 = c at hs ⊢
  pointwise [k0_pay7, k0_pay6]
  simp only [hs]
  rfl

/-- What a step writes to the first result's block. -/
theorem out_x1 (i : S512x1024.Idx) :
    out0_15 x0 x1 x2 x3 x4 x5 x6 x7 x8 x9 x10 x11 x12 x13 x14 i = row x0 x1 x2 x3 x4 x5 x6 x7 x8 x9 x10 (i 0) (i 1) :=
  (congrArg _ (funext fun d => by fin_cases d <;> rfl)).trans (out_x1_at x0 x1 x2 x3 x4 x5 x6 x7 x8 x9 x10 x11 x12 x13 x14 (i 0) (i 1))

/-- What a step writes to the second result's block. -/
theorem out_h2 (i : S512x1024.Idx) :
    out0_16 x0 x1 x2 x3 x4 x5 x6 x7 x8 x9 x10 x11 x12 x13 x14 i
      = normed (row x0 x1 x2 x3 x4 x5 x6 x7 x8 x9 x10 (i 0)) (fun n => x11 (ix2 0 n)) (i 1) :=
  (congrArg _ (funext fun d => by fin_cases d <;> rfl)).trans (out_h2_at x0 x1 x2 x3 x4 x5 x6 x7 x8 x9 x10 x11 x12 x13 x14 (i 0) (i 1))

end Block

end Cert.MergeOut
-- ==== Proof.MergeArray.lean ====
module

public import proofs.«01_k».proof.Proof.MergeBlock

/-! The gated merge: the two arrays that the call leaves, from the arguments. -/

@[expose] public section

set_option maxRecDepth 16384

noncomputable section

open Idealize.ShloMosaic Idealize.ShloMosaic.TcCoe Idealize.SL.Sem
open Idealize.ShloMosaic.Pipeline (Dat)

namespace Cert.MergeOut

/-- The batch entry of token `r` of the flattened tokens. -/
def bat (r : Fin 32768) : Fin 8 := ⟨r.val / 4096, by omega⟩
/-- The place of token `r` in its sequence. -/
def pos (r : Fin 32768) : Fin 4096 := ⟨r.val % 4096, by omega⟩

namespace Array
open Cert.MergeIdeal Cert.MergeIdeal.Gen

/-- The residual row at batch entry `b` and place `p`, from the arguments. -/
def rowAt (X : FVec Ideal S8x4096x1024 .f32) (Ya : FVec Ideal S8x4096x1024 .bf16) (Yb : FVec Ideal S8x4096x2048 .bf16)
    (Yc : FVec Ideal S8x4096x1024 .bf16) (P : FVec Ideal S8x4096x12288 .bf16) (Wa : FVec Ideal S1024x1024 .f32) (Wb : FVec Ideal S2048x1024 .f32)
    (Wc Wo : FVec Ideal S1024x1024 .f32) (b : Fin 8) (p : Fin 4096) : Row 1024 :=
  residual (fun n => X (ix3 b p n))
    (mixed (fun n => P (ix3 b p ⟨9216 + n.val, by omega⟩)) (fun n => P (ix3 b p ⟨10240 + n.val, by omega⟩)) (fun n => P (ix3 b p ⟨11264 + n.val, by omega⟩))
      (fun n => Ya (ix3 b p n)) (fun n => Yb (ix3 b p n)) (fun n => Yc (ix3 b p n))
      (fun j k => Wa (ix2 j k)) (fun j k => Wb (ix2 j k)) (fun j k => Wc (ix2 j k)))
    (fun k n => Wo (ix2 k n))

variable (m : (ℓ : Loc nD τ sig) → Buf (Elt Ideal) ℓ) (c : Dev nD)

/-! The buffers that the call reads, after the host lines: reshapes of the arguments. -/

/-- The tokens the call is given are the argument, flattened. -/
theorem x_apply (r : Fin 32768) (n : Fin 1024) :
    V m c main_v3 (ix2 r n) = m ((c : Thread nD τ).loc main_arg0) (ix3 (bat r) (pos r) n) := by
  show StableHlo.after hostOps0_4 (StableHlo.after hostOps0_3 (StableHlo.after hostOps0_2 (StableHlo.after hostOps0_1
    (StableHlo.after hostOps0 (fun b => m (c, b)))))) (Proc.devRef .tc main_v3) (ix2 r n) = _
  entry_read
  pointwise
  rfl
/-- The first branch's rows the call is given are the argument, flattened. -/
theorem ya_apply (r : Fin 32768) (n : Fin 1024) :
    V m c main_v4 (ix2 r n) = m ((c : Thread nD τ).loc main_arg1) (ix3 (bat r) (pos r) n) := by
  show StableHlo.after hostOps0_4 (StableHlo.after hostOps0_3 (StableHlo.after hostOps0_2 (StableHlo.after hostOps0_1
    (StableHlo.after hostOps0 (fun b => m (c, b)))))) (Proc.devRef .tc main_v4) (ix2 r n) = _
  entry_read
  pointwise
  rfl
/-- The second branch's rows the call is given are the argument, flattened. -/
theorem yb_apply (r : Fin 32768) (n : Fin 2048) :
    V m c main_v5 (ix2 r n) = m ((c : Thread nD τ).loc main_arg2) (ix3 (bat r) (pos r) n) := by
  show StableHlo.after hostOps0_4 (StableHlo.after hostOps0_3 (StableHlo.after hostOps0_2 (StableHlo.after hostOps0_1
    (StableHlo.after hostOps0 (fun b => m (c, b)))))) (Proc.devRef .tc main_v5) (ix2 r n) = _
  entry_read
  pointwise
  rfl
/-- The third branch's rows the call is given are the argument, flattened. -/
theorem yc_apply (r : Fin 32768) (n : Fin 1024) :
    V m c main_v6 (ix2 r n) = m ((c : Thread nD τ).loc main_arg3) (ix3 (bat r) (pos r) n) := by
  show StableHlo.after hostOps0_4 (StableHlo.after hostOps0_3 (StableHlo.after hostOps0_2 (StableHlo.after hostOps0_1
    (StableHlo.after hostOps0 (fun b => m (c, b)))))) (Proc.devRef .tc main_v6) (ix2 r n) = _
  entry_read
  pointwise
  rfl
/-- The projected rows the call is given are the argument, flattened. -/
theorem p_apply (r : Fin 32768) (n : Fin 12288) :
    V m c main_v7 (ix2 r n) = m ((c : Thread nD τ).loc main_arg4) (ix3 (bat r) (pos r) n) := by
  show StableHlo.after hostOps0_4 (StableHlo.after hostOps0_3 (StableHlo.after hostOps0_2 (StableHlo.after hostOps0_1
    (StableHlo.after hostOps0 (fun b => m (c, b)))))) (Proc.devRef .tc main_v7) (ix2 r n) = _
  entry_read
  pointwise
  rfl
/-- The first branch's weights the call is given are the argument. -/
theorem wa_apply (k : Fin 1024) (n : Fin 1024) :
    V m c main_v8 (ix2 k n) = m ((c : Thread nD τ).loc main_arg5) (ix2 k n) := by
  show StableHlo.after hostOps0_4 (StableHlo.after hostOps0_3 (StableHlo.after hostOps0_2 (StableHlo.after hostOps0_1
    (StableHlo.after hostOps0 (fun b => m (c, b)))))) (Proc.devRef .tc main_v8) (ix2 k n) = _
  entry_read
  pointwise
/-- The second branch's weights the call is given are the argument. -/
theorem wb_apply (k : Fin 2048) (n : Fin 1024) :
    V m c main_v9 (ix2 k n) = m ((c : Thread nD τ).loc main_arg6) (ix2 k n) := by
  show StableHlo.after hostOps0_4 (StableHlo.after hostOps0_3 (StableHlo.after hostOps0_2 (StableHlo.after hostOps0_1
    (StableHlo.after hostOps0 (fun b => m (c, b)))))) (Proc.devRef .tc main_v9) (ix2 k n) = _
  entry_read
  pointwise
/-- The third branch's weights the call is given are the argument. -/
theorem wc_apply (k : Fin 1024) (n : Fin 1024) :
    V m c main_v10 (ix2 k n) = m ((c : Thread nD τ).loc main_arg7) (ix2 k n) := by
  show StableHlo.after hostOps0_4 (StableHlo.after hostOps0_3 (StableHlo.after hostOps0_2 (StableHlo.after hostOps0_1
    (StableHlo.after hostOps0 (fun b => m (c, b)))))) (Proc.devRef .tc main_v10) (ix2 k n) = _
  entry_read
  pointwise
/-- The output weights the call is given are the argument. -/
theorem wo_apply (k : Fin 1024) (n : Fin 1024) :
    V m c main_v11 (ix2 k n) = m ((c : Thread nD τ).loc main_arg8) (ix2 k n) := by
  show StableHlo.after hostOps0_4 (StableHlo.after hostOps0_3 (StableHlo.after hostOps0_2 (StableHlo.after hostOps0_1
    (StableHlo.after hostOps0 (fun b => m (c, b)))))) (Proc.devRef .tc main_v11) (ix2 k n) = _
  entry_read
  pointwise
/-- The gain the call is given is the argument. -/
theorem g_apply (z : Fin 1) (n : Fin 1024) :
    V m c main_v12 (ix2 z n) = m ((c : Thread nD τ).loc main_arg9) (ix1 n) := by
  show StableHlo.after hostOps0_4 (StableHlo.after hostOps0_3 (StableHlo.after hostOps0_2 (StableHlo.after hostOps0_1
    (StableHlo.after hostOps0 (fun b => m (c, b)))))) (Proc.devRef .tc main_v12) (ix2 z n) = _
  entry_read
  pointwise

/-- The blocks, as functions of the grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 9] ∧ win0_5.index t = ![t.val, 10] ∧ win0_6.index t = ![t.val, 11] ∧ win0_7.index t = ![0, 0] ∧ win0_8.index t = ![0, 0]
    ∧ win0_9.index t = ![0, 0] ∧ win0_10.index t = ![0, 0] ∧ win0_11.index t = ![0, 0] ∧ win0_15.index t = ![t.val, 0] ∧ win0_16.index t = ![t.val, 0] ∧ t.val < 64 :=
  (by decide +kernel : ∀ t : Fin grid0.N, _)

/-- Token `r` of step `t`'s block. -/
def tok (t : Fin cfg0.N) (ht : t.val < 64) (r : Fin 512) : Fin 32768 := ⟨t.val * 512 + r.val, by omega⟩

section
variable (t : Fin cfg0.N) (ht : t.val < 64)
include ht

/-! The blocks of step `t`, from the arguments. -/

/-- The block of the tokens, entry by entry. -/
theorem b0 (r : Fin 512) (n : Fin 1024) :
    iblk m c 0 t (ix2 r n) = m ((c : Thread nD τ).loc main_arg0) (ix3 (bat (tok t ht r)) (pos (tok t ht r)) n) := by
  rw [← x_apply m c]; unfold tok; blk_ext [iblk, idx t]
/-- The block of the first branch, entry by entry. -/
theorem b1 (r : Fin 512) (n : Fin 1024) :
    iblk m c 1 t (ix2 r n) = m ((c : Thread nD τ).loc main_arg1) (ix3 (bat (tok t ht r)) (pos (tok t ht r)) n) := by
  rw [← ya_apply m c]; unfold tok; blk_ext [iblk, idx t]
/-- The block of the second branch, entry by entry. -/
theorem b2 (r : Fin 512) (n : Fin 2048) :
    iblk m c 2 t (ix2 r n) = m ((c : Thread nD τ).loc main_arg2) (ix3 (bat (tok t ht r)) (pos (tok t ht r)) n) := by
  rw [← yb_apply m c]; unfold tok; blk_ext [iblk, idx t]
/-- The block of the third branch, entry by entry. -/
theorem b3 (r : Fin 512) (n : Fin 1024) :
    iblk m c 3 t (ix2 r n) = m ((c : Thread nD τ).loc main_arg3) (ix3 (bat (tok t ht r)) (pos (tok t ht r)) n) := by
  rw [← yc_apply m c]; unfold tok; blk_ext [iblk, idx t]
/-- The block of the first gates, entry by entry. -/
theorem b4 (r : Fin 512) (n : Fin 1024) :
    iblk m c 4 t (ix2 r n) = m ((c : Thread nD τ).loc main_arg4) (ix3 (bat (tok t ht r)) (pos (tok t ht r)) ⟨9216 + n.val, by omega⟩) := by
  rw [← p_apply m c]; unfold tok; blk_ext [iblk, idx t]
/-- The block of the second gates, entry by entry. -/
theorem b5 (r : Fin 512) (n : Fin 1024) :
    iblk m c 5 t (ix2 r n) = m ((c : Thread nD τ).loc main_arg4) (ix3 (bat (tok t ht r)) (pos (tok t ht r)) ⟨10240 + n.val, by omega⟩) := by
  rw [← p_apply m c]; unfold tok; blk_ext [iblk, idx t]
/-- The block of the third gates, entry by entry. -/
theorem b6 (r : Fin 512) (n : Fin 1024) :
    iblk m c 6 t (ix2 r n) = m ((c : Thread nD τ).loc main_arg4) (ix3 (bat (tok t ht r)) (pos (tok t ht r)) ⟨11264 + n.val, by omega⟩) := by
  rw [← p_apply m c]; unfold tok; blk_ext [iblk, idx t]
/-- The block of the first branch's weights, entry by entry. -/
theorem b7 (k : Fin 1024) (n : Fin 1024) : iblk m c 7 t (ix2 k n) = m ((c : Thread nD τ).loc main_arg5) (ix2 k n) := by
  rw [← wa_apply m c]; blk_ext [iblk, idx t]
/-- The block of the second branch's weights, entry by entry. -/
theorem b8 (k : Fin 2048) (n : Fin 1024) : iblk m c 8 t (ix2 k n) = m ((c : Thread nD τ).loc main_arg6) (ix2 k n) := by
  rw [← wb_apply m c]; blk_ext [iblk, idx t]
/-- The block of the third branch's weights, entry by entry. -/
theorem b9 (k : Fin 1024) (n : Fin 1024) : iblk m c 9 t (ix2 k n) = m ((c : Thread nD τ).loc main_arg7) (ix2 k n) := by
  rw [← wc_apply m c]; blk_ext [iblk, idx t]
/-- The block of the output weights, entry by entry. -/
theorem b10 (k : Fin 1024) (n : Fin 1024) : iblk m c 10 t (ix2 k n) = m ((c : Thread nD τ).loc main_arg8) (ix2 k n) := by
  rw [← wo_apply m c]; blk_ext [iblk, idx t]

end

/-- The residual row of a step's blocks is the arguments'. -/
theorem row_point (t : Fin cfg0.N) (ht : t.val < 64) (r : Fin 512) :
    Block.row (iblk m c 0 t) (iblk m c 1 t) (iblk m c 2 t) (iblk m c 3 t) (iblk m c 4 t) (iblk m c 5 t) (iblk m c 6 t) (iblk m c 7 t)
        (iblk m c 8 t) (iblk m c 9 t) (iblk m c 10 t) r
      = rowAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (bat (tok t ht r)) (pos (tok t ht r)) := by
  unfold Block.row rowAt
  simp only [b0 m c t ht, b1 m c t ht, b2 m c t ht, b3 m c t ht, b4 m c t ht, b5 m c t ht, b6 m c t ht, b7 m c t ht, b8 m c t ht, b9 m c t ht, b10 m c t ht]

/-- The block of the gain is the argument. -/
theorem gain_point (t : Fin cfg0.N) : (fun n => iblk m c 11 t (ix2 0 n)) = fun n => m ((c : Thread nD τ).loc main_arg9) (ix1 n) := by
  funext n
  rw [← g_apply m c 0 n]
  blk_ext [iblk, idx t]

/-- The first result: every token's residual row. -/
theorem final_x1 :
    (dats m 0 c).arrAt 15 cfg0.N = fun i : S32768x1024.Idx =>
      rowAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (bat (i 0)) (pos (i 0)) (i 1) := by
  refine (dats m 0 c).arrAt_eq_of_covers 15 _ (by decide +kernel) fun t _ y => ?_
  blk_simp
  rw [after0_15]
  have ht := (idx t).2.2.2.2.2.2.2.2.2.2.2.2.2.2
  have hy : (y 0).val < 512 := (y 0).isLt
  refine (Block.out_x1 _ _ _ _ _ _ _ _ _ _ _ _ _ _ _ y).trans ((congrFun (row_point m c t ht (y 0)) (y 1)).trans ?_)
  have e0 : (win0_15.blk t).view.emb y 0 = tok t ht (y 0) := Fin.ext (by unfold tok; blk_simp [idx t] <;> (try omega))
  have e1 : (win0_15.blk t).view.emb y 1 = y 1 := Fin.ext (by blk_simp [idx t] <;> (try omega))
  exact congrArg₂ (fun i n => rowAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (bat i) (pos i) n) e0.symm e1.symm

/-- The second result: every token's residual row, normed. -/
theorem final_h2 :
    (dats m 0 c).arrAt 16 cfg0.N = fun i : S32768x1024.Idx =>
      normed (rowAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (bat (i 0)) (pos (i 0)))
        (fun n => m ((c : Thread nD τ).loc main_arg9) (ix1 n)) (i 1) := by
  refine (dats m 0 c).arrAt_eq_of_covers 16 _ (by decide +kernel) fun t _ y => ?_
  blk_simp
  rw [after0_16]
  have ht := (idx t).2.2.2.2.2.2.2.2.2.2.2.2.2.2
  have hy : (y 0).val < 512 := (y 0).isLt
  refine (Block.out_h2 _ _ _ _ _ _ _ _ _ _ _ _ _ _ _ y).trans ((congrArg₂ (fun v g => normed v g (y 1)) (row_point m c t ht (y 0)) (gain_point m c t)).trans ?_)
  have e0 : (win0_16.blk t).view.emb y 0 = tok t ht (y 0) := Fin.ext (by unfold tok; blk_simp [idx t] <;> (try omega))
  have e1 : (win0_16.blk t).view.emb y 1 = y 1 := Fin.ext (by blk_simp [idx t] <;> (try omega))
  exact congrArg₂ (fun i n => normed (rowAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (bat i) (pos i))
        (fun n => m ((c : Thread nD τ).loc main_arg9) (ix1 n)) n) e0.symm e1.symm

end Array

end Cert.MergeOut
-- ==== Proof.MergeRef.lean ====
module

public import proofs.«01_k».proof.Proof.MergeArray
public import proofs.«01_k».proof.Proof.Gen.MergeRefIdeal.Read

/-! The gated merge: the reference's two results, from the arguments. -/

@[expose] public section

set_option maxRecDepth 16384

noncomputable section

open Idealize.ShloMosaic Idealize.ShloMosaic.TcCoe Idealize.SL.Sem

namespace Cert.MergeOut.Ref
open Cert.MergeRefIdeal Cert.MergeRefIdeal.Read

variable (x0 : FVec Ideal S8x4096x1024 .f32) (x1 : FVec Ideal S8x4096x1024 .bf16) (x2 : FVec Ideal S8x4096x2048 .bf16)
  (x3 : FVec Ideal S8x4096x1024 .bf16) (x4 : FVec Ideal S8x4096x12288 .bf16) (x5 : FVec Ideal S1024x1024 .f32) (x6 : FVec Ideal S2048x1024 .f32)
  (x7 x8 : FVec Ideal S1024x1024 .f32) (x9 : FVec Ideal S1024 .f32)
  (b : Fin 8) (p : Fin 4096) (n : Fin 1024)

/-! The three gates are the projection's columns from 9216, 10240 and 11264 on. -/

/-- The three gates of a token are columns of the projected array. -/
theorem gates (g : Fin 3) : val_main_v2 (F := Ideal) x4 (ix4 b p g n) = x4 (ix3 b p ⟨9216 + (g.val * 1024 + n.val), by omega⟩) := by
  unfold val_main_v2 val_main_v1 val_main_v0
  pointwise

/-- The first branch's gate. -/
theorem gate0 : val_main_v4 (F := Ideal) x4 (ix3 b p n) = x4 (ix3 b p ⟨9216 + n.val, by omega⟩) := by
  unfold val_main_v4 val_main_v3
  have h := gates x4 b p n 0
  generalize val_main_v2 (F := Ideal) x4 = y at h ⊢
  pointwise
  refine Eq.trans ?_ (h.trans ?_)
  · rfl
  · exact congrArg (fun k => x4 (ix3 b p k)) (Fin.ext (by simp only [Fin.val_zero]; omega))
/-- The second branch's gate. -/
theorem gate1 : val_main_v9 (F := Ideal) x4 (ix3 b p n) = x4 (ix3 b p ⟨10240 + n.val, by omega⟩) := by
  unfold val_main_v9 val_main_v8
  have h := gates x4 b p n 1
  generalize val_main_v2 (F := Ideal) x4 = y at h ⊢
  pointwise
  refine Eq.trans ?_ (h.trans ?_)
  · rfl
  · exact congrArg (fun k => x4 (ix3 b p k)) (Fin.ext (by simp only [Fin.val_one]; omega))
/-- The third branch's gate. -/
theorem gate2 : val_main_v15 (F := Ideal) x4 (ix3 b p n) = x4 (ix3 b p ⟨11264 + n.val, by omega⟩) := by
  unfold val_main_v15 val_main_v14
  have h := gates x4 b p n 2
  generalize val_main_v2 (F := Ideal) x4 = y at h ⊢
  pointwise
  refine Eq.trans ?_ (h.trans ?_)
  · rfl
  · exact congrArg (fun k => x4 (ix3 b p k)) (Fin.ext (by simp only [Fin.val_two]; omega))

/-- The merged branches. -/
theorem merged : val_main_v19 (F := Ideal) x1 x2 x3 x4 x5 x6 x7 (ix3 b p n)
      = mixed (fun n => x4 (ix3 b p ⟨9216 + n.val, by omega⟩)) (fun n => x4 (ix3 b p ⟨10240 + n.val, by omega⟩)) (fun n => x4 (ix3 b p ⟨11264 + n.val, by omega⟩))
          (fun n => x1 (ix3 b p n)) (fun n => x2 (ix3 b p n)) (fun n => x3 (ix3 b p n))
          (fun j k => x5 (ix2 j k)) (fun j k => x6 (ix2 j k)) (fun j k => x7 (ix2 j k)) n := by
  unfold val_main_v19 val_main_v18 val_main_v13 val_main_v12 val_main_v7 val_main_v17 val_main_v11 val_main_v6 val_main_v16 val_main_v10 val_main_v5 mixed
  have h0 := gate0 x4 b p n
  have h1 := gate1 x4 b p n
  have h2 := gate2 x4 b p n
  generalize val_main_v4 (F := Ideal) x4 = y0 at h0 ⊢
  generalize val_main_v9 (F := Ideal) x4 = y1 at h1 ⊢
  generalize val_main_v15 (F := Ideal) x4 = y2 at h2 ⊢
  pointwise
  rw [h0, h1, h2]

/-- The residual row. -/
theorem x1_apply : val_main_v21 (F := Ideal) x0 x1 x2 x3 x4 x5 x6 x7 x8 (ix3 b p n) = Array.rowAt x0 x1 x2 x3 x4 x5 x6 x7 x8 b p n := by
  unfold val_main_v21 val_main_v20 Array.rowAt residual
  have h := fun k => merged x1 x2 x3 x4 x5 x6 x7 b p k
  generalize val_main_v19 (F := Ideal) x1 x2 x3 x4 x5 x6 x7 = y at h ⊢
  pointwise
  simp only [h]

/-- The normed residual row. -/
theorem h2_apply : val_main_v34 (F := Ideal) x0 x1 x2 x3 x4 x5 x6 x7 x8 x9 (ix3 b p n)
    = normed (Array.rowAt x0 x1 x2 x3 x4 x5 x6 x7 x8 b p) (fun n => x9 (ix1 n)) n := by
  have h := fun k => x1_apply x0 x1 x2 x3 x4 x5 x6 x7 x8 b p k
  rw [val_main_v34_apply, val_main_v31_apply, val_main_v30_apply, val_main_v29_apply, val_main_v28_apply, val_main_v27_apply, val_main_v26_apply,
    val_main_v25_apply, val_main_v24_apply, val_main_v23_apply, val_main_v33_apply, val_main_v32_apply]
  simp only [val_main_v22_apply]
  generalize val_main_v21 (F := Ideal) x0 x1 x2 x3 x4 x5 x6 x7 x8 = y at h ⊢
  unfold val_main_cst val_main_cst_0 val_main_cst_1
  have e : ∀ k, idx_main_v23 (idx_main_v24 (idx_main_v30 (ix3 b p n))) k = ix3 b p k := fun k => funext fun d => by fin_cases d <;> rfl
  have e' : idx_main_v32 (idx_main_v33 (ix3 b p n)) = ix1 n := funext fun d => by fin_cases d; rfl
  simp only [e, e', h]
  unfold normed
  generalize Array.rowAt x0 x1 x2 x3 x4 x5 x6 x7 x8 b p = v
  pointwise

/-- The reference's rows after the residual. -/
theorem out_x1 (r : Fin 32768) : val_main_v35 (F := Ideal) x0 x1 x2 x3 x4 x5 x6 x7 x8 (ix2 r n) = Array.rowAt x0 x1 x2 x3 x4 x5 x6 x7 x8 (bat r) (pos r) n := by
  refine Eq.trans ?_ (x1_apply x0 x1 x2 x3 x4 x5 x6 x7 x8 (bat r) (pos r) n)
  unfold val_main_v35
  generalize val_main_v21 (F := Ideal) x0 x1 x2 x3 x4 x5 x6 x7 x8 = y
  pointwise
  rfl

/-- The reference's normed rows. -/
theorem out_h2 (r : Fin 32768) : val_main_v37 (F := Ideal) x0 x1 x2 x3 x4 x5 x6 x7 x8 x9 (ix2 r n)
    = normed (Array.rowAt x0 x1 x2 x3 x4 x5 x6 x7 x8 (bat r) (pos r)) (fun n => x9 (ix1 n)) n := by
  refine Eq.trans ?_ (h2_apply x0 x1 x2 x3 x4 x5 x6 x7 x8 x9 (bat r) (pos r) n)
  unfold val_main_v37 val_main_v36
  generalize val_main_v34 (F := Ideal) x0 x1 x2 x3 x4 x5 x6 x7 x8 x9 = y
  pointwise
  rfl

end Cert.MergeOut.Ref
-- ==== Proof.MergeClaims.lean ====
module

public import proofs.«01_k».proof.Defs
public import proofs.«01_k».proof.Proof.MergeRef
public import proofs.«01_k».proof.Proof.Gen.Merge.Frame
public import proofs.«01_k».proof.Proof.Gen.MergeRefIdeal.Run
public import Idealize.ShloMosaic.Lib.Quiescent

/-! The claims about the gated merge. -/

@[expose] public section

set_option maxRecDepth 16384

noncomputable section

open Idealize.ShloMosaic Idealize.ShloMosaic.TcCoe Idealize.SL.Sem

namespace Cert.MergeOut.Claims

/-- The kernel's program ends with its arguments unchanged and every counter at zero, at the printed formats. -/
theorem frame : Cert.quiescent_Merge := fun m ρ _ => Cert.Merge.Gen.frame m ρ
/-- The same of its idealization. -/
theorem frame_ideal : Cert.quiescent_MergeIdeal := fun m ρ _ => Cert.MergeIdeal.Gen.frame m ρ
/-- The reference ends with its arguments unchanged and every counter at zero. -/
theorem frame_ref : Cert.quiescent_MergeRefIdeal := fun m ρ _ =>
  (θ_run _ _ _).mono (fun r h => ⟨fun c => (h c).2.2, Idealize.ShloMosaic.sem_eq_zero_of_no_sems (by decide) r.2⟩)
    (Cert.MergeRefIdeal.Value.run m ρ)
/-- The idealization of the merge replaces no constant. -/
theorem preserves : Cert.preserves_Merge_MergeIdeal := trivial

variable (m : (ℓ : Loc Cert.MergeIdeal.nD Cert.MergeIdeal.τ Cert.MergeIdeal.sig) → Buf (Elt Ideal) ℓ) (c : Dev Cert.MergeIdeal.nD)

/-- The first result array of the kernel's run is the reference's over the same arguments. -/
theorem x1_eq : (Cert.MergeIdeal.Gen.dats m 0 c).arrAt 15 Cert.MergeIdeal.cfg0.N
      = Cert.MergeRefIdeal.Read.val_main_v35 (F := Ideal)
          (m ((c.tc : Thread Cert.MergeIdeal.nD Cert.MergeIdeal.τ).loc Cert.MergeIdeal.main_arg0))
          (m ((c.tc : Thread Cert.MergeIdeal.nD Cert.MergeIdeal.τ).loc Cert.MergeIdeal.main_arg1))
          (m ((c.tc : Thread Cert.MergeIdeal.nD Cert.MergeIdeal.τ).loc Cert.MergeIdeal.main_arg2))
          (m ((c.tc : Thread Cert.MergeIdeal.nD Cert.MergeIdeal.τ).loc Cert.MergeIdeal.main_arg3))
          (m ((c.tc : Thread Cert.MergeIdeal.nD Cert.MergeIdeal.τ).loc Cert.MergeIdeal.main_arg4))
          (m ((c.tc : Thread Cert.MergeIdeal.nD Cert.MergeIdeal.τ).loc Cert.MergeIdeal.main_arg5))
          (m ((c.tc : Thread Cert.MergeIdeal.nD Cert.MergeIdeal.τ).loc Cert.MergeIdeal.main_arg6))
          (m ((c.tc : Thread Cert.MergeIdeal.nD Cert.MergeIdeal.τ).loc Cert.MergeIdeal.main_arg7))
          (m ((c.tc : Thread Cert.MergeIdeal.nD Cert.MergeIdeal.τ).loc Cert.MergeIdeal.main_arg8)) := by
  rw [Array.final_x1]
  funext i
  refine (Ref.out_x1 _ _ _ _ _ _ _ _ _ (i 1) (i 0)).symm.trans ?_
  exact congrArg _ (funext fun d => by fin_cases d <;> rfl)

/-- The second result array of the kernel's run is the reference's over the same arguments. -/
theorem h2_eq : (Cert.MergeIdeal.Gen.dats m 0 c).arrAt 16 Cert.MergeIdeal.cfg0.N
      = Cert.MergeRefIdeal.Read.val_main_v37 (F := Ideal)
          (m ((c.tc : Thread Cert.MergeIdeal.nD Cert.MergeIdeal.τ).loc Cert.MergeIdeal.main_arg0))
          (m ((c.tc : Thread Cert.MergeIdeal.nD Cert.MergeIdeal.τ).loc Cert.MergeIdeal.main_arg1))
          (m ((c.tc : Thread Cert.MergeIdeal.nD Cert.MergeIdeal.τ).loc Cert.MergeIdeal.main_arg2))
          (m ((c.tc : Thread Cert.MergeIdeal.nD Cert.MergeIdeal.τ).loc Cert.MergeIdeal.main_arg3))
          (m ((c.tc : Thread Cert.MergeIdeal.nD Cert.MergeIdeal.τ).loc Cert.MergeIdeal.main_arg4))
          (m ((c.tc : Thread Cert.MergeIdeal.nD Cert.MergeIdeal.τ).loc Cert.MergeIdeal.main_arg5))
          (m ((c.tc : Thread Cert.MergeIdeal.nD Cert.MergeIdeal.τ).loc Cert.MergeIdeal.main_arg6))
          (m ((c.tc : Thread Cert.MergeIdeal.nD Cert.MergeIdeal.τ).loc Cert.MergeIdeal.main_arg7))
          (m ((c.tc : Thread Cert.MergeIdeal.nD Cert.MergeIdeal.τ).loc Cert.MergeIdeal.main_arg8))
          (m ((c.tc : Thread Cert.MergeIdeal.nD Cert.MergeIdeal.τ).loc Cert.MergeIdeal.main_arg9)) := by
  rw [Array.final_h2]
  funext i
  refine (Ref.out_h2 _ _ _ _ _ _ _ _ _ _ (i 1) (i 0)).symm.trans ?_
  exact congrArg _ (funext fun d => by fin_cases d <;> rfl)

/-- The kernel's results are the reference's. -/
theorem algebraic : Cert.algebraic_MergeIdeal_MergeRefIdeal := by
  intro m g m' g' hpre hagree
  refine ⟨fun c => (Cert.MergeIdeal.Gen.dats m 0 c).arrAt 15 Cert.MergeIdeal.cfg0.N, fun c => (Cert.MergeIdeal.Gen.dats m 0 c).arrAt 16 Cert.MergeIdeal.cfg0.N,
    (θ_run _ _ _).mono (fun r h c => ⟨(h.2 c).1 15, (h.2 c).1 16, h.1 c⟩)
      (θ_run_and (Cert.MergeIdeal.Gen.unchanged m g) (Cert.MergeIdeal.Gen.run_main m g)),
    (θ_run _ _ _).mono (fun r h c => ⟨?_, ?_, (h c).2.2⟩) (Cert.MergeRefIdeal.Value.run m' g')⟩
  · refine (h c).1.trans ((Cert.MergeRefIdeal.Read.val_main_v35_eq _ _ _ _ _ _ _ _ _).trans ?_)
    obtain ⟨a0, a1, a2, a3, a4, a5, a6, a7, a8, _⟩ := hagree c
    rw [a0, a1, a2, a3, a4, a5, a6, a7, a8]
    exact (x1_eq m c).symm
  · refine (h c).2.1.trans ((Cert.MergeRefIdeal.Read.val_main_v37_eq m' c).trans ?_)
    obtain ⟨a0, a1, a2, a3, a4, a5, a6, a7, a8, a9, _⟩ := hagree c
    rw [a0, a1, a2, a3, a4, a5, a6, a7, a8, a9]
    exact (h2_eq m c).symm

end Cert.MergeOut.Claims
-- ==== Proof.ProjRun.lean ====
module

public import proofs.«01_k».proof.Proof.Gen.ProjIdeal.Frame
public import proofs.«01_k».proof.Proof.Gen.ProjIdeal.Skeleton

/-! The input projection: one step of the kernel run, in each of the four kinds of step of a row of blocks. -/

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole block of rows. -/
abbrev rRows : Rect S1024x1024 := Rect.unit (s := S1024x1024) ![0, 0] S1024x1024.size inb_S1024x1024_S1024x1024_0_0
/-- The whole row of the norm's gain. -/
abbrev rNorm : Rect S1x1024 := Rect.unit (s := S1x1024) ![0, 0] S1x1024.size inb_S1x1024_S1x1024_0_0
/-- A whole block of a weight's columns. -/
abbrev rCols : Rect S1024x2048 := Rect.unit (s := S1024x2048) ![0, 0] S1024x2048.size inb_S1024x2048_S1024x2048_0_0
/-- The whole weight of the steps of dt, and the whole block of its result. -/
abbrev rDt : Rect S1024x128 := Rect.unit (s := S1024x128) ![0, 0] S1024x128.size inb_S1024x128_S1024x128_0_0
/-- The left half of a block of columns. -/
abbrev rLeft : Rect S1024x2048 := Rect.unit (s := S1024x2048) ![0, 0] S1024x1024.size inb_S1024x2048_S1024x1024_0_0
/-- The right half of a block of columns. -/
abbrev rRight : Rect S1024x2048 := Rect.unit (s := S1024x2048) ![0, 1024] S1024x1024.size inb_S1024x2048_S1024x1024_0_1024
/-- The gains of the attention's queries. -/
abbrev rGainQ : Rect S8x1024 := Rect.unit (s := S8x1024) ![0, 0] S1x1024.size inb_S8x1024_S1x1024_0_0
/-- The gains of the attention's keys. -/
abbrev rGainK : Rect S8x1024 := Rect.unit (s := S8x1024) ![1, 0] S1x1024.size inb_S8x1024_S1x1024_1_0
/-- The gains of the memory's queries. -/
abbrev rGainX : Rect S8x1024 := Rect.unit (s := S8x1024) ![2, 0] S1x1024.size inb_S8x1024_S1x1024_2_0

/-- The two halves of a block of columns, written one after the other. -/
abbrev halves (left right : Vec F S1024x1024 .bf16) : List (View.Piece (Elt F) S1024x2048 .bf16) := [⟨rRight, right⟩, ⟨rLeft, left⟩]

/-- The halves cover the block. -/
theorem halves_cover (left right : Vec F S1024x1024 .bf16) (y : S1024x2048.Idx) : ∃ p ∈ halves left right, y ∈ p.1.set :=
  View.cover_of_tiledL (halves left right) S1024x1024.size (by sl_kernel_rfl) y

/-- The normalized rows that the first step of a row of blocks keeps. -/
def rows (x : Vec F S1024x1024 .f32) (w : Vec F S1x1024 .f32) : Vec F S1024x1024 .bf16 :=
  View.canon [⟨rRows, k0_pay2 (View.ld x rRows) (View.ld w rNorm)⟩]

/-- One write of the rows covers them. -/
theorem rows_cover (v : Vec F S1024x1024 .bf16) (y : S1024x1024.Idx) :
    ∃ p ∈ ([⟨rRows, v⟩] : List (View.Piece (Elt F) S1024x1024 .bf16)), y ∈ p.1.set :=
  View.cover_of_tiledL [⟨rRows, v⟩] S1024x1024.size (by sl_kernel_rfl) y

/-- The steps of dt, computed by the first step of a row of blocks. -/
def steps (x : Vec F S1024x1024 .f32) (w : Vec F S1x1024 .f32) (wdt : Vec F S1024x128 .bf16) : Vec F S1024x128 .f32 :=
  View.canon [⟨rDt, k0_pay3 (View.ld x rRows) (View.ld w rNorm) (View.ld wdt rDt)⟩]

/-- One write of the steps covers them. -/
theorem steps_cover (v : Vec F S1024x128 .f32) (y : S1024x128.Idx) :
    ∃ p ∈ ([⟨rDt, v⟩] : List (View.Piece (Elt F) S1024x128 .f32)), y ∈ p.1.set :=
  View.cover_of_tiledL [⟨rDt, v⟩] S1024x128.size (by sl_kernel_rfl) y

/-- The attention's queries: eight pairs of heads of the product `h · w`, each head over its root mean square, times the gains. -/
def queries (h : Vec F S1024x1024 .bf16) (w : Vec F S1024x2048 .bf16) (g : Vec F S1x1024 .f32) : Vec F S1024x1024 .bf16 :=
  let a := k0_pay14 h w
  let b := k0_pay15 g
  let lo : IVec S1x128 1 := k0_pay16
  k0_pay44 (k0_pay19 (k0_pay17 h w) (k0_pay18 g)) (k0_pay20 a b lo)
    (k0_pay25 b lo (k0_pay21 a) (k0_pay23 a lo) (k0_pay24 a lo))
    (k0_pay31 b (k0_pay26 a) (k0_pay28 a lo) (k0_pay29 a lo) (k0_pay30 lo))
    (k0_pay32 a b lo) (k0_pay36 b lo (k0_pay33 a) (k0_pay34 a) (k0_pay35 a lo))
    (k0_pay41 b lo (k0_pay37 a) (k0_pay39 a lo) (k0_pay40 a lo)) (k0_pay42 a lo) (k0_pay43 b)

/-- The attention's keys: likewise, of the right half of the product. -/
def keys (h : Vec F S1024x1024 .bf16) (w : Vec F S1024x2048 .bf16) (g : Vec F S1x1024 .f32) : Vec F S1024x1024 .bf16 :=
  let p := k0_pay13 h w
  let a := k0_pay45 p
  let b := k0_pay46 g
  let lo : IVec S1x128 1 := k0_pay47
  k0_pay7 (k0_pay48 p g) (k0_pay49 a b lo)
    (k0_pay54 b lo (k0_pay50 a) (k0_pay52 a lo) (k0_pay53 a lo))
    (k0_pay60 b (k0_pay55 a) (k0_pay57 a lo) (k0_pay58 a lo) (k0_pay59 lo))
    (k0_pay61 a b lo) (k0_pay65 b lo (k0_pay62 a) (k0_pay63 a) (k0_pay64 a lo))
    (k0_pay70 b lo (k0_pay66 a) (k0_pay68 a lo) (k0_pay69 a lo)) (k0_pay71 a lo) (k0_pay72 b)

/-- The left half that the step with the memory's queries writes: four heads, each over its root mean square, times the gains. -/
def memQueries (h : Vec F S1024x1024 .bf16) (w : Vec F S1024x2048 .bf16) (g : Vec F S1x1024 .f32) : Vec F S1024x1024 .bf16 :=
  k0_pay8 (k0_pay74 h w) (k0_pay75 g) (k0_pay76 h w g) (k0_pay77 h w g) (k0_pay78 h w) (k0_pay79 h w)

/-- What the first step of a row of blocks writes into its block of columns. -/
def outHeads (h : Vec F S1024x1024 .bf16) (w : Vec F S1024x2048 .bf16) (g : Vec F S8x1024 .f32) : Vec F S1024x2048 .bf16 :=
  View.canon (halves (queries (View.ld h rRows) (View.ld w rCols) (View.ld g rGainQ))
    (keys (View.ld h rRows) (View.ld w rCols) (View.ld g rGainK)))

/-- What a plain step writes. -/
def outPlain (h : Vec F S1024x1024 .bf16) (w : Vec F S1024x2048 .bf16) : Vec F S1024x2048 .bf16 :=
  View.canon (halves (k0_pay5 (View.ld h rRows) (View.ld w rCols)) (k0_pay6 (View.ld h rRows) (View.ld w rCols)))

/-- What the step with the memory's queries writes. -/
def outMemory (h : Vec F S1024x1024 .bf16) (w : Vec F S1024x2048 .bf16) (g : Vec F S8x1024 .f32) : Vec F S1024x2048 .bf16 :=
  View.canon (halves (memQueries (View.ld h rRows) (View.ld w rCols) (View.ld g rGainX))
    (k0_pay9 (k0_pay73 (View.ld h rRows) (View.ld w rCols))))

/-- What the step of the gates writes. -/
def outGates (h : Vec F S1024x1024 .bf16) (w : Vec F S1024x2048 .bf16) : Vec F S1024x2048 .bf16 :=
  View.canon (halves (k0_pay11 (View.ld h rRows) (View.ld w rCols)) (k0_pay12 (View.ld h rRows) (View.ld w rCols)))

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1024x2048 .bf16) (harg4 : arg4.IsWhole) (arg5 : Memref sig .tc .vmem S1024x2048 .bf16) (harg5 : arg5.IsWhole)
  (arg6 : Memref sig .tc .vmem S1024x128 .bf16) (harg6 : arg6.IsWhole) (arg7 : Memref sig .tc .vmem S8x1024 .f32) (harg7 : arg7.IsWhole)
  (arg8 : Memref sig .tc .vmem S1024x2048 .bf16) (harg8 : arg8.IsWhole) (arg9 : Memref sig .tc .vmem S1024x128 .f32) (harg9 : arg9.IsWhole)
  (arg10 : Memref sig .tc .vmem S1024x1024 .bf16) (harg10 : arg10.IsWhole)
  (x0 : Vec F S1024x1024 .f32) (x1 : Vec F S1x1024 .f32) (x2 x3 : Vec F S1024x2048 .bf16) (x4 : Vec F S1024x128 .bf16) (x5 : Vec F S8x1024 .f32)

/-- The six inputs of a step, held at their contents. -/
def held : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

end Cert.ProjIdeal.Hand

end
-- ==== Proof.ProjBlock.lean ====
module

public import proofs.«01_k».proof.Proof.ProjRun
public import proofs.«01_k».proof.Proof.MergeBlock
public import Idealize.ShloMosaic.Lib.Pipeline.ValueKit
public import Idealize.ShloMosaic.Lib.Pipeline.ReadBack
public import Idealize.ShloMosaic.Lib.Tactic
public import Idealize.ShloMosaic.Lib.Tactic.CleanTypes
public import Idealize.ShloMosaic.Lib.Claim

/-! The input projection: its two results as functions of one token's row, and what one step of the kernel writes. -/

@[expose] public section

set_option maxRecDepth 16384

noncomputable section

open Idealize.ShloMosaic Idealize.ShloMosaic.TcCoe Idealize.SL.Sem

namespace Cert.InProj
open Cert.MergeOut (Row normed)

/-- A row through a matrix. -/
def through {q : ℕ} (h : Row 1024) (w : Fin 1024 → Row q) : Row q := fun n => ∑ k, h k * w k n

/-- The `k`-th lane of the head of 64 lanes that holds `n`. -/
def lane64 (n : Fin 1024) (k : Fin 64) : Fin 1024 := ⟨64 * (n.val / 64) + k.val, by omega⟩
/-- The `k`-th lane of the head of 256 lanes that holds `n`. -/
def lane256 (n : Fin 1024) (k : Fin 256) : Fin 1024 := ⟨256 * (n.val / 256) + k.val, by omega⟩

/-- Heads of 64 lanes, each over its root mean square. -/
def heads64 (a : Row 1024) : Row 1024 := fun n =>
  a n * Ideal.rsqrt (Ideal.div (∑ k, a (lane64 n k) * a (lane64 n k)) (Ideal.ofBits FTy.f32 0x42800000#32) + Ideal.ofBits FTy.f32 0x358637BD#32)
/-- Heads of 256 lanes, each over its root mean square. -/
def heads256 (a : Row 1024) : Row 1024 := fun n =>
  a n * Ideal.rsqrt (Ideal.div (∑ k, a (lane256 n k) * a (lane256 n k)) (Ideal.ofBits FTy.f32 0x43800000#32) + Ideal.ofBits FTy.f32 0x358637BD#32)

namespace Block
open Cert.ProjIdeal Cert.ProjIdeal.Gen Cert.ProjIdeal.Hand

section General
variable {F : FTy → Type} [FloatOps F]

/-- One pair of heads as the kernel computes it: a mask of the left 64 lanes, a sum of squares for each side, the two factors joined by the mask. -/
def pair (blk : FVec F S1024x128 .f32) (g : FVec F S1x128 .f32) : FVec F S1024x128 .f32 :=
  let sq := mulf blk blk
  let lo : IVec S1024x128 1 := broadcastTo S1024x128 (shapeCast S1x128 k0_pay16 shapeCasts_S1x128_S1x128) broadcasts_S1x128_S1024x128
  let zero : FVec F S1024x128 .f32 := broadcast S1024x128 (Scalar.ofBits .f32 0x00000000#32)
  let total (v : FVec F S1024x128 .f32) : FVec F S1024x128 .f32 :=
    broadcastTo S1024x128 (shapeCast S1024x1 (rsqrt (addf (mulf
      (shapeCast S1024x1 (multiReduction .add [1] S1024 v 0x00000000#32 reduces_S1024x128_S1024 (.inl rfl) rfl) shapeCasts_S1024_S1024x1)
      (broadcast S1024x1 (Scalar.ofBits .f32 0x3C800000#32))) (broadcast S1024x1 (Scalar.ofBits .f32 0x358637BD#32)))) shapeCasts_S1024x1_S1024x1)
      broadcasts_S1024x1_S1024x128
  mulf (mulf blk (select lo (total (select lo sq zero)) (total (select lo zero sq)))) (broadcastTo S1024x128 g broadcasts_S1x128_S1024x128)

/-- Eight pairs of heads side by side. -/
def pairs (a : FVec F S1024x1024 .f32) (g : FVec F S1x1024 .f32) : FVec F S1024x1024 .bf16 :=
  truncf .bf16 (concatenate S1024x1024 1
    [⟨S1024x128, pair (extractStridedSlice S1024x128 ![0, 0] a slices_S1024x1024_o0_0_S1024x128) (extractStridedSlice S1x128 ![0, 0] g slices_S1x1024_o0_0_S1x128)⟩,
      ⟨S1024x128, pair (extractStridedSlice S1024x128 ![0, 128] a slices_S1024x1024_o0_128_S1024x128) (extractStridedSlice S1x128 ![0, 128] g slices_S1x1024_o0_128_S1x128)⟩,
      ⟨S1024x128, pair (extractStridedSlice S1024x128 ![0, 256] a slices_S1024x1024_o0_256_S1024x128) (extractStridedSlice S1x128 ![0, 256] g slices_S1x1024_o0_256_S1x128)⟩,
      ⟨S1024x128, pair (extractStridedSlice S1024x128 ![0, 384] a slices_S1024x1024_o0_384_S1024x128) (extractStridedSlice S1x128 ![0, 384] g slices_S1x1024_o0_384_S1x128)⟩,
      ⟨S1024x128, pair (extractStridedSlice S1024x128 ![0, 512] a slices_S1024x1024_o0_512_S1024x128) (extractStridedSlice S1x128 ![0, 512] g slices_S1x1024_o0_512_S1x128)⟩,
      ⟨S1024x128, pair (extractStridedSlice S1024x128 ![0, 640] a slices_S1024x1024_o0_640_S1024x128) (extractStridedSlice S1x128 ![0, 640] g slices_S1x1024_o0_640_S1x128)⟩,
      ⟨S1024x128, pair (extractStridedSlice S1024x128 ![0, 768] a slices_S1024x1024_o0_768_S1024x128) (extractStridedSlice S1x128 ![0, 768] g slices_S1x1024_o0_768_S1x128)⟩,
      ⟨S1024x128, pair (extractStridedSlice S1024x128 ![0, 896] a slices_S1024x1024_o0_896_S1024x128) (extractStridedSlice S1x128 ![0, 896] g slices_S1x1024_o0_896_S1x128)⟩]
    concatenates_S1024x128_S1024x128_S1024x128_S1024x128_S1024x128_S1024x128_S1024x128_S1024x128_S1024x1024_d1) bitsLt_bf16_f32

/-- The attention's queries are eight such pairs. -/
theorem queries_eq (h : Vec F S1024x1024 .bf16) (w : Vec F S1024x2048 .bf16) (g : Vec F S1x1024 .f32) :
    queries h w g = pairs (k0_pay14 h w) (k0_pay15 g) := rfl

/-- The attention's keys are eight such pairs. -/
theorem keys_eq (h : Vec F S1024x1024 .bf16) (w : Vec F S1024x2048 .bf16) (g : Vec F S1x1024 .f32) :
    keys h w g = pairs (k0_pay45 (k0_pay13 h w)) (k0_pay46 g) := rfl

/-- One head of the memory's queries as the kernel computes it. -/
def wide (blk : FVec F S1024x256 .f32) (g : FVec F S1x256 .f32) : FVec F S1024x256 .f32 :=
  mulf (mulf blk (broadcastTo S1024x256 (rsqrt (addf (mulf
      (shapeCast S1024x1 (multiReduction .add [1] S1024 (mulf blk blk) 0x00000000#32 reduces_S1024x256_S1024 (.inl rfl) rfl) shapeCasts_S1024_S1024x1)
      (broadcast S1024x1 (Scalar.ofBits .f32 0x3B800000#32))) (broadcast S1024x1 (Scalar.ofBits .f32 0x358637BD#32)))) broadcasts_S1024x1_S1024x256))
    (broadcastTo S1024x256 g broadcasts_S1x256_S1024x256)

/-- Four such heads side by side. -/
def wides (a : FVec F S1024x1024 .f32) (g : FVec F S1x1024 .f32) : FVec F S1024x1024 .bf16 :=
  truncf .bf16 (concatenate S1024x1024 1
    [⟨S1024x256, wide (extractStridedSlice S1024x256 ![0, 0] a slices_S1024x1024_o0_0_S1024x256) (extractStridedSlice S1x256 ![0, 0] g slices_S1x1024_o0_0_S1x256)⟩,
      ⟨S1024x256, wide (extractStridedSlice S1024x256 ![0, 256] a slices_S1024x1024_o0_256_S1024x256) (extractStridedSlice S1x256 ![0, 256] g slices_S1x1024_o0_256_S1x256)⟩,
      ⟨S1024x256, wide (extractStridedSlice S1024x256 ![0, 512] a slices_S1024x1024_o0_512_S1024x256) (extractStridedSlice S1x256 ![0, 512] g slices_S1x1024_o0_512_S1x256)⟩,
      ⟨S1024x256, wide (extractStridedSlice S1024x256 ![0, 768] a slices_S1024x1024_o0_768_S1024x256) (extractStridedSlice S1x256 ![0, 768] g slices_S1x1024_o0_768_S1x256)⟩]
    concatenates_S1024x256_S1024x256_S1024x256_S1024x256_S1024x1024_d1) bitsLt_bf16_f32

/-- The memory's queries are four such heads. -/
theorem memQueries_eq (h : Vec F S1024x1024 .bf16) (w : Vec F S1024x2048 .bf16) (g : Vec F S1x1024 .f32) :
    memQueries h w g = wides (k0_pay74 h w) (k0_pay75 g) := rfl

end General

/-- The mask of the left 64 lanes. -/
theorem mask_at : ∀ l : Fin 128, IntOp.cmpi CmpIPredicate.slt (BitVec.ofNat 32 l.val) 64#32 = if l.val < 64 then 1#1 else 0#1 := by
  decide +kernel

/-- Summing the left lanes only. -/
theorem sum_left (f : Fin 128 → EReal) :
    (∑ x : Fin 128, Scalar.select (IntOp.cmpi CmpIPredicate.slt (BitVec.ofNat 32 x.val) 64#32) (f x) 0) = ∑ k : Fin 64, f ⟨k.val, by omega⟩ := by
  simp only [mask_at]
  rw [Fin.sum_univ_two_halves 64 64 rfl]
  have e1 : ∀ k : Fin 64, ¬ (64 + k.val < 64) := fun k => by omega
  have e2 : ∀ k : Fin 64, k.val < 64 := fun k => k.isLt
  simp only [e1, e2, if_true, if_false, Scalar.select]
  simp

/-- Summing the right lanes only. -/
theorem sum_right (f : Fin 128 → EReal) :
    (∑ x : Fin 128, Scalar.select (IntOp.cmpi CmpIPredicate.slt (BitVec.ofNat 32 x.val) 64#32) 0 (f x)) = ∑ k : Fin 64, f ⟨64 + k.val, by omega⟩ := by
  simp only [mask_at]
  rw [Fin.sum_univ_two_halves 64 64 rfl]
  have e1 : ∀ k : Fin 64, ¬ (64 + k.val < 64) := fun k => by omega
  have e2 : ∀ k : Fin 64, k.val < 64 := fun k => k.isLt
  simp only [e1, e2, if_true, if_false, Scalar.select]
  simp

/-- A pair of heads, at a row and a lane. -/
theorem pair_at (blk : FVec Ideal S1024x128 .f32) (g : FVec Ideal S1x128 .f32) (r : Fin 1024) (l : Fin 128) :
    pair blk g (ix2 r l) = blk (ix2 r l) * Ideal.rsqrt ((∑ k : Fin 64, blk (ix2 r ⟨64 * (l.val / 64) + k.val, by omega⟩) * blk (ix2 r ⟨64 * (l.val / 64) + k.val, by omega⟩)) * (Ideal.ofBits FTy.f32 0x3C800000#32) + Ideal.ofBits FTy.f32 0x358637BD#32) * g (ix2 0 l) := by
  pointwise [pair, k0_pay16]
  rw [sum_left fun x => blk (ix2 r x) * blk (ix2 r x), sum_right fun x => blk (ix2 r x) * blk (ix2 r x), mask_at]
  have split : l.val < 64 ∧ l.val / 64 = 0 ∨ ¬ l.val < 64 ∧ l.val / 64 = 1 := by omega
  rcases split with ⟨h, e⟩ | ⟨h, e⟩
  · have ek : ∀ k : Fin 64, (⟨64 * (l.val / 64) + k.val, by omega⟩ : Fin 128) = ⟨k.val, by omega⟩ := fun k => Fin.ext (by simp only [e]; omega)
    simp only [ek, if_pos h, Scalar.select]
    rfl
  · have ek : ∀ k : Fin 64, (⟨64 * (l.val / 64) + k.val, by omega⟩ : Fin 128) = ⟨64 + k.val, by omega⟩ := fun k => Fin.ext (by simp only [e])
    simp only [ek, if_neg h, Scalar.select]
    rfl

/-- A slice of columns, at a row and a column. -/
theorem cut_at {α : Type} {R M L : ℕ} (x : (⟨2, ![R, M]⟩ : Shape).Idx → α) (o : ℕ) (h : (⟨2, ![R, M]⟩ : Shape).Slices ![0, o] (⟨2, ![R, L]⟩ : Shape))
    (r : Fin R) (l : Fin L) (n : Fin M) (hn : n.val = o + l.val) :
    extractStridedSlice (⟨2, ![R, L]⟩ : Shape) ![0, o] x h (ix2 r l) = x (ix2 r n) :=
  extractStridedSlice_apply ![0, o] x h (ix2 r l) (ix2 r n) (by intro a; fin_cases a <;> simp [ix2, hn])

/-- Two squares of one lane, read off two names of it. -/
theorem square_congr {f g : EReal} (h : f = g) : f * f = g * g := by rw [h]

/-- A pair cut out of an array, at a row and a column of the array. -/
theorem pair_cut (a : FVec Ideal S1024x1024 .f32) (g : FVec Ideal S1x1024 .f32) (o : ℕ) (ho : o % 128 = 0)
    (ha : S1024x1024.Slices ![0, o] S1024x128) (hg : S1x1024.Slices ![0, o] S1x128) (r : Fin 1024) (l : Fin 128) (n : Fin 1024) (hn : n.val = o + l.val) :
    pair (extractStridedSlice S1024x128 ![0, o] a ha) (extractStridedSlice S1x128 ![0, o] g hg) (ix2 r l)
      = a (ix2 r n) * Ideal.rsqrt ((∑ k : Fin 64, a (ix2 r (lane64 n k)) * a (ix2 r (lane64 n k))) * (Ideal.ofBits FTy.f32 0x3C800000#32) + Ideal.ofBits FTy.f32 0x358637BD#32) * g (ix2 0 n) := by
  rw [pair_at, cut_at a o ha r l n hn, cut_at g o hg 0 l n hn,
    Finset.sum_congr rfl fun k _ => square_congr (cut_at a o ha r ⟨64 * (l.val / 64) + k.val, by omega⟩ (lane64 n k) (by simp only [lane64]; omega))]

/-- The pairs, at a row and a column: the column's head over its root mean square, times the gain. -/
theorem pairs_at (a : FVec Ideal S1024x1024 .f32) (g : FVec Ideal S1x1024 .f32) (r n : Fin 1024) :
    pairs a g (ix2 r n) = a (ix2 r n) * Ideal.rsqrt ((∑ k : Fin 64, a (ix2 r (lane64 n k)) * a (ix2 r (lane64 n k))) * (Ideal.ofBits FTy.f32 0x3C800000#32) + Ideal.ofBits FTy.f32 0x358637BD#32) * g (ix2 0 n) := by
  pointwise [pairs]
  split_ifs <;> exact pair_cut a g _ (by rfl) _ _ r _ n (by simp only []; omega)

/-- A wide head, at a row and a lane. -/
theorem wide_at (blk : FVec Ideal S1024x256 .f32) (g : FVec Ideal S1x256 .f32) (r : Fin 1024) (l : Fin 256) :
    wide blk g (ix2 r l) = blk (ix2 r l) * Ideal.rsqrt ((∑ k : Fin 256, blk (ix2 r k) * blk (ix2 r k)) * (Ideal.ofBits FTy.f32 0x3B800000#32) + Ideal.ofBits FTy.f32 0x358637BD#32) * g (ix2 0 l) := by
  pointwise [wide]
  try rfl

/-- A wide head cut out of an array, at a row and a column of the array. -/
theorem wide_cut (a : FVec Ideal S1024x1024 .f32) (g : FVec Ideal S1x1024 .f32) (o : ℕ) (ho : o % 256 = 0)
    (ha : S1024x1024.Slices ![0, o] S1024x256) (hg : S1x1024.Slices ![0, o] S1x256) (r : Fin 1024) (l : Fin 256) (n : Fin 1024) (hn : n.val = o + l.val) :
    wide (extractStridedSlice S1024x256 ![0, o] a ha) (extractStridedSlice S1x256 ![0, o] g hg) (ix2 r l)
      = a (ix2 r n) * Ideal.rsqrt ((∑ k : Fin 256, a (ix2 r (lane256 n k)) * a (ix2 r (lane256 n k))) * (Ideal.ofBits FTy.f32 0x3B800000#32) + Ideal.ofBits FTy.f32 0x358637BD#32) * g (ix2 0 n) := by
  rw [wide_at, cut_at a o ha r l n hn, cut_at g o hg 0 l n hn,
    Finset.sum_congr rfl fun k _ => square_congr (cut_at a o ha r k (lane256 n k) (by simp only [lane256]; omega))]

/-- The wide heads, at a row and a column: the column's head over its root mean square, times the gain. -/
theorem wides_at (a : FVec Ideal S1024x1024 .f32) (g : FVec Ideal S1x1024 .f32) (r n : Fin 1024) :
    wides a g (ix2 r n) = a (ix2 r n) * Ideal.rsqrt ((∑ k : Fin 256, a (ix2 r (lane256 n k)) * a (ix2 r (lane256 n k))) * (Ideal.ofBits FTy.f32 0x3B800000#32) + Ideal.ofBits FTy.f32 0x358637BD#32) * g (ix2 0 n) := by
  pointwise [wides]
  split_ifs <;> exact wide_cut a g _ (by rfl) _ _ r _ n (by simp only []; omega)

/-- Times a sixty-fourth is over sixty-four. -/
theorem over64 (x : EReal) : x * Ideal.ofBits FTy.f32 0x3C800000#32 = Ideal.div x (Ideal.ofBits FTy.f32 0x42800000#32) := by
  have e1 : Ideal.ofBits FTy.f32 0x3C800000#32 = ((1 / 64 : ℝ) : EReal) := by
    simp [Ideal.ofBits, Ideal.ieee, -EReal.coe_mul]; norm_num
  have e2 : Ideal.ofBits FTy.f32 0x42800000#32 = ((64 : ℝ) : EReal) := by
    simp [Ideal.ofBits, Ideal.ieee, -EReal.coe_mul]; norm_num
  rw [e1, e2, Ideal.div, if_neg (by norm_num), ← EReal.coe_inv]
  norm_num

/-- Times a two hundred and fifty-sixth is over two hundred and fifty-six. -/
theorem over256 (x : EReal) : x * Ideal.ofBits FTy.f32 0x3B800000#32 = Ideal.div x (Ideal.ofBits FTy.f32 0x43800000#32) := by
  have e1 : Ideal.ofBits FTy.f32 0x3B800000#32 = ((1 / 256 : ℝ) : EReal) := by
    simp [Ideal.ofBits, Ideal.ieee, -EReal.coe_mul]; norm_num
  have e2 : Ideal.ofBits FTy.f32 0x43800000#32 = ((256 : ℝ) : EReal) := by
    simp [Ideal.ofBits, Ideal.ieee, -EReal.coe_mul]; norm_num
  rw [e1, e2, Ideal.div, if_neg (by norm_num), ← EReal.coe_inv]
  norm_num

/-- The kernel's gate is the logistic function. -/
theorem gate_eq (x : EReal) :
    Ideal.ofBits FTy.f32 0x3F000000#32 * Ideal.tanh (Ideal.ofBits FTy.f32 0x3F000000#32 * x) + Ideal.ofBits FTy.f32 0x3F000000#32 = Ideal.logistic x := by
  have e1 : Ideal.ofBits FTy.f32 0x3F000000#32 = ((1 / 2 : ℝ) : EReal) := by
    simp [Ideal.ofBits, Ideal.ieee, -EReal.coe_mul]; norm_num
  rw [e1]
  unfold Ideal.logistic
  induction x using EReal.rec with
  | bot =>
    rw [EReal.coe_mul_bot_of_pos (by norm_num), show Ideal.tanh ⊥ = ((-1 : ℝ) : EReal) from rfl, EReal.neg_bot, show Ideal.exp ⊤ = ⊤ from rfl,
      show (1 : EReal) + ⊤ = ⊤ from rfl]
    unfold Ideal.div
    rw [if_neg (by decide), EReal.inv_top, mul_zero, ← EReal.coe_mul, ← EReal.coe_add]
    norm_num
  | top =>
    rw [EReal.coe_mul_top_of_pos (by norm_num), show Ideal.tanh ⊤ = ((1 : ℝ) : EReal) from rfl, EReal.neg_top, show Ideal.exp ⊥ = 0 from rfl, add_zero]
    unfold Ideal.div
    rw [if_neg (by norm_num), show (1 : EReal) = ((1 : ℝ) : EReal) from rfl, ← EReal.coe_inv, ← EReal.coe_mul, ← EReal.coe_mul, ← EReal.coe_add]
    norm_num
  | coe r =>
    have hp : (0 : ℝ) < 1 + Real.exp (-r) := by positivity
    rw [← EReal.coe_mul, ← EReal.coe_neg, show ∀ y : ℝ, Ideal.tanh (y : EReal) = ((Real.tanh y : ℝ) : EReal) from fun _ => rfl,
      show ∀ y : ℝ, Ideal.exp (y : EReal) = ((Real.exp y : ℝ) : EReal) from fun _ => rfl, show (1 : EReal) = ((1 : ℝ) : EReal) from rfl, ← EReal.coe_add]
    unfold Ideal.div
    rw [if_neg (by rw [← EReal.coe_zero, EReal.coe_eq_coe_iff]; exact hp.ne'),
      ← EReal.coe_inv, ← EReal.coe_mul, ← EReal.coe_mul, ← EReal.coe_add, EReal.coe_eq_coe_iff, Real.tanh_eq_sinh_div_cosh, Real.sinh_eq, Real.cosh_eq]
    have ha := Real.exp_pos (1 / 2 * r)
    have e1 : Real.exp (-(1 / 2 * r)) = (Real.exp (1 / 2 * r))⁻¹ := Real.exp_neg _
    have e2 : Real.exp (-r) = (Real.exp (1 / 2 * r))⁻¹ * (Real.exp (1 / 2 * r))⁻¹ := by
      rw [← Real.exp_neg, ← Real.exp_add]; congr 1; ring
    rw [e1, e2]
    generalize Real.exp (1 / 2 * r) = a at ha
    have hq : a ^ 2 + 1 ≠ 0 := by positivity
    have hq' : 1 + a ^ 2 ≠ 0 := by positivity
    field_simp
    ring

/-- The left half of a block written in two halves. -/
theorem halves_left (L R : Vec Ideal S1024x1024 .bf16) (r n : Fin 1024) : View.canon (halves L R) (ix2 r ⟨n.val, by omega⟩) = L (ix2 r n) := by
  refine (View.canon_cons_of_not_mem _ _ ?_).trans ?_
  · intro hm
    have h1 := (((Rect.mem_set_unit (inb := inb_S1024x2048_S1024x1024_0_1024)).mp hm) 1).1
    have h2 : 1024 ≤ n.val := h1
    omega
  · exact (congrArg _ (funext fun d => Fin.ext (by
      fin_cases d
      · exact (show r.val = 0 + 1 * r.val by omega)
      · exact (show n.val = 0 + 1 * n.val by omega)))).trans (View.canon_cons_emb rLeft L [] (ix2 r n))

/-- The right half of a block written in two halves. -/
theorem halves_right (L R : Vec Ideal S1024x1024 .bf16) (r n : Fin 1024) : View.canon (halves L R) (ix2 r ⟨1024 + n.val, by omega⟩) = R (ix2 r n) :=
  (congrArg _ (funext fun d => Fin.ext (by
      fin_cases d
      · exact (show r.val = 0 + 1 * r.val by omega)
      · exact (show 1024 + n.val = 1024 + 1 * n.val by omega)))).trans (View.canon_cons_emb rRight R [⟨rLeft, L⟩] (ix2 r n))

/-- Reading a whole array through the rectangle of all of it. -/
theorem ld_whole {e : EltTy} {R C : ℕ} (x : Vec Ideal (⟨2, ![R, C]⟩ : Shape) e) (inb) :
    View.ld x (Rect.unit (s := (⟨2, ![R, C]⟩ : Shape)) ![0, 0] ![R, C] inb) = x :=
  funext fun i => congrArg x (funext fun d => Fin.ext (by rw [Rect.idx_unit_val]; fin_cases d <;> exact Nat.zero_add _))

/-- The product of a step, at a row and a column. -/
theorem product_at (h : Vec Ideal S1024x1024 .bf16) (w : Vec Ideal S1024x2048 .bf16) (r : Fin 1024) (n : Fin 2048) :
    k0_pay13 h w (ix2 r n) = through (fun k => h (ix2 r k)) (fun k n => w (ix2 k n)) n := by
  pointwise [k0_pay13]
  rfl

/-- The left half of a row of two halves. -/
def leftRow (a : Row 2048) : Row 1024 := fun n => a ⟨n.val, by omega⟩
/-- The right half of a row of two halves. -/
def rightRow (a : Row 2048) : Row 1024 := fun n => a ⟨1024 + n.val, by omega⟩

/-- The row of a step's product. -/
def acc (h : Vec Ideal S1024x1024 .bf16) (w : Vec Ideal S1024x2048 .bf16) (r : Fin 1024) : Row 2048 :=
  through (fun k => h (ix2 r k)) (fun k n => w (ix2 k n))

/-- The left half of the product. -/
theorem product_left (h : Vec Ideal S1024x1024 .bf16) (w : Vec Ideal S1024x2048 .bf16) (hs) (r n : Fin 1024) :
    extractStridedSlice S1024x1024 ![0, 0] (k0_pay13 h w) hs (ix2 r n) = leftRow (acc h w r) n :=
  (cut_at _ 0 hs r n ⟨n.val, by omega⟩ (Nat.zero_add _).symm).trans (product_at h w r _)
/-- The right half of the product. -/
theorem product_right (h : Vec Ideal S1024x1024 .bf16) (w : Vec Ideal S1024x2048 .bf16) (hs) (r n : Fin 1024) :
    extractStridedSlice S1024x1024 ![0, 1024] (k0_pay13 h w) hs (ix2 r n) = rightRow (acc h w r) n :=
  (cut_at _ 1024 hs r n ⟨1024 + n.val, by omega⟩ rfl).trans (product_at h w r _)

/-- The pairs of heads of a row. -/
theorem pairs_row (a : FVec Ideal S1024x1024 .f32) (g : FVec Ideal S1x1024 .f32) (r n : Fin 1024) (row : Row 1024) (ha : ∀ n, a (ix2 r n) = row n) :
    pairs a g (ix2 r n) = heads64 row n * g (ix2 0 n) := by
  rw [pairs_at]; simp only [ha, over64]; rfl
/-- The wide heads of a row. -/
theorem wides_row (a : FVec Ideal S1024x1024 .f32) (g : FVec Ideal S1x1024 .f32) (r n : Fin 1024) (row : Row 1024) (ha : ∀ n, a (ix2 r n) = row n) :
    wides a g (ix2 r n) = heads256 row n * g (ix2 0 n) := by
  rw [wides_at]; simp only [ha, over256]; rfl

variable (h : Vec Ideal S1024x1024 .bf16) (w : Vec Ideal S1024x2048 .bf16) (g : Vec Ideal S8x1024 .f32) (r n : Fin 1024)

/-- The attention's queries. -/
theorem heads_left : outHeads h w g (ix2 r ⟨n.val, by omega⟩) = heads64 (leftRow (acc h w r)) n * g (ix2 0 n) := by
  unfold outHeads
  rw [halves_left, queries_eq, ld_whole, ld_whole]
  refine (pairs_row (k0_pay14 h w) _ r n (leftRow (acc h w r)) fun n => product_left h w slices_S1024x2048_o0_0_S1024x1024 r n).trans ?_
  pointwise [k0_pay15]
/-- The attention's keys. -/
theorem heads_right : outHeads h w g (ix2 r ⟨1024 + n.val, by omega⟩) = heads64 (rightRow (acc h w r)) n * g (ix2 1 n) := by
  unfold outHeads
  rw [halves_right, keys_eq, ld_whole, ld_whole]
  refine (pairs_row (k0_pay45 (k0_pay13 h w)) _ r n (rightRow (acc h w r)) fun n => product_right h w slices_S1024x2048_o0_1024_S1024x1024 r n).trans ?_
  pointwise [k0_pay46]
/-- The memory's queries. -/
theorem memory_left : outMemory h w g (ix2 r ⟨n.val, by omega⟩) = heads256 (leftRow (acc h w r)) n * g (ix2 2 n) := by
  unfold outMemory
  rw [halves_left, memQueries_eq, ld_whole, ld_whole]
  refine (wides_row (k0_pay74 h w) _ r n (leftRow (acc h w r)) fun n => product_left h w slices_S1024x2048_o0_0_S1024x1024 r n).trans ?_
  pointwise [k0_pay75]
/-- The first third of the gates. -/
theorem memory_right : outMemory h w g (ix2 r ⟨1024 + n.val, by omega⟩) = Ideal.logistic (rightRow (acc h w r) n) := by
  unfold outMemory
  rw [halves_right, ld_whole, ld_whole, ← gate_eq, ← product_right h w slices_S1024x2048_o0_1024_S1024x1024 r n]
  rfl
/-- The second third of the gates. -/
theorem gates_left : outGates h w (ix2 r ⟨n.val, by omega⟩) = Ideal.logistic (leftRow (acc h w r) n) := by
  unfold outGates
  rw [halves_left, ld_whole, ld_whole, ← gate_eq, ← product_left h w slices_S1024x2048_o0_0_S1024x1024 r n]
  rfl
/-- The last third of the gates. -/
theorem gates_right : outGates h w (ix2 r ⟨1024 + n.val, by omega⟩) = Ideal.logistic (rightRow (acc h w r) n) := by
  unfold outGates
  rw [halves_right, ld_whole, ld_whole, ← gate_eq, ← product_right h w slices_S1024x2048_o0_1024_S1024x1024 r n]
  rfl
/-- The left half of a plain step. -/
theorem plain_left : outPlain h w (ix2 r ⟨n.val, by omega⟩) = leftRow (acc h w r) n := by
  unfold outPlain
  rw [halves_left, ld_whole, ld_whole, ← product_left h w slices_S1024x2048_o0_0_S1024x1024 r n]
  rfl
/-- The right half of a plain step. -/
theorem plain_right : outPlain h w (ix2 r ⟨1024 + n.val, by omega⟩) = rightRow (acc h w r) n := by
  unfold outPlain
  rw [halves_right, ld_whole, ld_whole, ← product_right h w slices_S1024x2048_o0_1024_S1024x1024 r n]
  rfl

/-- The rows that the first step keeps. -/
theorem rows_at (x : Vec Ideal S1024x1024 .f32) (nw : Vec Ideal S1x1024 .f32) :
    rows x nw (ix2 r n) = normed (fun k => x (ix2 r k)) (fun k => nw (ix2 0 k)) n := by
  unfold rows
  rw [View.canon_cons_unit_lit _ _ _ (by decide), ld_whole, ld_whole]
  pointwise [k0_pay2, k0_pay1]
  rfl

/-- The steps of dt that the first step writes. -/
theorem steps_at (x : Vec Ideal S1024x1024 .f32) (nw : Vec Ideal S1x1024 .f32) (wdt : Vec Ideal S1024x128 .bf16) (n : Fin 128) :
    steps x nw wdt (ix2 r n) = through (normed (fun k => x (ix2 r k)) (fun k => nw (ix2 0 k))) (fun k n => wdt (ix2 k n)) n := by
  unfold steps
  rw [View.canon_cons_unit_lit _ _ _ (by decide), ld_whole, ld_whole, ld_whole]
  pointwise [k0_pay3, k0_pay1]
  rfl

end Block

end Cert.InProj
-- ==== Proof.ProjHeads.lean ====
module

public import proofs.«01_k».proof.Proof.ProjRun

/-! The input projection: the first step of a row of blocks, run. -/

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1024x2048 .bf16) (harg4 : arg4.IsWhole) (arg5 : Memref sig .tc .vmem S1024x2048 .bf16) (harg5 : arg5.IsWhole)
  (arg6 : Memref sig .tc .vmem S1024x128 .bf16) (harg6 : arg6.IsWhole) (arg7 : Memref sig .tc .vmem S8x1024 .f32) (harg7 : arg7.IsWhole)
  (arg8 : Memref sig .tc .vmem S1024x2048 .bf16) (harg8 : arg8.IsWhole) (arg9 : Memref sig .tc .vmem S1024x128 .f32) (harg9 : arg9.IsWhole)
  (arg10 : Memref sig .tc .vmem S1024x1024 .bf16) (harg10 : arg10.IsWhole)
  (x0 : Vec F S1024x1024 .f32) (x1 : Vec F S1x1024 .f32) (x2 x3 : Vec F S1024x2048 .bf16) (x4 : Vec F S1024x128 .bf16) (x5 : Vec F S8x1024 .f32)

set_option maxHeartbeats 1000000 in
/-- The first step of a row of blocks: it keeps the normalized rows, writes the steps of dt, and writes the heads. -/
theorem run_heads (E : Set ℕ) (K : PUnit → sProp 𝕄)
    (hc1 : k0_cond1 i = 1#1) (hc2 : ¬(k0_cond2 i = 1#1)) (hc3 : k0_cond3 i = 1#1) (hc4 : ¬(k0_cond4 i = 1#1)) (hc5 : ¬(k0_cond5 i = 1#1)) :
    iprop(held c arg2 arg3 arg4 arg5 arg6 arg7 x0 x1 x2 x3 x4 x5 ∗ (∃ d, owns (c : Thread nD τ) arg8 fullShare d) ∗ (∃ d, owns (c : Thread nD τ) arg9 fullShare d) ∗ (∃ d, owns (c : Thread nD τ) arg10 fullShare d)
        ∗ (iprop(held c arg2 arg3 arg4 arg5 arg6 arg7 x0 x1 x2 x3 x4 x5 ∗ owns (c : Thread nD τ) arg8 fullShare (outHeads (rows x0 x1) x2 x5) ∗ owns (c : Thread nD τ) arg9 fullShare (steps x0 x1 x4) ∗ owns (c : Thread nD τ) arg10 fullShare (rows x0 x1)) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%d8, %f8, -, H8⟩, Hk⟩
  subst hf0; subst hf1; subst hf2
  subst hf3; subst hf4; subst hf5
  sl_exec (disch := first | sl_exact hc1 | sl_exact hc2 | sl_exact hc3 | sl_exact hc4 | sl_exact hc5)
  sl_step
  iapply Hk
  isplitl [H0 H1 H2 H3 H4 H5]
  · isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    iexists _; isplitr; · ipureintro; rfl
    iexact H5
  isplitl [H6]
  · iexists _; isplitr
    swap; · iexact H6
    ipureintro
    have eh : run_heads.sl.v19 c arg2 arg3 arg10 f0 f1 = View.ld (rows (View.read (Elt F) arg2.view f0) (View.read (Elt F) arg3.view f1)) rRows := by
      delta run_heads.sl.v19; exact View.readCov_eq_canon' _ _ _
    have ew : View.readAt (Elt F) arg4.view rCols.toLoadRect f2 = View.ld (View.read (Elt F) arg4.view f2) rCols := rfl
    have eq : View.readAt (Elt F) arg7.view rGainQ.toLoadRect f5 = View.ld (View.read (Elt F) arg7.view f5) rGainQ := rfl
    have ek : View.readAt (Elt F) arg7.view rGainK.toLoadRect f5 = View.ld (View.read (Elt F) arg7.view f5) rGainK := rfl
    refine (View.read_writes_eq_canon _ _ _ (halves_cover _ _)).trans ?_
    unfold outHeads
    rw [← eh, ← ew, ← eq, ← ek]
    refine congrArg₂ (fun a b => View.canon (halves a b)) ?_ ?_
    · delta run_heads.sl.r_1 run_heads.sl.r_2 run_heads.sl.r_3 run_heads.sl.r_4 run_heads.sl.r_5 run_heads.sl.r_6 run_heads.sl.r_7 run_heads.sl.r_8 run_heads.sl.r_9 run_heads.sl.r_10 run_heads.sl.r_11 run_heads.sl.r_12 run_heads.sl.r_13 run_heads.sl.r_14 run_heads.sl.r_15 run_heads.sl.r_16 run_heads.sl.r_17 run_heads.sl.r_18 run_heads.sl.r_19 run_heads.sl.r_20 run_heads.sl.r_21 run_heads.sl.r_22 run_heads.sl.r_23 run_heads.sl.r_24 run_heads.sl.r_25 queries
      dsimp only
    · delta run_heads.sl.r_26 run_heads.sl.r_27 run_heads.sl.r_28 run_heads.sl.r_29 run_heads.sl.r_30 run_heads.sl.r_31 run_heads.sl.r_32 run_heads.sl.r_33 run_heads.sl.r_34 run_heads.sl.r_35 run_heads.sl.r_36 run_heads.sl.r_37 run_heads.sl.r_38 run_heads.sl.r_39 run_heads.sl.r_40 run_heads.sl.r_41 run_heads.sl.r_42 run_heads.sl.r_43 run_heads.sl.r_44 run_heads.sl.r_45 run_heads.sl.r_46 run_heads.sl.r_47 run_heads.sl.r_48 keys
      delta run_heads.sl.r
      dsimp only
  isplitl [H7]
  · iexists _; isplitr
    swap; · iexact H7
    ipureintro; exact View.read_writes_eq_canon _ _ _ (steps_cover _)
  iexists _; isplitr
  swap; · iexact H8
  ipureintro; exact View.read_writes_eq_canon _ _ _ (rows_cover _)

end Cert.ProjIdeal.Hand

end
-- ==== Proof.ProjPlain.lean ====
module

public import proofs.«01_k».proof.Proof.ProjRun

/-! The input projection: the later steps of a row of blocks, run. -/

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1024x2048 .bf16) (harg4 : arg4.IsWhole) (arg5 : Memref sig .tc .vmem S1024x2048 .bf16) (harg5 : arg5.IsWhole)
  (arg6 : Memref sig .tc .vmem S1024x128 .bf16) (harg6 : arg6.IsWhole) (arg7 : Memref sig .tc .vmem S8x1024 .f32) (harg7 : arg7.IsWhole)
  (arg8 : Memref sig .tc .vmem S1024x2048 .bf16) (harg8 : arg8.IsWhole) (arg9 : Memref sig .tc .vmem S1024x128 .f32) (harg9 : arg9.IsWhole)
  (arg10 : Memref sig .tc .vmem S1024x1024 .bf16) (harg10 : arg10.IsWhole)
  (x0 : Vec F S1024x1024 .f32) (x1 : Vec F S1x1024 .f32) (x2 x3 : Vec F S1024x2048 .bf16) (x4 : Vec F S1024x128 .bf16) (x5 : Vec F S8x1024 .f32)

set_option maxHeartbeats 1000000 in
/-- A plain step: the product of the kept rows with its columns. -/
theorem run_plain (E : Set ℕ) (K : PUnit → sProp 𝕄)
    (y : Vec F S1024x128 .f32) (h : Vec F S1024x1024 .bf16)
    (hc1 : ¬(k0_cond1 i = 1#1)) (hc2 : k0_cond2 i = 1#1) (hc3 : ¬(k0_cond3 i = 1#1)) (hc4 : ¬(k0_cond4 i = 1#1)) (hc5 : ¬(k0_cond5 i = 1#1)) :
    iprop(held c arg2 arg3 arg4 arg5 arg6 arg7 x0 x1 x2 x3 x4 x5 ∗ (∃ d, owns (c : Thread nD τ) arg8 fullShare d) ∗ owns (c : Thread nD τ) arg9 fullShare y ∗ owns (c : Thread nD τ) arg10 fullShare h
        ∗ (iprop(held c arg2 arg3 arg4 arg5 arg6 arg7 x0 x1 x2 x3 x4 x5 ∗ owns (c : Thread nD τ) arg8 fullShare (outPlain h x2) ∗ owns (c : Thread nD τ) arg9 fullShare y ∗ owns (c : Thread nD τ) arg10 fullShare h) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%f7, %hf7, H7⟩, ⟨%f8, %hf8, H8⟩, Hk⟩
  subst hf0; subst hf1; subst hf2
  subst hf3; subst hf4; subst hf5; subst hf7; subst hf8
  sl_exec (disch := first | sl_exact hc1 | sl_exact hc2 | sl_exact hc3 | sl_exact hc4 | sl_exact hc5)
  sl_step
  iapply Hk
  isplitl [H0 H1 H2 H3 H4 H5]
  · isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    iexists _; isplitr; · ipureintro; rfl
    iexact H5
  isplitl [H6]
  · iexists _; isplitr
    swap; · iexact H6
    ipureintro; exact (View.read_writes_eq_canon _ _ _ (halves_cover _ _)).trans rfl
  isplitl [H7]
  · iexists _; isplitr; · ipureintro; rfl
    iexact H7
  iexists _; isplitr; · ipureintro; rfl
  iexact H8

set_option maxHeartbeats 1000000 in
/-- The step with the memory's queries, and the first gates. -/
theorem run_memory (E : Set ℕ) (K : PUnit → sProp 𝕄)
    (y : Vec F S1024x128 .f32) (h : Vec F S1024x1024 .bf16)
    (hc1 : ¬(k0_cond1 i = 1#1)) (hc2 : ¬(k0_cond2 i = 1#1)) (hc3 : ¬(k0_cond3 i = 1#1)) (hc4 : k0_cond4 i = 1#1) (hc5 : ¬(k0_cond5 i = 1#1)) :
    iprop(held c arg2 arg3 arg4 arg5 arg6 arg7 x0 x1 x2 x3 x4 x5 ∗ (∃ d, owns (c : Thread nD τ) arg8 fullShare d) ∗ owns (c : Thread nD τ) arg9 fullShare y ∗ owns (c : Thread nD τ) arg10 fullShare h
        ∗ (iprop(held c arg2 arg3 arg4 arg5 arg6 arg7 x0 x1 x2 x3 x4 x5 ∗ owns (c : Thread nD τ) arg8 fullShare (outMemory h x3 x5) ∗ owns (c : Thread nD τ) arg9 fullShare y ∗ owns (c : Thread nD τ) arg10 fullShare h) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part13_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%f7, %hf7, H7⟩, ⟨%f8, %hf8, H8⟩, Hk⟩
  subst hf0; subst hf1; subst hf2
  subst hf3; subst hf4; subst hf5; subst hf7; subst hf8
  sl_exec (disch := first | sl_exact hc1 | sl_exact hc2 | sl_exact hc3 | sl_exact hc4 | sl_exact hc5)
  sl_step
  iapply Hk
  isplitl [H0 H1 H2 H3 H4 H5]
  · isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    iexists _; isplitr; · ipureintro; rfl
    iexact H5
  isplitl [H6]
  · iexists _; isplitr
    swap; · iexact H6
    ipureintro; exact (View.read_writes_eq_canon _ _ _ (halves_cover _ _)).trans rfl
  isplitl [H7]
  · iexists _; isplitr; · ipureintro; rfl
    iexact H7
  iexists _; isplitr; · ipureintro; rfl
  iexact H8

set_option maxHeartbeats 1000000 in
/-- The step of the gates. -/
theorem run_gates (E : Set ℕ) (K : PUnit → sProp 𝕄)
    (y : Vec F S1024x128 .f32) (h : Vec F S1024x1024 .bf16)
    (hc1 : ¬(k0_cond1 i = 1#1)) (hc2 : ¬(k0_cond2 i = 1#1)) (hc3 : ¬(k0_cond3 i = 1#1)) (hc4 : ¬(k0_cond4 i = 1#1)) (hc5 : k0_cond5 i = 1#1) :
    iprop(held c arg2 arg3 arg4 arg5 arg6 arg7 x0 x1 x2 x3 x4 x5 ∗ (∃ d, owns (c : Thread nD τ) arg8 fullShare d) ∗ owns (c : Thread nD τ) arg9 fullShare y ∗ owns (c : Thread nD τ) arg10 fullShare h
        ∗ (iprop(held c arg2 arg3 arg4 arg5 arg6 arg7 x0 x1 x2 x3 x4 x5 ∗ owns (c : Thread nD τ) arg8 fullShare (outGates h x3) ∗ owns (c : Thread nD τ) arg9 fullShare y ∗ owns (c : Thread nD τ) arg10 fullShare h) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%f7, %hf7, H7⟩, ⟨%f8, %hf8, H8⟩, Hk⟩
  subst hf0; subst hf1; subst hf2
  subst hf3; subst hf4; subst hf5; subst hf7; subst hf8
  sl_exec (disch := first | sl_exact hc1 | sl_exact hc2 | sl_exact hc3 | sl_exact hc4 | sl_exact hc5)
  sl_step
  iapply Hk
  isplitl [H0 H1 H2 H3 H4 H5]
  · isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    iexists _; isplitr; · ipureintro; rfl
    iexact H5
  isplitl [H6]
  · iexists _; isplitr
    swap; · iexact H6
    ipureintro; exact (View.read_writes_eq_canon _ _ _ (halves_cover _ _)).trans rfl
  isplitl [H7]
  · iexists _; isplitr; · ipureintro; rfl
    iexact H7
  iexists _; isplitr; · ipureintro; rfl
  iexact H8

end Cert.ProjIdeal.Hand

end
-- ==== Proof.ProjFrame.lean ====
module

public import proofs.«01_k».proof.Proof.ProjHeads
public import proofs.«01_k».proof.Proof.ProjPlain
public import Idealize.ShloMosaic.Lib.Pipeline.TableIdle
public import Idealize.ShloMosaic.Lib.Quiescent
public import Idealize.ShloMosaic.Lib.Claim

/-! The input projection: the whole run of the pipeline, and the arrays it leaves. -/

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kind of a step, by its place in the row of blocks -/

/-- The first condition holds at the first step of each row of blocks. -/
theorem first_iff : ∀ t : Fin cfg0.N, k0_cond1 (grid0.coords t) = 1#1 ↔ t.val % 6 = 0 := by decide +kernel
/-- The second condition holds at the steps 1, 2 and 3. -/
theorem plain_iff : ∀ t : Fin cfg0.N, k0_cond2 (grid0.coords t) = 1#1 ↔ (1 ≤ t.val % 6 ∧ t.val % 6 ≤ 3) := by decide +kernel
/-- The third condition holds at the first step of each row of blocks. -/
theorem heads_iff : ∀ t : Fin cfg0.N, k0_cond3 (grid0.coords t) = 1#1 ↔ t.val % 6 = 0 := by decide +kernel
/-- The fourth condition holds at step 4. -/
theorem memory_iff : ∀ t : Fin cfg0.N, k0_cond4 (grid0.coords t) = 1#1 ↔ t.val % 6 = 4 := by decide +kernel
/-- The fifth condition holds at the last step of each row of blocks. -/
theorem gates_iff : ∀ t : Fin cfg0.N, k0_cond5 (grid0.coords t) = 1#1 ↔ t.val % 6 = 5 := by decide +kernel

/-- Every step writes its block of columns. -/
theorem live_cols : ∀ t : Fin cfg0.N, cfg0.idle 6 (grid0.coords t) = false := by decide +kernel
/-- Only the first step of a row of blocks writes the steps of dt. -/
theorem idle_dt : ∀ t : Fin cfg0.N, cfg0.idle 7 (grid0.coords t) = decide (t.val % 6 ≠ 0) := by decide +kernel

/-- The buffer of the steps of dt holds nothing at the first step of a row of blocks, and only there. -/
theorem fresh_dt (n : ℕ) (h : n ≤ cfg0.N) : cfg0.fresh 7 n = decide (n % 6 = 0) :=
  cfg0.fresh_tab 7 (fun n => decide (n % 6 = 0)) rfl (fun t => by
    rw [idle_dt, show (cfg0.win 7).flush t = decide (t.val % 6 = 5) from Bool.eq_iff_iff.mpr ((flush0_7 t).trans (by simp))]
    rw [← Bool.decide_and, ← Bool.decide_or]
    exact decide_eq_decide.mpr (by omega)) n h

/-! ## What the steps leave -/

/-- The normalized rows kept at a step. -/
def rowsAt (c : Dev nD) (t : Fin cfg0.N) : Vec F S1024x1024 .bf16 := rows (iblk m c 0 t) (iblk m c 1 t)

/-- The steps of dt of a step's rows. -/
def stepsAt (c : Dev nD) (t : Fin cfg0.N) : Vec F S1024x128 .f32 := steps (iblk m c 0 t) (iblk m c 1 t) (iblk m c 4 t)

/-- The block of columns a step writes. -/
def colsAt (c : Dev nD) (t : Fin cfg0.N) : Vec F S1024x2048 .bf16 :=
  if t.val % 6 = 0 then outHeads (rowsAt m c t) (iblk m c 2 t) (iblk m c 5 t)
  else if t.val % 6 = 4 then outMemory (rowsAt m c t) (iblk m c 3 t) (iblk m c 5 t)
  else if t.val % 6 = 5 then outGates (rowsAt m c t) (iblk m c 3 t)
  else outPlain (rowsAt m c t) (iblk m c 2 t)

/-- The kept rows as a scratch buffer. -/
abbrev scratch : Memref sig .tc .vmem S1024x1024 .bf16 := Memref.whole cc0_scratch0

/-- What holds before each step: nothing is kept before the first; afterwards the rows of the step before. -/
def kept (c : Dev nD) : (n : ℕ) → n ≤ cfg0.N → sProp 𝕄
  | 0, _ => Pipeline.ΦA spec0 c
  | n + 1, hn => iprop(owns (c : Thread nD τ) scratch fullShare (rowsAt m c ⟨n, hn⟩) ∗ (∃ r, prngReg c r))

/-- The invariant of a kernel with one scratch buffer, with that buffer named. -/
theorem scratch_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; rfl

/-- Before the first point the scratch buffer is as it was. -/
theorem kept_zero (c : Dev nD) (n : ℕ) (h : n ≤ cfg0.N) (hz : n = 0) : kept m c n h = Pipeline.ΦA spec0 c := by
  subst hz; rfl

/-- Before a later point the scratch buffer holds what the point before left. -/
theorem kept_pos (c : Dev nD) (n : ℕ) (h : n ≤ cfg0.N) (hz : n ≠ 0) :
    kept m c n h = iprop(owns (c : Thread nD τ) scratch fullShare (rowsAt m c ⟨n - 1, by omega⟩) ∗ (∃ r, prngReg c r)) := by
  cases n with
  | zero => exact absurd rfl hz
  | succ n => rfl

/-- The pipeline's data on one core: the arrays at the start, what each window's buffer holds after each step, what is kept. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => colsAt m c t
    | ⟨7, _⟩ => stepsAt m c t
  Φ t := kept m c t.val (Nat.le_of_lt_succ t.isLt)
  q _ := fullShare
  owed _ := 0

/-- The arrays the call starts from. -/
theorem A_eq (c : Dev nD) (w : Fin cfg0.W) : (dats m 0 c).A w = V m c (Pipeline.arrRef spec0 w) := by
  dsimp only [dats]

/-- What is kept before a point. -/
theorem kept_castSucc (c : Dev nD) (t : Fin cfg0.N) : (dats m 0 c).Φ t.castSucc = kept m c t.val (Nat.le_of_lt t.isLt) := by
  dsimp only [dats]; exact Pipeline.Dat.Φ_castSucc (kept m c) t

/-- The block of a window after the body. -/
theorem after0_0 (c : Dev nD) (t : Fin cfg0.N) : (dats m 0 c).after 0 t = iblk m c 0 t := by dsimp only [dats]
/-- The block of a window after the body. -/
theorem after0_1 (c : Dev nD) (t : Fin cfg0.N) : (dats m 0 c).after 1 t = iblk m c 1 t := by dsimp only [dats]
/-- The block of a window after the body. -/
theorem after0_2 (c : Dev nD) (t : Fin cfg0.N) : (dats m 0 c).after 2 t = iblk m c 2 t := by dsimp only [dats]
/-- The block of a window after the body. -/
theorem after0_3 (c : Dev nD) (t : Fin cfg0.N) : (dats m 0 c).after 3 t = iblk m c 3 t := by dsimp only [dats]
/-- The block of a window after the body. -/
theorem after0_4 (c : Dev nD) (t : Fin cfg0.N) : (dats m 0 c).after 4 t = iblk m c 4 t := by dsimp only [dats]
/-- The block of a window after the body. -/
theorem after0_5 (c : Dev nD) (t : Fin cfg0.N) : (dats m 0 c).after 5 t = iblk m c 5 t := by dsimp only [dats]
/-- The block of a window after the body. -/
theorem after0_6 (c : Dev nD) (t : Fin cfg0.N) : (dats m 0 c).after 6 t = colsAt m c t := by dsimp only [dats]
/-- The block of a window after the body. -/
theorem after0_7 (c : Dev nD) (t : Fin cfg0.N) : (dats m 0 c).after 7 t = stepsAt m c t := by dsimp only [dats]

/-- The block of a window before the body. -/
theorem before0_0 (c : Dev nD) (t : Fin cfg0.N) (d) : (dats m 0 c).before 0 t d = iblk m c 0 t :=
  before0_0_of m (dats m 0 c) (A_eq m c 0) (after0_0 m c) t d
/-- The block of a window before the body. -/
theorem before0_1 (c : Dev nD) (t : Fin cfg0.N) (d) : (dats m 0 c).before 1 t d = iblk m c 1 t :=
  before0_1_of m (dats m 0 c) (A_eq m c 1) (after0_1 m c) t d
/-- The block of a window before the body. -/
theorem before0_2 (c : Dev nD) (t : Fin cfg0.N) (d) : (dats m 0 c).before 2 t d = iblk m c 2 t :=
  before0_2_of m (dats m 0 c) (A_eq m c 2) (after0_2 m c) t d
/-- The block of a window before the body. -/
theorem before0_3 (c : Dev nD) (t : Fin cfg0.N) (d) : (dats m 0 c).before 3 t d = iblk m c 3 t :=
  before0_3_of m (dats m 0 c) (A_eq m c 3) (after0_3 m c) t d
/-- The block of a window before the body. -/
theorem before0_4 (c : Dev nD) (t : Fin cfg0.N) (d) : (dats m 0 c).before 4 t d = iblk m c 4 t :=
  before0_4_of m (dats m 0 c) (A_eq m c 4) (after0_4 m c) t d
/-- The block of a window before the body. -/
theorem before0_5 (c : Dev nD) (t : Fin cfg0.N) (d) : (dats m 0 c).before 5 t d = iblk m c 5 t :=
  before0_5_of m (dats m 0 c) (A_eq m c 5) (after0_5 m c) t d

/-- An input that a step does not fetch is what the step before left. -/
theorem before_unfetched (c : Dev nD) (w : Fin cfg0.W) (hw : (cfg0.win w).isOut = false) (t : Fin cfg0.N) (hf : (cfg0.win w).fetch t = false)
    (hlive : ∀ i, cfg0.idle w i = false) (hclip : ∀ (i : cfg0.grid.Coords) a, (cfg0.win w).clip i a = none) (d) :
    (dats m 0 c).before w t d = (dats m 0 c).after w ⟨t.val - 1, Nat.lt_of_le_of_lt (Nat.sub_le _ _) t.isLt⟩ := by
  rw [(dats m 0 c).before_unfetched_in w hw t hf hlive]
  unfold Dat.kept
  rw [Pipeline.fill_of_clip_none w _ (hclip _) d ((dats m 0 c).after w _), Window.fill_cut]

/-- Within a row of blocks the rows stay. -/
theorem rows_same (c : Dev nD) (t : Fin cfg0.N) (h : t.val % 6 ≠ 0) :
    iblk m c 0 ⟨t.val - 1, Nat.lt_of_le_of_lt (Nat.sub_le _ _) t.isLt⟩ = iblk m c 0 t := by
  have hf : (cfg0.win 0).fetch t = false := Bool.eq_false_iff.mpr fun hh => h ((fetch0_0 t).mp hh)
  have e := before_unfetched m c 0 rfl t hf (fun _ => rfl) (fun _ _ => rfl) (iblk m c 0 t)
  rw [before0_0, after0_0] at e
  exact e.symm

/-- The norm's gain stays. -/
theorem norm_same (c : Dev nD) (t : Fin cfg0.N) (h : t.val % 6 ≠ 0) :
    iblk m c 1 ⟨t.val - 1, Nat.lt_of_le_of_lt (Nat.sub_le _ _) t.isLt⟩ = iblk m c 1 t := by
  have hf : (cfg0.win 1).fetch t = false := Bool.eq_false_iff.mpr fun hh => by have := (fetch0_1 t).mp hh; omega
  have e := before_unfetched m c 1 rfl t hf (fun _ => rfl) (fun _ _ => rfl) (iblk m c 1 t)
  rw [before0_1, after0_1] at e
  exact e.symm

/-- The weight of the steps of dt stays. -/
theorem weight_same (c : Dev nD) (t : Fin cfg0.N) (h : t.val % 6 ≠ 0) :
    iblk m c 4 ⟨t.val - 1, Nat.lt_of_le_of_lt (Nat.sub_le _ _) t.isLt⟩ = iblk m c 4 t := by
  have hf : (cfg0.win 4).fetch t = false := Bool.eq_false_iff.mpr fun hh => by have := (fetch0_4 t).mp hh; omega
  have e := before_unfetched m c 4 rfl t hf (fun _ => rfl) (fun _ _ => rfl) (iblk m c 4 t)
  rw [before0_4, after0_4] at e
  exact e.symm

/-- Within a row of blocks the normed tokens do not change. -/
theorem rowsAt_same (c : Dev nD) (t : Fin cfg0.N) (h : t.val % 6 ≠ 0) :
    rowsAt m c ⟨t.val - 1, Nat.lt_of_le_of_lt (Nat.sub_le _ _) t.isLt⟩ = rowsAt m c t := by
  unfold rowsAt; rw [rows_same m c t h, norm_same m c t h]

/-- Within a row of blocks the block of steps does not change. -/
theorem stepsAt_same (c : Dev nD) (t : Fin cfg0.N) (h : t.val % 6 ≠ 0) :
    stepsAt m c ⟨t.val - 1, Nat.lt_of_le_of_lt (Nat.sub_le _ _) t.isLt⟩ = stepsAt m c t := by
  unfold stepsAt; rw [rows_same m c t h, norm_same m c t h, weight_same m c t h]

/-- The buffer of the steps of dt, after the first step of a row of blocks, holds the row's steps. -/
theorem before0_7 (c : Dev nD) (t : Fin cfg0.N) (h : t.val % 6 ≠ 0) (d) : (dats m 0 c).before 7 t d = stepsAt m c t := by
  rw [(dats m 0 c).before_out_traj 7 rfl (fun _ _ => rfl) (fun s hs hi _ => by
      rw [after0_7, after0_7]
      exact (stepsAt_same m c s (by rw [idle_dt] at hi; exact of_decide_eq_true hi)).symm) t.val t rfl d,
    fresh_dt _ (Nat.le_of_lt t.isLt), if_neg (by simpa using h), after0_7]
  exact stepsAt_same m c t h

/-! ## One step -/

/-- What a step is handed. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What a step hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- What a step hands back, with the contents named. -/
def left (c : Dev nD) (t : Fin cfg0.N) : sProp 𝕄 :=
  iprop((dats m 0 c).Φ t.succ ∗ (dats m 0 c).owesAt () t.castSucc
    ∗ held c (st0_0 t) (st0_1 t) (st0_2 t) (st0_3 t) (st0_4 t) (st0_5 t) (iblk m c 0 t) (iblk m c 1 t) (iblk m c 2 t) (iblk m c 3 t) (iblk m c 4 t) (iblk m c 5 t)
    ∗ owns (c : Thread nD τ) (st0_6 t) fullShare (colsAt m c t) ∗ owns (c : Thread nD τ) (st0_7 t) fullShare (stepsAt m c t))

/-- The named contents are what the pipeline asks for. -/
theorem left_post (c : Dev nD) (t : Fin cfg0.N) : left m c t ⊢ bodyPost m c t := by
  unfold left bodyPost held
  rw [show (dats m 0 c).owesAt () t.succ = (dats m 0 c).owesAt () t.castSucc from rfl]
  rw [show (dats m 0 c).leavesExact 0 t = owns (c : Thread nD τ) (st0_0 t) fullShare ((dats m 0 c).after 0 t) from rfl, after0_0,
    show (dats m 0 c).leavesExact 1 t = owns (c : Thread nD τ) (st0_1 t) fullShare ((dats m 0 c).after 1 t) from rfl, after0_1,
    show (dats m 0 c).leavesExact 2 t = owns (c : Thread nD τ) (st0_2 t) fullShare ((dats m 0 c).after 2 t) from rfl, after0_2,
    show (dats m 0 c).leavesExact 3 t = owns (c : Thread nD τ) (st0_3 t) fullShare ((dats m 0 c).after 3 t) from rfl, after0_3,
    show (dats m 0 c).leavesExact 4 t = owns (c : Thread nD τ) (st0_4 t) fullShare ((dats m 0 c).after 4 t) from rfl, after0_4,
    show (dats m 0 c).leavesExact 5 t = owns (c : Thread nD τ) (st0_5 t) fullShare ((dats m 0 c).after 5 t) from rfl, after0_5,
    show (dats m 0 c).leavesExact 6 t = owns (c : Thread nD τ) (st0_6 t) fullShare ((dats m 0 c).after 6 t) from by
      unfold Dat.leavesExact; rw [live_cols t], after0_6]
  have h7 : owns (c : Thread nD τ) (st0_7 t) fullShare (stepsAt m c t) ⊢ (dats m 0 c).leavesExact 7 t := by
    unfold Dat.leavesExact
    rw [idle_dt]
    by_cases h : t.val % 6 = 0
    · rw [decide_eq_false (by simpa using h), after0_7]
    · rw [decide_eq_true h]
      cases hf : (cfg0.win 7).flush t
      · simp only [before0_7 m c t h]
        iintro H
        iexists (stepsAt m c t); iexact H
      · simp only [after0_7]
        iintro H; iexact H
  iintro ⟨HΦ, Ho, ⟨H0, H1, H2, H3, H4, H5⟩, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply h7; iexact H7

/-- The first step of a row of blocks. -/
theorem step_first (c : Dev nD) (t : Fin cfg0.N) (h : t.val % 6 = 0) :
    bodyPre m c t ⊢ wp frame (wpE (defs₀ (F := F)) Variants.none c none) Set.univ (bodyAt0 t) (fun _ => left m c t) := by
  have e : colsAt m c t = outHeads (rows (iblk m c 0 t) (iblk m c 1 t)) (iblk m c 2 t) (iblk m c 5 t) := by
    unfold colsAt rowsAt; rw [if_pos h]
  have hΦ : kept m c t.val (Nat.le_of_lt t.isLt) ⊢ iprop((∃ d, owns (c : Thread nD τ) scratch fullShare d) ∗ (∃ r, prngReg c r)) := by
    by_cases hz : t.val = 0
    · rw [kept_zero m c _ _ hz, scratch_eq]
    · rw [kept_pos m c _ _ hz]
      iintro ⟨H, Hg⟩
      isplitl [H]
      · iexists _; iexact H
      iexact Hg
  unfold bodyPre bodyAt0
  rw [kept_castSucc]
  simp only [before0_0, before0_1, before0_2, before0_3, before0_4, before0_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ' : iprop((∃ d, owns (c : Thread nD τ) scratch fullShare d) ∗ (∃ r, prngReg c r)) $$ [HΦ]
  · iapply hΦ; iexact HΦ
  icases HΦ' with ⟨Hs, Hg⟩
  iapply (run_heads c (grid0.coords t) _ _ _ _ _ _ _ _ _ _ _ _ _ _ _ _ scratch (Memref.isWhole_whole _)
    (iblk m c 0 t) (iblk m c 1 t) (iblk m c 2 t) (iblk m c 3 t) (iblk m c 4 t) (iblk m c 5 t) Set.univ _
    ((first_iff t).mpr h) (fun hh => by have := (plain_iff t).mp hh; omega) ((heads_iff t).mpr h)
    (fun hh => by have := (memory_iff t).mp hh; omega) (fun hh => by have := (gates_iff t).mp hh; omega))
  unfold left held
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexists _; iexact H7
  isplitl [Hs]; · iexact Hs
  iintro ⟨Hi, H6, H7, Hs⟩
  rw [e, show (dats m 0 c).Φ t.succ = iprop(owns (c : Thread nD τ) scratch fullShare (rowsAt m c t) ∗ (∃ r, prngReg c r)) from rfl]
  isplitl [Hs Hg]
  · isplitl [Hs]; · iexact Hs
    iexact Hg
  isplitl [Ho]; · iexact Ho
  isplitl [Hi]; · iexact Hi
  isplitl [H6]; · iexact H6
  iexact H7

/-- A later step of a row of blocks, given how its kind of step runs. -/
theorem step_later (c : Dev nD) (t : Fin cfg0.N) (h : t.val % 6 ≠ 0)
    (run : ∀ K : PUnit → sProp 𝕄,
      iprop(held c (st0_0 t) (st0_1 t) (st0_2 t) (st0_3 t) (st0_4 t) (st0_5 t) (iblk m c 0 t) (iblk m c 1 t) (iblk m c 2 t) (iblk m c 3 t) (iblk m c 4 t) (iblk m c 5 t)
          ∗ (∃ d, owns (c : Thread nD τ) (st0_6 t) fullShare d) ∗ owns (c : Thread nD τ) (st0_7 t) fullShare (stepsAt m c t)
          ∗ owns (c : Thread nD τ) scratch fullShare (rowsAt m c t)
          ∗ (iprop(held c (st0_0 t) (st0_1 t) (st0_2 t) (st0_3 t) (st0_4 t) (st0_5 t) (iblk m c 0 t) (iblk m c 1 t) (iblk m c 2 t) (iblk m c 3 t) (iblk m c 4 t) (iblk m c 5 t)
            ∗ owns (c : Thread nD τ) (st0_6 t) fullShare (colsAt m c t) ∗ owns (c : Thread nD τ) (st0_7 t) fullShare (stepsAt m c t)
            ∗ owns (c : Thread nD τ) scratch fullShare (rowsAt m c t)) -∗ K ⟨⟩))
        ⊢ wp frame (wpE (defs₀ (F := F)) Variants.none c none) Set.univ (bodyAt0 t) K) :
    bodyPre m c t ⊢ wp frame (wpE (defs₀ (F := F)) Variants.none c none) Set.univ (bodyAt0 t) (fun _ => left m c t) := by
  unfold bodyPre
  rw [kept_castSucc, kept_pos m c _ _ (fun h0 => h (by rw [h0]))]
  rw [show rowsAt m c ⟨t.val - 1, _⟩ = rowsAt m c t from rowsAt_same m c t h]
  simp only [before0_0, before0_1, before0_2, before0_3, before0_4, before0_5, before0_7 m c t h]
  iintro ⟨⟨Hs, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run _)
  unfold left held
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexact H7
  isplitl [Hs]; · iexact Hs
  iintro ⟨Hi, H6, H7, Hs⟩
  rw [show (dats m 0 c).Φ t.succ = iprop(owns (c : Thread nD τ) scratch fullShare (rowsAt m c t) ∗ (∃ r, prngReg c r)) from rfl]
  isplitl [Hs Hg]
  · isplitl [Hs]; · iexact Hs
    iexact Hg
  isplitl [Ho]; · iexact Ho
  isplitl [Hi]; · iexact Hi
  isplitl [H6]; · iexact H6
  iexact H7

/-- Every step leaves what the data say. -/
theorem step (c : Dev nD) (t : Fin cfg0.N) :
    bodyPre m c t ⊢ wp frame (wpE (defs₀ (F := F)) Variants.none c none) Set.univ (bodyAt0 t) (fun _ => left m c t) := by
  by_cases h0 : t.val % 6 = 0
  · exact step_first m c t h0
  have n1 : ¬(k0_cond1 (grid0.coords t) = 1#1) := fun hh => h0 ((first_iff t).mp hh)
  have n3 : ¬(k0_cond3 (grid0.coords t) = 1#1) := fun hh => h0 ((heads_iff t).mp hh)
  refine step_later m c t h0 fun K => ?_
  by_cases h4 : t.val % 6 = 4
  · rw [show colsAt m c t = outMemory (rowsAt m c t) (iblk m c 3 t) (iblk m c 5 t) from by unfold colsAt; rw [if_neg h0, if_pos h4]]
    exact run_memory c (grid0.coords t) _ _ _ _ _ _ _ _ _ _ _ _ _ _ _ _ scratch (Memref.isWhole_whole _)
      (iblk m c 0 t) (iblk m c 1 t) (iblk m c 2 t) (iblk m c 3 t) (iblk m c 4 t) (iblk m c 5 t) Set.univ K (stepsAt m c t) (rowsAt m c t)
      n1 (fun hh => by have := (plain_iff t).mp hh; omega) n3 ((memory_iff t).mpr h4) (fun hh => by have := (gates_iff t).mp hh; omega)
  by_cases h5 : t.val % 6 = 5
  · rw [show colsAt m c t = outGates (rowsAt m c t) (iblk m c 3 t) from by unfold colsAt; rw [if_neg h0, if_neg h4, if_pos h5]]
    exact run_gates c (grid0.coords t) _ _ _ _ _ _ _ _ _ _ _ _ _ _ _ _ scratch (Memref.isWhole_whole _)
      (iblk m c 0 t) (iblk m c 1 t) (iblk m c 2 t) (iblk m c 3 t) (iblk m c 4 t) (iblk m c 5 t) Set.univ K (stepsAt m c t) (rowsAt m c t)
      n1 (fun hh => by have := (plain_iff t).mp hh; omega) n3 (fun hh => h4 ((memory_iff t).mp hh)) ((gates_iff t).mpr h5)
  · rw [show colsAt m c t = outPlain (rowsAt m c t) (iblk m c 2 t) from by unfold colsAt; rw [if_neg h0, if_neg h4, if_neg h5]]
    exact run_plain c (grid0.coords t) _ _ _ _ _ _ _ _ _ _ _ _ _ _ _ _ scratch (Memref.isWhole_whole _)
      (iblk m c 0 t) (iblk m c 1 t) (iblk m c 2 t) (iblk m c 3 t) (iblk m c 4 t) (iblk m c 5 t) Set.univ K (stepsAt m c t) (rowsAt m c t)
      n1 ((plain_iff t).mpr (by have := Nat.mod_lt t.val (by decide : 0 < 6); omega)) n3 (fun hh => h4 ((memory_iff t).mp hh)) (fun hh => h5 ((gates_iff t).mp hh))

/-- What the pipeline asks of the body, at every step. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (step m c t) rfl .rfl fun _ => left_post m c t

/-- Before the first step the kernel keeps nothing. -/
theorem hin (c : Dev nD) : Pipeline.ΦA spec0 c ⊢ (dats m 0 c).Φ 0 := by
  rw [show (dats m 0 c).Φ 0 = kept m c 0 (Nat.zero_le _) from rfl, kept_zero m c 0 _ rfl]

/-- After the last step what it keeps is given up. -/
theorem hout (c : Dev nD) : (dats m 0 c).Φ (Fin.last cfg0.N) ⊢ Pipeline.ΦA spec0 c := by
  rw [show (dats m 0 c).Φ (Fin.last cfg0.N) = kept m c cfg0.N (le_refl _) from rfl, kept_pos m c _ _ (by rw [show cfg0.N = 192 from N_0]; decide), scratch_eq]
  iintro ⟨Hs, Hg⟩
  isplitl [Hs]
  · iexists _; iexact Hs
  iexact Hg

/-! ## The whole run -/

set_option backward.isDefEq.respectTransparency.types false in
set_option maxHeartbeats 800000 in
/-- The program runs to its end: every array is what the steps leave, and every counter is back at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to its end, and every array is what the steps leave. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The program runs to its end with its arguments as they began and every counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.ProjIdeal.Hand

end
-- ==== Proof.ProjArray.lean ====
module

public import proofs.«01_k».proof.Proof.ProjBlock
public import proofs.«01_k».proof.Proof.ProjFrame
public import Idealize.ShloMosaic.Lib.Routing.OpsOne

/-! The input projection: the two arrays that the call leaves, from the arguments. -/

@[expose] public section

set_option maxRecDepth 16384

noncomputable section

open Idealize.ShloMosaic Idealize.ShloMosaic.TcCoe Idealize.SL.Sem
open Idealize.ShloMosaic.Pipeline (Dat)

namespace Cert.InProj
open Cert.MergeOut (Row normed)

/-- The batch entry of token `r` of the flattened tokens. -/
def bat (r : Fin 32768) : Fin 8 := ⟨r.val / 4096, by omega⟩
/-- The place of token `r` in its sequence. -/
def pos (r : Fin 32768) : Fin 4096 := ⟨r.val % 4096, by omega⟩

/-- Entry `n` of the projection's row, from the row `y` of the product: the attention's queries, its keys, the plain columns, the memory's
    queries, the gates. -/
def column (y : Row 12320) (aq ak : Row 64) (xq : Row 256) (n : Fin 12288) : EReal :=
  if h1 : n.val < 1024 then heads64 (fun k => y ⟨k.val, by omega⟩) ⟨n.val, h1⟩ * (aq ⟨n.val % 64, by omega⟩ * Ideal.ofBits FTy.f32 0x3E38AA3B#32)
  else if h2 : n.val < 2048 then heads64 (fun k => y ⟨1024 + k.val, by omega⟩) ⟨n.val - 1024, by omega⟩ * ak ⟨n.val % 64, by omega⟩
  else if h3 : n.val < 8192 then y ⟨n.val, by omega⟩
  else if h4 : n.val < 9216 then heads256 (fun k => y ⟨8224 + k.val, by omega⟩) ⟨n.val - 8192, by omega⟩ * (xq ⟨n.val % 256, by omega⟩ * Ideal.ofBits FTy.f32 0x3D800000#32)
  else Ideal.logistic (y ⟨n.val + 32, by omega⟩)

/-- Entry `n` of the steps of dt: the product's columns, then zeros. -/
def step (y : Row 12320) (n : Fin 128) : EReal := if h : n.val < 32 then y ⟨8192 + n.val, by omega⟩ else 0

namespace Array
open Cert.ProjIdeal Cert.ProjIdeal.Gen Cert.ProjIdeal.Hand

/-! ## A row set by a scatter -/

section Scatter
open Idealize.ShloMosaic.Routing

/-- Where one entry of a row lands, the index word naming the row. -/
theorem lands_row {A N : ℕ} (d : ScatterDims (⟨2, ![A, N]⟩ : Shape) (⟨1, ![1]⟩ : Shape) (⟨1, ![N]⟩ : Shape)) (hi : d.insertedWindowDims = [0])
    (hs : d.scatterDimsToOperandDims = [0]) (word : IVec (⟨1, ![1]⟩ : Shape) 32) (k : Fin A) (hk : (word (ValueIdx.ix1 0)).toInt = (k.val : Int))
    (p q : Fin N) (e : Fin A) : d.resultIdx? (ValueIdx.ix1 p) word = some (ValueIdx.ix2 e q) ↔ p = q ∧ e = k := by
  have hm : (0 : Fin 2) ∈ d.scatterDimsToOperandDims := by rw [hs]; exact List.mem_singleton.2 rfl
  have hkept : d.sKept = [1] := by
    show (⟨2, ![A, N]⟩ : Shape).kept d.insertedWindowDims = _
    rw [hi]; rfl
  have w0 : d.window (ValueIdx.ix1 p) 0 = 0 := by
    unfold ScatterDims.window
    rw [dif_neg fun h => (of_decide_eq_true (List.mem_filter.1 h).2) (by rw [hi]; exact List.mem_singleton.2 rfl)]
  have w1 : d.window (ValueIdx.ix1 p) 1 = p.val := by
    unfold ScatterDims.window
    rw [dif_pos (by rw [hkept]; exact List.mem_singleton.2 rfl)]
    have all : ∀ X : Fin 1, (ValueIdx.ix1 p X).val = p.val := fun X => by
      obtain rfl : X = 0 := Subsingleton.elim _ _
      rfl
    exact all _
  have s1 : d.start (ValueIdx.ix1 p) word 1 = 0 := by
    unfold ScatterDims.start
    rw [dif_neg fun h => by rw [hs] at h; exact absurd (List.mem_singleton.1 h) (by decide : (1 : Fin 2) ≠ 0)]
  have s0 : d.start (ValueIdx.ix1 p) word 0 = (k.val : Int) := by
    unfold ScatterDims.start
    rw [dif_pos hm]
    have one : d.siIdx (ValueIdx.ix1 p) ⟨d.scatterDimsToOperandDims.idxOf 0, List.idxOf_lt_length_iff.2 hm⟩ = ValueIdx.ix1 (0 : Fin 1) := by
      funext b
      match b with
      | ⟨0, _⟩ => exact Subsingleton.elim (α := Fin 1) _ _
    rw [one, hk]
  rw [Fin.ext_iff, Fin.ext_iff, resultIdx?_ix2, s0, w0, s1, w1]
  omega

/-- A row set by a scatter, at an entry: the new row in its place, the old array elsewhere. -/
theorem scatter_row {α : Type} {A N : ℕ} (d : ScatterDims (⟨2, ![A, N]⟩ : Shape) (⟨1, ![1]⟩ : Shape) (⟨1, ![N]⟩ : Shape)) (hi : d.insertedWindowDims = [0])
    (hs : d.scatterDimsToOperandDims = [0]) (x : (⟨2, ![A, N]⟩ : Shape).Idx → α) (word : IVec (⟨1, ![1]⟩ : Shape) 32) (u : (⟨1, ![N]⟩ : Shape).Idx → α)
    (k : Fin A) (hk : (word (ValueIdx.ix1 0)).toInt = (k.val : Int)) (e : Fin A) (q : Fin N) :
    Host.scatter d (fun _ b => b) x word u (ValueIdx.ix2 e q) = if e = k then u (ValueIdx.ix1 q) else x (ValueIdx.ix2 e q) := by
  have lands : ∀ j : (⟨1, ![N]⟩ : Shape).Idx, d.resultIdx? j word = some (ValueIdx.ix2 e q) → j 0 = q ∧ e = k := fun j hj =>
    (lands_row d hi hs word k hk (j 0) q e).1 ((congrArg (fun t => d.resultIdx? t word) (ValueIdx.eq_ix1 j).symm).trans hj)
  by_cases h : e = k
  · rw [if_pos h]
    exact scatter_set_hit d x word u _ _ (fun j hj => (congrArg u (ValueIdx.eq_ix1 j)).trans (congrArg (fun t => u (ValueIdx.ix1 t)) (lands j hj).1)) (ValueIdx.ix1 q)
      ((lands_row d hi hs word k hk q q e).2 ⟨rfl, h⟩)
  · rw [if_neg h]
    exact scatter_set_miss d x word u _ fun j hj => h (lands j hj).2

end Scatter

variable (m : (ℓ : Loc nD τ sig) → Buf (Elt Ideal) ℓ) (c : Dev nD)

/-! ## The arguments, as rows -/

/-- Token `r`. -/
def tokenRow (r : Fin 32768) : Row 1024 := fun n => m ((c : Thread nD τ).loc main_arg0) (ix3 (bat r) (pos r) n)
/-- The normalization's gains. -/
def normRow : Row 1024 := fun n => m ((c : Thread nD τ).loc main_arg1) (ix1 n)
/-- The weights. -/
def weights (k : Fin 1024) : Row 12320 := fun n => m ((c : Thread nD τ).loc main_arg2) (ix2 k n)
/-- The gains of the attention's queries. -/
def gainQ : Row 64 := fun n => m ((c : Thread nD τ).loc main_arg3) (ix1 n)
/-- The gains of the attention's keys. -/
def gainK : Row 64 := fun n => m ((c : Thread nD τ).loc main_arg4) (ix1 n)
/-- The gains of the memory's queries. -/
def gainX : Row 256 := fun n => m ((c : Thread nD τ).loc main_arg5) (ix1 n)

/-! ## The buffers that the call reads, after the host lines -/

/-- The tokens the call is given are the input, flattened. -/
theorem x_apply (r : Fin 32768) (n : Fin 1024) :
    V m c main_v27 (ix2 r n) = tokenRow m c r n := by
  show StableHlo.after hostOps0_2 (StableHlo.after hostOps0_1 (StableHlo.after hostOps0 (fun b => m (c, b)))) (Proc.devRef .tc main_v27) (ix2 r n) = _
  entry_read
  pointwise
  rfl
/-- The norm's gain the call is given is the argument. -/
theorem norm_apply (z : Fin 1) (n : Fin 1024) :
    V m c main_v28 (ix2 z n) = normRow m c n := by
  show StableHlo.after hostOps0_2 (StableHlo.after hostOps0_1 (StableHlo.after hostOps0 (fun b => m (c, b)))) (Proc.devRef .tc main_v28) (ix2 z n) = _
  entry_read
  pointwise
  rfl
/-- The first weights are the first 8192 columns of the matrix. -/
theorem wa_apply (k : Fin 1024) (n : Fin 8192) :
    V m c main_v1 (ix2 k n) = weights m c k ⟨n.val, by omega⟩ := by
  show StableHlo.after hostOps0_2 (StableHlo.after hostOps0_1 (StableHlo.after hostOps0 (fun b => m (c, b)))) (Proc.devRef .tc main_v1) (ix2 k n) = _
  entry_read
  pointwise
  rfl
/-- The second weights are the columns after the steps'. -/
theorem wb_apply (k : Fin 1024) (n : Fin 4096) :
    V m c main_v3 (ix2 k n) = weights m c k ⟨8224 + n.val, by omega⟩ := by
  show StableHlo.after hostOps0_2 (StableHlo.after hostOps0_1 (StableHlo.after hostOps0 (fun b => m (c, b)))) (Proc.devRef .tc main_v3) (ix2 k n) = _
  entry_read
  pointwise
  rfl
/-- The weights of the steps are their 32 columns, then zeros. -/
theorem wdt_apply (k : Fin 1024) (n : Fin 128) :
    V m c main_v6 (ix2 k n) = if h : n.val < 32 then weights m c k ⟨8192 + n.val, by omega⟩ else (0 : EReal) := by
  show StableHlo.after hostOps0_2 (StableHlo.after hostOps0_1 (StableHlo.after hostOps0 (fun b => m (c, b)))) (Proc.devRef .tc main_v6) (ix2 k n) = _
  entry_read
  show pad S1024x128 ![0, 0] ![0, 96] ![0, 0] (extractStridedSlice S1024x32 ![0, 8192] (m (c, Proc.tc.devRef main_arg2)) slices_S1024x12320_S1024x32_0_8192)
    (sitofp (F := Ideal) FTy.f32 (constantI S_ 32 0#32)) pads_S1024x32_S1024x128_000_0960 h_S_ (ix2 k n) = _
  pointwise
  refine congrArg (fun z : EReal => if h : n.val < 32 then weights m c k ⟨8192 + n.val, by omega⟩ else z) ?_
  show (((0#32 : BitVec 32).toInt : ℝ) : EReal) = 0
  simp

/-- The gains that the scatters set, at an entry. -/
theorem gain_apply (o : Fin 8) (n : Fin 1024) :
    V m c main_v26 (ix2 o n)
      = if o = 2 then (gainX m c ⟨n.val % 256, by omega⟩ * Ideal.ofBits FTy.f32 0x3D800000#32)
        else if o = 1 then gainK m c ⟨n.val % 64, by omega⟩
        else if o = 0 then (gainQ m c ⟨n.val % 64, by omega⟩ * Ideal.ofBits FTy.f32 0x3E38AA3B#32)
        else Ideal.ofBits FTy.f32 0x00000000#32 := by
  show StableHlo.after hostOps0_2 (StableHlo.after hostOps0_1 (StableHlo.after hostOps0 (fun b => m (c, b)))) (Proc.devRef .tc main_v26) (ix2 o n) = _
  entry_read
  refine (scatter_row _ rfl rfl _ _ _ 2 rfl o n).trans ?_
  refine congrArg₂ (fun a b : EReal => if o = 2 then a else b) ?_ ?_
  · pointwise
    rfl
  refine (scatter_row _ rfl rfl _ _ _ 1 rfl o n).trans ?_
  refine congrArg₂ (fun a b : EReal => if o = 1 then a else b) ?_ ?_
  · pointwise
    rfl
  refine (scatter_row _ rfl rfl _ _ _ 0 rfl o n).trans ?_
  refine congrArg₂ (fun a b : EReal => if o = 0 then a else b) ?_ ?_
  · pointwise
    rfl
  · pointwise

/-- The blocks that stay or follow the rows, as functions of the grid point. -/
theorem idx : ∀ t : Fin cfg0.N, win0_0.index t = ![t.val / 6, 0] ∧ win0_1.index t = ![0, 0] ∧ win0_4.index t = ![0, 0] ∧ win0_5.index t = ![0, 0]
    ∧ win0_6.index t = ![t.val / 6, t.val % 6] ∧ win0_7.index t = ![t.val / 6, 0] ∧ t.val < 192 :=
  (by decide +kernel : ∀ t : Fin grid0.N, _)
/-- The block of the first weights at the steps that use them. -/
theorem idxA : ∀ t : Fin cfg0.N, t.val % 6 < 4 → win0_2.index t = ![0, t.val % 6] := (by decide +kernel : ∀ t : Fin grid0.N, _)
/-- The block of the second weights at the steps that use them. -/
theorem idxB : ∀ t : Fin cfg0.N, 4 ≤ t.val % 6 → win0_3.index t = ![0, t.val % 6 - 4] := (by decide +kernel : ∀ t : Fin grid0.N, _)

/-- Token `r` of step `t`'s block. -/
def tok (t : Fin cfg0.N) (ht : t.val < 192) (r : Fin 1024) : Fin 32768 := ⟨t.val / 6 * 1024 + r.val, by omega⟩

/-- The product's row of token `r`. -/
def productRow (r : Fin 32768) : Row 12320 := through (normed (tokenRow m c r) (normRow m c)) (weights m c)

section
variable (t : Fin cfg0.N) (ht : t.val < 192)

/-! The blocks of step `t`, from the arguments. -/

/-- The block of tokens, entry by entry. -/
theorem b0 (r n : Fin 1024) : iblk m c 0 t (ix2 r n) = tokenRow m c (tok t ht r) n := by
  rw [← x_apply m c]; unfold tok; blk_ext [iblk, idx t]
/-- The block of the norm's gain, entry by entry. -/
theorem b1 (n : Fin 1024) : iblk m c 1 t (ix2 0 n) = normRow m c n := by
  rw [← norm_apply m c 0]; blk_ext [iblk, idx t]
/-- The block of the first weights, entry by entry, where it is used. -/
theorem b2 (hj : t.val % 6 < 4) (k : Fin 1024) (n : Fin 2048) : iblk m c 2 t (ix2 k n) = weights m c k ⟨t.val % 6 * 2048 + n.val, by omega⟩ := by
  refine Eq.trans ?_ (wa_apply m c k ⟨t.val % 6 * 2048 + n.val, by omega⟩)
  blk_ext [iblk, idxA t hj]
/-- The block of the second weights, entry by entry, where it is used. -/
theorem b3 (hj : 4 ≤ t.val % 6) (k : Fin 1024) (n : Fin 2048) : iblk m c 3 t (ix2 k n) = weights m c k ⟨8224 + ((t.val % 6 - 4) * 2048 + n.val), by omega⟩ := by
  refine Eq.trans ?_ (wb_apply m c k ⟨(t.val % 6 - 4) * 2048 + n.val, by omega⟩)
  blk_ext [iblk, idxB t hj]
/-- The block of the steps' weights, entry by entry. -/
theorem b4 (k : Fin 1024) (n : Fin 128) : iblk m c 4 t (ix2 k n) = if h : n.val < 32 then weights m c k ⟨8192 + n.val, by omega⟩ else (0 : EReal) := by
  rw [← wdt_apply m c]; blk_ext [iblk, idx t]
/-- The block of gains is the whole array of gains. -/
theorem b5 (o : Fin 8) (n : Fin 1024) : iblk m c 5 t (ix2 o n) = V m c main_v26 (ix2 o n) := by
  blk_ext [iblk, idx t]

/-! The gains of the three normed sections. -/

/-- Row 0 of the gains: the query heads' gain and its factor. -/
theorem gain0 (n : Fin 1024) : iblk m c 5 t (ix2 0 n) = gainQ m c ⟨n.val % 64, by omega⟩ * Ideal.ofBits FTy.f32 0x3E38AA3B#32 := by
  rw [b5, gain_apply, if_neg (by decide), if_neg (by decide), if_pos rfl]
/-- Row 1 of the gains: the key heads' gain. -/
theorem gain1 (n : Fin 1024) : iblk m c 5 t (ix2 1 n) = gainK m c ⟨n.val % 64, by omega⟩ := by
  rw [b5, gain_apply, if_neg (by decide), if_pos rfl]
/-- Row 2 of the gains: the memory queries' gain and its factor. -/
theorem gain2 (n : Fin 1024) : iblk m c 5 t (ix2 2 n) = gainX m c ⟨n.val % 256, by omega⟩ * Ideal.ofBits FTy.f32 0x3D800000#32 := by
  rw [b5, gain_apply, if_pos rfl]

/-- The normalized rows of step `t`. -/
theorem rows_point (r n : Fin 1024) : rowsAt m c t (ix2 r n) = normed (tokenRow m c (tok t ht r)) (normRow m c) n := by
  unfold rowsAt
  rw [Block.rows_at]
  simp only [b0 m c t ht, b1 m c t]

/-- The product of a step of the first four. -/
theorem acc_first (hj : t.val % 6 < 4) (r : Fin 1024) :
    Block.acc (rowsAt m c t) (iblk m c 2 t) r = fun n => productRow m c (tok t ht r) ⟨t.val % 6 * 2048 + n.val, by omega⟩ := by
  funext n
  unfold Block.acc productRow through
  simp only [rows_point m c t ht, b2 m c t hj]
/-- The product of one of the last two. -/
theorem acc_last (hj : 4 ≤ t.val % 6) (r : Fin 1024) :
    Block.acc (rowsAt m c t) (iblk m c 3 t) r = fun n => productRow m c (tok t ht r) ⟨8224 + ((t.val % 6 - 4) * 2048 + n.val), by omega⟩ := by
  funext n
  unfold Block.acc productRow through
  simp only [rows_point m c t ht, b3 m c t hj]

/-- The steps of dt of step `t`'s rows. -/
theorem steps_point (r : Fin 1024) (n : Fin 128) : stepsAt m c t (ix2 r n) = step (productRow m c (tok t ht r)) n := by
  unfold stepsAt
  rw [Block.steps_at]
  unfold step productRow through
  simp only [b0 m c t ht, b1 m c t, b4 m c t]
  by_cases h : n.val < 32
  · simp only [dif_pos h]
  · simp only [dif_neg h, mul_zero, Finset.sum_const_zero]

end

/-! ## The five kinds of columns -/

section
variable (y : Row 12320) (aq ak : Row 64) (xq : Row 256) (N : Fin 12288)

/-- A query column of the result. -/
theorem column_q (n : Fin 1024) (h : N.val = n.val) :
    column y aq ak xq N = heads64 (fun k => y ⟨k.val, by omega⟩) n * (aq ⟨n.val % 64, by omega⟩ * Ideal.ofBits FTy.f32 0x3E38AA3B#32) := by
  unfold column
  rw [dif_pos (by omega)]
  exact congrArg₂ (fun i j => heads64 (fun k => y ⟨k.val, by omega⟩) i * (aq j * Ideal.ofBits FTy.f32 0x3E38AA3B#32))
    (Fin.ext h) (Fin.ext (by simp only; omega))
/-- A key column of the result. -/
theorem column_k (n : Fin 1024) (h : N.val = 1024 + n.val) :
    column y aq ak xq N = heads64 (fun k => y ⟨1024 + k.val, by omega⟩) n * ak ⟨n.val % 64, by omega⟩ := by
  unfold column
  rw [dif_neg (by omega), dif_pos (by omega)]
  exact congrArg₂ (fun i j => heads64 (fun k => y ⟨1024 + k.val, by omega⟩) i * ak j) (Fin.ext (by simp only; omega)) (Fin.ext (by simp only; omega))
/-- A column of the result that is the product itself. -/
theorem column_plain (h1 : 2048 ≤ N.val) (h2 : N.val < 8192) : column y aq ak xq N = y ⟨N.val, by omega⟩ := by
  unfold column
  rw [dif_neg (by omega), dif_neg (by omega), dif_pos h2]
/-- A query column of the memory attention. -/
theorem column_x (n : Fin 1024) (h : N.val = 8192 + n.val) :
    column y aq ak xq N = heads256 (fun k => y ⟨8224 + k.val, by omega⟩) n * (xq ⟨n.val % 256, by omega⟩ * Ideal.ofBits FTy.f32 0x3D800000#32) := by
  unfold column
  rw [dif_neg (by omega), dif_neg (by omega), dif_neg (by omega), dif_pos (by omega)]
  exact congrArg₂ (fun i j => heads256 (fun k => y ⟨8224 + k.val, by omega⟩) i * (xq j * Ideal.ofBits FTy.f32 0x3D800000#32))
    (Fin.ext (by simp only; omega)) (Fin.ext (by simp only; omega))
/-- A gate column of the result. -/
theorem column_gate (h : 9216 ≤ N.val) : column y aq ak xq N = Ideal.logistic (y ⟨N.val + 32, by omega⟩) := by
  unfold column
  rw [dif_neg (by omega), dif_neg (by omega), dif_neg (by omega), dif_neg (by omega)]

end

/-- The row that the call leaves for token `r`. -/
def columnRow (r : Fin 32768) : Row 12288 := column (productRow m c r) (gainQ m c) (gainK m c) (gainX m c)

section
variable (t : Fin cfg0.N) (ht : t.val < 192) (r : Fin 1024)

/-- The left half of the block a grid point leaves. -/
theorem cols_left (n : Fin 1024) : colsAt m c t (ix2 r ⟨n.val, by omega⟩) = columnRow m c (tok t ht r) ⟨t.val % 6 * 2048 + n.val, by omega⟩ := by
  unfold colsAt columnRow
  by_cases h0 : t.val % 6 = 0
  · rw [if_pos h0, Block.heads_left, acc_first m c t ht (by omega), gain0, column_q _ _ _ _ _ n (by simp only; omega)]
    exact congrArg (fun a => heads64 a n * _) (funext fun k => congrArg (productRow m c (tok t ht r)) (Fin.ext (by simp only; omega)))
  by_cases h4 : t.val % 6 = 4
  · rw [if_neg h0, if_pos h4, Block.memory_left, acc_last m c t ht (by omega), gain2, column_x _ _ _ _ _ n (by simp only; omega)]
    exact congrArg (fun a => heads256 a n * _) (funext fun k => congrArg (productRow m c (tok t ht r)) (Fin.ext (by simp only; omega)))
  by_cases h5 : t.val % 6 = 5
  · rw [if_neg h0, if_neg h4, if_pos h5, Block.gates_left, acc_last m c t ht (by omega), column_gate _ _ _ _ _ (by simp only; omega)]
    exact congrArg (fun a => Ideal.logistic (productRow m c (tok t ht r) a)) (Fin.ext (by simp only; omega))
  · rw [if_neg h0, if_neg h4, if_neg h5, Block.plain_left, acc_first m c t ht (by omega), column_plain _ _ _ _ _ (by simp only; omega) (by simp only; omega)]
    rfl
/-- The right half of the block a grid point leaves. -/
theorem cols_right (n : Fin 1024) : colsAt m c t (ix2 r ⟨1024 + n.val, by omega⟩) = columnRow m c (tok t ht r) ⟨t.val % 6 * 2048 + (1024 + n.val), by omega⟩ := by
  unfold colsAt columnRow
  by_cases h0 : t.val % 6 = 0
  · rw [if_pos h0, Block.heads_right, acc_first m c t ht (by omega), gain1, column_k _ _ _ _ _ n (by simp only; omega)]
    exact congrArg (fun a => heads64 a n * _) (funext fun k => congrArg (productRow m c (tok t ht r)) (Fin.ext (by simp only; omega)))
  by_cases h4 : t.val % 6 = 4
  · rw [if_neg h0, if_pos h4, Block.memory_right, acc_last m c t ht (by omega), column_gate _ _ _ _ _ (by simp only; omega)]
    exact congrArg (fun a => Ideal.logistic (productRow m c (tok t ht r) a)) (Fin.ext (by simp only; omega))
  by_cases h5 : t.val % 6 = 5
  · rw [if_neg h0, if_neg h4, if_pos h5, Block.gates_right, acc_last m c t ht (by omega), column_gate _ _ _ _ _ (by simp only; omega)]
    exact congrArg (fun a => Ideal.logistic (productRow m c (tok t ht r) a)) (Fin.ext (by simp only; omega))
  · rw [if_neg h0, if_neg h4, if_neg h5, Block.plain_right, acc_first m c t ht (by omega), column_plain _ _ _ _ _ (by simp only; omega) (by simp only; omega)]
    rfl

/-- What step `t` leaves in its block of columns. -/
theorem cols_point (n : Fin 2048) : colsAt m c t (ix2 r n) = columnRow m c (tok t ht r) ⟨t.val % 6 * 2048 + n.val, by omega⟩ := by
  by_cases h : n.val < 1024
  · exact cols_left m c t ht r ⟨n.val, h⟩
  · have e : n = ⟨1024 + (n.val - 1024), by omega⟩ := Fin.ext (by simp only; omega)
    refine (congrArg (fun n => colsAt m c t (ix2 r n)) e).trans ((cols_right m c t ht r ⟨n.val - 1024, by omega⟩).trans ?_)
    exact congrArg (columnRow m c (tok t ht r)) (Fin.ext (by simp only; omega))

end

/-- The first array of the call: every token's row of columns. -/
theorem final_cols : (dats m 0 c).arrAt 6 cfg0.N = fun i : S32768x12288.Idx => columnRow m c (i 0) (i 1) := by
  refine (dats m 0 c).arrAt_eq_of_covers 6 _ (by decide +kernel) fun t _ y => ?_
  blk_simp
  rw [after0_6]
  have ht := (idx t).2.2.2.2.2.2
  have hy0 : (y 0).val < 1024 := (y 0).isLt
  have hy1 : (y 1).val < 2048 := (y 1).isLt
  refine ((congrArg (colsAt m c t) (funext fun d => by fin_cases d <;> rfl)).trans (cols_point m c t ht (y 0) (y 1))).trans ?_
  have e0 : (win0_6.blk t).view.emb y 0 = tok t ht (y 0) := Fin.ext (by unfold tok; blk_simp [idx t] <;> (try omega))
  have e1 : (win0_6.blk t).view.emb y 1 = (⟨t.val % 6 * 2048 + (y 1).val, by omega⟩ : Fin 12288) := Fin.ext (by blk_simp [idx t] <;> (try omega))
  exact congrArg₂ (fun i n => columnRow m c i n) e0.symm e1.symm

/-- The second array of the call: every token's steps of dt. -/
theorem final_dt : (dats m 0 c).arrAt 7 cfg0.N = fun i : S32768x128.Idx => step (productRow m c (i 0)) (i 1) := by
  refine (dats m 0 c).arrAt_eq_of_covers 7 _ (by decide +kernel) fun t _ y => ?_
  blk_simp
  rw [after0_7]
  have ht := (idx t).2.2.2.2.2.2
  have hy0 : (y 0).val < 1024 := (y 0).isLt
  refine ((congrArg (stepsAt m c t) (funext fun d => by fin_cases d <;> rfl)).trans (steps_point m c t ht (y 0) (y 1))).trans ?_
  have e0 : (win0_7.blk t).view.emb y 0 = tok t ht (y 0) := Fin.ext (by unfold tok; blk_simp [idx t] <;> (try omega))
  have e1 : (win0_7.blk t).view.emb y 1 = y 1 := Fin.ext (by blk_simp [idx t] <;> (try omega))
  exact congrArg₂ (fun i n => step (productRow m c i) n) e0.symm e1.symm

end Array

end Cert.InProj
-- ==== Proof.ProjRef.lean ====
module

public import proofs.«01_k».proof.Proof.ProjArray
public import proofs.«01_k».proof.Proof.Gen.ProjRefIdeal.Read

/-! The input projection: the reference's two results, from the arguments. -/

@[expose] public section

set_option maxRecDepth 16384

noncomputable section

open Idealize.ShloMosaic Idealize.ShloMosaic.TcCoe Idealize.SL.Sem

namespace Cert.InProj.Ref
open Cert.ProjRefIdeal Cert.ProjRefIdeal.Read
open Cert.MergeOut (Row normed)

variable (x0 : FVec Ideal S8x4096x1024 .f32) (x1 : FVec Ideal S1024 .f32) (x2 : FVec Ideal S1024x12320 .f32) (x3 x4 : FVec Ideal S64 .f32) (x5 : FVec Ideal S256 .f32)
  (b : Fin 8) (p : Fin 4096)

/-- The product's row of one token. -/
def row : Row 12320 := through (normed (fun k => x0 (ix3 b p k)) (fun k => x1 (ix1 k))) (fun k n => x2 (ix2 k n))

/-- The normalized token. -/
theorem h_apply (n : Fin 1024) : val_main_v12 (F := Ideal) x0 x1 (ix3 b p n) = normed (fun k => x0 (ix3 b p k)) (fun k => x1 (ix1 k)) n := by
  rw [val_main_v12_apply, val_main_v9_apply, val_main_v8_apply, val_main_v7_apply, val_main_v6_apply, val_main_v5_apply,
    val_main_v4_apply, val_main_v3_apply, val_main_v2_apply, val_main_v1_apply, val_main_v11_apply, val_main_v10_apply]
  simp only [val_main_v0_apply]
  unfold val_main_cst val_main_cst_0 val_main_cst_1
  have e : ∀ k, idx_main_v1 (idx_main_v2 (idx_main_v8 (ix3 b p n))) k = ix3 b p k := fun k => funext fun d => by fin_cases d <;> rfl
  have e' : idx_main_v10 (idx_main_v11 (ix3 b p n)) = ix1 n := funext fun d => by fin_cases d; rfl
  simp only [e, e']
  unfold normed
  pointwise

/-- The product. -/
theorem product_apply (n : Fin 12320) : val_main_v13 (F := Ideal) x0 x1 x2 (ix3 b p n) = row x0 x1 x2 b p n := by
  have h := fun k => h_apply x0 x1 b p k
  rw [val_main_v13_apply]
  generalize val_main_v12 (F := Ideal) x0 x1 = y at h ⊢
  have e : ∀ k, lidx_main_v13 (ix3 b p n) k = ix3 b p k := fun k => funext fun d => by fin_cases d <;> rfl
  have e' : ∀ k, ridx_main_v13 (ix3 b p n) k = ix2 k n := fun k => funext fun d => by fin_cases d <;> rfl
  simp only [e, e', h]
  rfl

/-! ## The product's sections -/

/-- The reference's query columns. -/
theorem query_apply (n : Fin 1024) : val_main_v14 (F := Ideal) x0 x1 x2 (ix3 b p n) = row x0 x1 x2 b p ⟨n.val, by omega⟩ := by
  rw [← product_apply]; unfold val_main_v14; generalize val_main_v13 (F := Ideal) x0 x1 x2 = y; pointwise
/-- The reference's key columns. -/
theorem key_apply (n : Fin 1024) : val_main_v15 (F := Ideal) x0 x1 x2 (ix3 b p n) = row x0 x1 x2 b p ⟨1024 + n.val, by omega⟩ := by
  rw [← product_apply]; unfold val_main_v15; generalize val_main_v13 (F := Ideal) x0 x1 x2 = y; pointwise
/-- The reference's plain columns. -/
theorem plain_apply (n : Fin 6144) : val_main_v16 (F := Ideal) x0 x1 x2 (ix3 b p n) = row x0 x1 x2 b p ⟨2048 + n.val, by omega⟩ := by
  rw [← product_apply]; unfold val_main_v16; generalize val_main_v13 (F := Ideal) x0 x1 x2 = y; pointwise
/-- The reference's columns of the steps. -/
theorem dt_apply (n : Fin 32) : val_main_v17 (F := Ideal) x0 x1 x2 (ix3 b p n) = row x0 x1 x2 b p ⟨8192 + n.val, by omega⟩ := by
  rw [← product_apply]; unfold val_main_v17; generalize val_main_v13 (F := Ideal) x0 x1 x2 = y; pointwise
/-- The reference's query columns of the memory attention. -/
theorem memory_apply (n : Fin 1024) : val_main_v18 (F := Ideal) x0 x1 x2 (ix3 b p n) = row x0 x1 x2 b p ⟨8224 + n.val, by omega⟩ := by
  rw [← product_apply]; unfold val_main_v18; generalize val_main_v13 (F := Ideal) x0 x1 x2 = y; pointwise
/-- The reference's columns of the gates. -/
theorem gate_apply (n : Fin 3072) : val_main_v19 (F := Ideal) x0 x1 x2 (ix3 b p n) = row x0 x1 x2 b p ⟨9248 + n.val, by omega⟩ := by
  rw [← product_apply]; unfold val_main_v19; generalize val_main_v13 (F := Ideal) x0 x1 x2 = y; pointwise

/-! ## The normed sections -/

/-- The attention's queries, by heads. -/
theorem q_apply (h : Fin 16) (l : Fin 64) : val_main_v20 (F := Ideal) x0 x1 x2 (ix4 b p h l) = row x0 x1 x2 b p ⟨64 * h.val + l.val, by omega⟩ := by
  refine Eq.trans ?_ (query_apply x0 x1 x2 b p ⟨64 * h.val + l.val, by omega⟩)
  unfold val_main_v20; generalize val_main_v14 (F := Ideal) x0 x1 x2 = y; pointwise
  exact congrArg (fun k => y (ix3 b p k)) (Fin.ext (by simp only; omega))
/-- The attention's keys, by heads. -/
theorem k_apply (h : Fin 16) (l : Fin 64) : val_main_v36 (F := Ideal) x0 x1 x2 (ix4 b p h l) = row x0 x1 x2 b p ⟨1024 + (64 * h.val + l.val), by omega⟩ := by
  refine Eq.trans ?_ (key_apply x0 x1 x2 b p ⟨64 * h.val + l.val, by omega⟩)
  unfold val_main_v36; generalize val_main_v15 (F := Ideal) x0 x1 x2 = y; pointwise
  exact congrArg (fun k => y (ix3 b p k)) (Fin.ext (by simp only; omega))
/-- The memory's queries, by heads. -/
theorem m_apply (h : Fin 4) (l : Fin 256) : val_main_v50 (F := Ideal) x0 x1 x2 (ix4 b p h l) = row x0 x1 x2 b p ⟨8224 + (256 * h.val + l.val), by omega⟩ := by
  refine Eq.trans ?_ (memory_apply x0 x1 x2 b p ⟨256 * h.val + l.val, by omega⟩)
  unfold val_main_v50; generalize val_main_v18 (F := Ideal) x0 x1 x2 = y; pointwise
  exact congrArg (fun k => y (ix3 b p k)) (Fin.ext (by simp only; omega))

/-- The attention's queries: normed by heads, scaled by the gains and the constant. -/
theorem q_normed (n : Fin 1024) : val_main_v35 (F := Ideal) x0 x1 x2 x3 (ix4 b p (⟨n.val / 64, by omega⟩ : Fin 16) (⟨n.val % 64, by omega⟩ : Fin 64))
    = heads64 (fun k => row x0 x1 x2 b p ⟨k.val, by omega⟩) n * (x3 (ix1 ⟨n.val % 64, by omega⟩) * Ideal.ofBits FTy.f32 0x3E38AA3B#32) := by
  have hz := fun l => q_apply x0 x1 x2 b p (⟨n.val / 64, by omega⟩ : Fin 16) l
  rw [val_main_v35_apply, val_main_v34_apply, val_main_v33_apply, val_main_v30_apply, val_main_v29_apply, val_main_v28_apply, val_main_v27_apply, val_main_v26_apply,
    val_main_v25_apply, val_main_v24_apply, val_main_v23_apply, val_main_v22_apply, val_main_v32_apply, val_main_v31_apply]
  simp only [val_main_v21_apply]
  generalize val_main_v20 (F := Ideal) x0 x1 x2 = z at hz ⊢
  unfold val_main_cst_2 val_main_cst_3 val_main_cst_4 val_main_cst_5
  have e : ∀ k, idx_main_v22 (idx_main_v23 (idx_main_v29 (ix4 b p (⟨n.val / 64, by omega⟩ : Fin 16) (⟨n.val % 64, by omega⟩ : Fin 64)))) k
      = ix4 b p (⟨n.val / 64, by omega⟩ : Fin 16) k := fun k => funext fun d => by fin_cases d <;> rfl
  have e' : idx_main_v31 (idx_main_v32 (ix4 b p (⟨n.val / 64, by omega⟩ : Fin 16) (⟨n.val % 64, by omega⟩ : Fin 64))) = ix1 (⟨n.val % 64, by omega⟩ : Fin 64) :=
    funext fun d => by fin_cases d; rfl
  simp only [e, e', hz]
  have en : (⟨64 * (n.val / 64) + n.val % 64, by omega⟩ : Fin 12320) = ⟨n.val, by omega⟩ := Fin.ext (by simp only; omega)
  rw [en]
  unfold heads64 lane64
  generalize row x0 x1 x2 b p = v
  pointwise
  exact mul_assoc _ _ _
/-- The attention's keys: normed by heads, scaled by the gains. -/
theorem k_normed (n : Fin 1024) : val_main_v49 (F := Ideal) x0 x1 x2 x4 (ix4 b p (⟨n.val / 64, by omega⟩ : Fin 16) (⟨n.val % 64, by omega⟩ : Fin 64))
    = heads64 (fun k => row x0 x1 x2 b p ⟨1024 + k.val, by omega⟩) n * x4 (ix1 ⟨n.val % 64, by omega⟩) := by
  have hz := fun l => k_apply x0 x1 x2 b p (⟨n.val / 64, by omega⟩ : Fin 16) l
  rw [val_main_v49_apply, val_main_v46_apply, val_main_v45_apply, val_main_v44_apply, val_main_v43_apply, val_main_v42_apply,
    val_main_v41_apply, val_main_v40_apply, val_main_v39_apply, val_main_v38_apply, val_main_v48_apply, val_main_v47_apply]
  simp only [val_main_v37_apply]
  generalize val_main_v36 (F := Ideal) x0 x1 x2 = z at hz ⊢
  unfold val_main_cst_6 val_main_cst_7 val_main_cst_8
  have e : ∀ k, idx_main_v38 (idx_main_v39 (idx_main_v45 (ix4 b p (⟨n.val / 64, by omega⟩ : Fin 16) (⟨n.val % 64, by omega⟩ : Fin 64)))) k
      = ix4 b p (⟨n.val / 64, by omega⟩ : Fin 16) k := fun k => funext fun d => by fin_cases d <;> rfl
  have e' : idx_main_v47 (idx_main_v48 (ix4 b p (⟨n.val / 64, by omega⟩ : Fin 16) (⟨n.val % 64, by omega⟩ : Fin 64))) = ix1 (⟨n.val % 64, by omega⟩ : Fin 64) :=
    funext fun d => by fin_cases d; rfl
  simp only [e, e', hz]
  have en : (⟨1024 + (64 * (n.val / 64) + n.val % 64), by omega⟩ : Fin 12320) = ⟨1024 + n.val, by omega⟩ := Fin.ext (by simp only; omega)
  rw [en]
  unfold heads64 lane64
  generalize row x0 x1 x2 b p = v
  pointwise
/-- The memory's queries: normed by heads, scaled by the gains and the constant. -/
theorem m_normed (n : Fin 1024) : val_main_v65 (F := Ideal) x0 x1 x2 x5 (ix4 b p (⟨n.val / 256, by omega⟩ : Fin 4) (⟨n.val % 256, by omega⟩ : Fin 256))
    = heads256 (fun k => row x0 x1 x2 b p ⟨8224 + k.val, by omega⟩) n * (x5 (ix1 ⟨n.val % 256, by omega⟩) * Ideal.ofBits FTy.f32 0x3D800000#32) := by
  have hz := fun l => m_apply x0 x1 x2 b p (⟨n.val / 256, by omega⟩ : Fin 4) l
  rw [val_main_v65_apply, val_main_v64_apply, val_main_v63_apply, val_main_v60_apply, val_main_v59_apply, val_main_v58_apply, val_main_v57_apply, val_main_v56_apply,
    val_main_v55_apply, val_main_v54_apply, val_main_v53_apply, val_main_v52_apply, val_main_v62_apply, val_main_v61_apply]
  simp only [val_main_v51_apply]
  generalize val_main_v50 (F := Ideal) x0 x1 x2 = z at hz ⊢
  unfold val_main_cst_9 val_main_cst_10 val_main_cst_11 val_main_cst_12
  have e : ∀ k, idx_main_v52 (idx_main_v53 (idx_main_v59 (ix4 b p (⟨n.val / 256, by omega⟩ : Fin 4) (⟨n.val % 256, by omega⟩ : Fin 256)))) k
      = ix4 b p (⟨n.val / 256, by omega⟩ : Fin 4) k := fun k => funext fun d => by fin_cases d <;> rfl
  have e' : idx_main_v61 (idx_main_v62 (ix4 b p (⟨n.val / 256, by omega⟩ : Fin 4) (⟨n.val % 256, by omega⟩ : Fin 256))) = ix1 (⟨n.val % 256, by omega⟩ : Fin 256) :=
    funext fun d => by fin_cases d; rfl
  simp only [e, e', hz]
  have en : (⟨8224 + (256 * (n.val / 256) + n.val % 256), by omega⟩ : Fin 12320) = ⟨8224 + n.val, by omega⟩ := Fin.ext (by simp only; omega)
  rw [en]
  unfold heads256 lane256
  generalize row x0 x1 x2 b p = v
  pointwise
  exact mul_assoc _ _ _

/-- The gates. -/
theorem gate_value (n : Fin 3072) : val_main_v71 (F := Ideal) x0 x1 x2 (ix3 b p n) = Ideal.logistic (row x0 x1 x2 b p ⟨9248 + n.val, by omega⟩) := by
  have h := gate_apply x0 x1 x2 b p n
  unfold val_main_v71 val_main_v70 val_main_v69 val_main_v68 val_main_v67 val_main_v66 val_main_cst_13 val_main_cst_14
  generalize val_main_v19 (F := Ideal) x0 x1 x2 = y at h ⊢
  pointwise
  rw [h]
  rfl

/-- The first result: the token's row of columns. -/
theorem out_cols (n : Fin 12288) : val_main_v76 (F := Ideal) x0 x1 x2 x3 x4 x5 (ix3 b p n)
    = column (row x0 x1 x2 b p) (fun n => x3 (ix1 n)) (fun n => x4 (ix1 n)) (fun n => x5 (ix1 n)) n := by
  unfold val_main_v76 val_main_v75 val_main_v72 val_main_v73 val_main_v74
  have hq := q_normed x0 x1 x2 x3 b p
  have hk := k_normed x0 x1 x2 x4 b p
  have hm := m_normed x0 x1 x2 x5 b p
  have hp := plain_apply x0 x1 x2 b p
  have hg := gate_value x0 x1 x2 b p
  generalize val_main_v35 (F := Ideal) x0 x1 x2 x3 = zq at hq ⊢
  generalize val_main_v49 (F := Ideal) x0 x1 x2 x4 = zk at hk ⊢
  generalize val_main_v65 (F := Ideal) x0 x1 x2 x5 = zm at hm ⊢
  generalize val_main_v16 (F := Ideal) x0 x1 x2 = zp at hp ⊢
  generalize val_main_v71 (F := Ideal) x0 x1 x2 = zg at hg ⊢
  pointwise
  by_cases h1 : n.val < 1024
  · rw [dif_pos h1, Array.column_q _ _ _ _ n ⟨n.val, h1⟩ rfl, ← hq]
  rw [dif_neg h1]
  by_cases h2 : n.val - 1024 < 1024
  · rw [dif_pos h2, Array.column_k _ _ _ _ n ⟨n.val - 1024, h2⟩ (by simp only; omega), ← hk]
  rw [dif_neg h2]
  by_cases h3 : n.val - 1024 - 1024 < 6144
  · rw [dif_pos h3, Array.column_plain _ _ _ _ n (by omega) (by omega), hp]
    exact congrArg (row x0 x1 x2 b p) (Fin.ext (by simp only; omega))
  rw [dif_neg h3]
  by_cases h4 : n.val - 1024 - 1024 - 6144 < 1024
  · rw [dif_pos h4, Array.column_x _ _ _ _ n ⟨n.val - 1024 - 1024 - 6144, h4⟩ (by simp only; omega), ← hm]
  · rw [dif_neg h4, Array.column_gate _ _ _ _ n (by omega), hg]
    exact congrArg (fun k => Ideal.logistic (row x0 x1 x2 b p k)) (Fin.ext (by simp only; omega))

/-- The second result: the token's steps of dt. -/
theorem out_dt (n : Fin 128) : val_main_v77 (F := Ideal) x0 x1 x2 (ix3 b p n) = step (row x0 x1 x2 b p) n := by
  have h := dt_apply x0 x1 x2 b p
  unfold val_main_v77 val_main_call0_v0 val_main_c
  generalize val_main_v17 (F := Ideal) x0 x1 x2 = y at h ⊢
  pointwise
  unfold step
  simp only [h]
  have z : FloatOps.sitofp (F := Ideal) FTy.f32 0#32 = (0 : EReal) := by
    show (((0#32 : BitVec 32).toInt : ℝ) : EReal) = 0
    simp
  rw [z]

end Cert.InProj.Ref
-- ==== Proof.ProjClaims.lean ====
module

public import proofs.«01_k».proof.Defs
public import proofs.«01_k».proof.Proof.ProjRef
public import proofs.«01_k».proof.Proof.Gen.Proj.Frame
public import proofs.«01_k».proof.Proof.Gen.ProjRefIdeal.Run
public import Idealize.ShloMosaic.Lib.Quiescent

/-! The claims about the input projection. -/

@[expose] public section

set_option maxRecDepth 16384

noncomputable section

open Idealize.ShloMosaic Idealize.ShloMosaic.TcCoe Idealize.SL.Sem

namespace Cert.InProj.Claims

section Results
open Cert.ProjIdeal Cert.ProjIdeal.Gen Cert.ProjIdeal.Hand

variable (m : (ℓ : Loc nD τ sig) → Buf (Elt Ideal) ℓ) (c : Dev nD)

/-- A token's place among the flattened tokens. -/
def flat (b : Fin 8) (p : Fin 4096) : Fin 32768 := ⟨b.val * 4096 + p.val, by omega⟩

/-- The product's row of a flattened token is the reference's. -/
theorem productRow_flat (b : Fin 8) (p : Fin 4096) : Array.productRow m c (flat b p)
    = Ref.row (m ((c : Thread nD τ).loc main_arg0)) (m ((c : Thread nD τ).loc main_arg1)) (m ((c : Thread nD τ).loc main_arg2)) b p := by
  have eb : bat (flat b p) = b := Fin.ext (by unfold bat flat; simp only; omega)
  have ep : pos (flat b p) = p := Fin.ext (by unfold pos flat; simp only; omega)
  unfold Array.productRow Array.tokenRow
  rw [eb, ep]
  rfl

/-- The first result buffer when the program ends. -/
theorem tail_cols (b : Fin 8) (p : Fin 4096) (n : Fin 12288) :
    Pipeline.afterTail₀ cfgs (dats m) 0 (V0 m) [hostOps1] c main_v30 (ix3 b p n) = Array.columnRow m c (flat b p) n := by
  unfold Pipeline.afterTail₀
  show StableHlo.after hostOps1 _ (Proc.devRef .tc main_v30) (ix3 b p n) = _
  have e := (Pipeline.withArrays_arr spec0 (by decide) c (V0 m c) (fun w => (dats m 0 c).arrAt w cfg0.N) 6).trans (Array.final_cols m c)
  entry_read
  refine (congrArg (fun z => shapeCast main_v30.ty.shape z shapeCasts_S32768x12288_S8x4096x12288 (ix3 b p n)) e).trans ?_
  pointwise
  rfl

/-- The second result buffer when the program ends. -/
theorem tail_dt (b : Fin 8) (p : Fin 4096) (n : Fin 128) :
    Pipeline.afterTail₀ cfgs (dats m) 0 (V0 m) [hostOps1] c main_v31 (ix3 b p n) = step (Array.productRow m c (flat b p)) n := by
  unfold Pipeline.afterTail₀
  show StableHlo.after hostOps1 _ (Proc.devRef .tc main_v31) (ix3 b p n) = _
  have e := (Pipeline.withArrays_arr spec0 (by decide) c (V0 m c) (fun w => (dats m 0 c).arrAt w cfg0.N) 7).trans (Array.final_dt m c)
  entry_read
  refine (congrArg (fun z => shapeCast main_v31.ty.shape z shapeCasts_S32768x128_S8x4096x128 (ix3 b p n)) e).trans ?_
  pointwise
  rfl

/-- The first result of the kernel's run is the reference's over the same arguments. -/
theorem cols_eq : Pipeline.afterTail₀ cfgs (dats m) 0 (V0 m) [hostOps1] c main_v30
    = Cert.ProjRefIdeal.Read.val_main_v76 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have h : ∀ b p n, Pipeline.afterTail₀ cfgs (dats m) 0 (V0 m) [hostOps1] c main_v30 (ix3 b p n)
      = Cert.ProjRefIdeal.Read.val_main_v76 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix3 b p n) := fun b p n => by
    refine (tail_cols m c b p n).trans (Eq.trans ?_ (Ref.out_cols _ _ _ _ _ _ b p n).symm)
    unfold Array.columnRow
    rw [productRow_flat]
    rfl
  funext i
  have e : i = ix3 (i 0) (i 1) (i 2) := funext fun d => by fin_cases d <;> rfl
  rw [e]
  exact h _ _ _

/-- The second result of the kernel's run is the reference's over the same arguments. -/
theorem dt_eq : Pipeline.afterTail₀ cfgs (dats m) 0 (V0 m) [hostOps1] c main_v31
    = Cert.ProjRefIdeal.Read.val_main_v77 (F := Ideal) (m ((c : Thread nD τ).loc main_arg0)) (m ((c : Thread nD τ).loc main_arg1)) (m ((c : Thread nD τ).loc main_arg2)) := by
  have h : ∀ b p n, Pipeline.afterTail₀ cfgs (dats m) 0 (V0 m) [hostOps1] c main_v31 (ix3 b p n)
      = Cert.ProjRefIdeal.Read.val_main_v77 (F := Ideal) (m ((c : Thread nD τ).loc main_arg0)) (m ((c : Thread nD τ).loc main_arg1)) (m ((c : Thread nD τ).loc main_arg2)) (ix3 b p n) :=
    fun b p n => by
    refine (tail_dt m c b p n).trans (Eq.trans ?_ (Ref.out_dt _ _ _ b p n).symm)
    rw [productRow_flat]
  funext i
  have e : i = ix3 (i 0) (i 1) (i 2) := funext fun d => by fin_cases d <;> rfl
  rw [e]
  exact h _ _ _

end Results

/-! ## The claims -/

/-- The kernel's table at the printed formats is the idealization's: the two programs are printed alike. -/
theorem bodies : Cert.Proj.defs₀ (F := Bits) = Cert.ProjIdeal.defs₀ (F := Bits) := by
  refine congrArg Defs.onTc (funext fun l => funext fun a => ?_)
  obtain ⟨v, hv⟩ := l
  match v, hv with
  | 0, _ => rfl

/-- So are their tables of labels. -/
theorem tables : Cert.Proj.defs (F := Bits) = Cert.ProjIdeal.defs (F := Bits) := congrArg (Pipeline.defs _) bodies

/-- The kernel's program ends with its arguments unchanged and every counter at zero, at the printed formats. -/
theorem frame : Cert.quiescent_Proj := fun m ρ _ =>
  (congrArg (fun d => θ_run d (onTc (τ := Cert.Proj.τ) (Cert.Proj.main (F := Bits))) ⟨m, fun _ => 0, ρ⟩ _) tables).mpr (Cert.ProjIdeal.Hand.frame_holds (F := Bits) m ρ)
/-- The same of its idealization. -/
theorem frame_ideal : Cert.quiescent_ProjIdeal := fun m ρ _ => Cert.ProjIdeal.Hand.frame_holds m ρ
/-- The reference ends with its arguments unchanged and every counter at zero. -/
theorem frame_ref : Cert.quiescent_ProjRefIdeal := fun m ρ _ =>
  (θ_run _ _ _).mono (fun r h => ⟨fun c => (h c).2.2, Idealize.ShloMosaic.sem_eq_zero_of_no_sems (by decide) r.2⟩)
    (Cert.ProjRefIdeal.Value.run m ρ)
/-- The idealization of the projection replaces no constant. -/
theorem preserves : Cert.preserves_Proj_ProjIdeal := trivial

/-- The kernel's results are the reference's. -/
theorem algebraic : Cert.algebraic_ProjIdeal_ProjRefIdeal := by
  intro m g m' g' hpre hagree
  refine ⟨fun c => Pipeline.afterTail₀ Cert.ProjIdeal.cfgs (Cert.ProjIdeal.Hand.dats m) 0 (Cert.ProjIdeal.Gen.V0 m) [Cert.ProjIdeal.Gen.hostOps1] c Cert.ProjIdeal.main_v30,
    fun c => Pipeline.afterTail₀ Cert.ProjIdeal.cfgs (Cert.ProjIdeal.Hand.dats m) 0 (Cert.ProjIdeal.Gen.V0 m) [Cert.ProjIdeal.Gen.hostOps1] c Cert.ProjIdeal.main_v31,
    (θ_run _ _ _).mono (fun r h c => ⟨(h.2 c).2 Cert.ProjIdeal.main_v30 (Pipeline.mem_restRefs_of Cert.ProjIdeal.main_v30 (by decide) (by decide)),
        (h.2 c).2 Cert.ProjIdeal.main_v31 (Pipeline.mem_restRefs_of Cert.ProjIdeal.main_v31 (by decide) (by decide)), h.1 c⟩)
      (θ_run_and (Cert.ProjIdeal.Hand.unchanged m g) (Cert.ProjIdeal.Hand.run_main m g)),
    (θ_run _ _ _).mono (fun r h c => ⟨?_, ?_, (h c).2.2⟩) (Cert.ProjRefIdeal.Value.run m' g')⟩
  · refine (h c).1.trans ((Cert.ProjRefIdeal.Read.val_main_v76_eq m' c).trans ?_)
    obtain ⟨a0, a1, a2, a3, a4, a5⟩ := hagree c
    rw [a0, a1, a2, a3, a4, a5]
    exact (cols_eq m c).symm
  · refine (h c).2.1.trans ((Cert.ProjRefIdeal.Read.val_main_v77_eq _ _ _).trans ?_)
    obtain ⟨a0, a1, a2, _⟩ := hagree c
    rw [a0, a1, a2]
    exact (dt_eq m c).symm

end Cert.InProj.Claims
-- ==== Proof.MemBlock.lean ====
module

public import proofs.«01_k».proof.Proof.Gen.MemoryIdeal.Frame
public import proofs.«01_k».proof.Proof.ProjBlock
public import Idealize.ShloMosaic.Lib.Pipeline.ValueKit
public import Idealize.ShloMosaic.Lib.Pipeline.ReadBack
public import Idealize.ShloMosaic.Lib.Tactic

/-! The memory attention: its keys, its values and its result as functions of rows, and what one step of each of its two
    calls writes. -/

@[expose] public section

set_option maxRecDepth 16384

noncomputable section

open Idealize.ShloMosaic Idealize.ShloMosaic.TcCoe Idealize.SL.Sem

namespace Cert.MemAttn
open Cert.MergeOut (Row normed)
open Cert.InProj (through lane256 heads256)

/-- A memory slot's row of keys and values: the slot normed, through the matrix. -/
def slot (x g : Row 1024) (w : Fin 1024 → Row 2048) : Row 2048 := through (normed x g) w
/-- The keys of a slot: the left half of its row, normed by heads of 256 lanes, times the gain. -/
def keys (a : Row 2048) (g : Row 256) : Row 1024 := fun n => heads256 (fun k => a ⟨k.val, by omega⟩) n * g ⟨n.val % 256, Nat.mod_lt _ (by omega)⟩
/-- The values of a slot: the right half of its row. -/
def values (a : Row 2048) : Row 1024 := fun n => a ⟨1024 + n.val, by omega⟩
/-- The scores of a query against the slots, in the head of 256 lanes that holds `l`. -/
def scores (q : Row 1024) (k : Fin 256 → Row 1024) (l : Fin 1024) : Row 256 := fun t => ∑ e, q (lane256 l e) * k t (lane256 l e)
/-- A softmax of the scores `s` times the values `v`, divided at the end. -/
def attend (s v : Row 256) : EReal :=
  Ideal.div (∑ t, Ideal.exp (s t - Finset.univ.fold max (Ideal.ofBits .f32 0xFF800000#32) s) * v t)
    (∑ t, Ideal.exp (s t - Finset.univ.fold max (Ideal.ofBits .f32 0xFF800000#32) s))

namespace Block
open Cert.MemoryIdeal Cert.MemoryIdeal.Gen

/-! ## The keys and the values -/

/-- The product that a step of the first call computes. -/
theorem product_at (v0 : Vec Ideal S1x256x1024 .f32) (v1 : Vec Ideal S1x1024 .f32) (v2 : Vec Ideal S1024x2048 .bf16) (r : Fin 256) (n : Fin 2048) :
    k0_pay3 v0 v1 v2 (ix2 r n) = slot (fun k => v0 (ix3 0 r k)) (fun k => v1 (ix2 0 k)) (fun k n => v2 (ix2 k n)) n := by
  pointwise [k0_pay3]
  rfl

/-- One head of keys as the kernel computes it, from the head's columns of the product and from the gain. -/
def head (a : FVec Ideal S256x256 .f32) (g : Vec Ideal S1x256 .f32) : FVec Ideal S1x256x256 .bf16 :=
  k0_pay1 a (multiReduction .add [1] S256 (mulf a a) 0x00000000#32 reduces_S256x256_S256 (.inl rfl) rfl) g

/-- One head of keys, entry by entry. -/
theorem head_at (a : FVec Ideal S256x256 .f32) (g : Vec Ideal S1x256 .f32) (r e : Fin 256) :
    head a g (ix3 0 r e) = a (ix2 r e) * Ideal.rsqrt (Ideal.div (∑ k, a (ix2 r k) * a (ix2 r k)) (Ideal.ofBits FTy.f32 0x43800000#32)
      + Ideal.ofBits FTy.f32 0x358637BD#32) * g (ix2 0 e) := by
  unfold head
  pointwise [k0_pay1]

/-- The piece of keys that the body stores for a head, at an index. -/
theorem key_piece (P : FVec Ideal S256x2048 .f32) (g : Vec Ideal S1x256 .f32) (p o : ℕ) (hp : p < 4) (ho : o = 256 * p)
    (h : S256x2048.Slices ![0, o] S256x256) (inb) (x : S1x256x256.Idx) :
    head (extractStridedSlice S256x256 ![0, o] P h) g x
      = (fun y : S1x256x1024.Idx => keys (fun n => P (ix2 (y 1) n)) (fun e => g (ix2 0 e)) (y 2))
          ((Rect.unit (s := S1x256x1024) ![0, 0, o] S1x256x256.size inb).emb x) := by
  obtain ⟨z, a, d, rfl⟩ : ∃ (z : Fin 1) (a d : Fin 256), x = ix3 z a d := ⟨x 0, x 1, x 2, eq_ix3 x⟩
  obtain rfl : z = 0 := Subsingleton.elim _ _
  rw [head_at]
  have ea : ((Rect.unit (s := S1x256x1024) ![0, 0, o] S1x256x256.size inb).emb (ix3 0 a d)) 1 = a :=
    Fin.ext ((ValueKit.rect_emb_unit_val _ _ inb (ix3 0 a d) 1).trans (Nat.zero_add _))
  have ed : (((Rect.unit (s := S1x256x1024) ![0, 0, o] S1x256x256.size inb).emb (ix3 0 a d)) 2 : Fin 1024).val = o + d.val :=
    ValueKit.rect_emb_unit_val _ _ inb (ix3 0 a d) 2
  show _ = keys (fun n => P (ix2 (((Rect.unit (s := S1x256x1024) ![0, 0, o] S1x256x256.size inb).emb (ix3 0 a d)) 1) n)) (fun e => g (ix2 0 e))
    (((Rect.unit (s := S1x256x1024) ![0, 0, o] S1x256x256.size inb).emb (ix3 0 a d)) 2)
  generalize ((Rect.unit (s := S1x256x1024) ![0, 0, o] S1x256x256.size inb).emb (ix3 0 a d)) 1 = a' at ea
  generalize (((Rect.unit (s := S1x256x1024) ![0, 0, o] S1x256x256.size inb).emb (ix3 0 a d)) 2 : Fin 1024) = l at ed
  obtain rfl : a' = a := ea
  unfold keys heads256
  have hd := d.isLt
  have e1 : (⟨l.val % 256, Nat.mod_lt _ (by omega)⟩ : Fin 256) = d := Fin.ext (by simp only; omega)
  rw [e1, InProj.Block.cut_at P o h a' d ⟨l.val, by omega⟩ ed]
  have e2 : ∀ k : Fin 256, extractStridedSlice S256x256 ![0, o] P h (ix2 a' k) = P (ix2 a' ⟨(lane256 l k).val, by omega⟩) := fun k =>
    InProj.Block.cut_at P o h a' k _ (by simp only [lane256]; omega)
  simp only [e2]

variable (x0 : Vec Ideal S1x256x1024 .f32) (x1 : Vec Ideal S1x1024 .f32) (x2 : Vec Ideal S1024x2048 .bf16) (x3 : Vec Ideal S1x256 .f32)

/-- The row of keys and values of slot `r` of a block, read off the step's blocks. -/
def row (r : Fin 256) : Row 2048 := slot (fun k => x0 (ix3 0 r k)) (fun k => x1 (ix2 0 k)) (fun k n => x2 (ix2 k n))

/-- A load of a whole block is the block. -/
theorem ld_whole : View.ld x0 r0_0 = x0 ∧ View.ld x1 r0_1 = x1 ∧ View.ld x2 r0_2 = x2 ∧ View.ld x3 r0_3 = x3 := by
  refine ⟨funext fun i => View.ld_unit_apply_of x0 _ _ _ _ _ fun a => ?_, funext fun i => View.ld_unit_apply_of x1 _ _ _ _ _ fun a => ?_,
    funext fun i => View.ld_unit_apply_of x2 _ _ _ _ _ fun a => ?_, funext fun i => View.ld_unit_apply_of x3 _ _ _ _ _ fun a => ?_⟩
  all_goals fin_cases a <;> exact (Nat.zero_add _).symm

/-- What a step of the first call writes to the block of keys. -/
theorem out_keys (y : S1x256x1024.Idx) :
    out0_4 x0 x1 x2 x3 y = keys (row x0 x1 x2 (y 1)) (fun e => x3 (ix2 0 e)) (y 2) := by
  obtain ⟨e0, e1, e2, e3⟩ := ld_whole x0 x1 x2 x3
  have hP : (fun n => k0_pay3 x0 x1 x2 (ix2 (y 1) n)) = row x0 x1 x2 (y 1) := funext fun n => product_at x0 x1 x2 (y 1) n
  refine Eq.trans ?_ (congrArg (fun a => keys a (fun e => x3 (ix2 0 e)) (y 2)) hP)
  unfold out0_4 k0_pay9
  rw [e0, e1, e2, e3]
  refine View.canon_append_of_piecesOf (Val := Elt Ideal) (s := S1x256x1024) (e := .bf16)
    ((fun y : S1x256x1024.Idx => keys (fun n => k0_pay3 x0 x1 x2 (ix2 (y 1) n)) (fun e => x3 (ix2 0 e)) (y 2)) : Vec Ideal S1x256x1024 .bf16) []
    [_, _, _, _] ⟨?_, ?_, ?_, ?_, trivial⟩ y (cover0_4 _ _ _ _ y)
  · exact key_piece (k0_pay3 x0 x1 x2) x3 3 768 (by omega) rfl slices_S256x2048_o0_768_S256x256 (by decide)
  · exact key_piece (k0_pay3 x0 x1 x2) x3 2 512 (by omega) rfl slices_S256x2048_o0_512_S256x256 (by decide)
  · exact key_piece (k0_pay3 x0 x1 x2) x3 1 256 (by omega) rfl slices_S256x2048_o0_256_S256x256 (by decide)
  · exact key_piece (k0_pay3 x0 x1 x2) x3 0 0 (by omega) rfl slices_S256x2048_o0_0_S256x256 (by decide)

/-- What a step of the first call writes to the block of values, by row and column. -/
theorem out_values_at (r : Fin 256) (n : Fin 1024) :
    out0_5 x0 x1 x2 x3 (ix3 0 r n) = values (row x0 x1 x2 r) n := by
  have h := product_at x0 x1 x2 r
  frame_out [k0_pay9]
  unfold row
  generalize k0_pay3 x0 x1 x2 = P at h ⊢
  pointwise [k0_pay2]
  rw [h]
  rfl

/-! ## The attention -/

/-- One head as the kernel computes it, entry by entry. -/
theorem attend_at (q : Vec Ideal S1x512x256 .bf16) (k v : Vec Ideal S1x256x256 .bf16) (r : Fin 512) (d : Fin 256) :
    k1_pay2 q k v (ix3 0 r d) = attend (fun t => ∑ e, q (ix3 0 r e) * k (ix3 0 t e)) (fun t => v (ix3 0 t d)) := by
  pointwise [k1_pay2]
  rfl

/-- The block that a step of the second call leaves, at a row and a column. -/
def tile (q : Vec Ideal S1x512x1024 .bf16) (k v : Vec Ideal S1x256x1024 .bf16) (r : Fin 512) (l : Fin 1024) : EReal :=
  attend (scores (fun l => q (ix3 0 r l)) (fun t l => k (ix3 0 t l)) l) fun t => v (ix3 0 t l)

/-- The piece that the body stores for a head, at an index. -/
theorem piece (q : Vec Ideal S1x512x1024 .bf16) (k v : Vec Ideal S1x256x1024 .bf16) (p o : ℕ) (hp : p < 4) (ho : o = 256 * p) (inb) (inb')
    (x : S1x512x256.Idx) :
    k1_pay2 (View.ld q (Rect.unit (s := S1x512x1024) ![0, 0, o] S1x512x256.size inb))
        (View.ld k (Rect.unit (s := S1x256x1024) ![0, 0, o] S1x256x256.size inb'))
        (View.ld v (Rect.unit (s := S1x256x1024) ![0, 0, o] S1x256x256.size inb')) x
      = (fun y : S1x512x1024.Idx => tile q k v (y 1) (y 2)) ((Rect.unit (s := S1x512x1024) ![0, 0, o] S1x512x256.size inb).emb x) := by
  obtain ⟨z, a, d, rfl⟩ : ∃ (z : Fin 1) (a : Fin 512) (d : Fin 256), x = ix3 z a d := ⟨x 0, x 1, x 2, eq_ix3 x⟩
  obtain rfl : z = 0 := Subsingleton.elim _ _
  rw [attend_at]
  have ea : ((Rect.unit (s := S1x512x1024) ![0, 0, o] S1x512x256.size inb).emb (ix3 0 a d)) 1 = a :=
    Fin.ext ((ValueKit.rect_emb_unit_val _ _ inb (ix3 0 a d) 1).trans (Nat.zero_add _))
  have ed : (((Rect.unit (s := S1x512x1024) ![0, 0, o] S1x512x256.size inb).emb (ix3 0 a d)) 2 : Fin 1024).val = o + d.val :=
    ValueKit.rect_emb_unit_val _ _ inb (ix3 0 a d) 2
  show _ = tile q k v (((Rect.unit (s := S1x512x1024) ![0, 0, o] S1x512x256.size inb).emb (ix3 0 a d)) 1)
    (((Rect.unit (s := S1x512x1024) ![0, 0, o] S1x512x256.size inb).emb (ix3 0 a d)) 2)
  generalize ((Rect.unit (s := S1x512x1024) ![0, 0, o] S1x512x256.size inb).emb (ix3 0 a d)) 1 = a' at ea
  generalize (((Rect.unit (s := S1x512x1024) ![0, 0, o] S1x512x256.size inb).emb (ix3 0 a d)) 2 : Fin 1024) = l at ed
  obtain rfl : a' = a := ea
  have hd := d.isLt
  have hq : ∀ (r : Fin 512) (e : Fin 256) (l' : Fin 1024) (hl : l'.val = o + e.val),
      View.ld q (Rect.unit (s := S1x512x1024) ![0, 0, o] S1x512x256.size inb) (ix3 0 r e) = q (ix3 0 r l') := fun r e l' hl =>
    View.ld_unit_apply_of q _ _ inb _ _ fun a => by
      match a with
      | ⟨0, _⟩ => rfl
      | ⟨1, _⟩ => exact (Nat.zero_add _).symm
      | ⟨2, _⟩ => exact hl
  have hk : ∀ (X : Vec Ideal S1x256x1024 .bf16) (r : Fin 256) (e : Fin 256) (l' : Fin 1024) (hl : l'.val = o + e.val),
      View.ld X (Rect.unit (s := S1x256x1024) ![0, 0, o] S1x256x256.size inb') (ix3 0 r e) = X (ix3 0 r l') := fun X r e l' hl =>
    View.ld_unit_apply_of X _ _ inb' _ _ fun a => by
      match a with
      | ⟨0, _⟩ => rfl
      | ⟨1, _⟩ => exact (Nat.zero_add _).symm
      | ⟨2, _⟩ => exact hl
  unfold tile
  refine congrArg₂ attend (funext fun t => ?_) (funext fun t => hk v t d l ed)
  unfold scores
  refine Finset.sum_congr rfl fun e _ => ?_
  have hl : (lane256 l e).val = o + e.val := by simp only [lane256]; omega
  rw [hq a' e _ hl, hk k t e _ hl]

/-- The block that a step of the second call leaves, at an index. -/
theorem out_eq (q : Vec Ideal S1x512x1024 .bf16) (k v : Vec Ideal S1x256x1024 .bf16) (y : S1x512x1024.Idx) :
    out1_3 q k v y = tile q k v (y 1) (y 2) := by
  unfold out1_3
  refine View.canon_append_of_piecesOf (Val := Elt Ideal) (s := S1x512x1024) (e := .bf16)
    ((fun y : S1x512x1024.Idx => tile q k v (y 1) (y 2)) : Vec Ideal S1x512x1024 .bf16) []
    [_, _, _, _] ⟨?_, ?_, ?_, ?_, trivial⟩ y (cover1_3 _ _ _ _ y)
  · exact piece q k v 3 768 (by omega) rfl _ _
  · exact piece q k v 2 512 (by omega) rfl _ _
  · exact piece q k v 1 256 (by omega) rfl _ _
  · exact piece q k v 0 0 (by omega) rfl _ _

end Block

end Cert.MemAttn
-- ==== Proof.MemArray.lean ====
module

public import proofs.«01_k».proof.Proof.MemBlock

/-! The arrays that the memory attention's two calls leave, in terms of the arguments. -/

@[expose] public section

set_option maxRecDepth 16384

noncomputable section

open Idealize.ShloMosaic Idealize.ShloMosaic.TcCoe Idealize.SL.Sem
open Idealize.ShloMosaic.Pipeline (Dat)

namespace Cert.MemAttn.Array

open Cert.MemoryIdeal Cert.MemoryIdeal.Gen
open Cert.MergeOut (Row)

variable (m : (ℓ : Loc nD τ sig) → Buf (Elt Ideal) ℓ) (ρ : Dev nD → PrngReg) (c : Dev nD)

/-- The row of keys and values of memory slot `s` of batch entry `b`, from the arguments. -/
def rowAt (b : Fin 8) (s : Fin 256) : Row 2048 :=
  slot (fun k => m ((c : Thread nD τ).loc main_arg1) (ix3 b s k)) (fun k => m ((c : Thread nD τ).loc main_arg2) (ix1 k))
    (fun k n => m ((c : Thread nD τ).loc main_arg3) (ix2 k n))
/-- The gain of the keys. -/
def gain : Row 256 := fun e => m ((c : Thread nD τ).loc main_arg4) (ix1 e)

/-! ## The first call -/

/-- The norm's gain that the first call is given is the argument. -/
theorem g_apply (n : Fin 1024) : V1 m ρ c main_v0 (ix2 0 n) = m ((c : Thread nD τ).loc main_arg2) (ix1 n) := by
  show StableHlo.after hostOps0 (fun b => m (c, b)) (Proc.devRef .tc main_v0) (ix2 0 n) = _
  entry_read
  pointwise
/-- The matrix that the first call is given is the argument. -/
theorem w_apply (k : Fin 1024) (n : Fin 2048) : V1 m ρ c main_v1 (ix2 k n) = m ((c : Thread nD τ).loc main_arg3) (ix2 k n) := by
  show StableHlo.after hostOps0 (fun b => m (c, b)) (Proc.devRef .tc main_v1) (ix2 k n) = _
  entry_read
  pointwise
/-- The keys' gain that the first call is given is the argument. -/
theorem gain_apply (e : Fin 256) : V1 m ρ c main_v2 (ix2 0 e) = m ((c : Thread nD τ).loc main_arg4) (ix1 e) := by
  show StableHlo.after hostOps0 (fun b => m (c, b)) (Proc.devRef .tc main_v2) (ix2 0 e) = _
  entry_read
  pointwise

/-- The first call's blocks, as functions of the grid point. -/
theorem idx0 : ∀ t : Fin cfg0.N, win0_0.index t = ![t.val, 0, 0] ∧ win0_1.index t = ![0, 0] ∧ win0_2.index t = ![0, 0] ∧ win0_3.index t = ![0, 0]
    ∧ win0_4.index t = ![t.val, 0, 0] ∧ win0_5.index t = ![t.val, 0, 0] :=
  (by decide +kernel : ∀ t : Fin grid0.N, _)

/-- The rows that a step of the first call computes. -/
theorem row_apply (t : Fin cfg0.N) (ht : t.val < 8) (s : Fin 256) :
    Block.row (iblk0 (V1 m ρ) c 0 t) (iblk0 (V1 m ρ) c 1 t) (iblk0 (V1 m ρ) c 2 t) s = rowAt m c ⟨t.val, ht⟩ s := by
  have hx : ∀ k, iblk0 (V1 m ρ) c 0 t (ix3 0 s k) = m ((c : Thread nD τ).loc main_arg1) (ix3 ⟨t.val, ht⟩ s k) := fun k => by
    rw [← show V1 m ρ c main_arg1 = m ((c : Thread nD τ).loc main_arg1) from W1_args m ρ c main_arg1 (by decide)]
    blk_ext [iblk0, idx0 t]
  have hg : ∀ k, iblk0 (V1 m ρ) c 1 t (ix2 0 k) = m ((c : Thread nD τ).loc main_arg2) (ix1 k) := fun k => by
    rw [← g_apply m ρ c]
    blk_ext [iblk0, idx0 t]
  have hw : ∀ k n, iblk0 (V1 m ρ) c 2 t (ix2 k n) = m ((c : Thread nD τ).loc main_arg3) (ix2 k n) := fun k n => by
    rw [← w_apply m ρ c]
    blk_ext [iblk0, idx0 t]
  unfold Block.row rowAt
  rw [funext hx, funext hg, funext fun k => funext fun n => hw k n]

/-- The gain that a step of the first call reads. -/
theorem gain_block (t : Fin cfg0.N) : (fun e => iblk0 (V1 m ρ) c 3 t (ix2 0 e)) = gain m c := funext fun e => by
  have : iblk0 (V1 m ρ) c 3 t (ix2 0 e) = V1 m ρ c main_v2 (ix2 0 e) := by blk_ext [iblk0, idx0 t]
  exact this.trans (gain_apply m ρ c e)

/-- The array of keys that the first call leaves. -/
theorem final_keys : (dat0 (V1 m ρ) c).arrAt 4 cfg0.N = fun i : S8x256x1024.Idx => keys (rowAt m c (i 0) (i 1)) (gain m c) (i 2) := by
  refine (dat0 (V1 m ρ) c).arrAt_eq_of_covers 4 _ (by decide +kernel) fun t _ y => ?_
  blk_simp
  rw [after0_4]
  have ht : t.val < 8 := t.isLt
  have hy0 : (y 0).val < 1 := (y 0).isLt
  refine (Block.out_keys _ _ _ _ y).trans ?_
  rw [gain_block m ρ c t]
  refine (congrArg (fun a => keys a (gain m c) (y 2)) (row_apply m ρ c t ht (y 1))).trans ?_
  refine congrArg₂ (fun a l => keys a (gain m c) l) ?_ (Fin.ext (by blk_simp [idx0 t] <;> (try omega)))
  exact congrArg₂ (rowAt m c) (Fin.ext (by blk_simp [idx0 t] <;> (try omega))) (Fin.ext (by blk_simp [idx0 t] <;> (try omega)))

/-- The array of values that the first call leaves. -/
theorem final_values : (dat0 (V1 m ρ) c).arrAt 5 cfg0.N = fun i : S8x256x1024.Idx => values (rowAt m c (i 0) (i 1)) (i 2) := by
  refine (dat0 (V1 m ρ) c).arrAt_eq_of_covers 5 _ (by decide +kernel) fun t _ y => ?_
  blk_simp
  rw [after0_5]
  have ht : t.val < 8 := t.isLt
  have hy0 : (y 0).val < 1 := (y 0).isLt
  have ey : y = ix3 0 (y 1) (y 2) := funext fun d => by
    match d with
    | ⟨0, _⟩ => exact Fin.ext (by show (y 0).val = 0; omega)
    | ⟨1, _⟩ => rfl
    | ⟨2, _⟩ => rfl
  refine (congrArg (out0_5 _ _ _ _) ey).trans ((Block.out_values_at _ _ _ _ (y 1) (y 2)).trans ?_)
  refine (congrArg (fun a => values a (y 2)) (row_apply m ρ c t ht (y 1))).trans ?_
  refine congrArg₂ values ?_ (Fin.ext (by blk_simp [idx0 t] <;> (try omega)))
  exact congrArg₂ (rowAt m c) (Fin.ext (by blk_simp [idx0 t] <;> (try omega))) (Fin.ext (by blk_simp [idx0 t] <;> (try omega)))

/-! ## The second call -/

/-- What the kernel computes at batch entry `b`, place `p` and column `l`. -/
def kernelAt (b : Fin 8) (p : Fin 4096) (l : Fin 1024) : EReal :=
  attend (scores (fun n => m ((c : Thread nD τ).loc main_arg0) (ix3 b p ⟨8192 + n.val, by omega⟩)) (fun s => keys (rowAt m c b s) (gain m c)) l)
    fun s => values (rowAt m c b s) l

/-- The second call's blocks, as functions of the grid point. -/
theorem idx1 : ∀ t : Fin cfg1.N, win1_0.index t = ![t.val / 8, t.val % 8, 8] ∧ win1_1.index t = ![t.val / 8, 0, 0] ∧ win1_2.index t = ![t.val / 8, 0, 0]
    ∧ win1_3.index t = ![t.val / 8, t.val % 8, 0] :=
  (by decide +kernel : ∀ t : Fin grid1.N, _)

/-- The block of queries at a grid point, entry by entry. -/
theorem query_apply (t : Fin cfg1.N) (ht : t.val < 64) (r : Fin 512) (l : Fin 1024) :
    iblk1 (V2 m ρ) c 0 t (ix3 0 r l)
      = m ((c : Thread nD τ).loc main_arg0) (ix3 ⟨t.val / 8, by omega⟩ ⟨t.val % 8 * 512 + r.val, by omega⟩ ⟨8192 + l.val, by omega⟩) := by
  rw [← show V2 m ρ c main_arg0 = m ((c : Thread nD τ).loc main_arg0) from W2_args m ρ c main_arg0 (by decide)]
  blk_ext [iblk1, idx1 t]

/-- The block of keys at a grid point, entry by entry. -/
theorem keys_apply (t : Fin cfg1.N) (ht : t.val < 64) (s : Fin 256) (l : Fin 1024) :
    iblk1 (V2 m ρ) c 1 t (ix3 0 s l) = keys (rowAt m c ⟨t.val / 8, by omega⟩ s) (gain m c) l := by
  have h : V2 m ρ c main_v3_0 = fun i : S8x256x1024.Idx => keys (rowAt m c (i 0) (i 1)) (gain m c) (i 2) := (W2_arr m ρ c 4).trans (final_keys m ρ c)
  have e : iblk1 (V2 m ρ) c 1 t (ix3 0 s l) = V2 m ρ c main_v3_0 (ix3 ⟨t.val / 8, by omega⟩ s l) := by blk_ext [iblk1, idx1 t]
  exact e.trans (congrFun h _)

/-- The block of values at a grid point, entry by entry. -/
theorem values_apply (t : Fin cfg1.N) (ht : t.val < 64) (s : Fin 256) (l : Fin 1024) :
    iblk1 (V2 m ρ) c 2 t (ix3 0 s l) = values (rowAt m c ⟨t.val / 8, by omega⟩ s) l := by
  have h : V2 m ρ c main_v3_1 = fun i : S8x256x1024.Idx => values (rowAt m c (i 0) (i 1)) (i 2) := (W2_arr m ρ c 5).trans (final_values m ρ c)
  have e : iblk1 (V2 m ρ) c 2 t (ix3 0 s l) = V2 m ρ c main_v3_1 (ix3 ⟨t.val / 8, by omega⟩ s l) := by blk_ext [iblk1, idx1 t]
  exact e.trans (congrFun h _)

/-- The kernel's value at one index, by two names of it. -/
theorem kernelAt_congr {b b' : Fin 8} {p p' : Fin 4096} {l l' : Fin 1024} (hb : b.val = b'.val) (hp : p.val = p'.val) (hl : l.val = l'.val) :
    kernelAt m c b p l = kernelAt m c b' p' l' := by
  rw [Fin.ext hb, Fin.ext hp, Fin.ext hl]

/-- One grid point's block. -/
theorem point (t : Fin cfg1.N) (ht : t.val < 64) (r : Fin 512) (l : Fin 1024) :
    Block.tile (iblk1 (V2 m ρ) c 0 t) (iblk1 (V2 m ρ) c 1 t) (iblk1 (V2 m ρ) c 2 t) r l
      = kernelAt m c ⟨t.val / 8, by omega⟩ ⟨t.val % 8 * 512 + r.val, by omega⟩ l := by
  unfold Block.tile kernelAt
  refine congrArg₂ attend ?_ (funext fun s => values_apply m ρ c t ht s l)
  exact congrArg₂ (fun q k => scores q k l) (funext fun n => query_apply m ρ c t ht r n) (funext fun s => funext fun n => keys_apply m ρ c t ht s n)

/-- The array that the second call leaves. -/
theorem final : (dat1 (V2 m ρ) c).arrAt 3 cfg1.N = fun i : S8x4096x1024.Idx => kernelAt m c (i 0) (i 1) (i 2) := by
  refine (dat1 (V2 m ρ) c).arrAt_eq_of_covers 3 _ (by decide +kernel) fun t _ y => ?_
  blk_simp
  rw [after1_3]
  have ht : t.val < 64 := t.isLt
  have hy0 : (y 0).val < 1 := (y 0).isLt
  have hy : (y 1).val < 512 := (y 1).isLt
  refine (Block.out_eq _ _ _ y).trans ((point m ρ c t ht (y 1) (y 2)).trans ?_)
  refine kernelAt_congr m c ?_ ?_ ?_
  · blk_simp [idx1 t] <;> (try simp only) <;> (try omega)
  · blk_simp [idx1 t] <;> (try simp only) <;> (try omega)
  · blk_simp [idx1 t] <;> (try simp only) <;> (try omega)

/-- The result buffer after the run. -/
theorem result : W3 m ρ c (Proc.devRef .tc main_v4) = fun i : S8x4096x1024.Idx => kernelAt m c (i 0) (i 1) (i 2) :=
  (W3_arr m ρ c 3).trans (final m ρ c)

end Cert.MemAttn.Array
-- ==== Proof.MemFinite.lean ====
module

public import proofs.«01_k».proof.Pre_finite_queries
public import proofs.«01_k».proof.Proof.Finite
public import Idealize.ShloMosaic.Lib.Tactic

/-! The memory attention's precondition, read at an index: the queries and the keys' gain are real numbers. -/

@[expose] public section

set_option maxRecDepth 16384

noncomputable section

open Idealize.ShloMosaic Idealize.ShloMosaic.TcCoe Idealize.SL.Sem

namespace Cert.MemAttn.Finite

open Cert.Pre_finite_queries

/-- The precondition's side conditions hold. -/
theorem facts : Cert.Pre_finite_queries.Facts where
  slices_S8x4096x12288_S8x4096x1024_0_0_8192 := by decide
  bitsLt_bf16_f32 := by decide
  bcast_S_S8x4096x1024 := by decide
  bcast_S_S256 := by decide

variable [hF : Cert.Pre_finite_queries.Facts] (X : FVec Ideal S8x4096x12288 .bf16) (M : FVec Ideal S8x256x1024 .f32) (g : FVec Ideal S1024 .f32)
  (W : FVec Ideal S1024x2048 .f32) (gain : FVec Ideal S256 .f32)

/-- What the first part of the precondition says of an entry. -/
theorem fst_apply (h : (fn (F := Ideal) X M g W gain).1 = fun _ => 1#1) (b : Fin 8) (s : Fin 4096) (l : Fin 1024) :
    ∃ r : ℝ, X (ix3 b s ⟨8192 + l.val, by omega⟩) = r := by
  refine @Attention.Finite.real_of_word Attention.Finite.facts .bf16 _ (Eq.trans ?_ (congrFun h (ix3 b s l)))
  unfold fn
  dsimp only
  pointwise
  rfl

/-- What the second part of the precondition says of an entry. -/
theorem snd_apply (h : (fn (F := Ideal) X M g W gain).2 = fun _ => 1#1) (e : Fin 256) :
    ∃ r : ℝ, gain (ix1 e) = r := by
  refine @Attention.Finite.real_of_word Attention.Finite.facts .f32 _ (Eq.trans ?_ (congrFun h (ix1 e)))
  unfold fn
  dsimp only
  pointwise

end Cert.MemAttn.Finite
-- ==== Proof.MemLaw.lean ====
module

public import proofs.«01_k».proof.Proof.MemBlock
public import proofs.«01_k».proof.Proof.Softmax

/-! The memory attention's law: a softmax of real scores divided after the values are summed is the one divided before;
    and the scores of finite queries against normed keys are real, whatever the memory holds. -/

@[expose] public section

noncomputable section

open Idealize.ShloMosaic Idealize.ShloMosaic.TcCoe Idealize.SL.Sem

namespace Cert.MemAttn.Law
open Cert.MergeOut (Row)
open Cert.InProj (lane256 heads256)
open Cert.Attention

/-- The pattern of -∞. -/
theorem bot_eq : Ideal.ofBits .f32 0xFF800000#32 = (⊥ : EReal) := by
  simp [Ideal.ofBits, Ideal.ieee]
/-- The pattern of 256. -/
theorem width_eq : Ideal.ofBits .f32 0x43800000#32 = ((256 : ℝ) : EReal) := by
  simp [Ideal.ofBits, Ideal.ieee, -EReal.coe_mul]; norm_num

/-- A softmax of real scores times values, divided at the end, is the one divided before the values are summed. -/
theorem attend_eq (s v : Row 256) (hs : ∀ t, ∃ r : ℝ, s t = r) :
    attend s v = ∑ t, v t * Ideal.div (Ideal.exp (s t - Finset.univ.fold max ⊥ s)) (∑ j, Ideal.exp (s j - Finset.univ.fold max ⊥ s)) := by
  choose r hr using hs
  obtain ⟨t₀, -, hmax⟩ := Finset.exists_max_image Finset.univ r ⟨0, Finset.mem_univ _⟩
  have hμ : Finset.univ.fold max ⊥ s = (r t₀ : EReal) :=
    Softmax.fold_max_eq s _ (fun t => by rw [hr t]; exact_mod_cast hmax t (Finset.mem_univ _)) t₀ (hr t₀)
  have hw : ∀ t, Ideal.exp (s t - (r t₀ : EReal)) = ((Real.exp (r t - r t₀) : ℝ) : EReal) := fun t => by
    rw [hr t, ← EReal.coe_sub, Ideal.exp_coe]
  unfold attend
  rw [bot_eq, hμ]
  simp only [hw]
  rw [Softmax.sum_real]
  have hpos : 0 < ∑ t, Real.exp (r t - r t₀) := Finset.sum_pos (fun t _ => Real.exp_pos _) ⟨t₀, Finset.mem_univ _⟩
  have hdiv : ∀ x : EReal, Ideal.div x ((∑ t, Real.exp (r t - r t₀) : ℝ) : EReal) = x * (((∑ t, Real.exp (r t - r t₀))⁻¹ : ℝ) : EReal) := fun x => by
    unfold Ideal.div
    rw [if_neg (by exact_mod_cast hpos.ne'), EReal.coe_inv]
  simp only [hdiv]
  rw [Softmax.sum_mul_real _ _ _ (inv_nonneg.2 hpos.le)]
  refine Finset.sum_congr rfl fun t _ => ?_
  rw [mul_comm (Real.exp (r t - r t₀) : EReal) (v t), mul_assoc]

/-- A sum of products of real entries is real. -/
theorem sum_real (f g : Row 256) (hf : ∀ e, ∃ r : ℝ, f e = r) (hg : ∀ e, ∃ r : ℝ, g e = r) : ∃ r : ℝ, ∑ e, f e * g e = r := by
  choose F hF using hf
  choose G hG using hg
  refine ⟨∑ e, F e * G e, ?_⟩
  simp only [hF, hG, ← EReal.coe_mul]
  exact Softmax.sum_real _ _

/-- A square is not negative. -/
theorem square_nonneg (x : EReal) : 0 ≤ x * x := by
  rcases le_total 0 x with h | h
  · exact mul_nonneg h h
  · rw [← neg_mul_neg]; exact mul_nonneg (EReal.neg_nonneg.2 h) (EReal.neg_nonneg.2 h)

/-- An entry of a row over the row's root mean square is real, whatever the row holds. -/
theorem normed_real (v : Row 256) (ε : ℝ) (hε : 0 < ε) (n : Fin 256) :
    ∃ r : ℝ, v n * Ideal.rsqrt (Ideal.div (∑ k, v k * v k) ((256 : ℝ) : EReal) + (ε : EReal)) = r := by
  have hdiv : ∀ x : EReal, Ideal.div x ((256 : ℝ) : EReal) = x * (((256 : ℝ)⁻¹ : ℝ) : EReal) := fun x => by
    unfold Ideal.div
    rw [if_neg (by exact_mod_cast (by norm_num : (256 : ℝ) ≠ 0)), EReal.coe_inv]
  rw [hdiv]
  have h0 : 0 ≤ ∑ k, v k * v k := Finset.sum_nonneg fun k _ => square_nonneg _
  have hle : ∀ k, v k * v k ≤ ∑ k, v k * v k := fun k => Finset.single_le_sum (f := fun k => v k * v k) (fun k _ => square_nonneg _) (Finset.mem_univ k)
  generalize (∑ k, v k * v k) = S at h0 hle ⊢
  induction S using EReal.rec with
  | bot => exact absurd h0 (by simp)
  | top =>
    refine ⟨0, ?_⟩
    rw [EReal.top_mul_coe_of_pos (by norm_num), EReal.top_add_coe]
    rw [Ideal.rsqrt_top, mul_zero, EReal.coe_zero]
  | coe S =>
    have hv : ∃ r : ℝ, v n = r := by
      have := hle n
      generalize v n = x at this
      induction x using EReal.rec with
      | bot => simp at this
      | top => simp at this
      | coe x => exact ⟨x, rfl⟩
    obtain ⟨r, hr⟩ := hv
    have hS : 0 ≤ S := by exact_mod_cast h0
    rw [hr, ← EReal.coe_mul, ← EReal.coe_add, Ideal.rsqrt_coe]
    have hp : 0 < S * 256⁻¹ + ε := by positivity
    refine ⟨r * (Real.sqrt (S * 256⁻¹ + ε))⁻¹, ?_⟩
    rw [if_neg (not_lt.2 hp.le), if_neg hp.ne', ← EReal.coe_mul]

end Cert.MemAttn.Law
-- ==== Proof.MemRef.lean ====
module

public import proofs.«01_k».proof.Proof.MemBlock
public import proofs.«01_k».proof.Proof.Gen.MemoryRefIdeal.Read
public import Idealize.ShloMosaic.Lib.Pipeline.ValueKit
public import Idealize.ShloMosaic.Lib.Tactic

/-! The reference of the memory attention, read at an index. -/

@[expose] public section

set_option maxRecDepth 16384

noncomputable section

open Idealize.ShloMosaic Idealize.ShloMosaic.TcCoe Idealize.SL.Sem

namespace Cert.MemAttn.Ref
open Cert.MemoryRefIdeal Cert.MemoryRefIdeal.Read
open Cert.MergeOut (Row normed)
open Cert.InProj (through lane256 heads256)

variable (x0 : FVec Ideal S8x4096x12288 .bf16) (x1 : FVec Ideal S8x256x1024 .f32) (x2 : FVec Ideal S1024 .f32) (x3 : FVec Ideal S1024x2048 .f32)
  (x4 : FVec Ideal S256 .f32) (b : Fin 8)

/-- The row of keys and values of a memory slot. -/
def row (m : Fin 256) : Row 2048 := slot (fun k => x1 (ix3 b m k)) (fun k => x2 (ix1 k)) (fun k n => x3 (ix2 k n))

/-- The queries, by heads. -/
theorem q_apply (s : Fin 4096) (h : Fin 4) (e : Fin 256) :
    val_main_v2 (F := Ideal) x0 (ix4 b s h e) = x0 (ix3 b s ⟨8192 + (256 * h.val + e.val), by omega⟩) := by
  unfold val_main_v2 val_main_v1 val_main_v0
  pointwise
  blk_ext

/-- The normalized slot. -/
theorem h_apply (m : Fin 256) (n : Fin 1024) : val_main_v15 (F := Ideal) x1 x2 (ix3 b m n) = normed (fun k => x1 (ix3 b m k)) (fun k => x2 (ix1 k)) n := by
  rw [val_main_v15_apply, val_main_v12_apply, val_main_v11_apply, val_main_v10_apply, val_main_v9_apply, val_main_v8_apply,
    val_main_v7_apply, val_main_v6_apply, val_main_v5_apply, val_main_v4_apply, val_main_v14_apply, val_main_v13_apply]
  simp only [val_main_v3_apply]
  unfold val_main_cst val_main_cst_0 val_main_cst_1
  have e : ∀ k, idx_main_v4 (idx_main_v5 (idx_main_v11 (ix3 b m n))) k = ix3 b m k := fun k => funext fun d => by fin_cases d <;> rfl
  have e' : idx_main_v13 (idx_main_v14 (ix3 b m n)) = ix1 n := funext fun d => by fin_cases d; rfl
  simp only [e, e']
  unfold normed
  pointwise

/-- The product. -/
theorem product_apply (m : Fin 256) (n : Fin 2048) : val_main_v16 (F := Ideal) x1 x2 x3 (ix3 b m n) = row x1 x2 x3 b m n := by
  have h := fun k => h_apply x1 x2 b m k
  rw [val_main_v16_apply]
  generalize val_main_v15 (F := Ideal) x1 x2 = y at h ⊢
  have e : ∀ k, lidx_main_v16 (ix3 b m n) k = ix3 b m k := fun k => funext fun d => by fin_cases d <;> rfl
  have e' : ∀ k, ridx_main_v16 (ix3 b m n) k = ix2 k n := fun k => funext fun d => by fin_cases d <;> rfl
  simp only [e, e', h]
  rfl

/-- The product's left half, by heads. -/
theorem k_apply (m : Fin 256) (h : Fin 4) (e : Fin 256) :
    val_main_v19 (F := Ideal) x1 x2 x3 (ix4 b m h e) = row x1 x2 x3 b m ⟨256 * h.val + e.val, by omega⟩ := by
  rw [← product_apply]
  unfold val_main_v19 val_main_v17
  generalize val_main_v16 (F := Ideal) x1 x2 x3 = y
  pointwise
  blk_ext

/-- The product's right half, by heads: the values. -/
theorem v_apply (m : Fin 256) (l : Fin 1024) :
    val_main_v33 (F := Ideal) x1 x2 x3 (ix4 b m (⟨l.val / 256, by omega⟩ : Fin 4) (⟨l.val % 256, by omega⟩ : Fin 256)) = values (row x1 x2 x3 b m) l := by
  unfold values
  rw [← product_apply]
  unfold val_main_v33 val_main_v18
  generalize val_main_v16 (F := Ideal) x1 x2 x3 = y
  pointwise
  blk_ext

/-- The keys: normed by heads, scaled by the gain. -/
theorem k_normed (m : Fin 256) (n : Fin 1024) :
    val_main_v32 (F := Ideal) x1 x2 x3 x4 (ix4 b m (⟨n.val / 256, by omega⟩ : Fin 4) (⟨n.val % 256, by omega⟩ : Fin 256))
      = keys (row x1 x2 x3 b m) (fun e => x4 (ix1 e)) n := by
  have hz := fun l => k_apply x1 x2 x3 b m (⟨n.val / 256, by omega⟩ : Fin 4) l
  rw [val_main_v32_apply, val_main_v29_apply, val_main_v28_apply, val_main_v27_apply, val_main_v26_apply, val_main_v25_apply,
    val_main_v24_apply, val_main_v23_apply, val_main_v22_apply, val_main_v21_apply, val_main_v31_apply, val_main_v30_apply]
  simp only [val_main_v20_apply]
  generalize val_main_v19 (F := Ideal) x1 x2 x3 = z at hz ⊢
  unfold val_main_cst_2 val_main_cst_3 val_main_cst_4
  have e : ∀ k, idx_main_v21 (idx_main_v22 (idx_main_v28 (ix4 b m (⟨n.val / 256, by omega⟩ : Fin 4) (⟨n.val % 256, by omega⟩ : Fin 256)))) k
      = ix4 b m (⟨n.val / 256, by omega⟩ : Fin 4) k := fun k => funext fun d => by fin_cases d <;> rfl
  have e' : idx_main_v30 (idx_main_v31 (ix4 b m (⟨n.val / 256, by omega⟩ : Fin 4) (⟨n.val % 256, by omega⟩ : Fin 256))) = ix1 (⟨n.val % 256, by omega⟩ : Fin 256) :=
    funext fun d => by fin_cases d; rfl
  simp only [e, e', hz]
  have en : (⟨256 * (n.val / 256) + n.val % 256, by omega⟩ : Fin 2048) = ⟨n.val, by omega⟩ := Fin.ext (by simp only; omega)
  rw [en]
  unfold keys heads256 lane256
  generalize row x1 x2 x3 b m = v
  pointwise

/-- A key's lane in the head that holds `l`. -/
theorem k_lane (m : Fin 256) (l : Fin 1024) (e : Fin 256) :
    val_main_v32 (F := Ideal) x1 x2 x3 x4 (ix4 b m (⟨l.val / 256, by omega⟩ : Fin 4) e) = keys (row x1 x2 x3 b m) (fun e => x4 (ix1 e)) (lane256 l e) := by
  have he := e.isLt
  rw [← k_normed]
  generalize val_main_v32 (F := Ideal) x1 x2 x3 x4 = z
  refine congrArg z ?_
  have e1 : (⟨l.val / 256, by omega⟩ : Fin 4) = ⟨(lane256 l e).val / 256, by omega⟩ := Fin.ext (by simp only [lane256]; omega)
  have e2 : e = ⟨(lane256 l e).val % 256, by omega⟩ := Fin.ext (by simp only [lane256]; omega)
  rw [e1, ← e2]

/-- The scores. -/
theorem score_apply (s : Fin 4096) (l : Fin 1024) (m : Fin 256) :
    val_main_v34 (F := Ideal) x0 x1 x2 x3 x4 (ix4 b (⟨l.val / 256, by omega⟩ : Fin 4) s m)
      = scores (fun n => x0 (ix3 b s ⟨8192 + n.val, by omega⟩)) (fun m => keys (row x1 x2 x3 b m) (fun e => x4 (ix1 e))) l m := by
  have hq := fun e => q_apply x0 b s (⟨l.val / 256, by omega⟩ : Fin 4) e
  have hk := fun e => k_lane x1 x2 x3 x4 b m l e
  rw [val_main_v34_apply]
  generalize val_main_v2 (F := Ideal) x0 = y at hq ⊢
  generalize val_main_v32 (F := Ideal) x1 x2 x3 x4 = z at hk ⊢
  have e : ∀ k, lidx_main_v34 (ix4 b (⟨l.val / 256, by omega⟩ : Fin 4) s m) k = ix4 b s (⟨l.val / 256, by omega⟩ : Fin 4) k := fun k => funext fun d => by fin_cases d <;> rfl
  have e' : ∀ k, ridx_main_v34 (ix4 b (⟨l.val / 256, by omega⟩ : Fin 4) s m) k = ix4 b m (⟨l.val / 256, by omega⟩ : Fin 4) k := fun k => funext fun d => by fin_cases d <;> rfl
  simp only [e, e', hq, hk]
  rfl

/-- The maximum of a row of scores. -/
theorem max_apply (h : Fin 4) (s : Fin 4096) :
    val_main_v35 (F := Ideal) x0 x1 x2 x3 x4 (ix3 b h s)
      = Finset.univ.fold max (Ideal.ofBits .f32 0xFF800000#32) fun m : Fin 256 => val_main_v34 (F := Ideal) x0 x1 x2 x3 x4 (ix4 b h s m) := by
  unfold val_main_v35
  generalize val_main_v34 (F := Ideal) x0 x1 x2 x3 x4 = y
  unfold val_main_cst_5
  pointwise

/-- The exponential of a score less the maximum of its row. -/
theorem exp_apply (h : Fin 4) (s : Fin 4096) (m : Fin 256) :
    val_main_v41 (F := Ideal) x0 x1 x2 x3 x4 (ix4 b h s m)
      = Ideal.exp (val_main_v34 (F := Ideal) x0 x1 x2 x3 x4 (ix4 b h s m)
          - max (Ideal.ofBits .f32 0xFF800000#32) (val_main_v35 (F := Ideal) x0 x1 x2 x3 x4 (ix3 b h s))) := by
  rw [val_main_v41_apply, val_main_v40_apply, val_main_v39_apply, val_main_v38_apply, val_main_v37_apply, val_main_v36_apply,
    val_main_cst_6_apply, show idx_main_v38 (idx_main_v39 (ix4 b h s m)) = ix3 b h s from funext fun d => by fin_cases d <;> rfl]
  generalize val_main_v34 (F := Ideal) x0 x1 x2 x3 x4 = y
  generalize val_main_v35 (F := Ideal) x0 x1 x2 x3 x4 = z
  rfl

/-- The sum of the exponentials of a row. -/
theorem den_apply (h : Fin 4) (s : Fin 4096) :
    val_main_v42 (F := Ideal) x0 x1 x2 x3 x4 (ix3 b h s) = ∑ m : Fin 256, val_main_v41 (F := Ideal) x0 x1 x2 x3 x4 (ix4 b h s m) := by
  unfold val_main_v42 val_main_cst_7
  generalize val_main_v41 (F := Ideal) x0 x1 x2 x3 x4 = y
  pointwise

/-- The probability of a slot. -/
theorem soft_apply (h : Fin 4) (s : Fin 4096) (m : Fin 256) :
    val_main_v45 (F := Ideal) x0 x1 x2 x3 x4 (ix4 b h s m)
      = Ideal.div (val_main_v41 (F := Ideal) x0 x1 x2 x3 x4 (ix4 b h s m)) (val_main_v42 (F := Ideal) x0 x1 x2 x3 x4 (ix3 b h s)) := by
  unfold val_main_v45 val_main_v44 val_main_v43
  generalize val_main_v41 (F := Ideal) x0 x1 x2 x3 x4 = y
  generalize val_main_v42 (F := Ideal) x0 x1 x2 x3 x4 = z
  pointwise

/-- The values mixed by the probabilities. -/
theorem mix_apply (s : Fin 4096) (l : Fin 1024) :
    val_main_v46 (F := Ideal) x0 x1 x2 x3 x4 (ix4 b (⟨l.val / 256, by omega⟩ : Fin 4) (⟨l.val % 256, by omega⟩ : Fin 256) s)
      = ∑ m : Fin 256, values (row x1 x2 x3 b m) l * val_main_v45 (F := Ideal) x0 x1 x2 x3 x4 (ix4 b (⟨l.val / 256, by omega⟩ : Fin 4) s m) := by
  have hv := fun m => v_apply x1 x2 x3 b m l
  unfold val_main_v46
  generalize val_main_v45 (F := Ideal) x0 x1 x2 x3 x4 = y
  generalize val_main_v33 (F := Ideal) x1 x2 x3 = z at hv ⊢
  pointwise
  simp only [hv]

/-- The result, entry by entry. -/
theorem res_apply (s : Fin 4096) (l : Fin 1024) :
    val_main_v49 (F := Ideal) x0 x1 x2 x3 x4 (ix3 b s l)
      = val_main_v46 (F := Ideal) x0 x1 x2 x3 x4 (ix4 b (⟨l.val / 256, by omega⟩ : Fin 4) (⟨l.val % 256, by omega⟩ : Fin 256) s) := by
  unfold val_main_v49 val_main_v48 val_main_v47
  generalize val_main_v46 (F := Ideal) x0 x1 x2 x3 x4 = y
  pointwise

/-- The scores of query `s` in the head that holds `l`. -/
abbrev score (s : Fin 4096) (l : Fin 1024) : Row 256 :=
  scores (fun n => x0 (ix3 b s ⟨8192 + n.val, by omega⟩)) (fun m => keys (row x1 x2 x3 b m) (fun e => x4 (ix1 e))) l

/-- The reference's result at an index: the softmax of the query's scores over the slots, times the values. -/
theorem memory_apply (s : Fin 4096) (l : Fin 1024) :
    val_main_v49 (F := Ideal) x0 x1 x2 x3 x4 (ix3 b s l)
      = ∑ m : Fin 256, values (row x1 x2 x3 b m) l
          * Ideal.div (Ideal.exp (score x0 x1 x2 x3 x4 b s l m - Finset.univ.fold max ⊥ (score x0 x1 x2 x3 x4 b s l)))
              (∑ j, Ideal.exp (score x0 x1 x2 x3 x4 b s l j - Finset.univ.fold max ⊥ (score x0 x1 x2 x3 x4 b s l))) := by
  have hb : Ideal.ofBits .f32 0xFF800000#32 = (⊥ : EReal) := by simp [Ideal.ofBits, Ideal.ieee]
  have hE : ∀ m, val_main_v41 (F := Ideal) x0 x1 x2 x3 x4 (ix4 b (⟨l.val / 256, by omega⟩ : Fin 4) s m)
      = Ideal.exp (score x0 x1 x2 x3 x4 b s l m - Finset.univ.fold max ⊥ (score x0 x1 x2 x3 x4 b s l)) := fun m => by
    rw [exp_apply, max_apply, hb, max_eq_right bot_le, score_apply]
    exact congrArg (fun f => Ideal.exp (_ - Finset.univ.fold max ⊥ f)) (funext fun m => score_apply x0 x1 x2 x3 x4 b s l m)
  rw [res_apply, mix_apply]
  refine Finset.sum_congr rfl fun m _ => ?_
  rw [soft_apply, den_apply, hE]
  exact congrArg (fun z => _ * Ideal.div _ z) (Finset.sum_congr rfl fun j _ => hE j)

end Cert.MemAttn.Ref
-- ==== Proof.MemRun.lean ====
module

public import proofs.«01_k».proof.Proof.Gen.MemoryIdeal.Frame
public import Idealize.ShloMosaic.PureOps.Ideal.Laws

/-! The memory attention's run, with its result buffer. -/

@[expose] public section

set_option maxRecDepth 16384

noncomputable section

namespace Cert.MemAttn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.MemoryIdeal Cert.MemoryIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- THE RUN: from any memory with zero counters the program ends with the memory attention's array in its result buffer and its
    arguments unchanged. -/
theorem run : θ_run defs (onTc (τ := τ) (main (F := Ideal))) ⟨m, fun _ => 0, ρ⟩ (fun r => (∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩), funext fun g => hz g (.inr (no_unscoped g.2))⟩)

end Cert.MemAttn.Run
-- ==== Proof.MemClaims.lean ====
module

public import proofs.«01_k».proof.Defs
public import proofs.«01_k».proof.Proof.MemArray
public import proofs.«01_k».proof.Proof.MemFinite
public import proofs.«01_k».proof.Proof.MemLaw
public import proofs.«01_k».proof.Proof.MemRef
public import proofs.«01_k».proof.Proof.MemRun
public import proofs.«01_k».proof.Proof.Gen.Memory.Frame
public import proofs.«01_k».proof.Proof.Gen.MemoryRefIdeal.Run
public import Idealize.ShloMosaic.Lib.Quiescent

/-! The claims about the memory attention. -/

@[expose] public section

set_option maxRecDepth 16384

noncomputable section

open Idealize.ShloMosaic Idealize.ShloMosaic.TcCoe Idealize.SL.Sem

namespace Cert.MemAttn.Claims
open Cert.MergeOut (Row)
open Cert.InProj (lane256 heads256)

/-- The kernel's program ends with its arguments unchanged and every counter at zero, at the printed formats. -/
theorem frame : Cert.quiescent_Memory := fun m ρ _ => Cert.Memory.Gen.frame m ρ
/-- The same of its idealization. -/
theorem frame_ideal : Cert.quiescent_MemoryIdeal := fun m ρ _ => Cert.MemoryIdeal.Gen.frame m ρ
/-- The same of its idealization under the precondition. -/
theorem frame_ideal_pre [h : Cert.Pre_finite_queries.Facts] : Cert.quiescent_MemoryIdeal_pre_finite_queries := fun m ρ _ => Cert.MemoryIdeal.Gen.frame m ρ

/-- The reference ends with its arguments unchanged and every counter at zero. -/
theorem frame_ref : Cert.quiescent_MemoryRefIdeal := fun m ρ _ =>
  (θ_run _ _ _).mono (fun r h => ⟨fun c => (h c).2, Idealize.ShloMosaic.sem_eq_zero_of_no_sems (by decide) r.2⟩)
    (Cert.MemoryRefIdeal.Value.run m ρ)
/-- The same of the reference under the precondition. -/
theorem frame_ref_pre [h : Cert.Pre_finite_queries.Facts] : Cert.quiescent_MemoryRefIdeal_pre_finite_queries := fun m ρ _ => frame_ref m ρ trivial

/-- The idealization replaces nothing in the program. -/
theorem preserves : Cert.preserves_Memory_MemoryIdeal := trivial

/-- The keys are real, whatever the memory holds, when their gain is. -/
theorem keys_real (a : Row 2048) (g : Row 256) (hg : ∀ e, ∃ r : ℝ, g e = r) (n : Fin 1024) : ∃ r : ℝ, keys a g n = r := by
  obtain ⟨ε, hε, he⟩ : ∃ ε : ℝ, 0 < ε ∧ Ideal.ofBits .f32 0x358637BD#32 = (ε : EReal) := by
    refine ⟨_, ?_, by simp [Ideal.ofBits, Ideal.ieee, -EReal.coe_mul]; rfl⟩
    norm_num
  obtain ⟨r, hr⟩ := Law.normed_real (fun k => a ⟨(lane256 n k).val, by omega⟩) ε hε ⟨n.val % 256, Nat.mod_lt _ (by omega)⟩
  obtain ⟨s, hs⟩ := hg ⟨n.val % 256, Nat.mod_lt _ (by omega)⟩
  refine ⟨r * s, ?_⟩
  unfold keys heads256
  have en : (⟨n.val, by omega⟩ : Fin 2048) = ⟨(lane256 n ⟨n.val % 256, Nat.mod_lt _ (by omega)⟩).val, by omega⟩ :=
    Fin.ext (by simp only [lane256]; omega)
  rw [hs, EReal.coe_mul, ← hr, Law.width_eq, he]
  exact congrArg (fun i => a i * _ * (s : EReal)) en

/-- The result array of the kernel's run is the reference's result over the same arguments. -/
theorem result_eq [hP : Cert.Pre_finite_queries.Facts] (m : (ℓ : Loc Cert.MemoryIdeal.nD Cert.MemoryIdeal.τ Cert.MemoryIdeal.sig) → Buf (Elt Ideal) ℓ)
    (ρ : Dev Cert.MemoryIdeal.nD → PrngReg) (hpre : Cert.Pre_MemoryIdeal_finite_queries m) (c : Dev Cert.MemoryIdeal.nD) :
    Cert.MemoryIdeal.Gen.W3 m ρ c (Proc.devRef .tc Cert.MemoryIdeal.main_v4)
      = Cert.MemoryRefIdeal.Read.val_main_v49 (F := Ideal) (m ((c.tc : Thread Cert.MemoryIdeal.nD Cert.MemoryIdeal.τ).loc Cert.MemoryIdeal.main_arg0))
          (m ((c.tc : Thread Cert.MemoryIdeal.nD Cert.MemoryIdeal.τ).loc Cert.MemoryIdeal.main_arg1))
          (m ((c.tc : Thread Cert.MemoryIdeal.nD Cert.MemoryIdeal.τ).loc Cert.MemoryIdeal.main_arg2))
          (m ((c.tc : Thread Cert.MemoryIdeal.nD Cert.MemoryIdeal.τ).loc Cert.MemoryIdeal.main_arg3))
          (m ((c.tc : Thread Cert.MemoryIdeal.nD Cert.MemoryIdeal.τ).loc Cert.MemoryIdeal.main_arg4)) := by
  rw [Array.result]
  funext i
  have hg := fun e => Finite.snd_apply _ _ _ _ _ (hpre c).2 e
  have hq := fun l => Finite.fst_apply _ _ _ _ _ (hpre c).1 (i 0) (i 1) l
  refine Eq.trans ?_ ((Ref.memory_apply _ _ _ _ _ (i 0) (i 1) (i 2)).symm.trans (congrArg _ (funext fun d => by fin_cases d <;> rfl)))
  exact Law.attend_eq _ _ fun t => Law.sum_real _ _ (fun e => hq _) (fun e => keys_real _ _ hg _)

/-- The kernel's result is the reference's. -/
theorem algebraic [hP : Cert.Pre_finite_queries.Facts] : Cert.algebraic_MemoryIdeal_MemoryRefIdeal_pre_finite_queries := by
  intro m g m' g' hpre hagree
  refine ⟨fun c => Cert.MemoryIdeal.Gen.W3 m g c (Proc.devRef .tc Cert.MemoryIdeal.main_v4),
    (θ_run _ _ _).mono (fun r h => h.1) (Run.run m g), (θ_run _ _ _).mono (fun r h c => ⟨?_, (h c).2⟩) (Cert.MemoryRefIdeal.Value.run m' g')⟩
  refine (h c).1.trans ((Cert.MemoryRefIdeal.Read.val_main_v49_eq m' c).trans ?_)
  rw [(hagree c).1, (hagree c).2.1, (hagree c).2.2.1, (hagree c).2.2.2.1, (hagree c).2.2.2.2]
  exact (result_eq m g hpre c).symm

end Cert.MemAttn.Claims
-- ==== Proof.SortBlock.lean ====
module

public import proofs.«01_k».proof.Proof.Gen.DispatchIdeal.Frame
public import Idealize.ShloMosaic.PureOps.Ideal.Laws
public import Idealize.ShloMosaic.Lib.Pipeline.ValueKit
public import Idealize.ShloMosaic.Lib.Pipeline.ReadBack
public import Idealize.ShloMosaic.Lib.Tactic

/-! The sorting of the tokens to their rows: what one step of the call writes, and the array that it leaves. -/

@[expose] public section

set_option maxRecDepth 16384

noncomputable section

open Idealize.ShloMosaic Idealize.ShloMosaic.TcCoe Idealize.SL.Sem
open Idealize.ShloMosaic.Pipeline (Dat)

namespace Cert.SortTokens
open Cert.DispatchIdeal Cert.DispatchIdeal.Gen

/-- What a tile of 512 tokens puts into its row `q`, at one column: every token as often as `q` is among its four places. -/
def gathered (place : Fin 512 → Fin 4 → EReal) (value : Fin 512 → EReal) (q : ℕ) : EReal :=
  ∑ t, ∑ k, if place t k = ((q : ℝ) : EReal) then value t else 0

/-- The row number, as the kernel reads it. -/
theorem row_number (q : Fin 2304) : FloatOps.sitofp (F := Ideal) FTy.f32 (BitVec.ofNat 32 q.val) = ((q.val : ℝ) : EReal) := by
  show (((BitVec.ofNat 32 q.val).toInt : ℝ) : EReal) = _
  have h : (BitVec.ofNat 32 q.val).toInt = (q.val : ℤ) := by
    rw [BitVec.toInt_eq_toNat_of_lt (by rw [BitVec.toNat_ofNat, Nat.mod_eq_of_lt (by omega)]; omega), BitVec.toNat_ofNat, Nat.mod_eq_of_lt (by omega)]
  rw [h, Int.cast_natCast]

/-- Four zeros and ones, added and then multiplied, are four selections, added. -/
theorem ones_mul (a b c d : Prop) [Decidable a] [Decidable b] [Decidable c] [Decidable d] (x : EReal) :
    ((((if a then (1 : EReal) else 0) + if b then 1 else 0) + if c then 1 else 0) + if d then 1 else 0) * x
      = (((if a then x else 0) + if b then x else 0) + if c then x else 0) + if d then x else 0 := by
  have h : ∀ (p : Prop) [Decidable p], (0 : EReal) ≤ if p then 1 else 0 := fun p _ => by split_ifs <;> simp
  rw [EReal.right_distrib_of_nonneg (add_nonneg (add_nonneg (h a) (h b)) (h c)) (h d),
    EReal.right_distrib_of_nonneg (add_nonneg (h a) (h b)) (h c), EReal.right_distrib_of_nonneg (h a) (h b)]
  simp only [ite_mul, one_mul, zero_mul]

/-- One step's result at a row and a column. -/
theorem step_at (r : Vec Ideal S512x128 .f32) (h : Vec Ideal S512x1024 .bf16) (q : Fin 2304) (n : Fin 1024) :
    k0_pay1 r h (ix2 q n) = gathered (fun t k => r (ix2 t ⟨k.val, by omega⟩)) (fun t => h (ix2 t n)) q.val := by
  have e : k0_pay1 r h (ix2 q n) = ∑ x : Fin 512,
      ((((if FloatOps.sitofp (F := Ideal) FTy.f32 (BitVec.ofNat 32 q.val) = r (ix2 x 0) then (1 : EReal) else 0) +
              if FloatOps.sitofp (F := Ideal) FTy.f32 (BitVec.ofNat 32 q.val) = r (ix2 x 1) then 1 else 0) +
            if FloatOps.sitofp (F := Ideal) FTy.f32 (BitVec.ofNat 32 q.val) = r (ix2 x 2) then 1 else 0) +
          if FloatOps.sitofp (F := Ideal) FTy.f32 (BitVec.ofNat 32 q.val) = r (ix2 x 3) then 1 else 0) * h (ix2 x n) := by
    pointwise [k0_pay1]
  rw [e]
  unfold gathered
  refine Finset.sum_congr rfl fun t _ => ?_
  rw [ones_mul, row_number, Fin.sum_univ_four]
  simp only [eq_comm (a := ((q.val : ℝ) : EReal))]
  rfl

/-- One step's block, entry by entry. -/
theorem out_eq (h : Vec Ideal S512x1024 .bf16) (r : Vec Ideal S512x128 .f32) (y : S2304x1024.Idx) :
    out0_2 h r y = gathered (fun t k => r (ix2 t ⟨k.val, by omega⟩)) (fun t => h (ix2 t (y 1))) (y 0).val := by
  have ey : y = ix2 (y 0) (y 1) := funext fun d => by fin_cases d <;> rfl
  refine Eq.trans ?_ (step_at r h (y 0) (y 1))
  frame_out
  exact congrArg (k0_pay1 r h) ey

variable (m : (ℓ : Loc nD τ sig) → Buf (Elt Ideal) ℓ) (ρ : Dev nD → PrngReg) (c : Dev nD)

/-- The call's blocks, as functions of the grid point. -/
theorem idx0 : ∀ t : Fin cfg0.N, win0_0.index t = ![t.val, 0] ∧ win0_1.index t = ![t.val, 0] ∧ win0_2.index t = ![t.val, 0] :=
  (by decide +kernel : ∀ t : Fin grid0.N, _)

/-- What the kernel leaves at row `q` of tile `i`'s rows and column `n`. -/
def kernelAt (i : ℕ) (hi : i < 64) (q : ℕ) (n : Fin 1024) : EReal :=
  gathered (fun t k => m ((c : Thread nD τ).loc main_arg1) (ix2 ⟨512 * i + t.val, by omega⟩ ⟨k.val, by omega⟩))
    (fun t => m ((c : Thread nD τ).loc main_arg0) (ix2 ⟨512 * i + t.val, by omega⟩ n)) q

/-- The block of places at a grid point, entry by entry. -/
theorem place_apply (t : Fin cfg0.N) (ht : t.val < 64) (r : Fin 512) (k : Fin 128) :
    iblk m c 1 t (ix2 r k) = m ((c : Thread nD τ).loc main_arg1) (ix2 ⟨512 * t.val + r.val, by omega⟩ k) := by
  blk_ext [iblk, idx0 t]

/-- The block of tokens at a grid point, entry by entry. -/
theorem token_apply (t : Fin cfg0.N) (ht : t.val < 64) (r : Fin 512) (n : Fin 1024) :
    iblk m c 0 t (ix2 r n) = m ((c : Thread nD τ).loc main_arg0) (ix2 ⟨512 * t.val + r.val, by omega⟩ n) := by
  blk_ext [iblk, idx0 t]

/-- The kernel's value by two names of one entry. -/
theorem kernelAt_congr {i i' q q' : ℕ} {n n' : Fin 1024} (hi : i < 64) (hi' : i' < 64) (ei : i = i') (eq : q = q') (en : n.val = n'.val) :
    kernelAt m c i hi q n = kernelAt m c i' hi' q' n' := by
  subst ei; subst eq; rw [Fin.ext en]

/-- The array that the call leaves. -/
theorem final : (dats m 0 c).arrAt 2 cfg0.N
    = fun i : S147456x1024.Idx => kernelAt m c ((i 0).val / 2304) (by have h : (i 0).val < 147456 := (i 0).isLt; omega) ((i 0).val % 2304) (i 1) := by
  refine (dats m 0 c).arrAt_eq_of_covers 2 _ (by decide +kernel) fun t _ y => ?_
  blk_simp
  rw [after0_2]
  have ht : t.val < 64 := t.isLt
  have hy : (y 0).val < 2304 := (y 0).isLt
  refine (out_eq _ _ y).trans (Eq.trans (b := kernelAt m c t.val ht (y 0).val (y 1)) ?_ ?_)
  · unfold kernelAt
    refine congrArg₂ (fun a b => gathered a b _) (funext fun r => funext fun k => place_apply m c t ht r _) (funext fun r => token_apply m c t ht r _)
  · refine kernelAt_congr m c _ _ ?_ ?_ ?_
    · blk_simp [idx0 t] <;> (try simp only) <;> (try omega)
    · blk_simp [idx0 t] <;> (try simp only) <;> (try omega)
    · blk_simp [idx0 t] <;> (try simp only) <;> (try omega)

/-- THE RUN: from any memory with zero counters the program ends with that array in its result buffer, its arguments unchanged. -/
theorem run : θ_run defs (onTc (τ := τ) (main (F := Ideal))) ⟨m, fun _ => 0, ρ⟩ (fun r => ∀ c : Dev nD,
      r.2.mem ((c.tc : Thread nD τ).loc main_v0)
        = (fun i : S147456x1024.Idx => kernelAt m c ((i 0).val / 2304) (by have h : (i 0).val < 147456 := (i 0).isLt; omega) ((i 0).val % 2304) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m ρ
  all_goals (try exact final m c)

end Cert.SortTokens
-- ==== Proof.SortPlaces.lean ====
module

public import proofs.«01_k».proof.Pre_whole_places
public import Idealize.ShloMosaic.PureOps.Ideal.Laws
public import Idealize.ShloMosaic.Lib.Pipeline.ValueKit
public import Idealize.ShloMosaic.Lib.Pipeline.ReadBack
public import Idealize.ShloMosaic.Lib.Tactic

/-! The sorting's precondition, read at an index: a token's four places are whole numbers below 2304. -/

@[expose] public section

set_option maxRecDepth 16384

noncomputable section

open Idealize.ShloMosaic Idealize.ShloMosaic.TcCoe Idealize.SL.Sem

namespace Cert.SortTokens.Places

open Cert.Pre_whole_places

/-- The precondition's side conditions hold. -/
theorem facts : Cert.Pre_whole_places.Facts where
  slices_S32768x128_S32768x4_0_0 := by decide
  bcast_S_S32768x4 := by decide

variable [hF : Cert.Pre_whole_places.Facts] (H : FVec Ideal S32768x1024 .bf16) (R : FVec Ideal S32768x128 .f32)

/-- What the first part of the precondition says of a place: rounding it down leaves it as it is. -/
theorem whole (h : (fn (F := Ideal) H R).1 = fun _ => 1#1) (t : Fin 32768) (k : Fin 4) :
    Ideal.liftRound Int.floor (R (ix2 t ⟨k.val, by omega⟩)) = R (ix2 t ⟨k.val, by omega⟩) := by
  have e : Ideal.cmp .oeq (Ideal.liftRound Int.floor (R (ix2 t ⟨k.val, by omega⟩))) (R (ix2 t ⟨k.val, by omega⟩)) = 1#1 := by
    refine Eq.trans ?_ (congrFun h (ix2 t k))
    unfold fn
    dsimp only
    pointwise
  by_contra hn
  simp [Ideal.cmp, hn] at e

/-- What the second part of the precondition says of a place: it is not negative. -/
theorem nonneg (h : (fn (F := Ideal) H R).2.1 = fun _ => 1#1) (t : Fin 32768) (k : Fin 4) : 0 ≤ R (ix2 t ⟨k.val, by omega⟩) := by
  have e : Ideal.cmp .oge (R (ix2 t ⟨k.val, by omega⟩)) 0 = 1#1 := by
    refine Eq.trans ?_ (congrFun h (ix2 t k))
    unfold fn
    dsimp only
    pointwise
  by_contra hn
  simp [Ideal.cmp, hn] at e

/-- What the third part of the precondition says of a place: it is at most 2303. -/
theorem le_last (h : (fn (F := Ideal) H R).2.2 = fun _ => 1#1) (t : Fin 32768) (k : Fin 4) : R (ix2 t ⟨k.val, by omega⟩) ≤ ((2303 : ℝ) : EReal) := by
  have hc : Ideal.ofBits .f32 0x450FF000#32 = ((2303 : ℝ) : EReal) := by
    simp [Ideal.ofBits, Ideal.ieee, -EReal.coe_mul]
    norm_num
  have e : Ideal.cmp .ole (R (ix2 t ⟨k.val, by omega⟩)) (Ideal.ofBits .f32 0x450FF000#32) = 1#1 := by
    refine Eq.trans ?_ (congrFun h (ix2 t k))
    unfold fn
    dsimp only
    pointwise
  rw [hc] at e
  by_contra hn
  simp [Ideal.cmp, hn] at e

/-- A value that rounding down leaves, that is not negative and at most 2303, is a whole number below 2304. -/
theorem natural (x : EReal) (h0 : Ideal.liftRound Int.floor x = x) (h1 : 0 ≤ x) (h2 : x ≤ ((2303 : ℝ) : EReal)) :
    ∃ p : ℕ, p < 2304 ∧ x = ((p : ℝ) : EReal) := by
  induction x using EReal.rec with
  | bot => simp at h1
  | top => exact absurd h2 (by simp)
  | coe r =>
    have h1' : 0 ≤ r := by exact_mod_cast h1
    have h2' : r ≤ 2303 := by exact_mod_cast h2
    have h0' : (⌊r⌋ : ℝ) = r := EReal.coe_eq_coe_iff.1 h0
    have hf : 0 ≤ ⌊r⌋ := Int.floor_nonneg.2 h1'
    have hl : ⌊r⌋ ≤ 2303 := by exact_mod_cast (h0'.le.trans h2')
    refine ⟨⌊r⌋.toNat, by omega, ?_⟩
    have : ((⌊r⌋.toNat : ℕ) : ℝ) = (⌊r⌋ : ℝ) := by
      rw [← Int.cast_natCast, Int.toNat_of_nonneg hf]
    rw [this, h0']

/-- Under the precondition every token's four places are whole numbers below 2304. -/
theorem places (h : (fn (F := Ideal) H R).1 = (fun _ => 1#1) ∧ (fn (F := Ideal) H R).2.1 = (fun _ => 1#1) ∧ (fn (F := Ideal) H R).2.2 = (fun _ => 1#1))
    (t : Fin 32768) (k : Fin 4) : ∃ p : ℕ, p < 2304 ∧ R (ix2 t ⟨k.val, by omega⟩) = ((p : ℝ) : EReal) :=
  natural _ (whole H R h.1 t k) (nonneg H R h.2.1 t k) (le_last H R h.2.2 t k)

end Cert.SortTokens.Places
-- ==== Proof.SortRef.lean ====
module

public import proofs.«01_k».proof.Proof.Gen.DispatchRefIdeal.Read
public import Idealize.ShloMosaic.PureOps.Ideal.Laws
public import Idealize.ShloMosaic.Lib.Routing.OpsPair
public import Idealize.ShloMosaic.Lib.Pipeline.ValueKit
public import Idealize.ShloMosaic.Lib.Pipeline.ReadBack
public import Idealize.ShloMosaic.Lib.Tactic

/-! The sorting's reference, read at an entry of its result. -/

@[expose] public section

set_option maxRecDepth 16384

noncomputable section

open Idealize.ShloMosaic Idealize.ShloMosaic.TcCoe Idealize.SL.Sem Idealize.ShloMosaic.Routing

namespace Cert.SortTokens.Ref
open Cert.DispatchRefIdeal Cert.DispatchRefIdeal.Gen Cert.DispatchRefIdeal.Read

/-- The dimension numbers of the reference's scatter. -/
abbrev dims : ScatterDims S147456x1024 S32768x4x1 S32768x4x1024 := scatter_S147456x1024_S32768x4x1_S32768x4x1024_2_0_0_2

/-- Where one entry of the updates lands: in the row that its index word names, in its own column. -/
theorem lands (idx : IVec S32768x4x1 32) (j : S32768x4x1024.Idx) (r : Fin 147456) (n : Fin 1024) :
    dims.resultIdx? j idx = some (ix2 r n) ↔ (idx (ix3 (j 0) (j 1) 0)).toInt = (r.val : ℤ) ∧ (j 2).val = n.val := by
  have s0 : dims.start j idx 0 = (idx (ix3 (j 0) (j 1) 0)).toInt := by
    unfold ScatterDims.start
    rw [dif_pos (by decide)]
    refine congrArg (fun i => (idx i).toInt) (funext fun b => Fin.ext ?_)
    fin_cases b <;> rfl
  have s1 : dims.start j idx 1 = 0 := by
    unfold ScatterDims.start
    rw [dif_neg (by decide)]
  have w0 : dims.window j 0 = 0 := by
    unfold ScatterDims.window
    rw [dif_neg (by decide)]
  have w1 : dims.window j 1 = (j 2).val := by
    unfold ScatterDims.window
    rw [dif_pos (by decide)]
    rfl
  refine (resultIdx?_ix2 (R := 147456) (C := 1024) dims j idx r n).trans ?_
  rw [s0, s1, w0, w1]
  omega

/-- The sum of the updates that land at an entry, when every index word names a row of its token's tile. -/
theorem sum_at (idx : IVec S32768x4x1 32) (u : S32768x4x1024.Idx → EReal) (p : Fin 32768 → Fin 4 → ℕ) (hp : ∀ t k, p t k < 2304)
    (hidx : ∀ t k, (idx (ix3 t k 0)).toInt = ((2304 * (t.val / 512) + p t k : ℕ) : ℤ)) (i : ℕ) (hi : i < 64) (q : ℕ) (hq : q < 2304)
    (r : Fin 147456) (hr : r.val = 2304 * i + q) (n : Fin 1024) :
    ∑ j ∈ Finset.univ.filter (fun j => dims.resultIdx? j idx = some (ix2 r n)), u j
      = ∑ t : Fin 512, ∑ k : Fin 4, if p ⟨512 * i + t.val, by omega⟩ k = q then u (ix3 ⟨512 * i + t.val, by omega⟩ k n) else 0 := by
  rw [Finset.sum_filter, ← Fintype.sum_prod_type' (f := fun (t : Fin 512) (k : Fin 4) =>
    if p ⟨512 * i + t.val, by omega⟩ k = q then u (ix3 ⟨512 * i + t.val, by omega⟩ k n) else 0)]
  symm
  refine Fintype.sum_of_injective (fun a : Fin 512 × Fin 4 => (ix3 ⟨512 * i + a.1.val, by omega⟩ a.2 n : S32768x4x1024.Idx)) ?_ _ _ ?_ ?_
  · intro a b h
    have h0 : 512 * i + a.1.val = 512 * i + b.1.val := congrArg (fun j : S32768x4x1024.Idx => (j 0).val) h
    have h1 : a.2 = b.2 := congrArg (fun j : S32768x4x1024.Idx => (j 1 : Fin 4)) h
    exact Prod.ext (Fin.ext (by omega)) h1
  · intro j hj
    rw [if_neg]
    intro hl
    have hl' := (lands idx j r n).1 hl
    have hw : ((2304 * ((j 0).val / 512) + p (j 0) (j 1) : ℕ) : ℤ) = (r.val : ℤ) := (hidx (j 0) (j 1)).symm.trans hl'.1
    have ha : p (j 0) (j 1) < 2304 := hp (j 0) (j 1)
    have hj0 : (j 0).val < 32768 := (j 0).isLt
    refine hj ⟨(⟨(j 0).val % 512, Nat.mod_lt _ (by omega)⟩, j 1), ?_⟩
    funext d
    match d with
    | ⟨0, _⟩ => exact Fin.ext (by show 512 * i + (j 0).val % 512 = (j 0).val; omega)
    | ⟨1, _⟩ => rfl
    | ⟨2, _⟩ => exact Fin.ext (by show n.val = (j 2).val; omega)
  · intro a
    refine if_congr ?_ rfl rfl
    rw [lands]
    show _ ↔ (idx (ix3 ⟨512 * i + a.1.val, _⟩ a.2 0)).toInt = _ ∧ n.val = n.val
    rw [hidx]
    have ha := hp ⟨512 * i + a.1.val, by omega⟩ a.2
    constructor
    · intro h
      refine ⟨?_, rfl⟩
      rw [h, hr]
      have : (512 * i + a.1.val) / 512 = i := by omega
      show ((2304 * ((512 * i + a.1.val) / 512) + q : ℕ) : ℤ) = _
      rw [this]
    · intro h
      have h' : ((2304 * ((512 * i + a.1.val) / 512) + p ⟨512 * i + a.1.val, by omega⟩ a.2 : ℕ) : ℤ) = (r.val : ℤ) := h.1
      have : (512 * i + a.1.val) / 512 = i := by omega
      rw [this, hr] at h'
      omega

/-- A whole place as the word that the reference reads it as. -/
theorem word_of_place (p : ℕ) (hp : p < 2304) : FloatOps.fptosi (F := Ideal) (φ := .f32) 32 (((p : ℝ) : EReal)) = BitVec.ofNat 32 p := by
  show BitVec.ofInt 32 (Ideal.toIntClamped (-(2 ^ (32 - 1) : Nat)) ((2 ^ (32 - 1) : Nat) - 1) ((p : ℝ) : EReal)) = _
  have h : Ideal.toIntClamped (-(2 ^ (32 - 1) : Nat)) ((2 ^ (32 - 1) : Nat) - 1) ((p : ℝ) : EReal) = (p : ℤ) := by
    show max _ (min _ (if (0 : ℝ) ≤ (p : ℝ) then ⌊(p : ℝ)⌋ else ⌈(p : ℝ)⌉)) = _
    rw [if_pos (Nat.cast_nonneg p), Int.floor_natCast]
    norm_num
    omega
  rw [h]
  rfl

/-- The sum of the tile's first row and a place, as words, is their sum. -/
theorem word_add (t p : ℕ) (ht : t < 64) (hp : p < 2304) :
    IntOp.addi (IntOp.muli 2304#32 (BitVec.ofNat 32 t)) (BitVec.ofNat 32 p) = BitVec.ofNat 32 (2304 * t + p) := by
  show 2304#32 * BitVec.ofNat 32 t + BitVec.ofNat 32 p = _
  rw [BitVec.ofNat_add, BitVec.ofNat_mul]

/-- A word that names a row is not negative. -/
theorem toInt_row (x : ℕ) (hx : x < 147456) : (BitVec.ofNat 32 x).toInt = (x : ℤ) := by
  rw [BitVec.toInt_eq_toNat_of_lt (by rw [BitVec.toNat_ofNat, Nat.mod_eq_of_lt (by omega)]; omega), BitVec.toNat_ofNat, Nat.mod_eq_of_lt (by omega)]

/-- Of a word that names a row the reference takes the word itself. -/
theorem select_row (x : ℕ) (hx : x < 147456) (y : BitVec 32) :
    Scalar.select (IntOp.cmpi .slt (BitVec.ofNat 32 x) 0#32) y (BitVec.ofNat 32 x) = BitVec.ofNat 32 x := by
  have h : (BitVec.ofNat 32 x).slt 0#32 = false := by
    rw [BitVec.slt_eq_decide, toInt_row x hx]
    simp
  have e : IntOp.cmpi .slt (BitVec.ofNat 32 x) 0#32 = 0#1 := by
    show BitVec.ofBool ((BitVec.ofNat 32 x).slt 0#32) = 0#1
    rw [h]; rfl
  rw [e]
  rfl

variable (H : FVec Ideal S32768x1024 .bf16) (R : FVec Ideal S32768x128 .f32)

/-- The row word of a token's place. -/
theorem row_word (t : Fin 32768) (k : Fin 4) (p : ℕ) (hp : p < 2304) (e : R (ix2 t ⟨k.val, by omega⟩) = ((p : ℝ) : EReal)) :
    val_main_v9 (F := Ideal) R (ix2 t k) = BitVec.ofNat 32 (2304 * (t.val / 512) + p) := by
  have hr : val_main_v1 (F := Ideal) R (idx_main_v9 (ix2 t k)) = ((p : ℝ) : EReal) := by
    rw [val_main_v1_apply, val_main_v0_apply, ← e]
    refine congrArg R (funext fun d => ?_)
    match d with
    | ⟨0, _⟩ =>
      refine Fin.ext ?_
      show ((((t.val * 4 + k.val) / 2048) * 512 + (t.val * 4 + k.val) / 4 % 512) * 128 + (t.val * 4 + k.val) % 4) / 128 = t.val
      omega
    | ⟨1, _⟩ =>
      refine Fin.ext ?_
      show ((((t.val * 4 + k.val) / 2048) * 512 + (t.val * 4 + k.val) / 4 % 512) * 128 + (t.val * 4 + k.val) % 4) % 128 = k.val
      omega
  rw [val_main_v9_apply, val_main_v8_apply, val_main_v2_apply, hr, word_of_place p hp, val_main_v7_apply, val_main_v6_apply, val_main_v5_apply, val_main_c_apply,
    val_main_v4_apply, val_main_v3_apply]
  have h : (t.val * 4 + k.val) / 2048 = t.val / 512 := by omega
  show IntOp.addi (IntOp.muli 2304#32 (BitVec.ofNat 32 ((t.val * 4 + k.val) / 2048))) (BitVec.ofNat 32 p) = _
  rw [h, word_add _ p (by omega) hp]

/-- The index word of a token's place, read signed. -/
theorem index_word (t : Fin 32768) (k : Fin 4) (p : ℕ) (hp : p < 2304) (e : R (ix2 t ⟨k.val, by omega⟩) = ((p : ℝ) : EReal)) :
    (val_main_v19 (F := Ideal) R (ix3 t k 0)).toInt = ((2304 * (t.val / 512) + p : ℕ) : ℤ) := by
  have hi : idx_main_v19 (ix3 t k 0) = ix2 t k := funext fun d => by fin_cases d <;> rfl
  have hx : 2304 * (t.val / 512) + p < 147456 := by omega
  rw [val_main_v19_apply, hi, val_main_v18_apply, val_main_v15_apply, val_main_v14_apply, val_main_c_0_apply, row_word R t k p hp e, select_row _ hx, toInt_row _ hx]

/-- The token that one entry of the updates holds. -/
theorem update (t : Fin 32768) (k : Fin 4) (n : Fin 1024) : val_main_v12 (F := Ideal) H (ix3 t k n) = H (ix2 t n) := by
  rw [val_main_v12_apply, val_main_v11_apply, val_main_v10_apply]
  refine congrArg H (funext fun d => ?_)
  fin_cases d <;> rfl

/-- The reference's result at a row and a column. -/
theorem result_at (p : Fin 32768 → Fin 4 → ℕ) (hp : ∀ t k, p t k < 2304) (e : ∀ t k, R (ix2 t ⟨k.val, by omega⟩) = ((p t k : ℝ) : EReal))
    (i : ℕ) (hi : i < 64) (q : ℕ) (hq : q < 2304) (r : Fin 147456) (hr : r.val = 2304 * i + q) (n : Fin 1024) :
    val_main_v20 (F := Ideal) H R (ix2 r n)
      = ∑ t : Fin 512, ∑ k : Fin 4, if p ⟨512 * i + t.val, by omega⟩ k = q then H (ix2 ⟨512 * i + t.val, by omega⟩ n) else 0 := by
  show val_main_v13 (F := Ideal) (ix2 r n) + ∑ j ∈ Finset.univ.filter (fun j => dims.resultIdx? j (val_main_v19 (F := Ideal) R) = some (ix2 r n)), val_main_v12 (F := Ideal) H j = _
  rw [sum_at _ _ p hp (fun t k => index_word R t k _ (hp t k) (e t k)) i hi q hq r hr n, val_main_v13_apply, val_main_cst_apply]
  have hz : FloatOps.ofBits (F := Ideal) .f32 0x00000000#32 = (0 : EReal) := by
    show Ideal.ofBits .f32 0x00000000#32 = 0
    simp [Ideal.ofBits, Ideal.ieee]
  rw [hz, zero_add]
  simp only [update]

end Cert.SortTokens.Ref
-- ==== Proof.SortClaims.lean ====
module

public import proofs.«01_k».proof.Defs
public import proofs.«01_k».proof.Proof.SortBlock
public import proofs.«01_k».proof.Proof.SortPlaces
public import proofs.«01_k».proof.Proof.SortRef
public import proofs.«01_k».proof.Proof.Gen.Dispatch.Frame
public import proofs.«01_k».proof.Proof.Gen.DispatchRefIdeal.Run
public import Idealize.ShloMosaic.Lib.Quiescent

/-! The claims about the sorting of the tokens to their rows. -/

@[expose] public section

set_option maxRecDepth 16384

noncomputable section

open Idealize.ShloMosaic Idealize.ShloMosaic.TcCoe Idealize.SL.Sem

namespace Cert.SortTokens.Claims

/-- The kernel's program ends with its arguments unchanged and every counter at zero, at the printed formats. -/
theorem frame : Cert.quiescent_Dispatch := fun m ρ _ => Cert.Dispatch.Gen.frame m ρ
/-- The same of its idealization. -/
theorem frame_ideal : Cert.quiescent_DispatchIdeal := fun m ρ _ => Cert.DispatchIdeal.Gen.frame m ρ
/-- The same of its idealization under the precondition. -/
theorem frame_ideal_pre [h : Cert.Pre_whole_places.Facts] : Cert.quiescent_DispatchIdeal_pre_whole_places := fun m ρ _ => Cert.DispatchIdeal.Gen.frame m ρ

/-- The reference ends with its arguments unchanged and every counter at zero. -/
theorem frame_ref : Cert.quiescent_DispatchRefIdeal := fun m ρ _ =>
  (θ_run _ _ _).mono (fun r h => ⟨fun c => (h c).2, Idealize.ShloMosaic.sem_eq_zero_of_no_sems (by decide) r.2⟩)
    (Cert.DispatchRefIdeal.Value.run m ρ)
/-- The same of the reference under the precondition. -/
theorem frame_ref_pre [h : Cert.Pre_whole_places.Facts] : Cert.quiescent_DispatchRefIdeal_pre_whole_places := fun m ρ _ => frame_ref m ρ trivial

/-- The idealization replaces nothing in the program. -/
theorem preserves : Cert.preserves_Dispatch_DispatchIdeal := trivial

/-- The result array of the kernel's run is the reference's result over the same arguments. -/
theorem result_eq [hP : Cert.Pre_whole_places.Facts] (m : (ℓ : Loc Cert.DispatchIdeal.nD Cert.DispatchIdeal.τ Cert.DispatchIdeal.sig) → Buf (Elt Ideal) ℓ)
    (hpre : Cert.Pre_DispatchIdeal_whole_places m) (c : Dev Cert.DispatchIdeal.nD) :
    (fun i : Cert.DispatchIdeal.S147456x1024.Idx =>
        kernelAt m c ((i 0).val / 2304) (by have h : (i 0).val < 147456 := (i 0).isLt; omega) ((i 0).val % 2304) (i 1))
      = Cert.DispatchRefIdeal.Read.val_main_v20 (F := Ideal) (m ((c.tc : Thread Cert.DispatchIdeal.nD Cert.DispatchIdeal.τ).loc Cert.DispatchIdeal.main_arg0))
          (m ((c.tc : Thread Cert.DispatchIdeal.nD Cert.DispatchIdeal.τ).loc Cert.DispatchIdeal.main_arg1)) := by
  choose p hp e using Places.places _ _ (hpre c)
  funext i
  have hi : (i 0).val < 147456 := (i 0).isLt
  have ei : i = ix2 (i 0) (i 1) := funext fun d => by fin_cases d <;> rfl
  refine Eq.trans ?_ ((Ref.result_at _ _ p hp e ((i 0).val / 2304) (by omega) ((i 0).val % 2304) (Nat.mod_lt _ (by omega)) (i 0)
    (Nat.div_add_mod _ _).symm (i 1)).symm.trans (congrArg _ ei.symm))
  unfold kernelAt gathered
  refine Finset.sum_congr rfl fun t _ => Finset.sum_congr rfl fun k _ => if_congr ?_ rfl rfl
  refine (Eq.congr_left (e _ k)).trans ?_
  rw [EReal.coe_eq_coe_iff, Nat.cast_inj]

/-- The kernel's result is the reference's. -/
theorem algebraic [hP : Cert.Pre_whole_places.Facts] : Cert.algebraic_DispatchIdeal_DispatchRefIdeal_pre_whole_places := by
  intro m g m' g' hpre hagree
  refine ⟨fun c => (fun i : Cert.DispatchIdeal.S147456x1024.Idx =>
      kernelAt m c ((i 0).val / 2304) (by have h : (i 0).val < 147456 := (i 0).isLt; omega) ((i 0).val % 2304) (i 1)),
    run m g, (θ_run _ _ _).mono (fun r h c => ⟨?_, (h c).2⟩) (Cert.DispatchRefIdeal.Value.run m' g')⟩
  refine (h c).1.trans ((Cert.DispatchRefIdeal.Read.val_main_v20_eq _ _).trans ?_)
  rw [(hagree c).1, (hagree c).2]
  exact (result_eq m hpre c).symm

end Cert.SortTokens.Claims
-- ==== Proof.RouteRank.lean ====
module

public import Idealize.ShloMosaic.PureOps.Ideal.Laws
public import Idealize.ShloMosaic.Lib.Tactic

@[expose] public section

noncomputable section

open Idealize.ShloMosaic

namespace Cert.RouteCounts

/-- `f` stands before `e` in a list of 32 scores: it is larger, or as large with a smaller number. -/
def precedes (L : Fin 32 → EReal) (f e : Fin 32) : Prop := L e < L f ∨ (L f = L e ∧ f < e)

open Classical in
/-- The place of `e`: how many of the 32 scores stand before it. -/
def rank (L : Fin 32 → EReal) (e : Fin 32) : ℕ := (Finset.univ.filter fun f => precedes L f e).card

/-- No score stands before itself. -/
theorem precedes_irrefl (L : Fin 32 → EReal) (e : Fin 32) : ¬ precedes L e e := by
  rintro (h | ⟨_, h⟩) <;> exact lt_irrefl _ h

/-- Standing before is transitive. -/
theorem precedes_trans (L : Fin 32 → EReal) {g f e : Fin 32} (h : precedes L g f) (h' : precedes L f e) :
    precedes L g e := by
  rcases h with h | ⟨h, k⟩ <;> rcases h' with h' | ⟨h', k'⟩
  · exact .inl (h'.trans h)
  · exact .inl (h' ▸ h)
  · exact .inl (h ▸ h')
  · exact .inr ⟨h.trans h', k.trans k'⟩

/-- Of two different scores one stands before the other. -/
theorem precedes_total (L : Fin 32 → EReal) {f e : Fin 32} (h : f ≠ e) : precedes L f e ∨ precedes L e f := by
  rcases lt_trichotomy (L f) (L e) with a | a | a
  · exact .inr (.inl a)
  · rcases lt_or_gt_of_ne h with b | b
    · exact .inl (.inr ⟨a, b⟩)
    · exact .inr (.inr ⟨a.symm, b⟩)
  · exact .inl (.inl a)

/-- A score that stands before another has a smaller place. -/
theorem rank_lt_of (L : Fin 32 → EReal) {f e : Fin 32} (h : precedes L f e) : rank L f < rank L e := by
  classical
  unfold rank
  apply Finset.card_lt_card
  refine ⟨fun g hg => ?_, fun hs => ?_⟩
  · simp only [Finset.mem_filter, Finset.mem_univ, true_and] at hg ⊢
    exact precedes_trans L hg h
  · have := hs (show f ∈ _ by simpa using h)
    simp only [Finset.mem_filter, Finset.mem_univ, true_and] at this
    exact precedes_irrefl L f this

/-- Places are smaller than 32. -/
theorem rank_lt (L : Fin 32 → EReal) (e : Fin 32) : rank L e < 32 := by
  classical
  have : rank L e < (Finset.univ : Finset (Fin 32)).card := by
    unfold rank
    apply Finset.card_lt_card
    refine ⟨Finset.filter_subset _ _, fun hs => ?_⟩
    have := hs (Finset.mem_univ e)
    simp only [Finset.mem_filter, Finset.mem_univ, true_and] at this
    exact precedes_irrefl L e this
  simpa using this

/-- Different scores have different places. -/
theorem rank_inj (L : Fin 32 → EReal) {f e : Fin 32} (h : rank L f = rank L e) : f = e := by
  by_contra hn
  rcases precedes_total L hn with a | a
  · exact absurd (rank_lt_of L a) (by omega)
  · exact absurd (rank_lt_of L a) (by omega)

/-- Every place below 32 is some score's. -/
theorem rank_onto (L : Fin 32 → EReal) (k : ℕ) (hk : k < 32) : ∃ r, rank L r = k := by
  have hi : Function.Injective fun e : Fin 32 => (⟨rank L e, rank_lt L e⟩ : Fin 32) := fun f e h =>
    rank_inj L (congrArg Fin.val h)
  obtain ⟨r, hr⟩ := (Finite.injective_iff_surjective.1 hi) ⟨k, hk⟩
  exact ⟨r, congrArg Fin.val hr⟩

/-- The 128 lanes of round `k`: the scores of place `k` and later, and `⊥` everywhere else. -/
def work (L : Fin 32 → EReal) (k : ℕ) (l : Fin 128) : EReal :=
  if h : l.val < 32 then (if k ≤ rank L ⟨l.val, h⟩ then L ⟨l.val, h⟩ else ⊥) else ⊥

/-- The number of a lane. -/
def num (l : Fin 128) : EReal := ((l.val : ℝ) : EReal)

/-- The lane of a score. -/
def lane (e : Fin 32) : Fin 128 := ⟨e.val, by omega⟩

/-- In a round no later than its place, a score's lane holds the score. -/
theorem work_lane (L : Fin 32 → EReal) (k : ℕ) (e : Fin 32) (h : k ≤ rank L e) : work L k (lane e) = L e := by
  unfold work lane
  rw [dif_pos e.isLt]
  exact if_pos h

/-- The largest lane of round `k` holds the score of place `k`. -/
theorem top_work (L : Fin 32 → EReal) (r : Fin 32) :
    Finset.fold max (⊥ : EReal) (fun x => work L (rank L r) x) Finset.univ = L r := by
  apply le_antisymm
  · rw [Finset.fold_max_le]
    refine ⟨bot_le, fun x _ => ?_⟩
    unfold work
    split
    · rename_i h
      split
      · rename_i h'
        by_contra hn
        exact absurd (rank_lt_of L (.inl (not_le.1 hn) : precedes L ⟨x.val, h⟩ r)) (by omega)
      · exact bot_le
    · exact bot_le
  · rw [Finset.le_fold_max]
    exact .inr ⟨lane r, Finset.mem_univ _, (work_lane L _ r le_rfl).ge⟩

/-- The first lane of round `k` that holds the largest score is the lane of the score of place `k`. -/
theorem first_work (L : Fin 32 → EReal) (hL : ∀ e, L e ≠ ⊥) (r : Fin 32) (c : EReal) (hc : num (lane r) ≤ c) :
    Finset.fold min (⊤ : EReal) (fun x => if work L (rank L r) x = L r then num x else c) Finset.univ
      = num (lane r) := by
  apply le_antisymm
  · rw [Finset.fold_min_le]
    exact .inr ⟨lane r, Finset.mem_univ _, by rw [if_pos (work_lane L _ r le_rfl)]⟩
  · rw [Finset.le_fold_min]
    refine ⟨le_top, fun x _ => ?_⟩
    split
    · rename_i h
      unfold work at h
      split at h
      · rename_i hx
        split at h
        · rename_i hr
          have hle : r ≤ (⟨x.val, hx⟩ : Fin 32) := by
            by_contra hn
            exact absurd (rank_lt_of L (.inr ⟨h, not_le.1 hn⟩ : precedes L ⟨x.val, hx⟩ r)) (by omega)
          have hv : (lane r).val ≤ x.val := hle
          exact EReal.coe_le_coe_iff.2 (by exact_mod_cast hv)
        · exact absurd h.symm (hL r)
      · exact absurd h.symm (hL r)
    · exact hc

/-- Whether a lane is the lane of the score of place `k`. -/
def isHit (L : Fin 32 → EReal) (k : ℕ) (l : Fin 128) : Prop := ∃ h : l.val < 32, rank L ⟨l.val, h⟩ = k

/-- A lane has the number of a score's lane exactly when it is the lane of that score's place. -/
theorem num_eq_iff (L : Fin 32 → EReal) (r : Fin 32) (l : Fin 128) : num l = num (lane r) ↔ isHit L (rank L r) l := by
  unfold num isHit
  rw [EReal.coe_eq_coe_iff, Nat.cast_inj]
  constructor
  · intro h
    have h' : l.val = r.val := h
    refine ⟨by omega, ?_⟩
    congr 1
    exact Fin.ext h'
  · rintro ⟨h, h'⟩
    exact Fin.mk.inj_iff.1 (rank_inj L h' : (⟨l.val, h⟩ : Fin 32) = ⟨r.val, r.isLt⟩)

open Classical in
/-- Taking the lane of place `k` out of round `k` leaves round `k + 1`. -/
theorem work_succ (L : Fin 32 → EReal) (k : ℕ) (l : Fin 128) :
    (if isHit L k l then ⊥ else work L k l) = work L (k + 1) l := by
  unfold isHit work
  by_cases h : l.val < 32
  · simp only [h, exists_true_left, dif_pos]
    split_ifs <;> first | rfl | omega
  · simp only [h, IsEmpty.exists_iff, dif_neg, not_false_eq_true, if_false]

/-- Whether a lane is the lane of a score whose place is below four. -/
def chosen (L : Fin 32 → EReal) (l : Fin 128) : Prop := ∃ h : l.val < 32, rank L ⟨l.val, h⟩ < 4

open Classical in
/-- One for a lane whose score has a place below four, zero for every other lane. -/
def picked (L : Fin 32 → EReal) (l : Fin 128) : EReal := if chosen L l then 1 else 0

open Classical in
/-- The four rounds' lanes add to the lanes of places below four. -/
theorem picked_sum (L : Fin 32 → EReal) (l : Fin 128) :
    (((if isHit L 0 l then (1 : EReal) else 0) + (if isHit L 1 l then 1 else 0)) + (if isHit L 2 l then 1 else 0))
      + (if isHit L 3 l then 1 else 0) = picked L l := by
  unfold isHit picked chosen
  by_cases h : l.val < 32
  · simp only [h, exists_true_left]
    generalize rank L ⟨l.val, _⟩ = k
    rcases k with _ | _ | _ | _ | k
    · simp
    · simp
    · simp
    · simp
    · simp
  · simp only [h, IsEmpty.exists_iff, if_false, add_zero]

open Classical in
/-- A sum of ones and zeros is the number of ones. -/
theorem sum_ones {ι : Type} [Fintype ι] (p : ι → Prop) :
    (∑ i, (if p i then (1 : EReal) else 0)) = (((Finset.univ.filter p).card : ℝ) : EReal) := by
  have h : ∀ s : Finset ι, (∑ i ∈ s, (if p i then (1 : EReal) else 0)) = (((s.filter p).card : ℝ) : EReal) := by
    intro s
    induction s using Finset.induction_on with
    | empty => simp
    | insert a s ha ih =>
      rw [Finset.sum_insert ha, ih, Finset.filter_insert]
      by_cases hp : p a
      · rw [if_pos hp, if_pos hp, Finset.card_insert_of_notMem (by simp [ha])]
        push_cast
        rw [add_comm]
      · rw [if_neg hp, if_neg hp, zero_add]
  exact h Finset.univ

/-- The number of scores before `e`, added up as ones, is its place. -/
theorem sum_rank (L : Fin 32 → EReal) (e : Fin 32) [DecidablePred fun f => precedes L f e] :
    (∑ f, (if precedes L f e then (1 : EReal) else 0)) = ((rank L e : ℝ) : EReal) := by
  classical
  have := sum_ones fun f => precedes L f e
  unfold rank
  convert this

/-- Rounding a count up to a multiple of eight, done with a floor and done with a ceiling. -/
theorem round_up (n : ℕ) :
    Ideal.liftRound Int.floor ((((n : ℝ) : EReal) + ((7 : ℝ) : EReal)) * (((1 / 8 : ℝ)) : EReal)) * ((8 : ℝ) : EReal)
      = ((8 : ℝ) : EReal) * Ideal.liftRound Int.ceil ((((n : ℝ) / 8 : ℝ)) : EReal) := by
  rw [← EReal.coe_add, ← EReal.coe_mul, mul_comm]
  have h : ⌊((n : ℝ) + 7) * (1 / 8)⌋ = ⌈(n : ℝ) / 8⌉ := by
    rw [Int.floor_eq_iff]
    constructor
    · have h1 : ((⌈(n : ℝ) / 8⌉ : ℤ) : ℝ) < (n : ℝ) / 8 + 1 := Int.ceil_lt_add_one _
      have h2 : ((8 * ⌈(n : ℝ) / 8⌉ : ℤ) : ℝ) < ((n + 8 : ℤ) : ℝ) := by push_cast; linarith
      have h3 : 8 * ⌈(n : ℝ) / 8⌉ < (n + 8 : ℤ) := by exact_mod_cast h2
      have h4 : ((8 * ⌈(n : ℝ) / 8⌉ : ℤ) : ℝ) ≤ ((n + 7 : ℤ) : ℝ) := by exact_mod_cast (by omega : 8 * ⌈(n : ℝ) / 8⌉ ≤ (n + 7 : ℤ))
      push_cast at h4
      linarith
    · have h1 : (n : ℝ) / 8 ≤ ((⌈(n : ℝ) / 8⌉ : ℤ) : ℝ) := Int.le_ceil _
      linarith
  congr 1
  show ((⌊((n : ℝ) + 7) * (1 / 8)⌋ : ℝ) : EReal) = ((⌈(n : ℝ) / 8⌉ : ℝ) : EReal)
  rw [h]

end Cert.RouteCounts
-- ==== Proof.RouteBlock.lean ====
module

public import proofs.«01_k».proof.Proof.Gen.RouteIdeal.Frame
public import proofs.«01_k».proof.Proof.MergeBlock
public import proofs.«01_k».proof.Proof.RouteRank
public import Idealize.ShloMosaic.PureOps.Ideal.Laws
public import Idealize.ShloMosaic.Lib.Pipeline.ValueKit
public import Idealize.ShloMosaic.Lib.Pipeline.ReadBack
public import Idealize.ShloMosaic.Lib.Tactic

/-! The routing counts: what one step of the kernel writes, from the step's blocks. -/

@[expose] public section

set_option maxRecDepth 16384

noncomputable section

open Idealize.ShloMosaic Idealize.ShloMosaic.TcCoe Idealize.SL.Sem
open Cert.MergeOut (Row normed)

namespace Cert.RouteCounts
open Cert.RouteIdeal Cert.RouteIdeal.Gen

/-- A token's score for one expert: its normed row times the expert's column, plus the expert's bias. -/
def score (h : Row 1024) (w : Fin 1024 → Row 32) (b : Row 32) : Row 32 := fun e => (∑ k, h k * w k e) + b e

/-- The lane number, as the kernel reads it. -/
theorem lane_number (l : Fin 128) : FloatOps.sitofp (F := Ideal) FTy.f32 (BitVec.ofNat 32 l.val) = num l := by
  show (((BitVec.ofNat 32 l.val).toInt : ℝ) : EReal) = _
  have h : (BitVec.ofNat 32 l.val).toInt = (l.val : ℤ) := by
    rw [BitVec.toInt_eq_toNat_of_lt (by rw [BitVec.toNat_ofNat, Nat.mod_eq_of_lt (by omega)]; omega), BitVec.toNat_ofNat, Nat.mod_eq_of_lt (by omega)]
  rw [h, Int.cast_natCast]
  rfl

/-- The named mask is -∞. -/
theorem mask_eq : (Named.named (F := Ideal) (φ := .f32) κ "mask" 0xF149F2CA#32 : EReal) = ⊥ :=
  IdealRules.named_const.ideal_named_scalar _ _ _ _ rfl

/-- The lowest number is -∞. -/
theorem bot_eq : Ideal.ofBits .f32 0xFF800000#32 = (⊥ : EReal) := by simp [Ideal.ofBits, Ideal.ieee]
/-- The highest number is +∞. -/
theorem top_eq : Ideal.ofBits .f32 0x7F800000#32 = (⊤ : EReal) := by simp [Ideal.ofBits, Ideal.ieee]
/-- The number 128. -/
theorem lanes_eq : Ideal.ofBits .f32 0x43000000#32 = ((128 : ℝ) : EReal) := by
  simp [Ideal.ofBits, Ideal.ieee, -EReal.coe_mul]; norm_num
/-- The number seven. -/
theorem seven_eq : Ideal.ofBits .f32 0x40E00000#32 = ((7 : ℝ) : EReal) := by
  simp [Ideal.ofBits, Ideal.ieee, -EReal.coe_mul]; norm_num
/-- The number one eighth. -/
theorem eighth_eq : Ideal.ofBits .f32 0x3E000000#32 = ((1 / 8 : ℝ) : EReal) := by
  simp [Ideal.ofBits, Ideal.ieee, -EReal.coe_mul]; norm_num
/-- The number eight. -/
theorem eight_eq : Ideal.ofBits .f32 0x41000000#32 = ((8 : ℝ) : EReal) := by
  simp [Ideal.ofBits, Ideal.ieee, -EReal.coe_mul]; norm_num

open Classical in
/-- The word of a condition. -/
def word (p : Prop) : BitVec 1 := BitVec.ofBool (decide p)

open Classical in
/-- A choice by a condition's word is the choice by the condition. -/
theorem select_word (p : Prop) (a b : EReal) : Scalar.select (word p) a b = if p then a else b := by
  unfold word
  by_cases h : p <;> simp [h, Scalar.select]

/-- One round: the word of a lane is whether the lane's score has the round's place. -/
theorem hit_step (L : Fin 32 → EReal) (hL : ∀ e, L e ≠ ⊥) (k : ℕ) (hk : k < 32) (w : Fin 128 → EReal) (hw : ∀ l, w l = work L k l)
    (v : EReal) (hv : v = Finset.fold max (Ideal.ofBits .f32 0xFF800000#32) w Finset.univ) (l : Fin 128) :
    BitVec.ofBool (decide (FloatOps.sitofp (F := Ideal) FTy.f32 (BitVec.ofNat 32 l.val) =
          Finset.fold min (Ideal.ofBits FTy.f32 0x7F800000#32)
            (fun x : Fin 128 => if w x = v then FloatOps.sitofp (F := Ideal) FTy.f32 (BitVec.ofNat 32 x.val) else Ideal.ofBits FTy.f32 0x43000000#32)
            Finset.univ)) = word (isHit L k l) := by
  obtain ⟨r, rfl⟩ := rank_onto L k hk
  obtain rfl : w = work L (rank L r) := funext hw
  rw [hv, bot_eq, top_eq, lanes_eq]
  simp only [lane_number]
  rw [top_work L r, first_work L hL r _ (by unfold num lane; exact EReal.coe_le_coe_iff.2 (by have := r.isLt; exact_mod_cast (by omega : r.val ≤ 128)))]
  unfold word
  congr 1
  exact decide_eq_decide.2 (num_eq_iff L r l)

/-- Taking the round's lane out. -/
theorem out_step (L : Fin 32 → EReal) (k : ℕ) (l : Fin 128) :
    Scalar.select (word (isHit L k l)) (Named.named (F := Ideal) (φ := .f32) κ "mask" 0xF149F2CA#32 : EReal) (work L k l) = work L (k + 1) l := by
  rw [select_word, mask_eq]
  exact work_succ L k l

/-- The word that compares a lane's number with 32. -/
theorem lane_small : ∀ l : Fin 128, IntOp.cmpi CmpIPredicate.slt (BitVec.ofNat 32 l.val) 32#32 = BitVec.ofBool (decide (l.val < 32)) := by
  decide +kernel

section
variable (a b : FVec Ideal S512x128 .f32) (r : Fin 512) (L : Fin 32 → EReal) (hL : ∀ e, L e ≠ ⊥)
  (hab : ∀ e, a (ix2 r (lane e)) + b (ix2 r (lane e)) = L e)
include hL hab

omit hL in
/-- The lanes that the first round reads. -/
theorem round0 (l : Fin 128) : k0_pay11 a b (ix2 r l) = work L 0 l := by
  have e : k0_pay11 a b (ix2 r l) = Scalar.select (IntOp.cmpi CmpIPredicate.slt (BitVec.ofNat 32 l.val) 32#32) (a (ix2 r l) + b (ix2 r l))
      (Named.named (F := Ideal) (φ := .f32) κ "mask" 0xF149F2CA#32 : EReal) := by
    pointwise [k0_pay11]
  have hc : IntOp.cmpi CmpIPredicate.slt (BitVec.ofNat 32 l.val) 32#32 = word (l.val < 32) := by
    rw [lane_small]
    unfold word
    congr 1
    exact decide_eq_decide.2 Iff.rfl
  rw [e, hc, select_word, mask_eq]
  unfold work
  by_cases h : l.val < 32
  · rw [if_pos h, dif_pos h, if_pos (Nat.zero_le _)]
    exact hab ⟨l.val, h⟩
  · rw [if_neg h, dif_neg h]

/-- The word of the first round. -/
theorem hit0 (l : Fin 128) : k0_pay13 a b (ix2 r l) = word (isHit L 0 l) := by
  refine Eq.trans ?_ (hit_step L hL 0 (by omega) _ (fun l => round0 a b r L hab l) _ rfl l)
  have ev : k0_pay12 a b (ix2 r 0) = Finset.fold max (Ideal.ofBits .f32 0xFF800000#32) (fun x => k0_pay11 a b (ix2 r x)) Finset.univ := by
    unfold k0_pay12
    generalize k0_pay11 a b = w
    pointwise
  rw [← ev]
  unfold k0_pay13
  generalize k0_pay12 a b = v
  generalize k0_pay11 a b = w
  pointwise [k0_pay10]

/-- The lanes that the second round reads. -/
theorem round1 (l : Fin 128) : k0_pay14 a b (ix2 r l) = work L 1 l := by
  refine Eq.trans ?_ (out_step L 0 l)
  rw [← hit0 a b r L hL hab l, ← round0 a b r L hab l]
  unfold k0_pay14
  generalize k0_pay13 a b = v
  generalize k0_pay11 a b = w
  pointwise

/-- The word of the second round. -/
theorem hit1 (l : Fin 128) : k0_pay16 a b (ix2 r l) = word (isHit L 1 l) := by
  refine Eq.trans ?_ (hit_step L hL 1 (by omega) _ (fun l => round1 a b r L hL hab l) _ rfl l)
  have ev : k0_pay15 a b (ix2 r 0) = Finset.fold max (Ideal.ofBits .f32 0xFF800000#32) (fun x => k0_pay14 a b (ix2 r x)) Finset.univ := by
    unfold k0_pay15
    generalize k0_pay14 a b = w
    pointwise
  rw [← ev]
  unfold k0_pay16
  generalize k0_pay15 a b = v
  generalize k0_pay14 a b = w
  pointwise [k0_pay10]

/-- The lanes that the third round reads. -/
theorem round2 (l : Fin 128) : k0_pay17 a b (ix2 r l) = work L 2 l := by
  refine Eq.trans ?_ (out_step L 1 l)
  rw [← hit1 a b r L hL hab l, ← round1 a b r L hL hab l]
  unfold k0_pay17
  generalize k0_pay16 a b = v
  generalize k0_pay14 a b = w
  pointwise

/-- The word of the third round. -/
theorem hit2 (l : Fin 128) : k0_pay19 a b (ix2 r l) = word (isHit L 2 l) := by
  refine Eq.trans ?_ (hit_step L hL 2 (by omega) _ (fun l => round2 a b r L hL hab l) _ rfl l)
  have ev : k0_pay18 a b (ix2 r 0) = Finset.fold max (Ideal.ofBits .f32 0xFF800000#32) (fun x => k0_pay17 a b (ix2 r x)) Finset.univ := by
    unfold k0_pay18
    generalize k0_pay17 a b = w
    pointwise
  rw [← ev]
  unfold k0_pay19
  generalize k0_pay18 a b = v
  generalize k0_pay17 a b = w
  pointwise [k0_pay10]

/-- The lanes that the fourth round reads. -/
theorem round3 (l : Fin 128) : k0_pay20 a b (ix2 r l) = work L 3 l := by
  refine Eq.trans ?_ (out_step L 2 l)
  rw [← hit2 a b r L hL hab l, ← round2 a b r L hL hab l]
  unfold k0_pay20
  generalize k0_pay19 a b = v
  generalize k0_pay17 a b = w
  pointwise

/-- The word of the fourth round. -/
theorem hit3 (l : Fin 128) : k0_pay22 (k0_pay10 (F := Ideal)) (k0_pay20 a b) (k0_pay21 a b) (ix2 r l) = word (isHit L 3 l) := by
  refine Eq.trans ?_ (hit_step L hL 3 (by omega) _ (fun l => round3 a b r L hL hab l) _ rfl l)
  have ev : k0_pay21 a b (ix2 r 0) = Finset.fold max (Ideal.ofBits .f32 0xFF800000#32) (fun x => k0_pay20 a b (ix2 r x)) Finset.univ := by
    unfold k0_pay21
    generalize k0_pay20 a b = w
    pointwise
  rw [← ev]
  unfold k0_pay22
  generalize k0_pay21 a b = v
  generalize k0_pay20 a b = w
  pointwise [k0_pay10]

/-- The four rounds' words, added: one for the lanes of the four first places. -/
theorem four (l : Fin 128) :
    k0_pay28 (k0_pay10 (F := Ideal)) (k0_pay13 a b) (k0_pay16 a b) (k0_pay19 a b) (k0_pay20 a b) (k0_pay21 a b) (ix2 r l) = picked L l := by
  have h0 := hit0 a b r L hL hab l
  have h1 := hit1 a b r L hL hab l
  have h2 := hit2 a b r L hL hab l
  have h3 := hit3 a b r L hL hab l
  unfold k0_pay28
  generalize k0_pay22 (k0_pay10 (F := Ideal)) (k0_pay20 a b) (k0_pay21 a b) = w3 at h3 ⊢
  generalize k0_pay13 a b = w0 at h0 ⊢
  generalize k0_pay16 a b = w1 at h1 ⊢
  generalize k0_pay19 a b = w2 at h2 ⊢
  refine Eq.trans ?_ (picked_sum L l)
  simp only [← select_word]
  rw [← h0, ← h1, ← h2, ← h3]
  pointwise

end

/-- How many of a tile's 512 tokens have a lane among their first four, rounded up to a multiple of eight. -/
def rounded (n : ℕ) : EReal := ((8 : ℝ) : EReal) * Ideal.liftRound Int.ceil (((n : ℝ) / 8 : ℝ) : EReal)

open Classical in
/-- How many of a tile's 512 tokens have the expert of lane `l` among their first four. -/
def counted (L : Fin 512 → Row 32) (l : Fin 128) : ℕ :=
  (Finset.univ.filter fun r : Fin 512 => chosen (L r) l).card

/-- The counts that a step stores. -/
theorem count_at (v : FVec Ideal S512x128 .f32) (L : Fin 512 → Row 32) (l : Fin 128) (hv : ∀ r, v (ix2 r l) = picked (L r) l) (q : Fin 8) :
    k0_pay1 (k0_pay30 v) (ix3 0 q l) = rounded (counted L l) := by
  have e1 : k0_pay1 (k0_pay30 v) (ix3 0 q l) = k0_pay30 v (ix2 q l) := by
    generalize k0_pay30 v = y
    pointwise [k0_pay1]
  have e2 : k0_pay30 v (ix2 q l) = Ideal.liftRound Int.floor
        ((∑ x, v (ix2 x l) + Ideal.ofBits FTy.f32 0x40E00000#32) * Ideal.ofBits FTy.f32 0x3E000000#32) *
      Ideal.ofBits FTy.f32 0x41000000#32 := by
    pointwise [k0_pay30]
  rw [e1, e2, seven_eq, eighth_eq, eight_eq]
  simp only [hv]
  unfold picked
  exact (congrArg (fun s => Ideal.liftRound Int.floor ((s + ((7 : ℝ) : EReal)) * ((1 / 8 : ℝ) : EReal)) * ((8 : ℝ) : EReal))
    (sum_ones fun r : Fin 512 => chosen (L r) l)).trans (round_up _)

section
variable (x0 : Vec Ideal S512x1024 .f32) (x1 : Vec Ideal S512x1024 .bf16) (x2 : Vec Ideal S512x2048 .bf16)
  (x3 x4 x5 x6 : Vec Ideal S512x1024 .bf16) (x7 : Vec Ideal S1024x1024 .bf16) (x8 : Vec Ideal S2048x1024 .bf16)
  (x9 x10 : Vec Ideal S1024x1024 .bf16) (x11 : Vec Ideal S1x1024 .f32) (x12 x13 : Vec Ideal S1024x128 .bf16)
  (x14 : Vec Ideal S1x128 .f32)

/-- The residual row of token `r` of a block, read off the step's blocks. -/
abbrev row (r : Fin 512) : Row 1024 := Cert.MergeOut.Block.row x0 x1 x2 x3 x4 x5 x6 x7 x8 x9 x10 r

/-- The residual sum of the step is the residual row. -/
theorem sum_apply (r : Fin 512) (n : Fin 1024) :
    k0_pay5 (k0_pay36 x0 x1 x2 x3 x4 x5 x6 x7 x8 x9 x10 x11 x12 x13 x14) (k0_pay37 x0 x1 x2 x3 x4 x5 x6 x7 x8 x9 x10 x11 x12 x13 x14)
      (k0_pay38 x0 x1 x2 x3 x4 x5 x6 x7 x8 x9 x10 x11 x12 x13 x14) (ix2 r n) = row x0 x1 x2 x3 x4 x5 x6 x7 x8 x9 x10 r n := by
  pointwise [k0_pay5, k0_pay36, k0_pay37, k0_pay38, k0_pay2, k0_pay3, k0_pay4]
  rfl

/-- The normed row of the step. -/
theorem normed_apply (r : Fin 512) (n : Fin 1024) :
    k0_pay6 (k0_pay36 x0 x1 x2 x3 x4 x5 x6 x7 x8 x9 x10 x11 x12 x13 x14) (k0_pay37 x0 x1 x2 x3 x4 x5 x6 x7 x8 x9 x10 x11 x12 x13 x14)
      (k0_pay38 x0 x1 x2 x3 x4 x5 x6 x7 x8 x9 x10 x11 x12 x13 x14) (View.ld x11 r0_4) (ix2 r n)
      = normed (row x0 x1 x2 x3 x4 x5 x6 x7 x8 x9 x10 r) (fun n => x11 (ix2 0 n)) n := by
  have hs := sum_apply x0 x1 x2 x3 x4 x5 x6 x7 x8 x9 x10 x11 x12 x13 x14 r
  generalize k0_pay36 x0 x1 x2 x3 x4 x5 x6 x7 x8 x9 x10 x11 x12 x13 x14 = a at hs ⊢
  generalize k0_pay37 x0 x1 x2 x3 x4 x5 x6 x7 x8 x9 x10 x11 x12 x13 x14 = b at hs ⊢
  generalize k0_pay38 x0 x1 x2 x3 x4 x5 x6 x7 x8 x9 x10 x11 x12 x13 x14 = c at hs ⊢
  pointwise [k0_pay6]
  simp only [hs]
  rfl

/-- The scores of the step, where the normed row is real and the low part of the weights is zero. -/
theorem score_apply (r : Fin 512) (l : Fin 128) (h : Row 1024)
    (hh : normed (row x0 x1 x2 x3 x4 x5 x6 x7 x8 x9 x10 r) (fun n => x11 (ix2 0 n)) = h) (hr : ∀ n, ∃ q : ℝ, h n = q)
    (hl : ∀ k, x13 (ix2 k l) = (0 : EReal)) :
    k0_pay39 x0 x1 x2 x3 x4 x5 x6 x7 x8 x9 x10 x11 x12 x13 x14 (ix2 r l) + k0_pay40 x0 x1 x2 x3 x4 x5 x6 x7 x8 x9 x10 x11 x12 x13 x14 (ix2 r l)
      = (∑ k, h k * x12 (ix2 k l)) + x14 (ix2 0 l) := by
  have hn := fun n => (normed_apply x0 x1 x2 x3 x4 x5 x6 x7 x8 x9 x10 x11 x12 x13 x14 r n).trans (congrFun hh n)
  have e40 : k0_pay40 x0 x1 x2 x3 x4 x5 x6 x7 x8 x9 x10 x11 x12 x13 x14 (ix2 r l) = x14 (ix2 0 l) := by
    unfold k0_pay40
    pointwise [k0_pay9]
  rw [e40]
  congr 1
  unfold k0_pay39 k0_pay8
  generalize k0_pay6 (k0_pay36 x0 x1 x2 x3 x4 x5 x6 x7 x8 x9 x10 x11 x12 x13 x14) (k0_pay37 x0 x1 x2 x3 x4 x5 x6 x7 x8 x9 x10 x11 x12 x13 x14)
      (k0_pay38 x0 x1 x2 x3 x4 x5 x6 x7 x8 x9 x10 x11 x12 x13 x14) (View.ld x11 r0_4) = y at hn ⊢
  refine Eq.trans (b := ∑ x, y (ix2 r x) * x12 (ix2 x l) + ∑ x, (y (ix2 r x) - y (ix2 r x)) * x12 (ix2 x l) + ∑ x, y (ix2 r x) * x13 (ix2 x l)) ?_ ?_
  · pointwise
  · simp only [hn, hl, mul_zero, Finset.sum_const_zero, add_zero]
    have hz : ∀ x, h x - h x = 0 := fun x => by
      obtain ⟨q, hq⟩ := hr x
      rw [hq, ← EReal.coe_sub, sub_self, EReal.coe_zero]
    simp only [hz, zero_mul, Finset.sum_const_zero, add_zero]

/-- What a step writes at a row and a lane of its block of counts. -/
theorem out_at (L : Fin 512 → Row 32) (hL : ∀ r e, L r e ≠ ⊥)
    (hS : ∀ r e, k0_pay39 x0 x1 x2 x3 x4 x5 x6 x7 x8 x9 x10 x11 x12 x13 x14 (ix2 r (lane e))
      + k0_pay40 x0 x1 x2 x3 x4 x5 x6 x7 x8 x9 x10 x11 x12 x13 x14 (ix2 r (lane e)) = L r e) (q : Fin 8) (l : Fin 128) :
    out0_18 x0 x1 x2 x3 x4 x5 x6 x7 x8 x9 x10 x11 x12 x13 x14 (ix3 0 q l) = rounded (counted L l) := by
  have h : ∀ r, k0_pay52 x0 x1 x2 x3 x4 x5 x6 x7 x8 x9 x10 x11 x12 x13 x14 (ix2 r l) = picked (L r) l := fun r =>
    four _ _ r (L r) (hL r) (hS r) l
  frame_out
  exact count_at _ L l h q

end

end Cert.RouteCounts
-- ==== Proof.RoutePlace.lean ====
module

public import proofs.«01_k».proof.Proof.RouteBlock

/-! The routing places and weights: what one step of the kernel writes for its tokens, from the tokens' scores. -/

@[expose] public section

set_option maxRecDepth 16384

noncomputable section

open Idealize.ShloMosaic Idealize.ShloMosaic.TcCoe Idealize.SL.Sem
open Cert.MergeOut (Row normed)

namespace Cert.RouteCounts
open Cert.RouteIdeal Cert.RouteIdeal.Gen

/-- The expert of place `k`. -/
def who (L : Row 32) (k : Fin 4) : Fin 32 := Classical.choose (rank_onto L k.val (by omega))

/-- Its place is `k`. -/
theorem rank_who (L : Row 32) (k : Fin 4) : rank L (who L k) = k.val := Classical.choose_spec (rank_onto L k.val (by omega))

/-- An expert of place `k` is that one. -/
theorem rank_iff (L : Row 32) (k : Fin 4) (e : Fin 32) : rank L e = k.val ↔ e = who L k :=
  ⟨fun h => rank_inj L (h.trans (rank_who L k).symm), fun h => h ▸ rank_who L k⟩

/-- A lane of place `k` is its lane. -/
theorem hit_iff (L : Row 32) (k : Fin 4) (l : Fin 128) : isHit L k.val l ↔ l = lane (who L k) := by
  constructor
  · rintro ⟨h, h'⟩
    rw [← (rank_iff L k _).1 h']
    rfl
  · rintro rfl
    exact ⟨(who L k).isLt, rank_who L k⟩

open Classical in
/-- A sum over the lanes that keeps only the lane of place `k`. -/
theorem sum_hit (L : Row 32) (k : Fin 4) (f : Fin 128 → EReal) : (∑ l, if isHit L k.val l then f l else 0) = f (lane (who L k)) := by
  simp only [hit_iff]
  rw [Finset.sum_ite_eq' Finset.univ (lane (who L k)) f, if_pos (Finset.mem_univ _)]

/-- A sum over the experts that keeps only the expert of place `k`. -/
theorem sum_who (L : Row 32) (k : Fin 4) (f : Fin 32 → EReal) : (∑ e, if rank L e = k.val then f e else 0) = f (who L k) := by
  simp only [rank_iff]
  rw [Finset.sum_ite_eq' Finset.univ (who L k) f, if_pos (Finset.mem_univ _)]

/-- No score is above the first. -/
theorem who_le (L : Row 32) (k : Fin 4) : L (who L k) ≤ L (who L 0) := by
  by_contra hn
  have h := rank_lt_of L (.inl (not_le.1 hn) : precedes L (who L k) (who L 0))
  rw [rank_who, rank_who] at h
  exact Nat.not_lt_zero _ h

/-- The largest of the first four scores is the first. -/
theorem top_four (L : Row 32) : Finset.fold max (⊥ : EReal) (fun k : Fin 4 => L (who L k)) Finset.univ = L (who L 0) := by
  apply le_antisymm
  · rw [Finset.fold_max_le]
    exact ⟨bot_le, fun k _ => who_le L k⟩
  · rw [Finset.le_fold_max]
    exact .inr ⟨0, Finset.mem_univ _, le_rfl⟩

/-- The row of token `r` in the run of expert `e`: behind the earlier tokens of the tile and the runs of the lower experts. -/
def place (L : Fin 512 → Row 32) (r : Fin 512) (e : Fin 32) : EReal :=
  (∑ x : Fin 512, if x < r then picked (L x) (lane e) else 0) + ∑ f : Fin 32, if f < e then rounded (counted L (lane f)) else 0

/-- The softmax of the first four scores, at the score of place `k`. -/
def share (L : Row 32) (k : Fin 4) : EReal :=
  Ideal.div (Ideal.exp (L (who L k) - L (who L 0))) (∑ j : Fin 4, Ideal.exp (L (who L j) - L (who L 0)))

/-- A token's routing: its four rows, its four weights, and zeros. -/
def routed (L : Fin 512 → Row 32) (r : Fin 512) (l : Fin 128) : EReal :=
  if h : l.val < 4 then place L r (who (L r) ⟨l.val, h⟩)
  else if h : l.val < 8 then share (L r) ⟨l.val - 4, by omega⟩ else 0

/-- The word that compares two small numbers. -/
theorem word_small (a b : ℕ) (ha : a < 1024) (hb : b < 1024) :
    IntOp.cmpi CmpIPredicate.slt (BitVec.ofNat 32 a) (BitVec.ofNat 32 b) = word (a < b) := by
  have h : ∀ n : ℕ, n < 1024 → (BitVec.ofNat 32 n).toInt = (n : ℤ) := fun n hn => by
    rw [BitVec.toInt_eq_toNat_of_lt (by rw [BitVec.toNat_ofNat, Nat.mod_eq_of_lt (by omega)]; omega), BitVec.toNat_ofNat, Nat.mod_eq_of_lt (by omega)]
  show BitVec.ofBool (BitVec.slt (BitVec.ofNat 32 a) (BitVec.ofNat 32 b)) = _
  unfold word BitVec.slt
  rw [h a ha, h b hb]
  congr 1
  exact decide_eq_decide.2 Nat.cast_lt

/-- The word that compares a lane's number with a small number. -/
theorem word_lane (l : Fin 128) (k : Fin 8) :
    IntOp.cmpi CmpIPredicate.eq (BitVec.ofNat 32 l.val) (BitVec.ofNat 32 k.val) = word (l.val = k.val) := by
  have h : ∀ (l : Fin 128) (k : Fin 8), IntOp.cmpi CmpIPredicate.eq (BitVec.ofNat 32 l.val) (BitVec.ofNat 32 k.val) = BitVec.ofBool (decide (l.val = k.val)) := by
    decide +kernel
  rw [h]
  unfold word
  congr 1
  exact decide_eq_decide.2 Iff.rfl

/-- The number one, as the kernel reads it. -/
theorem one_eq : Ideal.ofBits .f32 0x3F800000#32 = (1 : EReal) := by
  simp [Ideal.ofBits, Ideal.ieee, -EReal.coe_mul]; norm_num
/-- The number zero, as the kernel reads it. -/
theorem zero_eq : Ideal.ofBits .f32 0x00000000#32 = (0 : EReal) := by
  simp [Ideal.ofBits, Ideal.ieee, -EReal.coe_mul]

/-- The runs' starts: a sum over 128 lanes of the lanes below an expert's lane is a sum over the lower experts. -/
theorem sum_lanes (g : Fin 128 → EReal) (e : Fin 32) :
    (∑ x : Fin 128, if x.val < (lane e).val then g x else 0) = ∑ f : Fin 32, if f < e then g (lane f) else 0 := by
  have hi : Function.Injective lane := fun f f' h => by
    have h' : (lane f).val = (lane f').val := by rw [h]
    exact Fin.ext h'
  have hs : (∑ f : Fin 32, if f < e then g (lane f) else 0)
      = ∑ x ∈ (Finset.univ : Finset (Fin 32)).image lane, if x.val < (lane e).val then g x else 0 :=
    (Finset.sum_image (f := fun x : Fin 128 => if x.val < (lane e).val then g x else 0) (fun a _ b _ h => hi h)).symm
  rw [hs]
  symm
  apply Finset.sum_subset (Finset.subset_univ _)
  intro x _ hx
  rw [if_neg]
  intro h
  apply hx
  have hle : (lane e).val < 32 := e.isLt
  exact Finset.mem_image.2 ⟨⟨x.val, by omega⟩, Finset.mem_univ _, rfl⟩

section
variable (v : FVec Ideal S512x128 .f32) (L : Fin 512 → Row 32) (hv : ∀ r l, v (ix2 r l) = picked (L r) l)
include hv

/-- The rounded counts that a step reads. -/
theorem run_at (q : Fin 8) (l : Fin 128) : k0_pay30 v (ix2 q l) = rounded (counted L l) := by
  refine Eq.trans ?_ (count_at v L l (fun r => hv r l) q)
  generalize k0_pay30 v = y
  pointwise [k0_pay1]

/-- The places that a step reads, at the lane of an expert. -/
theorem place_at (p : FVec Ideal S512x128 .f32) (r : Fin 512) (e : Fin 32)
    (hp : p (ix2 r (lane e)) = ∑ x : Fin 512, if x < r then picked (L x) (lane e) else 0) :
    k0_pay31 v p (ix2 r (lane e)) = place L r e := by
  have hr := run_at v L hv
  have e1 : k0_pay31 v p (ix2 r (lane e)) = p (ix2 r (lane e)) + ∑ x : Fin 128, k0_pay30 v (ix2 0 x) *
      Scalar.select (IntOp.cmpi CmpIPredicate.slt (BitVec.ofNat 32 x.val) (BitVec.ofNat 32 (lane e).val)) (Ideal.ofBits .f32 0x3F800000#32) (Ideal.ofBits .f32 0x00000000#32) := by
    unfold k0_pay31
    generalize k0_pay30 v = y
    pointwise
  rw [e1, hp]
  unfold place
  congr 1
  refine Eq.trans (Finset.sum_congr rfl fun x _ => ?_) (sum_lanes (fun x => rounded (counted L x)) e)
  rw [hr, word_small _ _ (by omega) (by omega), select_word, one_eq, zero_eq]
  by_cases h : x.val < (lane e).val
  · rw [if_pos h, if_pos h, mul_one]
  · rw [if_neg h, if_neg h, mul_zero]

end

section
variable (a b : FVec Ideal S512x128 .f32) (L : Fin 512 → Row 32) (hL : ∀ r e, L r e ≠ ⊥)
  (hab : ∀ r e, a (ix2 r (lane e)) + b (ix2 r (lane e)) = L r e)
include hL hab

/-- The sum over the earlier tokens that a step reads. -/
theorem before_at (r : Fin 512) (l : Fin 128) :
    k0_pay29 (k0_pay10 (F := Ideal)) (k0_pay13 a b) (k0_pay16 a b) (k0_pay19 a b) (k0_pay20 a b) (k0_pay21 a b) (ix2 r l)
      = ∑ x : Fin 512, if x < r then picked (L x) l else 0 := by
  have h := fun x => four a b x (L x) (hL x) (hab x) l
  unfold k0_pay29
  generalize k0_pay28 (k0_pay10 (F := Ideal)) (k0_pay13 a b) (k0_pay16 a b) (k0_pay19 a b) (k0_pay20 a b) (k0_pay21 a b) = v at h ⊢
  refine Eq.trans (b := ∑ x : Fin 512, Scalar.select (IntOp.cmpi CmpIPredicate.slt (BitVec.ofNat 32 x.val) (BitVec.ofNat 32 r.val))
      (Ideal.ofBits .f32 0x3F800000#32) (Ideal.ofBits .f32 0x00000000#32) * v (ix2 x l)) ?_ (Finset.sum_congr rfl fun x _ => ?_)
  · pointwise
  · rw [h, word_small _ _ (by omega) (by omega), select_word, one_eq, zero_eq]
    by_cases hx : x.val < r.val
    · rw [if_pos hx, if_pos (show x < r from hx), one_mul]
    · rw [if_neg hx, if_neg (show ¬ x < r from hx), zero_mul]

/-- The first round's largest score. -/
theorem val0 (r : Fin 512) : k0_pay12 a b (ix2 r 0) = L r (who (L r) 0) := by
  have ev : k0_pay12 a b (ix2 r 0) = Finset.fold max (Ideal.ofBits .f32 0xFF800000#32) (fun x => k0_pay11 a b (ix2 r x)) Finset.univ := by
    unfold k0_pay12
    generalize k0_pay11 a b = w
    pointwise
  rw [ev, bot_eq, funext (round0 a b r (L r) (hab r)), ← top_work (L r) (who (L r) 0), rank_who]
  rfl

/-- The second round's largest score. -/
theorem val1 (r : Fin 512) : k0_pay15 a b (ix2 r 0) = L r (who (L r) 1) := by
  have ev : k0_pay15 a b (ix2 r 0) = Finset.fold max (Ideal.ofBits .f32 0xFF800000#32) (fun x => k0_pay14 a b (ix2 r x)) Finset.univ := by
    unfold k0_pay15
    generalize k0_pay14 a b = w
    pointwise
  rw [ev, bot_eq, funext (round1 a b r (L r) (hL r) (hab r)), ← top_work (L r) (who (L r) 1), rank_who]
  rfl

/-- The third round's largest score. -/
theorem val2 (r : Fin 512) : k0_pay18 a b (ix2 r 0) = L r (who (L r) 2) := by
  have ev : k0_pay18 a b (ix2 r 0) = Finset.fold max (Ideal.ofBits .f32 0xFF800000#32) (fun x => k0_pay17 a b (ix2 r x)) Finset.univ := by
    unfold k0_pay18
    generalize k0_pay17 a b = w
    pointwise
  rw [ev, bot_eq, funext (round2 a b r (L r) (hL r) (hab r)), ← top_work (L r) (who (L r) 2), rank_who]
  rfl

/-- The fourth round's largest score. -/
theorem val3 (r : Fin 512) : k0_pay21 a b (ix2 r 0) = L r (who (L r) 3) := by
  have ev : k0_pay21 a b (ix2 r 0) = Finset.fold max (Ideal.ofBits .f32 0xFF800000#32) (fun x => k0_pay20 a b (ix2 r x)) Finset.univ := by
    unfold k0_pay21
    generalize k0_pay20 a b = w
    pointwise
  rw [ev, bot_eq, funext (round3 a b r (L r) (hL r) (hab r)), ← top_work (L r) (who (L r) 3), rank_who]
  rfl

end

section
variable (w0 w1 w2 w3 : IVec S512x128 1) (z0 z1 z2 z3 : FVec Ideal S512x1 .f32) (v p : FVec Ideal S512x128 .f32)
  (r : Fin 512) (l : Fin 128)

/-- What the stored routing is at a token and a lane: eight choices by the lane's number, over the token's row sums and quotients. -/
theorem stored_at :
    k0_pay35 (F := Ideal) (iota .tc S512x128 32 [1] iota_S512x128_d1_w32) w2 w3 (k0_pay24 z0 z1) (k0_pay25 z0 z2) (k0_pay26 z0 z3) (k0_pay27 z0 z1 z2 z3)
        (k0_pay31 v p)
        (k0_pay32 (iota .tc S512x128 32 [1] iota_S512x128_d1_w32) w0 (k0_pay23 z0) (k0_pay27 z0 z1 z2 z3) v p)
        (k0_pay33 (iota .tc S512x128 32 [1] iota_S512x128_d1_w32)) (k0_pay34 w1 v p) (ix2 r l)
      = (let S : IVec S512x128 1 → EReal := fun w => ∑ x, Scalar.select (w (ix2 r x)) (k0_pay31 v p (ix2 r x)) (Ideal.ofBits .f32 0x00000000#32)
         let E : FVec Ideal S512x1 .f32 → EReal := fun z => Ideal.exp (z (ix2 r 0) - z0 (ix2 r 0))
         let Q : FVec Ideal S512x1 .f32 → EReal := fun z => Ideal.div (E z) (E z0 + E z1 + E z2 + E z3)
         let C : BitVec 32 → BitVec 1 := fun k => IntOp.cmpi CmpIPredicate.eq (BitVec.ofNat 32 l.val) k
         Scalar.select (C 7#32) (Q z3) (Scalar.select (C 3#32) (S w3) (Scalar.select (C 6#32) (Q z2) (Scalar.select (C 2#32) (S w2)
          (Scalar.select (C 5#32) (Q z1) (Scalar.select (C 1#32) (S w1) (Scalar.select (C 4#32) (Q z0) (Scalar.select (C 0#32) (S w0)
            (Ideal.ofBits .f32 0x00000000#32))))))))) := by
  unfold k0_pay32 k0_pay34
  generalize k0_pay31 v p = y
  dsimp only
  pointwise [k0_pay35, k0_pay33, k0_pay23, k0_pay24, k0_pay25, k0_pay26, k0_pay27]

end

section
variable (a b : FVec Ideal S512x128 .f32) (L : Fin 512 → Row 32) (hL : ∀ r e, L r e ≠ ⊥)
  (hab : ∀ r e, a (ix2 r (lane e)) + b (ix2 r (lane e)) = L r e)
include hL hab

/-- The routing that a step stores, from the scores. -/
theorem routed_at (r : Fin 512) (l : Fin 128) (v p : FVec Ideal S512x128 .f32)
    (hv : v = k0_pay28 (k0_pay10 (F := Ideal)) (k0_pay13 a b) (k0_pay16 a b) (k0_pay19 a b) (k0_pay20 a b) (k0_pay21 a b))
    (hp : p = k0_pay29 (k0_pay10 (F := Ideal)) (k0_pay13 a b) (k0_pay16 a b) (k0_pay19 a b) (k0_pay20 a b) (k0_pay21 a b)) :
    k0_pay35 (F := Ideal) (iota .tc S512x128 32 [1] iota_S512x128_d1_w32) (k0_pay19 a b)
        (k0_pay22 (k0_pay10 (F := Ideal)) (k0_pay20 a b) (k0_pay21 a b)) (k0_pay24 (k0_pay12 a b) (k0_pay15 a b)) (k0_pay25 (k0_pay12 a b) (k0_pay18 a b))
        (k0_pay26 (k0_pay12 a b) (k0_pay21 a b)) (k0_pay27 (k0_pay12 a b) (k0_pay15 a b) (k0_pay18 a b) (k0_pay21 a b)) (k0_pay31 v p)
        (k0_pay32 (iota .tc S512x128 32 [1] iota_S512x128_d1_w32) (k0_pay13 a b) (k0_pay23 (k0_pay12 a b))
          (k0_pay27 (k0_pay12 a b) (k0_pay15 a b) (k0_pay18 a b) (k0_pay21 a b)) v p)
        (k0_pay33 (iota .tc S512x128 32 [1] iota_S512x128_d1_w32)) (k0_pay34 (k0_pay16 a b) v p) (ix2 r l) = routed L r l := by
  have hpl : ∀ e, k0_pay31 v p (ix2 r (lane e)) = place L r e := fun e =>
    place_at v L (fun r l => by rw [hv]; exact four a b r (L r) (hL r) (hab r) l) p r e (by rw [hp]; exact before_at a b L hL hab r (lane e))
  have hS : ∀ (w : IVec S512x128 1) (k : Fin 4), (∀ l, w (ix2 r l) = word (isHit (L r) k.val l)) →
      (∑ x, Scalar.select (w (ix2 r x)) (k0_pay31 v p (ix2 r x)) (Ideal.ofBits .f32 0x00000000#32)) = place L r (who (L r) k) := fun w k hw => by
    rw [zero_eq, ← hpl]
    refine Eq.trans (Finset.sum_congr rfl fun x _ => ?_) (sum_hit (L r) k fun x => k0_pay31 v p (ix2 r x))
    rw [hw, select_word]
  refine (stored_at _ _ _ _ _ _ _ _ v p r l).trans ?_
  dsimp only
  rw [hS _ 0 (hit0 a b r (L r) (hL r) (hab r)), hS _ 1 (hit1 a b r (L r) (hL r) (hab r)), hS _ 2 (hit2 a b r (L r) (hL r) (hab r)),
    hS _ 3 (hit3 a b r (L r) (hL r) (hab r)), val0 a b L hL hab r, val1 a b L hL hab r, val2 a b L hL hab r, val3 a b L hL hab r, zero_eq]
  have c := fun k : Fin 8 => word_lane l k
  have hq : ∀ k : Fin 4, Ideal.div (Ideal.exp (L r (who (L r) k) - L r (who (L r) 0))) (Ideal.exp (L r (who (L r) 0) - L r (who (L r) 0))
      + Ideal.exp (L r (who (L r) 1) - L r (who (L r) 0)) + Ideal.exp (L r (who (L r) 2) - L r (who (L r) 0))
      + Ideal.exp (L r (who (L r) 3) - L r (who (L r) 0))) = share (L r) k := fun k => by
    unfold share
    rw [Fin.sum_univ_four]
  rw [hq 0, hq 1, hq 2, hq 3]
  rw [show IntOp.cmpi CmpIPredicate.eq (BitVec.ofNat 32 l.val) 7#32 = word (l.val = 7) from c 7,
    show IntOp.cmpi CmpIPredicate.eq (BitVec.ofNat 32 l.val) 3#32 = word (l.val = 3) from c 3,
    show IntOp.cmpi CmpIPredicate.eq (BitVec.ofNat 32 l.val) 6#32 = word (l.val = 6) from c 6,
    show IntOp.cmpi CmpIPredicate.eq (BitVec.ofNat 32 l.val) 2#32 = word (l.val = 2) from c 2,
    show IntOp.cmpi CmpIPredicate.eq (BitVec.ofNat 32 l.val) 5#32 = word (l.val = 5) from c 5,
    show IntOp.cmpi CmpIPredicate.eq (BitVec.ofNat 32 l.val) 1#32 = word (l.val = 1) from c 1,
    show IntOp.cmpi CmpIPredicate.eq (BitVec.ofNat 32 l.val) 4#32 = word (l.val = 4) from c 4,
    show IntOp.cmpi CmpIPredicate.eq (BitVec.ofNat 32 l.val) 0#32 = word (l.val = 0) from c 0]
  simp only [select_word]
  obtain ⟨n, hn⟩ := l
  unfold routed
  dsimp only
  rcases n with _ | _ | _ | _ | _ | _ | _ | _ | n
  iterate 8
    · norm_num <;> rfl
  · rw [if_neg (by omega), if_neg (by omega), if_neg (by omega), if_neg (by omega), if_neg (by omega), if_neg (by omega), if_neg (by omega), if_neg (by omega),
      dif_neg (by omega), dif_neg (by omega)]

end

section
variable (x0 : Vec Ideal S512x1024 .f32) (x1 : Vec Ideal S512x1024 .bf16) (x2 : Vec Ideal S512x2048 .bf16)
  (x3 x4 x5 x6 : Vec Ideal S512x1024 .bf16) (x7 : Vec Ideal S1024x1024 .bf16) (x8 : Vec Ideal S2048x1024 .bf16)
  (x9 x10 : Vec Ideal S1024x1024 .bf16) (x11 : Vec Ideal S1x1024 .f32) (x12 x13 : Vec Ideal S1024x128 .bf16)
  (x14 : Vec Ideal S1x128 .f32)

/-- What a step writes at a row and a lane of its block of routings. -/
theorem route_at (L : Fin 512 → Row 32) (hL : ∀ r e, L r e ≠ ⊥)
    (hS : ∀ r e, k0_pay39 x0 x1 x2 x3 x4 x5 x6 x7 x8 x9 x10 x11 x12 x13 x14 (ix2 r (lane e))
      + k0_pay40 x0 x1 x2 x3 x4 x5 x6 x7 x8 x9 x10 x11 x12 x13 x14 (ix2 r (lane e)) = L r e) (r : Fin 512) (l : Fin 128) :
    out0_17 x0 x1 x2 x3 x4 x5 x6 x7 x8 x9 x10 x11 x12 x13 x14 (ix2 r l) = routed L r l := by
  have h := routed_at _ _ L hL hS r l _ _ rfl rfl
  frame_out
  exact h

end

end Cert.RouteCounts
-- ==== Proof.RouteArray.lean ====
module

public import proofs.«01_k».proof.Proof.RouteBlock
public import proofs.«01_k».proof.Proof.RoutePlace
public import proofs.«01_k».proof.Proof.MergeArray

/-! The routing counts: the array that the call leaves, from the arguments. -/

@[expose] public section

set_option maxRecDepth 16384

noncomputable section

open Idealize.ShloMosaic Idealize.ShloMosaic.TcCoe Idealize.SL.Sem
open Idealize.ShloMosaic.Pipeline (Dat)
open Cert.MergeOut (Row normed bat pos)
open Cert.MergeOut.Array (rowAt)

namespace Cert.RouteCounts.Array
open Cert.RouteIdeal Cert.RouteIdeal.Gen

/-- A matrix with columns put behind it keeps its columns. -/
theorem pad_matrix (x : FVec Ideal S1024x32 .f32) (z : FVec Ideal S_ .f32) (k : Fin 1024) (e : Fin 32) :
    pad S1024x128 ![0, 0] ![0, 96] ![0, 0] x z pads_S1024x32_S1024x128_000_0960 h_S_ (ix2 k (lane e)) = x (ix2 k e) := by
  have hk := k.isLt
  have he := e.isLt
  unfold pad
  rw [dif_pos]
  · refine congrArg x (funext fun a => ?_)
    match a with
    | ⟨0, _⟩ => exact Fin.ext (by show (k.val - 0) / (0 + 1) = k.val; omega)
    | ⟨1, _⟩ => exact Fin.ext (by show (e.val - 0) / (0 + 1) = e.val; omega)
  · intro a
    match a with
    | ⟨0, _⟩ => show 0 ≤ k.val ∧ (k.val - 0) % (0 + 1) = 0 ∧ (k.val - 0) / (0 + 1) < 1024; omega
    | ⟨1, _⟩ => show 0 ≤ e.val ∧ (e.val - 0) % (0 + 1) = 0 ∧ (e.val - 0) / (0 + 1) < 32; omega

/-- A row with entries put behind it keeps its entries. -/
theorem pad_row (x : FVec Ideal S32 .f32) (z : FVec Ideal S_ .f32) (e : Fin 32) :
    pad S128 ![0] ![96] ![0] x z pads_S32_S128_0960 h_S_ (ix1 (lane e)) = x (ix1 e) := by
  have he := e.isLt
  unfold pad
  rw [dif_pos]
  · refine congrArg x (funext fun a => ?_)
    match a with
    | ⟨0, _⟩ => exact Fin.ext (by show (e.val - 0) / (0 + 1) = e.val; omega)
  · intro a
    match a with
    | ⟨0, _⟩ => show 0 ≤ e.val ∧ (e.val - 0) % (0 + 1) = 0 ∧ (e.val - 0) / (0 + 1) < 32; omega

variable (m : (ℓ : Loc nD τ sig) → Buf (Elt Ideal) ℓ) (c : Dev nD)

/-! The buffers that the call reads, after the host lines: reshapes of the arguments. -/

/-- The tokens the call is given are the argument, flattened. -/
theorem x_apply (r : Fin 32768) (n : Fin 1024) :
    V m c main_v3 (ix2 r n) = m ((c : Thread nD τ).loc main_arg0) (ix3 (bat r) (pos r) n) := by
  show StableHlo.after hostOps0_4 (StableHlo.after hostOps0_3 (StableHlo.after hostOps0_2 (StableHlo.after hostOps0_1
    (StableHlo.after hostOps0 (fun b => m (c, b)))))) (Proc.devRef .tc main_v3) (ix2 r n) = _
  entry_read
  pointwise
  rfl
/-- The first branch's rows the call is given are the argument, flattened. -/
theorem ya_apply (r : Fin 32768) (n : Fin 1024) :
    V m c main_v4 (ix2 r n) = m ((c : Thread nD τ).loc main_arg1) (ix3 (bat r) (pos r) n) := by
  show StableHlo.after hostOps0_4 (StableHlo.after hostOps0_3 (StableHlo.after hostOps0_2 (StableHlo.after hostOps0_1
    (StableHlo.after hostOps0 (fun b => m (c, b)))))) (Proc.devRef .tc main_v4) (ix2 r n) = _
  entry_read
  pointwise
  rfl
/-- The second branch's rows the call is given are the argument, flattened. -/
theorem yb_apply (r : Fin 32768) (n : Fin 2048) :
    V m c main_v5 (ix2 r n) = m ((c : Thread nD τ).loc main_arg2) (ix3 (bat r) (pos r) n) := by
  show StableHlo.after hostOps0_4 (StableHlo.after hostOps0_3 (StableHlo.after hostOps0_2 (StableHlo.after hostOps0_1
    (StableHlo.after hostOps0 (fun b => m (c, b)))))) (Proc.devRef .tc main_v5) (ix2 r n) = _
  entry_read
  pointwise
  rfl
/-- The third branch's rows the call is given are the argument, flattened. -/
theorem yc_apply (r : Fin 32768) (n : Fin 1024) :
    V m c main_v6 (ix2 r n) = m ((c : Thread nD τ).loc main_arg3) (ix3 (bat r) (pos r) n) := by
  show StableHlo.after hostOps0_4 (StableHlo.after hostOps0_3 (StableHlo.after hostOps0_2 (StableHlo.after hostOps0_1
    (StableHlo.after hostOps0 (fun b => m (c, b)))))) (Proc.devRef .tc main_v6) (ix2 r n) = _
  entry_read
  pointwise
  rfl
/-- The projected rows the call is given are the argument, flattened. -/
theorem p_apply (r : Fin 32768) (n : Fin 12288) :
    V m c main_v7 (ix2 r n) = m ((c : Thread nD τ).loc main_arg4) (ix3 (bat r) (pos r) n) := by
  show StableHlo.after hostOps0_4 (StableHlo.after hostOps0_3 (StableHlo.after hostOps0_2 (StableHlo.after hostOps0_1
    (StableHlo.after hostOps0 (fun b => m (c, b)))))) (Proc.devRef .tc main_v7) (ix2 r n) = _
  entry_read
  pointwise
  rfl
/-- The first branch's weights the call is given are the argument. -/
theorem wa_apply (k : Fin 1024) (n : Fin 1024) :
    V m c main_v8 (ix2 k n) = m ((c : Thread nD τ).loc main_arg5) (ix2 k n) := by
  show StableHlo.after hostOps0_4 (StableHlo.after hostOps0_3 (StableHlo.after hostOps0_2 (StableHlo.after hostOps0_1
    (StableHlo.after hostOps0 (fun b => m (c, b)))))) (Proc.devRef .tc main_v8) (ix2 k n) = _
  entry_read
  pointwise
/-- The second branch's weights the call is given are the argument. -/
theorem wb_apply (k : Fin 2048) (n : Fin 1024) :
    V m c main_v9 (ix2 k n) = m ((c : Thread nD τ).loc main_arg6) (ix2 k n) := by
  show StableHlo.after hostOps0_4 (StableHlo.after hostOps0_3 (StableHlo.after hostOps0_2 (StableHlo.after hostOps0_1
    (StableHlo.after hostOps0 (fun b => m (c, b)))))) (Proc.devRef .tc main_v9) (ix2 k n) = _
  entry_read
  pointwise
/-- The third branch's weights the call is given are the argument. -/
theorem wc_apply (k : Fin 1024) (n : Fin 1024) :
    V m c main_v10 (ix2 k n) = m ((c : Thread nD τ).loc main_arg7) (ix2 k n) := by
  show StableHlo.after hostOps0_4 (StableHlo.after hostOps0_3 (StableHlo.after hostOps0_2 (StableHlo.after hostOps0_1
    (StableHlo.after hostOps0 (fun b => m (c, b)))))) (Proc.devRef .tc main_v10) (ix2 k n) = _
  entry_read
  pointwise
/-- The output weights the call is given are the argument. -/
theorem wo_apply (k : Fin 1024) (n : Fin 1024) :
    V m c main_v11 (ix2 k n) = m ((c : Thread nD τ).loc main_arg8) (ix2 k n) := by
  show StableHlo.after hostOps0_4 (StableHlo.after hostOps0_3 (StableHlo.after hostOps0_2 (StableHlo.after hostOps0_1
    (StableHlo.after hostOps0 (fun b => m (c, b)))))) (Proc.devRef .tc main_v11) (ix2 k n) = _
  entry_read
  pointwise
/-- The gain the call is given is the argument. -/
theorem g_apply (z : Fin 1) (n : Fin 1024) :
    V m c main_v12 (ix2 z n) = m ((c : Thread nD τ).loc main_arg9) (ix1 n) := by
  show StableHlo.after hostOps0_4 (StableHlo.after hostOps0_3 (StableHlo.after hostOps0_2 (StableHlo.after hostOps0_1
    (StableHlo.after hostOps0 (fun b => m (c, b)))))) (Proc.devRef .tc main_v12) (ix2 z n) = _
  entry_read
  pointwise

/-- The router's weights the call is given are the argument, with columns of zeros behind it. -/
theorem wr_apply (k : Fin 1024) (e : Fin 32) :
    V m c main_v13 (ix2 k (lane e)) = m ((c : Thread nD τ).loc main_arg10) (ix2 k e) := by
  show StableHlo.after hostOps0_4 (StableHlo.after hostOps0_3 (StableHlo.after hostOps0_2 (StableHlo.after hostOps0_1
    (StableHlo.after hostOps0 (fun b => m (c, b)))))) (Proc.devRef .tc main_v13) (ix2 k (lane e)) = _
  entry_read
  pointwise
  exact pad_matrix _ _ k e
/-- The low part of the router's weights that the call is given is zero, where the weights are real. -/
theorem wl_apply (hw : ∀ k e, ∃ r : ℝ, m ((c : Thread nD τ).loc main_arg10) (ix2 k e) = (r : EReal)) (k : Fin 1024) (e : Fin 32) :
    V m c main_v16 (ix2 k (lane e)) = (0 : EReal) := by
  show StableHlo.after hostOps0_4 (StableHlo.after hostOps0_3 (StableHlo.after hostOps0_2 (StableHlo.after hostOps0_1
    (StableHlo.after hostOps0 (fun b => m (c, b)))))) (Proc.devRef .tc main_v16) (ix2 k (lane e)) = _
  entry_read
  pointwise
  obtain ⟨q, hq⟩ := hw k e
  refine (congrArg₂ (fun x y : EReal => x - y) (pad_matrix (m ((c : Thread nD τ).loc main_arg10)) _ k e)
    (pad_matrix (m ((c : Thread nD τ).loc main_arg10)) _ k e)).trans ?_
  rw [hq, ← EReal.coe_sub, sub_self, EReal.coe_zero]
/-- The router's bias the call is given is the argument, with zeros behind it. -/
theorem br_apply (e : Fin 32) :
    V m c main_v2 (ix2 0 (lane e)) = m ((c : Thread nD τ).loc main_arg11) (ix1 e) := by
  show StableHlo.after hostOps0_4 (StableHlo.after hostOps0_3 (StableHlo.after hostOps0_2 (StableHlo.after hostOps0_1
    (StableHlo.after hostOps0 (fun b => m (c, b)))))) (Proc.devRef .tc main_v2) (ix2 0 (lane e)) = _
  entry_read
  pointwise
  exact pad_row _ _ e

/-- The blocks, as functions of the grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 9] ∧ win0_5.index t = ![t.val, 10] ∧ win0_6.index t = ![t.val, 11] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0] ∧ win0_14.index t = ![0, 0] ∧ win0_18.index t = ![t.val, 0, 0] ∧ t.val < 64 :=
  (by decide +kernel : ∀ t : Fin grid0.N, _)

/-- Token `r` of step `t`'s block. -/
def tok {n : ℕ} (t : Fin n) (ht : t.val < 64) (r : Fin 512) : Fin 32768 := ⟨t.val * 512 + r.val, by omega⟩

section
variable (t : Fin cfg0.N) (ht : t.val < 64)
include ht

/-! The blocks of step `t`, from the arguments. -/

/-- The block of the tokens, entry by entry. -/
theorem b0 (r : Fin 512) (n : Fin 1024) :
    iblk m c 0 t (ix2 r n) = m ((c : Thread nD τ).loc main_arg0) (ix3 (bat (tok t ht r)) (pos (tok t ht r)) n) := by
  rw [← x_apply m c]; unfold tok; blk_ext [iblk, idx t]
/-- The block of the first branch, entry by entry. -/
theorem b1 (r : Fin 512) (n : Fin 1024) :
    iblk m c 1 t (ix2 r n) = m ((c : Thread nD τ).loc main_arg1) (ix3 (bat (tok t ht r)) (pos (tok t ht r)) n) := by
  rw [← ya_apply m c]; unfold tok; blk_ext [iblk, idx t]
/-- The block of the second branch, entry by entry. -/
theorem b2 (r : Fin 512) (n : Fin 2048) :
    iblk m c 2 t (ix2 r n) = m ((c : Thread nD τ).loc main_arg2) (ix3 (bat (tok t ht r)) (pos (tok t ht r)) n) := by
  rw [← yb_apply m c]; unfold tok; blk_ext [iblk, idx t]
/-- The block of the third branch, entry by entry. -/
theorem b3 (r : Fin 512) (n : Fin 1024) :
    iblk m c 3 t (ix2 r n) = m ((c : Thread nD τ).loc main_arg3) (ix3 (bat (tok t ht r)) (pos (tok t ht r)) n) := by
  rw [← yc_apply m c]; unfold tok; blk_ext [iblk, idx t]
/-- The block of the first gates, entry by entry. -/
theorem b4 (r : Fin 512) (n : Fin 1024) :
    iblk m c 4 t (ix2 r n) = m ((c : Thread nD τ).loc main_arg4) (ix3 (bat (tok t ht r)) (pos (tok t ht r)) ⟨9216 + n.val, by omega⟩) := by
  rw [← p_apply m c]; unfold tok; blk_ext [iblk, idx t]
/-- The block of the second gates, entry by entry. -/
theorem b5 (r : Fin 512) (n : Fin 1024) :
    iblk m c 5 t (ix2 r n) = m ((c : Thread nD τ).loc main_arg4) (ix3 (bat (tok t ht r)) (pos (tok t ht r)) ⟨10240 + n.val, by omega⟩) := by
  rw [← p_apply m c]; unfold tok; blk_ext [iblk, idx t]
/-- The block of the third gates, entry by entry. -/
theorem b6 (r : Fin 512) (n : Fin 1024) :
    iblk m c 6 t (ix2 r n) = m ((c : Thread nD τ).loc main_arg4) (ix3 (bat (tok t ht r)) (pos (tok t ht r)) ⟨11264 + n.val, by omega⟩) := by
  rw [← p_apply m c]; unfold tok; blk_ext [iblk, idx t]
/-- The block of the first branch's weights, entry by entry. -/
theorem b7 (k : Fin 1024) (n : Fin 1024) : iblk m c 7 t (ix2 k n) = m ((c : Thread nD τ).loc main_arg5) (ix2 k n) := by
  rw [← wa_apply m c]; blk_ext [iblk, idx t]
/-- The block of the second branch's weights, entry by entry. -/
theorem b8 (k : Fin 2048) (n : Fin 1024) : iblk m c 8 t (ix2 k n) = m ((c : Thread nD τ).loc main_arg6) (ix2 k n) := by
  rw [← wb_apply m c]; blk_ext [iblk, idx t]
/-- The block of the third branch's weights, entry by entry. -/
theorem b9 (k : Fin 1024) (n : Fin 1024) : iblk m c 9 t (ix2 k n) = m ((c : Thread nD τ).loc main_arg7) (ix2 k n) := by
  rw [← wc_apply m c]; blk_ext [iblk, idx t]
/-- The block of the output weights, entry by entry. -/
theorem b10 (k : Fin 1024) (n : Fin 1024) : iblk m c 10 t (ix2 k n) = m ((c : Thread nD τ).loc main_arg8) (ix2 k n) := by
  rw [← wo_apply m c]; blk_ext [iblk, idx t]

end

/-- The residual row of a step's blocks is the arguments'. -/
theorem row_point (t : Fin cfg0.N) (ht : t.val < 64) (r : Fin 512) :
    row (iblk m c 0 t) (iblk m c 1 t) (iblk m c 2 t) (iblk m c 3 t) (iblk m c 4 t) (iblk m c 5 t) (iblk m c 6 t) (iblk m c 7 t)
        (iblk m c 8 t) (iblk m c 9 t) (iblk m c 10 t) r
      = rowAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (bat (tok t ht r)) (pos (tok t ht r)) := by
  unfold row Cert.MergeOut.Block.row rowAt
  simp only [b0 m c t ht, b1 m c t ht, b2 m c t ht, b3 m c t ht, b4 m c t ht, b5 m c t ht, b6 m c t ht, b7 m c t ht, b8 m c t ht, b9 m c t ht, b10 m c t ht]

/-- The block of the gain is the argument. -/
theorem gain_point (t : Fin cfg0.N) : (fun n => iblk m c 11 t (ix2 0 n)) = fun n => m ((c : Thread nD τ).loc main_arg9) (ix1 n) := by
  funext n
  rw [← g_apply m c 0 n]
  blk_ext [iblk, idx t]

/-- The block of the router's weights, entry by entry. -/
theorem b12 (t : Fin cfg0.N) (k : Fin 1024) (e : Fin 32) : iblk m c 12 t (ix2 k (lane e)) = m ((c : Thread nD τ).loc main_arg10) (ix2 k e) := by
  rw [← wr_apply m c]; blk_ext [iblk, idx t]
/-- The block of the low part of the router's weights, entry by entry. -/
theorem b13 (t : Fin cfg0.N) (hw : ∀ k e, ∃ r : ℝ, m ((c : Thread nD τ).loc main_arg10) (ix2 k e) = (r : EReal)) (k : Fin 1024) (e : Fin 32) :
    iblk m c 13 t (ix2 k (lane e)) = (0 : EReal) := by
  rw [← wl_apply m c hw k e]; blk_ext [iblk, idx t]
/-- The block of the router's bias, entry by entry. -/
theorem b14 (t : Fin cfg0.N) (e : Fin 32) : iblk m c 14 t (ix2 0 (lane e)) = m ((c : Thread nD τ).loc main_arg11) (ix1 e) := by
  rw [← br_apply m c]; blk_ext [iblk, idx t]

/-- The normed row of token `r`, from the arguments. -/
def rowN (r : Fin 32768) : Row 1024 :=
  normed (rowAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (bat r) (pos r))
    (fun n => m ((c : Thread nD τ).loc main_arg9) (ix1 n))

/-- The scores of token `r`, from the arguments. -/
def scores (r : Fin 32768) : Row 32 :=
  score (rowN m c r) (fun k e => m ((c : Thread nD τ).loc main_arg10) (ix2 k e)) (fun e => m ((c : Thread nD τ).loc main_arg11) (ix1 e))

/-- The call's array of counts: in every tile, how many of its tokens have the lane's expert among their first four, rounded up. -/
theorem final (hw : ∀ k e, ∃ r : ℝ, m ((c : Thread nD τ).loc main_arg10) (ix2 k e) = (r : EReal))
    (hn : ∀ r n, ∃ q : ℝ, rowN m c r n = (q : EReal)) (hL : ∀ r e, scores m c r e ≠ ⊥) :
    (dats m 0 c).arrAt 18 cfg0.N = fun i : S64x8x128.Idx => rounded (counted (fun r => scores m c (tok (i 0) (i 0).isLt r)) (i 2)) := by
  refine (dats m 0 c).arrAt_eq_of_covers 18 _ (by decide +kernel) fun t _ y => ?_
  blk_simp
  rw [after0_18]
  have ht : t.val < 64 := (idx t).2.2.2.2.2.2.2.2.2.2.2.2.2.2.2.2
  have hy0 : (y 0).val < 1 := (y 0).isLt
  have ey : y = ix3 0 (y 1) (y 2) := funext fun d => by
    match d with
    | ⟨0, _⟩ => exact Fin.ext (by show (y 0).val = 0; omega)
    | ⟨1, _⟩ => rfl
    | ⟨2, _⟩ => rfl
  have e0 : (win0_18.blk t).view.emb y 0 = (⟨t.val, ht⟩ : Fin 64) := Fin.ext (by blk_simp [idx t] <;> (try omega))
  have e2 : (win0_18.blk t).view.emb y 2 = y 2 := Fin.ext (by blk_simp [idx t] <;> (try omega))
  refine (congrArg _ ey).trans ((out_at _ _ _ _ _ _ _ _ _ _ _ _ _ _ _ (fun r => scores m c (tok t ht r)) (fun r e => hL _ e) (fun r e => ?_) (y 1) (y 2)).trans ?_)
  · refine (score_apply _ _ _ _ _ _ _ _ _ _ _ _ _ _ _ r (lane e) (rowN m c (tok t ht r)) ?_ (hn _) (fun k => b13 m c t hw k e)).trans ?_
    · rw [gain_point m c t]
      exact congrArg (fun v => normed v _) (row_point m c t ht r)
    · simp only [b12 m c t, b14 m c t]
      rfl
  · exact congrArg₂ (fun (i : Fin 64) l => rounded (counted (fun r => scores m c (tok i i.isLt r)) l)) e0.symm e2.symm

/-- Where the blocks of routings stand. -/
theorem idx17 : ∀ t : Fin cfg0.N, win0_17.index t = ![t.val, 0] :=
  (by decide +kernel : ∀ t : Fin grid0.N, _)

/-- The tile of a token. -/
def tile (i : Fin 32768) : Fin 64 := ⟨i.val / 512, by omega⟩
/-- A token's number in its tile. -/
def inner (i : Fin 32768) : Fin 512 := ⟨i.val % 512, by omega⟩

/-- The call's array of routings: for every token its four rows in its tile's runs and its four weights. -/
theorem final_route (hw : ∀ k e, ∃ r : ℝ, m ((c : Thread nD τ).loc main_arg10) (ix2 k e) = (r : EReal))
    (hn : ∀ r n, ∃ q : ℝ, rowN m c r n = (q : EReal)) (hL : ∀ r e, scores m c r e ≠ ⊥) :
    (dats m 0 c).arrAt 17 cfg0.N = fun i : S32768x128.Idx =>
      routed (fun r => scores m c (tok (tile (i 0)) (tile (i 0)).isLt r)) (inner (i 0)) (i 1) := by
  refine (dats m 0 c).arrAt_eq_of_covers 17 _ (by decide +kernel) fun t _ y => ?_
  blk_simp
  rw [after0_17]
  have ht : t.val < 64 := (idx t).2.2.2.2.2.2.2.2.2.2.2.2.2.2.2.2
  have hy0 : (y 0).val < 512 := (y 0).isLt
  have ey : y = ix2 (y 0) (y 1) := funext fun d => by
    match d with
    | ⟨0, _⟩ => rfl
    | ⟨1, _⟩ => rfl
  have ev : ((win0_17.blk t).view.emb y 0).val = t.val * 512 + (y 0).val := by blk_simp [idx17 t] <;> (try omega)
  have e0 : tile ((win0_17.blk t).view.emb y 0) = (⟨t.val, ht⟩ : Fin 64) := Fin.ext (by
    show ((win0_17.blk t).view.emb y 0).val / 512 = t.val
    rw [ev]; omega)
  have e1 : inner ((win0_17.blk t).view.emb y 0) = y 0 := Fin.ext (by
    show ((win0_17.blk t).view.emb y 0).val % 512 = (y 0).val
    rw [ev]; omega)
  have e2 : (win0_17.blk t).view.emb y 1 = y 1 := Fin.ext (by blk_simp [idx17 t] <;> (try omega))
  rw [e0, e1, e2]
  refine (congrArg _ ey).trans (route_at _ _ _ _ _ _ _ _ _ _ _ _ _ _ _ (fun r => scores m c (tok t ht r)) (fun r e => hL _ e) (fun r e => ?_) (y 0) (y 1))
  refine (score_apply _ _ _ _ _ _ _ _ _ _ _ _ _ _ _ r (lane e) (rowN m c (tok t ht r)) ?_ (hn _) (fun k => b13 m c t hw k e)).trans ?_
  · rw [gain_point m c t]
    exact congrArg (fun v => normed v _) (row_point m c t ht r)
  · simp only [b12 m c t, b14 m c t]
    rfl

end Cert.RouteCounts.Array
-- ==== Proof.RouteFinite.lean ====
module

public import proofs.«01_k».proof.Pre_finite_router
public import proofs.«01_k».proof.Proof.Finite
public import proofs.«01_k».proof.Proof.RouteBlock
public import proofs.«01_k».proof.Proof.MemLaw
public import Idealize.ShloMosaic.Lib.Tactic

/-! The routing counts' precondition, read at an index: the gain, the router's weights and its bias are real numbers; and what follows of the scores. -/

@[expose] public section

set_option maxRecDepth 16384

noncomputable section

open Idealize.ShloMosaic Idealize.ShloMosaic.TcCoe Idealize.SL.Sem
open Cert.MergeOut (Row normed)

namespace Cert.RouteCounts.Finite

/-- A square is not negative. -/
theorem square_nonneg (x : EReal) : 0 ≤ x * x := Cert.MemAttn.Law.square_nonneg x

/-- An entry of a normed row is real, whatever the row holds, where its gain is. -/
theorem normed_real (v g : Row 1024) (n : Fin 1024) (hg : ∃ r : ℝ, g n = r) : ∃ r : ℝ, normed v g n = r := by
  obtain ⟨ε, hε, he⟩ : ∃ ε : ℝ, 0 < ε ∧ Ideal.ofBits .f32 0x358637BD#32 = (ε : EReal) := by
    refine ⟨_, ?_, by simp [Ideal.ofBits, Ideal.ieee, -EReal.coe_mul]; rfl⟩
    norm_num
  have hw : Ideal.ofBits .f32 0x44800000#32 = ((1024 : ℝ) : EReal) := by
    simp [Ideal.ofBits, Ideal.ieee, -EReal.coe_mul]; norm_num
  obtain ⟨s, hs⟩ := hg
  suffices ∃ r : ℝ, v n * Ideal.rsqrt (Ideal.div (∑ k, v k * v k) ((1024 : ℝ) : EReal) + (ε : EReal)) = r by
    obtain ⟨r, hr⟩ := this
    refine ⟨r * s, ?_⟩
    unfold normed
    rw [hs, EReal.coe_mul, ← hr, hw, he]
  have hdiv : ∀ x : EReal, Ideal.div x ((1024 : ℝ) : EReal) = x * (((1024 : ℝ)⁻¹ : ℝ) : EReal) := fun x => by
    unfold Ideal.div
    rw [if_neg (by exact_mod_cast (by norm_num : (1024 : ℝ) ≠ 0)), EReal.coe_inv]
  rw [hdiv]
  have h0 : 0 ≤ ∑ k, v k * v k := Finset.sum_nonneg fun k _ => square_nonneg _
  have hle : ∀ k, v k * v k ≤ ∑ k, v k * v k := fun k => Finset.single_le_sum (f := fun k => v k * v k) (fun k _ => square_nonneg _) (Finset.mem_univ k)
  generalize (∑ k, v k * v k) = S at h0 hle ⊢
  induction S using EReal.rec with
  | bot => exact absurd h0 (by simp)
  | top =>
    refine ⟨0, ?_⟩
    rw [EReal.top_mul_coe_of_pos (by norm_num), EReal.top_add_coe]
    rw [Ideal.rsqrt_top, mul_zero, EReal.coe_zero]
  | coe S =>
    have hv : ∃ r : ℝ, v n = r := by
      have := hle n
      generalize v n = x at this
      induction x using EReal.rec with
      | bot => simp at this
      | top => simp at this
      | coe x => exact ⟨x, rfl⟩
    obtain ⟨r, hr⟩ := hv
    have hS : 0 ≤ S := by exact_mod_cast h0
    rw [hr, ← EReal.coe_mul, ← EReal.coe_add, Ideal.rsqrt_coe]
    have hp : 0 < S * 1024⁻¹ + ε := by positivity
    refine ⟨r * (Real.sqrt (S * 1024⁻¹ + ε))⁻¹, ?_⟩
    rw [if_neg (not_lt.2 hp.le), if_neg hp.ne', ← EReal.coe_mul]

/-- A score of real rows is not -∞. -/
theorem score_ne_bot (h : Row 1024) (w : Fin 1024 → Row 32) (b : Row 32) (hh : ∀ n, ∃ r : ℝ, h n = r) (hw : ∀ k e, ∃ r : ℝ, w k e = r)
    (hb : ∀ e, ∃ r : ℝ, b e = r) (e : Fin 32) : score h w b e ≠ ⊥ := by
  choose H hH using hh
  choose W hW using hw
  obtain ⟨β, hβ⟩ := hb e
  obtain ⟨s, hs⟩ : ∃ s : ℝ, (∑ k, h k * w k e) = (s : EReal) := by
    refine ⟨∑ k, H k * W k e, ?_⟩
    simp only [hH, hW, ← EReal.coe_mul]
    exact Cert.Attention.Softmax.sum_real _ _
  unfold score
  rw [hs, hβ, ← EReal.coe_add]
  exact EReal.coe_ne_bot _

open Cert.Pre_finite_router

/-- The precondition's side conditions hold. -/
theorem facts : Cert.Pre_finite_router.Facts where
  bcast_S_S1024 := by decide
  bcast_S_S1024x32 := by decide
  bcast_S_S32 := by decide

variable [hF : Cert.Pre_finite_router.Facts] (x0 : FVec Ideal S8x4096x1024 .f32) (x1 : FVec Ideal S8x4096x1024 .bf16) (x2 : FVec Ideal S8x4096x2048 .bf16)
  (x3 : FVec Ideal S8x4096x1024 .bf16) (x4 : FVec Ideal S8x4096x12288 .bf16) (x5 : FVec Ideal S1024x1024 .f32) (x6 : FVec Ideal S2048x1024 .f32)
  (x7 x8 : FVec Ideal S1024x1024 .f32) (x9 : FVec Ideal S1024 .f32) (x10 : FVec Ideal S1024x32 .f32) (x11 : FVec Ideal S32 .f32)

/-- The gain is real. -/
theorem gain_real (h : (fn (F := Ideal) x0 x1 x2 x3 x4 x5 x6 x7 x8 x9 x10 x11).1 = fun _ => 1#1) (n : Fin 1024) : ∃ r : ℝ, x9 (ix1 n) = r := by
  refine @Attention.Finite.real_of_word Attention.Finite.facts .f32 _ (Eq.trans ?_ (congrFun h (ix1 n)))
  unfold fn
  dsimp only
  pointwise

/-- The router's weights are real. -/
theorem weight_real (h : (fn (F := Ideal) x0 x1 x2 x3 x4 x5 x6 x7 x8 x9 x10 x11).2.1 = fun _ => 1#1) (k : Fin 1024) (e : Fin 32) : ∃ r : ℝ, x10 (ix2 k e) = r := by
  refine @Attention.Finite.real_of_word Attention.Finite.facts .f32 _ (Eq.trans ?_ (congrFun h (ix2 k e)))
  unfold fn
  dsimp only
  pointwise

/-- The router's bias is real. -/
theorem bias_real (h : (fn (F := Ideal) x0 x1 x2 x3 x4 x5 x6 x7 x8 x9 x10 x11).2.2 = fun _ => 1#1) (e : Fin 32) : ∃ r : ℝ, x11 (ix1 e) = r := by
  refine @Attention.Finite.real_of_word Attention.Finite.facts .f32 _ (Eq.trans ?_ (congrFun h (ix1 e)))
  unfold fn
  dsimp only
  pointwise

end Cert.RouteCounts.Finite
-- ==== Proof.RouteRef.lean ====
module

public import proofs.«01_k».proof.Proof.MergeRef
public import proofs.«01_k».proof.Proof.RouteBlock
public import proofs.«01_k».proof.Proof.Gen.RouteRefIdeal.Read
public import Idealize.ShloMosaic.PureOps.Ideal.Laws

/-! The routing counts: the reference's result, from the arguments. -/

@[expose] public section

set_option maxRecDepth 16384

noncomputable section

open Idealize.ShloMosaic Idealize.ShloMosaic.TcCoe Idealize.SL.Sem
open Cert.MergeOut (Row normed bat pos)
open Cert.MergeOut.Array (rowAt)

namespace Cert.RouteCounts.Ref
open Cert.RouteRefIdeal Cert.RouteRefIdeal.Read

variable (x0 : FVec Ideal S8x4096x1024 .f32) (x1 : FVec Ideal S8x4096x1024 .bf16) (x2 : FVec Ideal S8x4096x2048 .bf16)
  (x3 : FVec Ideal S8x4096x1024 .bf16) (x4 : FVec Ideal S8x4096x12288 .bf16) (x5 : FVec Ideal S1024x1024 .f32) (x6 : FVec Ideal S2048x1024 .f32)
  (x7 x8 : FVec Ideal S1024x1024 .f32) (x9 : FVec Ideal S1024 .f32) (x10 : FVec Ideal S1024x32 .f32) (x11 : FVec Ideal S32 .f32)

/-- The normed residual row. -/
theorem h2_apply (b : Fin 8) (p : Fin 4096) (n : Fin 1024) : val_main_v34 (F := Ideal) x0 x1 x2 x3 x4 x5 x6 x7 x8 x9 (ix3 b p n)
    = normed (rowAt x0 x1 x2 x3 x4 x5 x6 x7 x8 b p) (fun n => x9 (ix1 n)) n :=
  Cert.MergeOut.Ref.h2_apply x0 x1 x2 x3 x4 x5 x6 x7 x8 x9 b p n

/-- The scores of token `r`. -/
theorem score_at (r : Fin 32768) (e : Fin 32) : val_main_v39 (F := Ideal) x0 x1 x2 x3 x4 x5 x6 x7 x8 x9 x10 x11 (ix2 r e)
    = score (normed (rowAt x0 x1 x2 x3 x4 x5 x6 x7 x8 (bat r) (pos r)) (fun n => x9 (ix1 n))) (fun k e => x10 (ix2 k e)) (fun e => x11 (ix1 e)) e := by
  have h := h2_apply x0 x1 x2 x3 x4 x5 x6 x7 x8 x9 (bat r) (pos r)
  unfold val_main_v39 val_main_v38 val_main_v37 val_main_v36 val_main_v35 score
  simp only [← h]
  generalize val_main_v34 (F := Ideal) x0 x1 x2 x3 x4 x5 x6 x7 x8 x9 = y
  pointwise
  rfl

/-- The word that compares two experts' numbers. -/
theorem word_less : ∀ x e : Fin 32, IntOp.cmpi CmpIPredicate.slt (BitVec.ofNat 32 x.val) (BitVec.ofNat 32 e.val) = BitVec.ofBool (decide (x < e)) := by
  decide +kernel

/-- The word of one condition or two others together. -/
theorem word_or (p q s : Prop) [Decidable p] [Decidable q] [Decidable s] :
    IntOp.ori (BitVec.ofBool (decide p)) (IntOp.andi (BitVec.ofBool (decide q)) (BitVec.ofBool (decide s))) = word (p ∨ (q ∧ s)) := by
  unfold word
  by_cases h1 : p <;> by_cases h2 : q <;> by_cases h3 : s <;>
    simp only [h1, h2, h3, decide_true, decide_false, and_true, and_false, or_true, or_false, and_self, or_self] <;> rfl

/-- The word that the reference reads as standing before. -/
theorem word_precedes (L : Row 32) (x e : Fin 32) :
    IntOp.ori (BitVec.ofBool (decide (L e < L x))) (IntOp.andi (BitVec.ofBool (decide (L x = L e)))
      (IntOp.cmpi CmpIPredicate.slt (BitVec.ofNat 32 x.val) (BitVec.ofNat 32 e.val))) = word (precedes L x e) := by
  rw [word_less]
  exact word_or _ _ _

/-- The places of token `r`'s scores. -/
theorem rank_at (r : Fin 32768) (e : Fin 32) (L : Row 32) (hL : ∀ e, val_main_v39 (F := Ideal) x0 x1 x2 x3 x4 x5 x6 x7 x8 x9 x10 x11 (ix2 r e) = L e) :
    val_main_v60 (F := Ideal) x0 x1 x2 x3 x4 x5 x6 x7 x8 x9 x10 x11 (ix2 r e) = ((rank L e : ℝ) : EReal) := by
  classical
  refine Eq.trans ?_ (sum_rank L e)
  have h : ∀ x, (if precedes L x e then (1 : EReal) else 0) = Scalar.select
        (IntOp.ori (BitVec.ofBool (decide (L e < L x))) (IntOp.andi (BitVec.ofBool (decide (L x = L e)))
            (IntOp.cmpi CmpIPredicate.slt (BitVec.ofNat 32 x.val) (BitVec.ofNat 32 e.val)))) 1 0 := fun x => by
    rw [word_precedes, select_word]
  simp only [h, ← hL]
  unfold val_main_v60 val_main_v59 val_main_v58 val_main_v57 val_main_v56 val_main_v55 val_main_v54 val_main_v53 val_main_v52 val_main_v51 val_main_v50
    val_main_v49 val_main_v48 val_main_v47 val_main_v46 val_main_v45 val_main_v44 val_main_v43 val_main_v42 val_main_v41 val_main_v40 val_main_call0_v0
    val_main_call0_v1 val_main_cst_2 val_main_cst_3 val_main_cst_4
  generalize val_main_v39 (F := Ideal) x0 x1 x2 x3 x4 x5 x6 x7 x8 x9 x10 x11 = y
  dsimp only [id]
  pointwise

/-- A natural number over eight. -/
theorem over_eight (n : ℕ) : Ideal.div ((n : ℝ) : EReal) ((8 : ℝ) : EReal) = (((n : ℝ) / 8 : ℝ) : EReal) := by
  unfold Ideal.div
  rw [if_neg (by exact_mod_cast (by norm_num : (8 : ℝ) ≠ 0)), ← EReal.coe_inv, ← EReal.coe_mul, div_eq_mul_inv]

/-- The count of a tile and an expert, rounded up. -/
theorem count_at (t : Fin 64) (e : Fin 32) (L : Fin 512 → Row 32)
    (hL : ∀ r e, val_main_v39 (F := Ideal) x0 x1 x2 x3 x4 x5 x6 x7 x8 x9 x10 x11 (ix2 ⟨t.val * 512 + r.val, by omega⟩ e) = L r e) :
    val_main_v71 (F := Ideal) x0 x1 x2 x3 x4 x5 x6 x7 x8 x9 x10 x11 (ix2 t e) = rounded (counted L (lane e)) := by
  classical
  have hr := fun r : Fin 512 => rank_at x0 x1 x2 x3 x4 x5 x6 x7 x8 x9 x10 x11 ⟨t.val * 512 + r.val, by omega⟩ e (L r) (hL r)
  have h4 : Ideal.ofBits FTy.f32 0x40800000#32 = ((4 : ℝ) : EReal) := by
    simp [Ideal.ofBits, Ideal.ieee, -EReal.coe_mul]; norm_num
  refine Eq.trans (b := Ideal.ofBits FTy.f32 0x41000000#32 * Ideal.liftRound Int.ceil
        (Ideal.div (∑ r : Fin 512, if val_main_v60 (F := Ideal) x0 x1 x2 x3 x4 x5 x6 x7 x8 x9 x10 x11 (ix2 ⟨t.val * 512 + r.val, by omega⟩ e)
            < Ideal.ofBits FTy.f32 0x40800000#32 then 1 else 0)
          (Ideal.ofBits FTy.f32 0x41000000#32))) ?_ ?_
  · unfold val_main_v71 val_main_v70 val_main_v69 val_main_v68 val_main_v67 val_main_v66 val_main_v65 val_main_v64 val_main_v63 val_main_v62 val_main_v61
      val_main_call1_v0 val_main_call1_v1 val_main_cst_5 val_main_cst_6 val_main_cst_7 val_main_cst_8 val_main_cst_9 val_main_cst_10
    generalize val_main_v60 (F := Ideal) x0 x1 x2 x3 x4 x5 x6 x7 x8 x9 x10 x11 = y
    dsimp only [id]
    pointwise
  · rw [eight_eq]
    have hs : (∑ r : Fin 512, if val_main_v60 (F := Ideal) x0 x1 x2 x3 x4 x5 x6 x7 x8 x9 x10 x11 (ix2 ⟨t.val * 512 + r.val, by omega⟩ e)
            < Ideal.ofBits FTy.f32 0x40800000#32 then (1 : EReal) else 0) = ((counted L (lane e) : ℝ) : EReal) := by
      refine Eq.trans (Finset.sum_congr rfl fun r _ => ?_) (sum_ones fun r : Fin 512 => chosen (L r) (lane e))
      rw [hr, h4]
      refine if_congr ?_ rfl rfl
      rw [EReal.coe_lt_coe_iff]
      constructor
      · intro h
        exact ⟨e.isLt, by exact_mod_cast h⟩
      · rintro ⟨_, h⟩
        have h' : rank (L r) e < 4 := h
        exact_mod_cast h'
    rw [hs, over_eight]
    unfold rounded
    rfl

/-- A matrix with columns put behind it keeps its columns. -/
theorem pad_in (x : FVec Ideal S64x32 .f32) (z : FVec Ideal S_ .f32) (t : Fin 64) (e : Fin 32) :
    pad S64x128 ![0, 0] ![0, 96] ![0, 0] x z Gen.pads_S64x32_S64x128_000_0960 Gen.h_S_ (ix2 t (lane e)) = x (ix2 t e) := by
  have hk := t.isLt
  have he := e.isLt
  unfold pad
  rw [dif_pos]
  · refine congrArg x (funext fun a => ?_)
    match a with
    | ⟨0, _⟩ => exact Fin.ext (by show (t.val - 0) / (0 + 1) = t.val; omega)
    | ⟨1, _⟩ => exact Fin.ext (by show (e.val - 0) / (0 + 1) = e.val; omega)
  · intro a
    match a with
    | ⟨0, _⟩ => show 0 ≤ t.val ∧ (t.val - 0) % (0 + 1) = 0 ∧ (t.val - 0) / (0 + 1) < 64; omega
    | ⟨1, _⟩ => show 0 ≤ e.val ∧ (e.val - 0) % (0 + 1) = 0 ∧ (e.val - 0) / (0 + 1) < 32; omega

/-- Behind a matrix's columns are the entries put there. -/
theorem pad_out (x : FVec Ideal S64x32 .f32) (z : FVec Ideal S_ .f32) (t : Fin 64) (l : Fin 128) (hl : 32 ≤ l.val) (w : EReal) (hz : ∀ i, z i = w) :
    pad S64x128 ![0, 0] ![0, 96] ![0, 0] x z Gen.pads_S64x32_S64x128_000_0960 Gen.h_S_ (ix2 t l) = w := by
  unfold pad
  rw [dif_neg]
  · exact hz _
  · intro h
    have h1 : (l.val - 0) / (0 + 1) < 32 := (h 1).2.2
    omega

/-- The reference's result at a tile, a row and a lane. -/
theorem result_at (t : Fin 64) (q : Fin 8) (l : Fin 128) (L : Fin 512 → Row 32)
    (hL : ∀ r e, val_main_v39 (F := Ideal) x0 x1 x2 x3 x4 x5 x6 x7 x8 x9 x10 x11 (ix2 ⟨t.val * 512 + r.val, by omega⟩ e) = L r e) :
    val_main_v74 (F := Ideal) x0 x1 x2 x3 x4 x5 x6 x7 x8 x9 x10 x11 (ix3 t q l) = rounded (counted L l) := by
  have e1 : val_main_v74 (F := Ideal) x0 x1 x2 x3 x4 x5 x6 x7 x8 x9 x10 x11 (ix3 t q l)
      = val_main_v72 (F := Ideal) x0 x1 x2 x3 x4 x5 x6 x7 x8 x9 x10 x11 (ix2 t l) := by
    unfold val_main_v74 val_main_v73
    generalize val_main_v72 (F := Ideal) x0 x1 x2 x3 x4 x5 x6 x7 x8 x9 x10 x11 = y
    pointwise
  rw [e1]
  unfold val_main_v72
  by_cases h : l.val < 32
  · refine (pad_in _ _ t ⟨l.val, h⟩).trans ?_
    exact count_at x0 x1 x2 x3 x4 x5 x6 x7 x8 x9 x10 x11 t ⟨l.val, h⟩ L hL
  · refine (pad_out _ _ t l (by omega) 0 fun i => ?_).trans ?_
    · rw [val_main_call2_v0_apply, val_main_c_apply]
      show (((0#32).toInt : ℝ) : EReal) = 0
      simp
    · have hc : counted L l = 0 := by
        classical
        unfold counted chosen
        simp [h]
      rw [hc]
      unfold rounded
      have h0 : (((0 : ℕ) : ℝ) / 8 : ℝ) = 0 := by simp
      rw [h0]
      show (0 : EReal) = ((8 : ℝ) : EReal) * ((⌈(0 : ℝ)⌉ : ℝ) : EReal)
      simp

end Cert.RouteCounts.Ref
-- ==== Proof.RoutePlaceRef.lean ====
module

public import proofs.«01_k».proof.Proof.RouteRef
public import proofs.«01_k».proof.Proof.RoutePlace

/-! The routing places and weights: the reference's result, from the arguments. -/

@[expose] public section

set_option maxRecDepth 16384

noncomputable section

open Idealize.ShloMosaic Idealize.ShloMosaic.TcCoe Idealize.SL.Sem
open Cert.MergeOut (Row normed bat pos)
open Cert.MergeOut.Array (rowAt)

namespace Cert.RouteCounts.Ref
open Cert.RouteRefIdeal Cert.RouteRefIdeal.Read

/-- The number of a tile's token. -/
def flat (t : Fin 64) (r : Fin 512) : Fin 32768 := ⟨t.val * 512 + r.val, by omega⟩

/-- A matrix of four columns with columns put behind it keeps its columns. -/
theorem front_in (x : FVec Ideal S32768x4 .f32) (z : FVec Ideal S_ .f32) (t : Fin 32768) (l : Fin 128) (hl : l.val < 4) :
    pad S32768x128 ![0, 0] ![0, 124] ![0, 0] x z Gen.pads_S32768x4_S32768x128_000_01240 Gen.h_S_ (ix2 t l) = x (ix2 t ⟨l.val, hl⟩) := by
  have hk := t.isLt
  unfold pad
  rw [dif_pos]
  · refine congrArg x (funext fun a => ?_)
    match a with
    | ⟨0, _⟩ => exact Fin.ext (by show (t.val - 0) / (0 + 1) = t.val; omega)
    | ⟨1, _⟩ => exact Fin.ext (by show (l.val - 0) / (0 + 1) = l.val; omega)
  · intro a
    match a with
    | ⟨0, _⟩ => show 0 ≤ t.val ∧ (t.val - 0) % (0 + 1) = 0 ∧ (t.val - 0) / (0 + 1) < 32768; omega
    | ⟨1, _⟩ => show 0 ≤ l.val ∧ (l.val - 0) % (0 + 1) = 0 ∧ (l.val - 0) / (0 + 1) < 4; omega

/-- Behind its columns are the entries put there. -/
theorem front_out (x : FVec Ideal S32768x4 .f32) (z : FVec Ideal S_ .f32) (t : Fin 32768) (l : Fin 128) (hl : ¬ l.val < 4) (w : EReal) (hz : ∀ i, z i = w) :
    pad S32768x128 ![0, 0] ![0, 124] ![0, 0] x z Gen.pads_S32768x4_S32768x128_000_01240 Gen.h_S_ (ix2 t l) = w := by
  unfold pad
  rw [dif_neg]
  · exact hz _
  · intro h
    have h1 : (l.val - 0) / (0 + 1) < 4 := (h 1).2.2
    omega

/-- A matrix of four columns with four columns put before it and others behind it keeps its columns. -/
theorem back_in (x : FVec Ideal S32768x4 .f32) (z : FVec Ideal S_ .f32) (t : Fin 32768) (l : Fin 128) (h4 : ¬ l.val < 4) (hl : l.val < 8) :
    pad S32768x128 ![0, 4] ![0, 120] ![0, 0] x z Gen.pads_S32768x4_S32768x128_000_41200 Gen.h_S_ (ix2 t l) = x (ix2 t ⟨l.val - 4, by omega⟩) := by
  have hk := t.isLt
  unfold pad
  rw [dif_pos]
  · refine congrArg x (funext fun a => ?_)
    match a with
    | ⟨0, _⟩ => exact Fin.ext (by show (t.val - 0) / (0 + 1) = t.val; omega)
    | ⟨1, _⟩ => exact Fin.ext (by show (l.val - 4) / (0 + 1) = l.val - 4; omega)
  · intro a
    match a with
    | ⟨0, _⟩ => show 0 ≤ t.val ∧ (t.val - 0) % (0 + 1) = 0 ∧ (t.val - 0) / (0 + 1) < 32768; omega
    | ⟨1, _⟩ => show 4 ≤ l.val ∧ (l.val - 4) % (0 + 1) = 0 ∧ (l.val - 4) / (0 + 1) < 4; omega

/-- Before and behind its columns are the entries put there. -/
theorem back_out (x : FVec Ideal S32768x4 .f32) (z : FVec Ideal S_ .f32) (t : Fin 32768) (l : Fin 128) (hl : l.val < 4 ∨ ¬ l.val < 8) (w : EReal) (hz : ∀ i, z i = w) :
    pad S32768x128 ![0, 4] ![0, 120] ![0, 0] x z Gen.pads_S32768x4_S32768x128_000_41200 Gen.h_S_ (ix2 t l) = w := by
  unfold pad
  rw [dif_neg]
  · exact hz _
  · intro h
    have h1 : (l.val - 4) / (0 + 1) < 4 := (h 1).2.2
    have h2 : 4 ≤ l.val := (h 1).1
    omega

variable (x0 : FVec Ideal S8x4096x1024 .f32) (x1 : FVec Ideal S8x4096x1024 .bf16) (x2 : FVec Ideal S8x4096x2048 .bf16)
  (x3 : FVec Ideal S8x4096x1024 .bf16) (x4 : FVec Ideal S8x4096x12288 .bf16) (x5 : FVec Ideal S1024x1024 .f32) (x6 : FVec Ideal S2048x1024 .f32)
  (x7 x8 : FVec Ideal S1024x1024 .f32) (x9 : FVec Ideal S1024 .f32) (x10 : FVec Ideal S1024x32 .f32) (x11 : FVec Ideal S32 .f32)

section
variable (t : Fin 64) (L : Fin 512 → Row 32)
  (hL : ∀ r e, val_main_v39 (F := Ideal) x0 x1 x2 x3 x4 x5 x6 x7 x8 x9 x10 x11 (ix2 (flat t r) e) = L r e)
include hL

/-- Whether a token of the tile is given to an expert, as a number. -/
theorem taken_at (r : Fin 512) (e : Fin 32) :
    val_main_v64 (F := Ideal) x0 x1 x2 x3 x4 x5 x6 x7 x8 x9 x10 x11 (ix3 t r e) = picked (L r) (lane e) := by
  classical
  have hr := rank_at x0 x1 x2 x3 x4 x5 x6 x7 x8 x9 x10 x11 (flat t r) e (L r) (hL r)
  have h4 : Ideal.ofBits FTy.f32 0x40800000#32 = ((4 : ℝ) : EReal) := by
    simp [Ideal.ofBits, Ideal.ieee, -EReal.coe_mul]; norm_num
  refine Eq.trans (b := if val_main_v60 (F := Ideal) x0 x1 x2 x3 x4 x5 x6 x7 x8 x9 x10 x11 (ix2 (flat t r) e)
            < Ideal.ofBits FTy.f32 0x40800000#32 then 1 else 0) ?_ ?_
  · unfold val_main_v64 val_main_v63 val_main_v62 val_main_v61 val_main_call1_v0 val_main_call1_v1 val_main_cst_5 val_main_cst_6 val_main_cst_7
    generalize val_main_v60 (F := Ideal) x0 x1 x2 x3 x4 x5 x6 x7 x8 x9 x10 x11 = y
    pointwise
    rfl
  · unfold picked
    rw [hr, h4]
    refine if_congr ?_ rfl rfl
    rw [EReal.coe_lt_coe_iff]
    constructor
    · intro h
      exact ⟨e.isLt, by exact_mod_cast h⟩
    · rintro ⟨_, h⟩
      have h' : rank (L r) e < 4 := h
      exact_mod_cast h'

/-- How many earlier tokens of the tile are given to an expert. -/
theorem earlier_at (r : Fin 512) (e : Fin 32) :
    val_main_v85 (F := Ideal) x0 x1 x2 x3 x4 x5 x6 x7 x8 x9 x10 x11 (ix3 t r e) = ∑ x : Fin 512, if x < r then picked (L x) (lane e) else 0 := by
  have h := fun x => taken_at x0 x1 x2 x3 x4 x5 x6 x7 x8 x9 x10 x11 t L hL x e
  refine Eq.trans (b := ∑ x : Fin 512, Scalar.select (IntOp.cmpi CmpIPredicate.slt (BitVec.ofNat 32 x.val) (BitVec.ofNat 32 r.val))
      (val_main_v64 (F := Ideal) x0 x1 x2 x3 x4 x5 x6 x7 x8 x9 x10 x11 (ix3 t x e)) 0) ?_ (Finset.sum_congr rfl fun x _ => ?_)
  · unfold val_main_v85 val_main_v84 val_main_v83 val_main_call3_v2 val_main_call3_v1 val_main_call3_v0 val_main_cst_11 val_main_cst_12 val_main_v82
      val_main_v81 val_main_v80 val_main_v79 val_main_v78 val_main_v77 val_main_v76 val_main_v75
    generalize val_main_v64 (F := Ideal) x0 x1 x2 x3 x4 x5 x6 x7 x8 x9 x10 x11 = y
    dsimp only [id]
    pointwise
  · rw [h, word_small _ _ (by omega) (by omega), select_word]
    by_cases hx : x.val < r.val
    · rw [if_pos hx, if_pos (show x < r from hx)]
    · rw [if_neg hx, if_neg (show ¬ x < r from hx)]

/-- Where an expert's run starts. -/
theorem start_at (e : Fin 32) :
    val_main_v89 (F := Ideal) x0 x1 x2 x3 x4 x5 x6 x7 x8 x9 x10 x11 (ix2 t e) = ∑ f : Fin 32, if f < e then rounded (counted L (lane f)) else 0 := by
  have h := fun f => count_at x0 x1 x2 x3 x4 x5 x6 x7 x8 x9 x10 x11 t f L hL
  refine Eq.trans (b := ∑ f : Fin 32, Scalar.select (IntOp.cmpi CmpIPredicate.slt (BitVec.ofNat 32 f.val) (BitVec.ofNat 32 e.val))
      (val_main_v71 (F := Ideal) x0 x1 x2 x3 x4 x5 x6 x7 x8 x9 x10 x11 (ix2 t f)) 0) ?_ (Finset.sum_congr rfl fun f _ => ?_)
  · unfold val_main_v89 val_main_v88 val_main_call4_v3 val_main_call4_v2 val_main_call4_v1 val_main_call4_v0 val_main_cst_13 val_main_cst_14 val_main_v87
      val_main_v86 val_main_v47 val_main_v46 val_main_v45 val_main_v44 val_main_v43 val_main_v42
    generalize val_main_v71 (F := Ideal) x0 x1 x2 x3 x4 x5 x6 x7 x8 x9 x10 x11 = y
    dsimp only [id]
    pointwise
  · rw [h, word_small _ _ (by omega) (by omega), select_word]
    by_cases hx : f.val < e.val
    · rw [if_pos hx, if_pos (show f < e from hx)]
    · rw [if_neg hx, if_neg (show ¬ f < e from hx)]

/-- The row of a token in an expert's run. -/
theorem place_at (r : Fin 512) (e : Fin 32) (i : Fin 32768) (hi : i.val = t.val * 512 + r.val) :
    val_main_v93 (F := Ideal) x0 x1 x2 x3 x4 x5 x6 x7 x8 x9 x10 x11 (ix2 i e) = place L r e := by
  unfold place
  rw [← earlier_at x0 x1 x2 x3 x4 x5 x6 x7 x8 x9 x10 x11 t L hL r e, ← start_at x0 x1 x2 x3 x4 x5 x6 x7 x8 x9 x10 x11 t L hL e]
  have e1 : val_main_v93 (F := Ideal) x0 x1 x2 x3 x4 x5 x6 x7 x8 x9 x10 x11 (ix2 i e)
      = val_main_v92 (F := Ideal) x0 x1 x2 x3 x4 x5 x6 x7 x8 x9 x10 x11 (ix3 t r e) := by
    rw [val_main_v93_apply]
    refine congrArg _ (funext fun a => ?_)
    have hr := r.isLt
    have he := e.isLt
    have ht := t.isLt
    match a with
    | ⟨0, _⟩ => exact Fin.ext (by show (i.val * 32 + e.val) / 16384 = t.val; omega)
    | ⟨1, _⟩ => exact Fin.ext (by show (i.val * 32 + e.val) / 32 % 512 = r.val; omega)
    | ⟨2, _⟩ => exact Fin.ext (by show (i.val * 32 + e.val) % 32 = e.val; omega)
  rw [e1]
  unfold val_main_v92 val_main_v91 val_main_v90
  generalize val_main_v85 (F := Ideal) x0 x1 x2 x3 x4 x5 x6 x7 x8 x9 x10 x11 = y
  generalize val_main_v89 (F := Ideal) x0 x1 x2 x3 x4 x5 x6 x7 x8 x9 x10 x11 = z
  pointwise

end

/-- The word that compares an expert's place with a number below four. -/
theorem word_place (n : ℕ) (k : Fin 4) :
    BitVec.ofBool (decide (((n : ℝ) : EReal) = FloatOps.sitofp (F := Ideal) FTy.f32 (BitVec.ofNat 32 k.val))) = word (n = k.val) := by
  have h : FloatOps.sitofp (F := Ideal) FTy.f32 (BitVec.ofNat 32 k.val) = ((k.val : ℝ) : EReal) := lane_number ⟨k.val, by omega⟩
  rw [h]
  unfold word
  congr 1
  refine decide_eq_decide.2 ?_
  rw [EReal.coe_eq_coe_iff, Nat.cast_inj]

section
variable (i : Fin 32768) (l : Row 32) (hl : ∀ e, val_main_v39 (F := Ideal) x0 x1 x2 x3 x4 x5 x6 x7 x8 x9 x10 x11 (ix2 i e) = l e)
include hl

/-- A token's entry for the expert of place `k`. -/
theorem nth_at (k : Fin 4) (P : Row 32) (hP : ∀ e, val_main_v93 (F := Ideal) x0 x1 x2 x3 x4 x5 x6 x7 x8 x9 x10 x11 (ix2 i e) = P e) :
    val_main_v103 (F := Ideal) x0 x1 x2 x3 x4 x5 x6 x7 x8 x9 x10 x11 (ix2 i k) = P (who l k) := by
  have hr := fun e => rank_at x0 x1 x2 x3 x4 x5 x6 x7 x8 x9 x10 x11 i e l hl
  refine Eq.trans (b := ∑ e : Fin 32, Scalar.select (BitVec.ofBool (decide (val_main_v60 (F := Ideal) x0 x1 x2 x3 x4 x5 x6 x7 x8 x9 x10 x11 (ix2 i e)
        = FloatOps.sitofp (F := Ideal) FTy.f32 (BitVec.ofNat 32 k.val)))) (val_main_v93 (F := Ideal) x0 x1 x2 x3 x4 x5 x6 x7 x8 x9 x10 x11 (ix2 i e)) 0) ?_ ?_
  · unfold val_main_v103 val_main_v102 val_main_call5_v2 val_main_call5_v1 val_main_call5_v0 val_main_cst_15 val_main_cst_16 val_main_v101
      val_main_v100 val_main_v99 val_main_v98 val_main_v97 val_main_v96 val_main_v95 val_main_v94
    generalize val_main_v60 (F := Ideal) x0 x1 x2 x3 x4 x5 x6 x7 x8 x9 x10 x11 = y
    generalize val_main_v93 (F := Ideal) x0 x1 x2 x3 x4 x5 x6 x7 x8 x9 x10 x11 = z
    dsimp only [id]
    pointwise
  · refine Eq.trans (Finset.sum_congr rfl fun e _ => ?_) (sum_who l k P)
    rw [hr, hP, word_place, select_word]
    by_cases hx : rank l e = k.val
    · rw [if_pos hx, if_pos hx]
    · rw [if_neg hx, if_neg hx]

/-- A token's score of place `k`. -/
theorem top_at (k : Fin 4) :
    val_main_v106 (F := Ideal) x0 x1 x2 x3 x4 x5 x6 x7 x8 x9 x10 x11 (ix2 i k) = l (who l k) := by
  have hr := fun e => rank_at x0 x1 x2 x3 x4 x5 x6 x7 x8 x9 x10 x11 i e l hl
  refine Eq.trans (b := ∑ e : Fin 32, Scalar.select (BitVec.ofBool (decide (val_main_v60 (F := Ideal) x0 x1 x2 x3 x4 x5 x6 x7 x8 x9 x10 x11 (ix2 i e)
        = FloatOps.sitofp (F := Ideal) FTy.f32 (BitVec.ofNat 32 k.val)))) (val_main_v39 (F := Ideal) x0 x1 x2 x3 x4 x5 x6 x7 x8 x9 x10 x11 (ix2 i e)) 0) ?_ ?_
  · unfold val_main_v106 val_main_v105 val_main_call6_v2 val_main_call6_v1 val_main_call6_v0 val_main_cst_17 val_main_cst_18 val_main_v104
      val_main_v100 val_main_v99 val_main_v98 val_main_v97 val_main_v96 val_main_v95 val_main_v94
    generalize val_main_v60 (F := Ideal) x0 x1 x2 x3 x4 x5 x6 x7 x8 x9 x10 x11 = y
    generalize val_main_v39 (F := Ideal) x0 x1 x2 x3 x4 x5 x6 x7 x8 x9 x10 x11 = z
    dsimp only [id]
    pointwise
  · refine Eq.trans (Finset.sum_congr rfl fun e _ => ?_) (sum_who l k l)
    rw [hr, hl, word_place, select_word]
    by_cases hx : rank l e = k.val
    · rw [if_pos hx, if_pos hx]
    · rw [if_neg hx, if_neg hx]

/-- A token's weight of place `k`. -/
theorem share_at (k : Fin 4) :
    val_main_v117 (F := Ideal) x0 x1 x2 x3 x4 x5 x6 x7 x8 x9 x10 x11 (ix2 i k) = share l k := by
  have h := top_at x0 x1 x2 x3 x4 x5 x6 x7 x8 x9 x10 x11 i l hl
  have hm : val_main_v109 (F := Ideal) x0 x1 x2 x3 x4 x5 x6 x7 x8 x9 x10 x11 (ix1 i) = l (who l 0) := by
    refine Eq.trans (b := max (Ideal.ofBits .f32 0xFF800000#32) (Finset.fold max (Ideal.ofBits .f32 0xFF800000#32)
      (fun k => val_main_v106 (F := Ideal) x0 x1 x2 x3 x4 x5 x6 x7 x8 x9 x10 x11 (ix2 i k)) Finset.univ)) ?_ ?_
    · unfold val_main_v109 val_main_v108 val_main_v107 val_main_cst_19 val_main_cst_20
      generalize val_main_v106 (F := Ideal) x0 x1 x2 x3 x4 x5 x6 x7 x8 x9 x10 x11 = y
      pointwise
    · rw [funext h, bot_eq, top_four]
      exact max_eq_right bot_le
  have he : ∀ k, val_main_v113 (F := Ideal) x0 x1 x2 x3 x4 x5 x6 x7 x8 x9 x10 x11 (ix2 i k) = Ideal.exp (l (who l k) - l (who l 0)) := fun k => by
    rw [← h k, ← hm]
    unfold val_main_v113 val_main_v112 val_main_v111 val_main_v110
    generalize val_main_v106 (F := Ideal) x0 x1 x2 x3 x4 x5 x6 x7 x8 x9 x10 x11 = y
    generalize val_main_v109 (F := Ideal) x0 x1 x2 x3 x4 x5 x6 x7 x8 x9 x10 x11 = z
    pointwise
  unfold share
  simp only [← he]
  unfold val_main_v117 val_main_v116 val_main_v115 val_main_v114 val_main_cst_21
  generalize val_main_v113 (F := Ideal) x0 x1 x2 x3 x4 x5 x6 x7 x8 x9 x10 x11 = y
  pointwise

end

/-- The reference's routing of a token. -/
theorem routed_at (t : Fin 64) (L : Fin 512 → Row 32)
    (hL : ∀ r e, val_main_v39 (F := Ideal) x0 x1 x2 x3 x4 x5 x6 x7 x8 x9 x10 x11 (ix2 (flat t r) e) = L r e)
    (r : Fin 512) (i : Fin 32768) (hi : i.val = t.val * 512 + r.val) (l : Fin 128) :
    val_main_v120 (F := Ideal) x0 x1 x2 x3 x4 x5 x6 x7 x8 x9 x10 x11 (ix2 i l) = routed L r l := by
  obtain rfl : i = flat t r := Fin.ext hi
  have hp := fun k => nth_at x0 x1 x2 x3 x4 x5 x6 x7 x8 x9 x10 x11 _ (L r) (hL r) k (place L r)
    (fun e => place_at x0 x1 x2 x3 x4 x5 x6 x7 x8 x9 x10 x11 t L hL r e _ rfl)
  have hs := share_at x0 x1 x2 x3 x4 x5 x6 x7 x8 x9 x10 x11 _ (L r) (hL r)
  have hz : (FloatOps.sitofp (F := Ideal) FTy.f32 (0#32) : EReal) = 0 := by
    show (((0#32).toInt : ℝ) : EReal) = 0
    simp
  have z7 : ∀ i, val_main_call7_v0 (F := Ideal) i = (0 : EReal) := fun i => by
    rw [val_main_call7_v0_apply, val_main_c_22_apply]; exact hz
  have z8 : ∀ i, val_main_call8_v0 (F := Ideal) i = (0 : EReal) := fun i => by
    rw [val_main_call8_v0_apply, val_main_c_23_apply]; exact hz
  rw [val_main_v120_apply]
  unfold val_main_v118 val_main_v119 routed
  by_cases h4 : l.val < 4
  · rw [dif_pos h4]
    refine (congrArg₂ (fun a b : EReal => a + b) ((front_in _ _ _ l h4).trans (hp _)) (back_out _ _ _ l (.inl h4) 0 z8)).trans (add_zero _)
  · rw [dif_neg h4]
    by_cases h8 : l.val < 8
    · rw [dif_pos h8]
      refine (congrArg₂ (fun a b : EReal => a + b) (front_out _ _ _ l h4 0 z7) ((back_in _ _ _ l h4 h8).trans (hs _))).trans (zero_add _)
    · rw [dif_neg h8]
      refine (congrArg₂ (fun a b : EReal => a + b) (front_out _ _ _ l h4 0 z7) (back_out _ _ _ l (.inr h8) 0 z8)).trans (zero_add _)

end Cert.RouteCounts.Ref
-- ==== Proof.RouteClaims.lean ====
module

public import proofs.«01_k».proof.Defs
public import proofs.«01_k».proof.Proof.RouteArray
public import proofs.«01_k».proof.Proof.RouteFinite
public import proofs.«01_k».proof.Proof.RouteRef
public import proofs.«01_k».proof.Proof.RoutePlaceRef
public import proofs.«01_k».proof.Proof.Gen.Route.Frame
public import proofs.«01_k».proof.Proof.Gen.RouteRefIdeal.Run
public import Idealize.ShloMosaic.Lib.Quiescent

/-! The claims about the routing and its counts. -/

@[expose] public section

set_option maxRecDepth 16384

noncomputable section

open Idealize.ShloMosaic Idealize.ShloMosaic.TcCoe Idealize.SL.Sem

namespace Cert.RouteCounts.Claims

/-- The kernel's program ends with its arguments unchanged and every counter at zero, at the printed formats. -/
theorem frame : Cert.quiescent_Route := fun m ρ _ => Cert.Route.Gen.frame m ρ
/-- The same of its idealization. -/
theorem frame_ideal : Cert.quiescent_RouteIdeal := fun m ρ _ => Cert.RouteIdeal.Gen.frame m ρ
/-- The same of its idealization under the precondition. -/
theorem frame_ideal_pre [h : Cert.Pre_finite_router.Facts] : Cert.quiescent_RouteIdeal_pre_finite_router := fun m ρ _ => Cert.RouteIdeal.Gen.frame m ρ

/-- The reference ends with its arguments unchanged and every counter at zero. -/
theorem frame_ref : Cert.quiescent_RouteRefIdeal := fun m ρ _ =>
  (θ_run _ _ _).mono (fun r h => ⟨fun c => (h c).2.2, Idealize.ShloMosaic.sem_eq_zero_of_no_sems (by decide) r.2⟩)
    (Cert.RouteRefIdeal.Value.run m ρ)
/-- The same of the reference under the precondition. -/
theorem frame_ref_pre [h : Cert.Pre_finite_router.Facts] : Cert.quiescent_RouteRefIdeal_pre_finite_router := fun m ρ _ => frame_ref m ρ trivial

/-- The idealization replaces only the named mask. -/
theorem preserves : Cert.preserves_Route_RouteIdeal :=
  IdealRules.named_const.statement Cert.RouteIdeal.κ "mask" .f32 0xF149F2CA#32 ⊥ rfl

/-- The array of routings of the kernel's run is the reference's over the same arguments. -/
theorem route_eq [hP : Cert.Pre_finite_router.Facts] (m : (ℓ : Loc Cert.RouteIdeal.nD Cert.RouteIdeal.τ Cert.RouteIdeal.sig) → Buf (Elt Ideal) ℓ)
    (hpre : Cert.Pre_RouteIdeal_finite_router m) (c : Dev Cert.RouteIdeal.nD) :
    (Cert.RouteIdeal.Gen.dats m 0 c).arrAt 17 Cert.RouteIdeal.cfg0.N
      = Cert.RouteRefIdeal.Read.val_main_v120 (F := Ideal)
          (m ((c.tc : Thread Cert.RouteIdeal.nD Cert.RouteIdeal.τ).loc Cert.RouteIdeal.main_arg0))
          (m ((c.tc : Thread Cert.RouteIdeal.nD Cert.RouteIdeal.τ).loc Cert.RouteIdeal.main_arg1))
          (m ((c.tc : Thread Cert.RouteIdeal.nD Cert.RouteIdeal.τ).loc Cert.RouteIdeal.main_arg2))
          (m ((c.tc : Thread Cert.RouteIdeal.nD Cert.RouteIdeal.τ).loc Cert.RouteIdeal.main_arg3))
          (m ((c.tc : Thread Cert.RouteIdeal.nD Cert.RouteIdeal.τ).loc Cert.RouteIdeal.main_arg4))
          (m ((c.tc : Thread Cert.RouteIdeal.nD Cert.RouteIdeal.τ).loc Cert.RouteIdeal.main_arg5))
          (m ((c.tc : Thread Cert.RouteIdeal.nD Cert.RouteIdeal.τ).loc Cert.RouteIdeal.main_arg6))
          (m ((c.tc : Thread Cert.RouteIdeal.nD Cert.RouteIdeal.τ).loc Cert.RouteIdeal.main_arg7))
          (m ((c.tc : Thread Cert.RouteIdeal.nD Cert.RouteIdeal.τ).loc Cert.RouteIdeal.main_arg8))
          (m ((c.tc : Thread Cert.RouteIdeal.nD Cert.RouteIdeal.τ).loc Cert.RouteIdeal.main_arg9))
          (m ((c.tc : Thread Cert.RouteIdeal.nD Cert.RouteIdeal.τ).loc Cert.RouteIdeal.main_arg10))
          (m ((c.tc : Thread Cert.RouteIdeal.nD Cert.RouteIdeal.τ).loc Cert.RouteIdeal.main_arg11)) := by
  have hg := fun n => Finite.gain_real _ _ _ _ _ _ _ _ _ _ _ _ (hpre c).1 n
  have hw := fun k e => Finite.weight_real _ _ _ _ _ _ _ _ _ _ _ _ (hpre c).2.1 k e
  have hb := fun e => Finite.bias_real _ _ _ _ _ _ _ _ _ _ _ _ (hpre c).2.2 e
  have hn : ∀ r n, ∃ q : ℝ, Array.rowN m c r n = (q : EReal) := fun r n => Finite.normed_real _ _ n (hg n)
  rw [Array.final_route m c hw hn fun r e => Finite.score_ne_bot _ _ _ (hn r) hw hb e]
  funext i
  have ei : i = ix2 (i 0) (i 1) := funext fun d => by fin_cases d <;> rfl
  have hi : (i 0).val = (Array.tile (i 0)).val * 512 + (Array.inner (i 0)).val := by
    show (i 0).val = (i 0).val / 512 * 512 + (i 0).val % 512
    omega
  refine ((Ref.routed_at _ _ _ _ _ _ _ _ _ _ _ _ (Array.tile (i 0)) (fun r => Array.scores m c (Array.tok (Array.tile (i 0)) (Array.tile (i 0)).isLt r))
    (fun r e => ?_) (Array.inner (i 0)) (i 0) hi (i 1)).symm.trans (congrArg _ ei.symm))
  exact Ref.score_at _ _ _ _ _ _ _ _ _ _ _ _ _ e

/-- The array of counts of the kernel's run is the reference's over the same arguments. -/
theorem result_eq [hP : Cert.Pre_finite_router.Facts] (m : (ℓ : Loc Cert.RouteIdeal.nD Cert.RouteIdeal.τ Cert.RouteIdeal.sig) → Buf (Elt Ideal) ℓ)
    (hpre : Cert.Pre_RouteIdeal_finite_router m) (c : Dev Cert.RouteIdeal.nD) :
    (Cert.RouteIdeal.Gen.dats m 0 c).arrAt 18 Cert.RouteIdeal.cfg0.N
      = Cert.RouteRefIdeal.Read.val_main_v74 (F := Ideal)
          (m ((c.tc : Thread Cert.RouteIdeal.nD Cert.RouteIdeal.τ).loc Cert.RouteIdeal.main_arg0))
          (m ((c.tc : Thread Cert.RouteIdeal.nD Cert.RouteIdeal.τ).loc Cert.RouteIdeal.main_arg1))
          (m ((c.tc : Thread Cert.RouteIdeal.nD Cert.RouteIdeal.τ).loc Cert.RouteIdeal.main_arg2))
          (m ((c.tc : Thread Cert.RouteIdeal.nD Cert.RouteIdeal.τ).loc Cert.RouteIdeal.main_arg3))
          (m ((c.tc : Thread Cert.RouteIdeal.nD Cert.RouteIdeal.τ).loc Cert.RouteIdeal.main_arg4))
          (m ((c.tc : Thread Cert.RouteIdeal.nD Cert.RouteIdeal.τ).loc Cert.RouteIdeal.main_arg5))
          (m ((c.tc : Thread Cert.RouteIdeal.nD Cert.RouteIdeal.τ).loc Cert.RouteIdeal.main_arg6))
          (m ((c.tc : Thread Cert.RouteIdeal.nD Cert.RouteIdeal.τ).loc Cert.RouteIdeal.main_arg7))
          (m ((c.tc : Thread Cert.RouteIdeal.nD Cert.RouteIdeal.τ).loc Cert.RouteIdeal.main_arg8))
          (m ((c.tc : Thread Cert.RouteIdeal.nD Cert.RouteIdeal.τ).loc Cert.RouteIdeal.main_arg9))
          (m ((c.tc : Thread Cert.RouteIdeal.nD Cert.RouteIdeal.τ).loc Cert.RouteIdeal.main_arg10))
          (m ((c.tc : Thread Cert.RouteIdeal.nD Cert.RouteIdeal.τ).loc Cert.RouteIdeal.main_arg11)) := by
  have hg := fun n => Finite.gain_real _ _ _ _ _ _ _ _ _ _ _ _ (hpre c).1 n
  have hw := fun k e => Finite.weight_real _ _ _ _ _ _ _ _ _ _ _ _ (hpre c).2.1 k e
  have hb := fun e => Finite.bias_real _ _ _ _ _ _ _ _ _ _ _ _ (hpre c).2.2 e
  have hn : ∀ r n, ∃ q : ℝ, Array.rowN m c r n = (q : EReal) := fun r n => Finite.normed_real _ _ n (hg n)
  rw [Array.final m c hw hn fun r e => Finite.score_ne_bot _ _ _ (hn r) hw hb e]
  funext i
  have ei : i = ix3 (i 0) (i 1) (i 2) := funext fun d => by fin_cases d <;> rfl
  refine ((Ref.result_at _ _ _ _ _ _ _ _ _ _ _ _ (i 0) (i 1) (i 2) (fun r => Array.scores m c (Array.tok (i 0) (i 0).isLt r)) fun r e => ?_).symm.trans
    (congrArg _ ei.symm))
  exact Ref.score_at _ _ _ _ _ _ _ _ _ _ _ _ _ e

/-- The kernel's routings and counts are the reference's. -/
theorem algebraic [hP : Cert.Pre_finite_router.Facts] : Cert.algebraic_RouteIdeal_RouteRefIdeal_pre_finite_router := by
  intro m g m' g' hpre hagree
  refine ⟨fun c => (Cert.RouteIdeal.Gen.dats m 0 c).arrAt 17 Cert.RouteIdeal.cfg0.N, fun c => (Cert.RouteIdeal.Gen.dats m 0 c).arrAt 18 Cert.RouteIdeal.cfg0.N,
    (θ_run _ _ _).mono (fun r h c => ⟨(h.2 c).1 17, (h.2 c).1 18, h.1 c⟩)
      (θ_run_and (Cert.RouteIdeal.Gen.unchanged m g) (Cert.RouteIdeal.Gen.run_main m g)),
    (θ_run _ _ _).mono (fun r h c => ⟨?_, ?_, (h c).2.2⟩) (Cert.RouteRefIdeal.Value.run m' g')⟩
  · refine Eq.trans (b := Cert.RouteRefIdeal.Read.val_main_v120 (F := Ideal)
        (m' ((c.tc : Thread Cert.RouteRefIdeal.nD Cert.RouteRefIdeal.τ).loc Cert.RouteRefIdeal.main_arg0))
        (m' ((c.tc : Thread Cert.RouteRefIdeal.nD Cert.RouteRefIdeal.τ).loc Cert.RouteRefIdeal.main_arg1))
        (m' ((c.tc : Thread Cert.RouteRefIdeal.nD Cert.RouteRefIdeal.τ).loc Cert.RouteRefIdeal.main_arg2))
        (m' ((c.tc : Thread Cert.RouteRefIdeal.nD Cert.RouteRefIdeal.τ).loc Cert.RouteRefIdeal.main_arg3))
        (m' ((c.tc : Thread Cert.RouteRefIdeal.nD Cert.RouteRefIdeal.τ).loc Cert.RouteRefIdeal.main_arg4))
        (m' ((c.tc : Thread Cert.RouteRefIdeal.nD Cert.RouteRefIdeal.τ).loc Cert.RouteRefIdeal.main_arg5))
        (m' ((c.tc : Thread Cert.RouteRefIdeal.nD Cert.RouteRefIdeal.τ).loc Cert.RouteRefIdeal.main_arg6))
        (m' ((c.tc : Thread Cert.RouteRefIdeal.nD Cert.RouteRefIdeal.τ).loc Cert.RouteRefIdeal.main_arg7))
        (m' ((c.tc : Thread Cert.RouteRefIdeal.nD Cert.RouteRefIdeal.τ).loc Cert.RouteRefIdeal.main_arg8))
        (m' ((c.tc : Thread Cert.RouteRefIdeal.nD Cert.RouteRefIdeal.τ).loc Cert.RouteRefIdeal.main_arg9))
        (m' ((c.tc : Thread Cert.RouteRefIdeal.nD Cert.RouteRefIdeal.τ).loc Cert.RouteRefIdeal.main_arg10))
        (m' ((c.tc : Thread Cert.RouteRefIdeal.nD Cert.RouteRefIdeal.τ).loc Cert.RouteRefIdeal.main_arg11)))
      ((h c).1.trans (Cert.RouteRefIdeal.Read.val_main_v120_eq (Idealize.ShloMosaic.StableHlo.launchContents m' c))) ?_
    obtain ⟨a0, a1, a2, a3, a4, a5, a6, a7, a8, a9, a10, a11⟩ := hagree c
    rw [a0, a1, a2, a3, a4, a5, a6, a7, a8, a9, a10, a11]
    exact (route_eq m hpre c).symm
  · refine Eq.trans (b := Cert.RouteRefIdeal.Read.val_main_v74 (F := Ideal)
        (m' ((c.tc : Thread Cert.RouteRefIdeal.nD Cert.RouteRefIdeal.τ).loc Cert.RouteRefIdeal.main_arg0))
        (m' ((c.tc : Thread Cert.RouteRefIdeal.nD Cert.RouteRefIdeal.τ).loc Cert.RouteRefIdeal.main_arg1))
        (m' ((c.tc : Thread Cert.RouteRefIdeal.nD Cert.RouteRefIdeal.τ).loc Cert.RouteRefIdeal.main_arg2))
        (m' ((c.tc : Thread Cert.RouteRefIdeal.nD Cert.RouteRefIdeal.τ).loc Cert.RouteRefIdeal.main_arg3))
        (m' ((c.tc : Thread Cert.RouteRefIdeal.nD Cert.RouteRefIdeal.τ).loc Cert.RouteRefIdeal.main_arg4))
        (m' ((c.tc : Thread Cert.RouteRefIdeal.nD Cert.RouteRefIdeal.τ).loc Cert.RouteRefIdeal.main_arg5))
        (m' ((c.tc : Thread Cert.RouteRefIdeal.nD Cert.RouteRefIdeal.τ).loc Cert.RouteRefIdeal.main_arg6))
        (m' ((c.tc : Thread Cert.RouteRefIdeal.nD Cert.RouteRefIdeal.τ).loc Cert.RouteRefIdeal.main_arg7))
        (m' ((c.tc : Thread Cert.RouteRefIdeal.nD Cert.RouteRefIdeal.τ).loc Cert.RouteRefIdeal.main_arg8))
        (m' ((c.tc : Thread Cert.RouteRefIdeal.nD Cert.RouteRefIdeal.τ).loc Cert.RouteRefIdeal.main_arg9))
        (m' ((c.tc : Thread Cert.RouteRefIdeal.nD Cert.RouteRefIdeal.τ).loc Cert.RouteRefIdeal.main_arg10))
        (m' ((c.tc : Thread Cert.RouteRefIdeal.nD Cert.RouteRefIdeal.τ).loc Cert.RouteRefIdeal.main_arg11)))
      ((h c).2.1.trans (Cert.RouteRefIdeal.Read.val_main_v74_eq (Idealize.ShloMosaic.StableHlo.launchContents m' c))) ?_
    obtain ⟨a0, a1, a2, a3, a4, a5, a6, a7, a8, a9, a10, a11⟩ := hagree c
    rw [a0, a1, a2, a3, a4, a5, a6, a7, a8, a9, a10, a11]
    exact (result_eq m hpre c).symm

end Cert.RouteCounts.Claims
-- ==== Proof.lean ====
module

public import proofs.«01_k».proof.Defs
public import proofs.«01_k».proof.Proof.AttnClaims
public import proofs.«01_k».proof.Proof.MergeClaims
public import proofs.«01_k».proof.Proof.ProjClaims
public import proofs.«01_k».proof.Proof.MemClaims
public import proofs.«01_k».proof.Proof.SortClaims
public import proofs.«01_k».proof.Proof.RouteClaims
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Attn.Gen.facts, Cert.AttnIdeal.Gen.facts, Cert.AttnRefIdeal.Gen.facts,
    Cert.Proj.Gen.facts, Cert.ProjIdeal.Gen.facts, Cert.ProjRefIdeal.Gen.facts,
    Cert.Merge.Gen.facts, Cert.MergeIdeal.Gen.facts, Cert.MergeRefIdeal.Gen.facts,
    Cert.Memory.Gen.facts, Cert.MemoryIdeal.Gen.facts, Cert.MemoryRefIdeal.Gen.facts,
    Cert.Dispatch.Gen.facts, Cert.DispatchIdeal.Gen.facts, Cert.DispatchRefIdeal.Gen.facts,
    Cert.Route.Gen.facts, Cert.RouteIdeal.Gen.facts, Cert.RouteRefIdeal.Gen.facts,
    Cert.Attention.Finite.facts, Cert.MemAttn.Finite.facts, Cert.SortTokens.Places.facts, Cert.RouteCounts.Finite.facts,
    Cert.Attention.Claims.frame, Cert.Attention.Claims.frame_ideal,
    Cert.Attention.Claims.frame_ideal_pre (h := Cert.Attention.Finite.facts),
    Cert.Attention.Claims.frame_ref, Cert.Attention.Claims.frame_ref_pre (h := Cert.Attention.Finite.facts),
    Cert.InProj.Claims.frame, Cert.InProj.Claims.frame_ideal, Cert.InProj.Claims.frame_ref,
    Cert.MergeOut.Claims.frame, Cert.MergeOut.Claims.frame_ideal, Cert.MergeOut.Claims.frame_ref,
    Cert.MemAttn.Claims.frame, Cert.MemAttn.Claims.frame_ideal,
    Cert.MemAttn.Claims.frame_ideal_pre (h := Cert.MemAttn.Finite.facts),
    Cert.MemAttn.Claims.frame_ref, Cert.MemAttn.Claims.frame_ref_pre (h := Cert.MemAttn.Finite.facts),
    Cert.SortTokens.Claims.frame, Cert.SortTokens.Claims.frame_ideal,
    Cert.SortTokens.Claims.frame_ideal_pre (h := Cert.SortTokens.Places.facts),
    Cert.SortTokens.Claims.frame_ref, Cert.SortTokens.Claims.frame_ref_pre (h := Cert.SortTokens.Places.facts),
    Cert.RouteCounts.Claims.frame, Cert.RouteCounts.Claims.frame_ideal,
    Cert.RouteCounts.Claims.frame_ideal_pre (h := Cert.RouteCounts.Finite.facts),
    Cert.RouteCounts.Claims.frame_ref, Cert.RouteCounts.Claims.frame_ref_pre (h := Cert.RouteCounts.Finite.facts),
    Cert.Attention.Claims.preserves, Cert.Attention.Claims.algebraic (hP := Cert.Attention.Finite.facts),
    Cert.InProj.Claims.preserves, Cert.InProj.Claims.algebraic,
    Cert.MergeOut.Claims.preserves, Cert.MergeOut.Claims.algebraic,
    Cert.MemAttn.Claims.preserves, Cert.MemAttn.Claims.algebraic (hP := Cert.MemAttn.Finite.facts),
    Cert.SortTokens.Claims.preserves, Cert.SortTokens.Claims.algebraic (hP := Cert.SortTokens.Places.facts),
    Cert.RouteCounts.Claims.preserves, Cert.RouteCounts.Claims.algebraic (hP := Cert.RouteCounts.Finite.facts)⟩

end Cert.Proof

end
